-- ==== Defs.lean ====
def Pre_Kernel [hPre_counts_of_tokens : Cert.Pre_counts_of_tokens.Facts] (m : (ℓ : Loc Cert.Kernel.nD Cert.Kernel.τ Cert.Kernel.sig) → Buf (Elt Bits) ℓ) : Prop :=
  ∀ c : Dev Cert.Kernel.nD,
    (Cert.Pre_counts_of_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_counts_of_tokens : Cert.Pre_counts_of_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_counts_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_of_tokens [hPre_counts_of_tokens : Cert.Pre_counts_of_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_of_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_counts_of_tokens : Cert.Pre_counts_of_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_counts_of_tokens : Cert.Pre_counts_of_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_counts_of_tokens [hReferenceIdeal : Cert.ReferenceIdeal.Facts] [hPre_counts_of_tokens : Cert.Pre_counts_of_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_of_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_of_tokens : Cert.Pre_counts_of_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v53_0)) (v1 : (c : Dev Cert.Kernel3Ideal.nD) → Buf (Elt Ideal) ((c.tc : Thread Cert.Kernel3Ideal.nD Cert.Kernel3Ideal.τ).loc Cert.Kernel3Ideal.main_v53_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v53_0) = v0 c
          ∧ r.2.mem ((c.tc : Thread Cert.Kernel3Ideal.nD Cert.Kernel3Ideal.τ).loc Cert.Kernel3Ideal.main_v53_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_v97) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_counts_of_tokens : Cert.Pre_counts_of_tokens.Facts),
    quiescent_Kernel (hKernel := hKernel) (hPre_counts_of_tokens := hPre_counts_of_tokens)
    ∧ quiescent_KernelIdeal (hKernelIdeal := hKernelIdeal) (hPre_counts_of_tokens := hPre_counts_of_tokens)
    ∧ quiescent_ReferenceIdeal (hReferenceIdeal := hReferenceIdeal)
    ∧ quiescent_ReferenceIdeal_pre_counts_of_tokens (hReferenceIdeal := hReferenceIdeal) (hPre_counts_of_tokens := hPre_counts_of_tokens)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_counts_of_tokens := hPre_counts_of_tokens)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_counts_of_tokens.lean ====
abbrev S24 : Shape := ⟨1, ![24]⟩
abbrev S22528x1152 : Shape := ⟨2, ![22528, 1152]⟩
abbrev S1x1024 : Shape := ⟨2, ![1, 1024]⟩
abbrev S1x16x1024x512 : Shape := ⟨4, ![1, 16, 1024, 512]⟩
abbrev S1x16x512x1024 : Shape := ⟨4, ![1, 16, 512, 1024]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel

variable [Facts]

def fn {F : FTy → Type} [FloatOps F] (main_arg0 : IVec S24 32) (main_arg1 : FVec F S22528x1152 .f32) (main_arg2 : FVec F S1x1024 .f32) (main_arg3 : FVec F S1x16x1024x512 .f32) (main_arg4 : FVec F S1x16x1024x512 .f32) (main_arg5 : FVec F S1x16x512x1024 .f32) : IVec S24 1 :=
  let main_c : IVec S_ 32 := constantI S_ 32 0#32
  let main_v0 : IVec S24 32 := broadcastInDim S24 ![] bcast_S_S24 main_c
  let main_v1 : IVec S24 1 := cmpi .sge main_arg0 main_v0
  let main_c_0 : IVec S_ 32 := constantI S_ 32 16384#32
  let main_v2 : IVec S24 32 := broadcastInDim S24 ![] bcast_S_S24 main_c_0
  let main_v3 : IVec S24 1 := cmpi .sle main_arg0 main_v2
  let main_v4 : IVec S24 1 := andi main_v1 main_v3
  let main_c_1 : IVec S_ 32 := constantI S_ 32 0#32
  let main_v5 : IVec S_ 32 := (fun x v => Host.reduce IntOp.addi x v reducesTo_S24_S_d0 h_S_) main_arg0 main_c_1
  let main_c_2 : IVec S_ 32 := constantI S_ 32 16384#32
  let main_v6 : IVec S_ 1 := cmpi .eq main_v5 main_c_2
  let main_v7 : IVec S24 1 := broadcastInDim S24 ![] bcast_S_S24 main_v6
  let main_v8 : IVec S24 1 := andi main_v4 main_v7
  main_v8
-- ==== Kernel.lean ====
abbrev S24 : Shape := ⟨1, ![24]⟩
abbrev S22528x1152 : Shape := ⟨2, ![22528, 1152]⟩
abbrev S1x1024 : Shape := ⟨2, ![1, 1024]⟩
abbrev S1x16x1024x512 : Shape := ⟨4, ![1, 16, 1024, 512]⟩
abbrev S1x16x512x1024 : Shape := ⟨4, ![1, 16, 512, 1024]⟩
abbrev S6 : Shape := ⟨1, ![6]⟩
abbrev S_ : Shape := ⟨0, ![]⟩
abbrev S1 : Shape := ⟨1, ![1]⟩
abbrev S88 : Shape := ⟨1, ![88]⟩
abbrev S1x24 : Shape := ⟨2, ![1, 24]⟩
abbrev S88x1 : Shape := ⟨2, ![88, 1]⟩
abbrev S88x24 : Shape := ⟨2, ![88, 24]⟩
abbrev S87 : Shape := ⟨1, ![87]⟩
abbrev S1x88 : Shape := ⟨2, ![1, 88]⟩
abbrev S8x88 : Shape := ⟨2, ![8, 88]⟩
abbrev S1024 : Shape := ⟨1, ![1024]⟩
abbrev S16x1024x512 : Shape := ⟨3, ![16, 1024, 512]⟩
abbrev S16x512x1024 : Shape := ⟨3, ![16, 512, 1024]⟩
abbrev S22528x1024 : Shape := ⟨2, ![22528, 1024]⟩
abbrev S256x1152 : Shape := ⟨2, ![256, 1152]⟩
abbrev S1x1 : Shape := ⟨2, ![1, 1]⟩
abbrev S256x1024 : Shape := ⟨2, ![256, 1024]⟩
abbrev S2x4x1024x512 : Shape := ⟨4, ![2, 4, 1024, 512]⟩
abbrev S2x2x512x1024 : Shape := ⟨4, ![2, 2, 512, 1024]⟩
abbrev S2 : Shape := ⟨1, ![2]⟩
abbrev S1x1x1024x512 : Shape := ⟨4, ![1, 1, 1024, 512]⟩
abbrev S1024x512 : Shape := ⟨2, ![1024, 512]⟩
abbrev S1x1024x512 : Shape := ⟨3, ![1, 1024, 512]⟩
abbrev S1x1x512x1024 : Shape := ⟨4, ![1, 1, 512, 1024]⟩
abbrev S512x1024 : Shape := ⟨2, ![512, 1024]⟩
abbrev S1x512x1024 : Shape := ⟨3, ![1, 512, 1024]⟩
abbrev S256x128 : Shape := ⟨2, ![256, 128]⟩
abbrev S256x1 : Shape := ⟨2, ![256, 1]⟩
abbrev S256 : Shape := ⟨1, ![256]⟩
abbrev S256x512 : Shape := ⟨2, ![256, 512]⟩

abbrev nBuf : Space → Nat
  | .hbm => 210
  | .vmem => 7
  | .smem => 2
  | _ => 0

abbrev hbmTy0_0 (i : Nat) : BufTy := match i % 128 with
  | 0 => ⟨S24, .i32⟩
  | 1 => ⟨S22528x1152, .f32⟩
  | 2 => ⟨S1x1024, .f32⟩
  | 3 => ⟨S1x16x1024x512, .f32⟩
  | 4 => ⟨S1x16x1024x512, .f32⟩
  | 5 => ⟨S1x16x512x1024, .f32⟩
  | 6 => ⟨S6, .i32⟩
  | 7 => ⟨S6, .i32⟩
  | 8 => ⟨S_, .i32⟩
  | 9 => ⟨S24, .i32⟩
  | 10 => ⟨S24, .i32⟩
  | 11 => ⟨S_, .i32⟩
  | 12 => ⟨S24, .i32⟩
  | 13 => ⟨S24, .i32⟩
  | 14 => ⟨S_, .i32⟩
  | 15 => ⟨S_, .i32⟩
  | 16 => ⟨S24, .i32⟩
  | 17 => ⟨S24, .i32⟩
  | 18 => ⟨S24, .i32⟩
  | 19 => ⟨S_, .i32⟩
  | 20 => ⟨S24, .i32⟩
  | 21 => ⟨S24, .i1⟩
  | 22 => ⟨S24, .i32⟩
  | 23 => ⟨S24, .i32⟩
  | 24 => ⟨S_, .i32⟩
  | 25 => ⟨S24, .i32⟩
  | 26 => ⟨S24, .i1⟩
  | 27 => ⟨S24, .i1⟩
  | 28 => ⟨S_, .i32⟩
  | 29 => ⟨S24, .i32⟩
  | 30 => ⟨S24, .i32⟩
  | 31 => ⟨S24, .i32⟩
  | 32 => ⟨S_, .i32⟩
  | 33 => ⟨S_, .i32⟩
  | 34 => ⟨S24, .i32⟩
  | 35 => ⟨S1, .i32⟩
  | 36 => ⟨S_, .i32⟩
  | 37 => ⟨S88, .i32⟩
  | 38 => ⟨S_, .i32⟩
  | 39 => ⟨S_, .i32⟩
  | 40 => ⟨S88, .i32⟩
  | 41 => ⟨S88, .i32⟩
  | 42 => ⟨S1x24, .i32⟩
  | 43 => ⟨S88x1, .i32⟩
  | 44 => ⟨S88x24, .i32⟩
  | 45 => ⟨S88x24, .i32⟩
  | 46 => ⟨S88x24, .i1⟩
  | 47 => ⟨S88x24, .i32⟩
  | 48 => ⟨S_, .i32⟩
  | 49 => ⟨S88, .i32⟩
  | 50 => ⟨S_, .i32⟩
  | 51 => ⟨S88, .i32⟩
  | 52 => ⟨S88, .i32⟩
  | 53 => ⟨S_, .i32⟩
  | 54 => ⟨S_, .i32⟩
  | 55 => ⟨S88, .i32⟩
  | 56 => ⟨S88, .i32⟩
  | 57 => ⟨S88, .i32⟩
  | 58 => ⟨S_, .i32⟩
  | 59 => ⟨S88, .i32⟩
  | 60 => ⟨S88, .i1⟩
  | 61 => ⟨S88, .i32⟩
  | 62 => ⟨S88, .i32⟩
  | 63 => ⟨S_, .i32⟩
  | 64 => ⟨S88, .i32⟩
  | 65 => ⟨S88, .i1⟩
  | 66 => ⟨S88, .i1⟩
  | 67 => ⟨S_, .i32⟩
  | 68 => ⟨S88, .i32⟩
  | 69 => ⟨S88, .i32⟩
  | 70 => ⟨S88, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S88, .i32⟩
  | 78 => ⟨S88, .i32⟩
  | 79 => ⟨S_, .i32⟩
  | 80 => ⟨S88, .i32⟩
  | 81 => ⟨S88, .i1⟩
  | 82 => ⟨S_, .i32⟩
  | 83 => ⟨S88, .i32⟩
  | 84 => ⟨S88, .i1⟩
  | 85 => ⟨S_, .i32⟩
  | 86 => ⟨S_, .i1⟩
  | 87 => ⟨S88, .i1⟩
  | 88 => ⟨S88, .i1⟩
  | 89 => ⟨S88, .i1⟩
  | 90 => ⟨S88, .i32⟩
  | 91 => ⟨S88, .i32⟩
  | 92 => ⟨S88, .i32⟩
  | 93 => ⟨S_, .i32⟩
  | 94 => ⟨S88, .i32⟩
  | 95 => ⟨S88, .i32⟩
  | 96 => ⟨S_, .i32⟩
  | 97 => ⟨S88, .i32⟩
  | 98 => ⟨S88, .i1⟩
  | 99 => ⟨S_, .i32⟩
  | 100 => ⟨S88, .i32⟩
  | 101 => ⟨S88, .i32⟩
  | 102 => ⟨S88, .i32⟩
  | 103 => ⟨S88x1, .i32⟩
  | 104 => ⟨S88, .i32⟩
  | 105 => ⟨S88, .i32⟩
  | 106 => ⟨S_, .i32⟩
  | 107 => ⟨S88, .i32⟩
  | 108 => ⟨S88, .i32⟩
  | 109 => ⟨S_, .i32⟩
  | 110 => ⟨S88, .i32⟩
  | 111 => ⟨S88, .i1⟩
  | 112 => ⟨S_, .i32⟩
  | 113 => ⟨S88, .i32⟩
  | 114 => ⟨S88, .i32⟩
  | 115 => ⟨S88, .i32⟩
  | 116 => ⟨S88x1, .i32⟩
  | 117 => ⟨S88, .i32⟩
  | 118 => ⟨S88, .i32⟩
  | 119 => ⟨S_, .i32⟩
  | 120 => ⟨S24, .i32⟩
  | 121 => ⟨S24, .i32⟩
  | 122 => ⟨S_, .i32⟩
  | 123 => ⟨S24, .i32⟩
  | 124 => ⟨S24, .i32⟩
  | 125 => ⟨S_, .i32⟩
  | 126 => ⟨S24, .i32⟩
  | 127 => ⟨S24, .i1⟩
  | _ => ⟨S24, .i32⟩

abbrev hbmTy0_1 (i : Nat) : BufTy := match i % 128 with
  | 0 => ⟨S24, .i32⟩
  | 1 => ⟨S_, .i32⟩
  | 2 => ⟨S1, .i32⟩
  | 3 => ⟨S87, .i32⟩
  | 4 => ⟨S88, .i32⟩
  | 5 => ⟨S88, .i1⟩
  | 6 => ⟨S88, .i32⟩
  | 7 => ⟨S_, .i32⟩
  | 8 => ⟨S_, .i32⟩
  | 9 => ⟨S88, .i32⟩
  | 10 => ⟨S_, .i32⟩
  | 11 => ⟨S88, .i32⟩
  | 12 => ⟨S88, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S88, .i32⟩
  | 20 => ⟨S88, .i32⟩
  | 21 => ⟨S_, .i32⟩
  | 22 => ⟨S88, .i32⟩
  | 23 => ⟨S88, .i1⟩
  | 24 => ⟨S_, .i32⟩
  | 25 => ⟨S88, .i32⟩
  | 26 => ⟨S88, .i1⟩
  | 27 => ⟨S_, .i32⟩
  | 28 => ⟨S_, .i1⟩
  | 29 => ⟨S88, .i1⟩
  | 30 => ⟨S88, .i1⟩
  | 31 => ⟨S88, .i1⟩
  | 32 => ⟨S88, .i32⟩
  | 33 => ⟨S88, .i32⟩
  | 34 => ⟨S88, .i32⟩
  | 35 => ⟨S_, .i32⟩
  | 36 => ⟨S88, .i32⟩
  | 37 => ⟨S88, .i1⟩
  | 38 => ⟨S_, .i32⟩
  | 39 => ⟨S88, .i32⟩
  | 40 => ⟨S88, .i32⟩
  | 41 => ⟨S88, .i32⟩
  | 42 => ⟨S88x1, .i32⟩
  | 43 => ⟨S88, .i32⟩
  | 44 => ⟨S88, .i32⟩
  | 45 => ⟨S88, .i1⟩
  | 46 => ⟨S88, .i32⟩
  | 47 => ⟨S_, .i32⟩
  | 48 => ⟨S88, .i32⟩
  | 49 => ⟨S88, .i32⟩
  | 50 => ⟨S_, .i32⟩
  | 51 => ⟨S88, .i32⟩
  | 52 => ⟨S88, .i1⟩
  | 53 => ⟨S_, .i32⟩
  | 54 => ⟨S88, .i32⟩
  | 55 => ⟨S88, .i32⟩
  | 56 => ⟨S88, .i32⟩
  | 57 => ⟨S88x1, .i32⟩
  | 58 => ⟨S88, .i32⟩
  | 59 => ⟨S_, .i32⟩
  | 60 => ⟨S88, .i32⟩
  | 61 => ⟨S88, .i1⟩
  | 62 => ⟨S_, .i32⟩
  | 63 => ⟨S88, .i32⟩
  | 64 => ⟨S88, .i32⟩
  | 65 => ⟨S88, .i32⟩
  | 66 => ⟨S88x1, .i32⟩
  | 67 => ⟨S88, .i32⟩
  | 68 => ⟨S1x88, .i32⟩
  | 69 => ⟨S1x88, .i32⟩
  | 70 => ⟨S1x88, .i32⟩
  | 71 => ⟨S1x88, .i32⟩
  | 72 => ⟨S1x88, .i32⟩
  | 73 => ⟨S1x88, .i32⟩
  | 74 => ⟨S1x88, .i32⟩
  | 75 => ⟨S1x88, .i32⟩
  | 76 => ⟨S1024, .f32⟩
  | 77 => ⟨S1x1024, .f32⟩
  | 78 => ⟨S16x1024x512, .f32⟩
  | 79 => ⟨S16x1024x512, .f32⟩
  | 80 => ⟨S16x512x1024, .f32⟩
  | 81 => ⟨S22528x1024, .f32⟩
  | _ => ⟨S24, .i32⟩

abbrev hbmTy (i : Nat) : BufTy := match i / 128 with
  | 0 => hbmTy0_0 i
  | 1 => hbmTy0_1 i
  | _ => ⟨S24, .i32⟩

abbrev bufTy : (tb : Table) → Fin (tcTables nBuf tb) → BufTy
  | .hbm, ⟨i, _⟩ => hbmTy i
  | .local _ .vmem, ⟨0, _⟩ => ⟨S256x1152, .f32⟩
  | .local _ .vmem, ⟨1, _⟩ => ⟨S256x1152, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S2x4x1024x512, .f32⟩
  | .local _ .vmem, ⟨6, _⟩ => ⟨S2x2x512x1024, .f32⟩
  | .local _ .smem, ⟨0, _⟩ => ⟨S8x88, .i32⟩
  | .local _ .smem, ⟨1, _⟩ => ⟨S1, .i32⟩
  | _, _ => ⟨S24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_c_2 : Ref sig .tc := ⟨.hbm, 11, rfl⟩
abbrev main_v2 : Ref sig .tc := ⟨.hbm, 12, rfl⟩
abbrev main_v3 : Ref sig .tc := ⟨.hbm, 13, rfl⟩
abbrev main_c_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_call1_call0_c : Ref sig .tc := ⟨.hbm, 32, rfl⟩
abbrev main_call1_call0_v0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_c_4 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_c_6 : Ref sig .tc := ⟨.hbm, 50, rfl⟩
abbrev main_v19 : Ref sig .tc := ⟨.hbm, 51, rfl⟩
abbrev main_v20 : Ref sig .tc := ⟨.hbm, 52, rfl⟩
abbrev main_c_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v21 : Ref sig .tc := ⟨.hbm, 70, rfl⟩
abbrev main_c_8 : Ref sig .tc := ⟨.hbm, 71, rfl⟩
abbrev main_call3_v0 : Ref sig .tc := ⟨.hbm, 72, rfl⟩
abbrev main_call3_c : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_v5 : Ref sig .tc := ⟨.hbm, 80, rfl⟩
abbrev main_call3_v6 : Ref sig .tc := ⟨.hbm, 81, rfl⟩
abbrev main_call3_c_2 : Ref sig .tc := ⟨.hbm, 82, rfl⟩
abbrev main_call3_v7 : Ref sig .tc := ⟨.hbm, 83, rfl⟩
abbrev main_call3_v8 : Ref sig .tc := ⟨.hbm, 84, rfl⟩
abbrev main_call3_c_3 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_v22 : Ref sig .tc := ⟨.hbm, 92, rfl⟩
abbrev main_c_9 : Ref sig .tc := ⟨.hbm, 93, rfl⟩
abbrev main_v23 : Ref sig .tc := ⟨.hbm, 94, rfl⟩
abbrev main_v24 : Ref sig .tc := ⟨.hbm, 95, rfl⟩
abbrev main_c_10 : Ref sig .tc := ⟨.hbm, 96, rfl⟩
abbrev main_v25 : Ref sig .tc := ⟨.hbm, 97, rfl⟩
abbrev main_v26 : Ref sig .tc := ⟨.hbm, 98, rfl⟩
abbrev main_c_11 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_c_12 : Ref sig .tc := ⟨.hbm, 106, rfl⟩
abbrev main_v33 : Ref sig .tc := ⟨.hbm, 107, rfl⟩
abbrev main_v34 : Ref sig .tc := ⟨.hbm, 108, rfl⟩
abbrev main_c_13 : Ref sig .tc := ⟨.hbm, 109, rfl⟩
abbrev main_v35 : Ref sig .tc := ⟨.hbm, 110, rfl⟩
abbrev main_v36 : Ref sig .tc := ⟨.hbm, 111, rfl⟩
abbrev main_c_14 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_c_15 : Ref sig .tc := ⟨.hbm, 119, rfl⟩
abbrev main_v43 : Ref sig .tc := ⟨.hbm, 120, rfl⟩
abbrev main_v44 : Ref sig .tc := ⟨.hbm, 121, rfl⟩
abbrev main_c_16 : Ref sig .tc := ⟨.hbm, 122, rfl⟩
abbrev main_v45 : Ref sig .tc := ⟨.hbm, 123, rfl⟩
abbrev main_v46 : Ref sig .tc := ⟨.hbm, 124, rfl⟩
abbrev main_c_17 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_c_18 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_call4_call0_c : Ref sig .tc := ⟨.hbm, 135, rfl⟩
abbrev main_call4_call0_v0 : Ref sig .tc := ⟨.hbm, 136, rfl⟩
abbrev main_v55 : Ref sig .tc := ⟨.hbm, 137, rfl⟩
abbrev main_c_19 : Ref sig .tc := ⟨.hbm, 138, rfl⟩
abbrev main_v56 : Ref sig .tc := ⟨.hbm, 139, rfl⟩
abbrev main_v57 : Ref sig .tc := ⟨.hbm, 140, rfl⟩
abbrev main_c_20 : Ref sig .tc := ⟨.hbm, 141, rfl⟩
abbrev main_call5_v0 : Ref sig .tc := ⟨.hbm, 142, rfl⟩
abbrev main_call5_c : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_c_1 : Ref sig .tc := ⟨.hbm, 149, rfl⟩
abbrev main_call5_v5 : Ref sig .tc := ⟨.hbm, 150, rfl⟩
abbrev main_call5_v6 : Ref sig .tc := ⟨.hbm, 151, rfl⟩
abbrev main_call5_c_2 : Ref sig .tc := ⟨.hbm, 152, rfl⟩
abbrev main_call5_v7 : Ref sig .tc := ⟨.hbm, 153, rfl⟩
abbrev main_call5_v8 : Ref sig .tc := ⟨.hbm, 154, rfl⟩
abbrev main_call5_c_3 : Ref sig .tc := ⟨.hbm, 155, rfl⟩
abbrev main_call5_v9 : Ref sig .tc := ⟨.hbm, 156, rfl⟩
abbrev main_call5_v10 : Ref sig .tc := ⟨.hbm, 157, rfl⟩
abbrev main_call5_v11 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_v58 : Ref sig .tc := ⟨.hbm, 162, rfl⟩
abbrev main_c_21 : Ref sig .tc := ⟨.hbm, 163, rfl⟩
abbrev main_v59 : Ref sig .tc := ⟨.hbm, 164, rfl⟩
abbrev main_v60 : Ref sig .tc := ⟨.hbm, 165, rfl⟩
abbrev main_c_22 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_c_23 : Ref sig .tc := ⟨.hbm, 175, rfl⟩
abbrev main_v69 : Ref sig .tc := ⟨.hbm, 176, rfl⟩
abbrev main_v70 : Ref sig .tc := ⟨.hbm, 177, rfl⟩
abbrev main_c_24 : Ref sig .tc := ⟨.hbm, 178, rfl⟩
abbrev main_v71 : Ref sig .tc := ⟨.hbm, 179, rfl⟩
abbrev main_v72 : Ref sig .tc := ⟨.hbm, 180, rfl⟩
abbrev main_c_25 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_c_26 : Ref sig .tc := ⟨.hbm, 187, rfl⟩
abbrev main_v78 : Ref sig .tc := ⟨.hbm, 188, rfl⟩
abbrev main_v79 : Ref sig .tc := ⟨.hbm, 189, rfl⟩
abbrev main_c_27 : Ref sig .tc := ⟨.hbm, 190, rfl⟩
abbrev main_v80 : Ref sig .tc := ⟨.hbm, 191, rfl⟩
abbrev main_v81 : Ref sig .tc := ⟨.hbm, 192, rfl⟩
abbrev main_v82 : Ref sig .tc := ⟨.hbm, 193, rfl⟩
abbrev main_v83 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v93 : Ref sig .tc := ⟨.smem, 0, rfl⟩
abbrev main_v94 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![88], ![false]⟩

abbrev pre0 : Pipeline.Prefetch sig := ⟨2, ![main_v93.idx, main_v94.idx], fun | 0 => main_v93.names | 1 => main_v94.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c4 : Index := 4#32
  let arg0 : BitVec 32 := BitVec.ofNat 32 (i 0).val
  let v8 : Index := Scalar.indexCast arg0
  ![4, v8.toNat]
def k0_off3 (i : grid0.Coords) : Fin 2 → Nat :=
  let c3 : Index := 3#32
  let arg0 : BitVec 32 := BitVec.ofNat 32 (i 0).val
  let v10 : Index := Scalar.indexCast arg0
  ![3, v10.toNat]
def k0_cond3 (i : grid0.Coords) : BitVec 1 :=
  let arg0 : BitVec 32 := BitVec.ofNat 32 (i 0).val
  let c0_i32_38 : BitVec 32 := 0#32
  let v87 : BitVec 1 := Scalar.cmpi .eq arg0 c0_i32_38
  let v88 : BitVec 32 := Scalar.extui v87
  let c0_i32_39 : BitVec 32 := 0#32
  let v89 : BitVec 1 := Scalar.cmpi .ne v88 c0_i32_39
  v89

def k0_off4 (i : grid0.Coords) : Fin 2 → Nat :=
  let c1_72 : Index := 1#32
  let arg0 : BitVec 32 := BitVec.ofNat 32 (i 0).val
  let v135 : Index := Scalar.indexCast arg0
  ![1, v135.toNat]
def k0_off5 (i : grid0.Coords) : Fin 2 → Nat :=
  let c2_73 : Index := 2#32
  let arg0 : BitVec 32 := BitVec.ofNat 32 (i 0).val
  let v137 : Index := Scalar.indexCast arg0
  ![2, v137.toNat]
def k0_off6 (v9 : BitVec 32) : Fin 1 → Nat :=
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (v11 : BitVec 32) : BitVec 1 :=
  let c1_i32 : BitVec 32 := 1#32
  let v12 : BitVec 1 := Scalar.cmpi .eq v11 c1_i32
  let v13 : BitVec 32 := Scalar.extui v12
  let c0_i32_2 : BitVec 32 := 0#32
  let v14 : BitVec 1 := Scalar.cmpi .ne v13 c0_i32_2
  v14

def k0_off7 (v9 : BitVec 32) : Fin 4 → Nat :=
  let c0_i32_74 : BitVec 32 := 0#32
  let c0_i32_75 : BitVec 32 := 0#32
  let c0_i32_76 : BitVec 32 := 0#32
  ![v9.toNat, 0, 0, 0]
def k0_off8 (v136 : BitVec 32) : Fin 3 → Nat :=
  let c0_i32_77 : BitVec 32 := 0#32
  let c0_i32_78 : BitVec 32 := 0#32
  ![v136.toNat, 0, 0]

def k0_off9 (v9 : BitVec 32) : Fin 1 → Nat :=
  ![v9.toNat]
def k0_off10 (v9 : BitVec 32) : Fin 4 → Nat :=
  let c1_i32_79 : BitVec 32 := 1#32
  let c0_i32_80 : BitVec 32 := 0#32
  let c0_i32_81 : BitVec 32 := 0#32
  ![v9.toNat, 1, 0, 0]
def k0_off11 (v9 : BitVec 32) : Fin 4 → Nat :=
  let c2_i32_84 : BitVec 32 := 2#32
  let c0_i32_85 : BitVec 32 := 0#32
  let c0_i32_86 : BitVec 32 := 0#32
  ![v9.toNat, 2, 0, 0]
def k0_off12 (v138 : BitVec 32) : Fin 3 → Nat :=
  let c0_i32_87 : BitVec 32 := 0#32
  let c0_i32_88 : BitVec 32 := 0#32
  ![v138.toNat, 0, 0]

def k0_off13 (v9 : BitVec 32) : Fin 1 → Nat :=
  ![v9.toNat]
def k0_off14 (v9 : BitVec 32) : Fin 4 → Nat :=
  let c3_i32_89 : BitVec 32 := 3#32
  let c0_i32_90 : BitVec 32 := 0#32
  let c0_i32_91 : BitVec 32 := 0#32
  ![v9.toNat, 3, 0, 0]
def k0_off15 (v9 : BitVec 32) : Fin 4 → Nat :=
  let c0_i32_94 : BitVec 32 := 0#32
  let c0_i32_95 : BitVec 32 := 0#32
  let c0_i32_96 : BitVec 32 := 0#32
  ![v9.toNat, 0, 0, 0]
def k0_off16 (v136 : BitVec 32) : Fin 3 → Nat :=
  let c0_i32_97 : BitVec 32 := 0#32
  let c0_i32_98 : BitVec 32 := 0#32
  ![v136.toNat, 0, 0]

def k0_chk2 (i : grid0.Coords) (v0 : BitVec 32) (v11 : BitVec 32) (v136 : BitVec 32) : Prop :=
  (∀ (k0_h1 : k0_cond1 i v0 = 1#1), ∀ (k0_h2 : k0_cond2 v11 = 1#1), ∀ (k0_h3 : k0_cond3 i = 1#1), ∀ a, (k0_off8 v136) a + S1x1024x512.size a ≤ S16x1024x512.size a) ∧
  (∀ (k0_h1 : k0_cond1 i v0 = 1#1), ∀ (k0_h2 : k0_cond2 v11 = 1#1), ∀ (k0_h3 : k0_cond3 i = 1#1), ∀ a, (k0_off16 v136) a + S1x512x1024.size a ≤ S16x512x1024.size a)
theorem k0_off8_inb : ∀ (i : grid0.Coords) (v0 : BitVec 32) (v11 : BitVec 32) (v136 : BitVec 32) (k0_hw2 : k0_chk2 i v0 v11 v136), ∀ (k0_h1 : k0_cond1 i v0 = 1#1), ∀ (k0_h2 : k0_cond2 v11 = 1#1), ∀ (k0_h3 : k0_cond3 i = 1#1), ∀ a, (k0_off8 v136) a + S1x1024x512.size a ≤ S16x1024x512.size a := fun i v0 v11 v136 k0_hw2 k0_h1 k0_h2 k0_h3 => k0_hw2.1 k0_h1 k0_h2 k0_h3
theorem k0_off16_inb : ∀ (i : grid0.Coords) (v0 : BitVec 32) (v11 : BitVec 32) (v136 : BitVec 32) (k0_hw2 : k0_chk2 i v0 v11 v136), ∀ (k0_h1 : k0_cond1 i v0 = 1#1), ∀ (k0_h2 : k0_cond2 v11 = 1#1), ∀ (k0_h3 : k0_cond3 i = 1#1), ∀ a, (k0_off16 v136) a + S1x512x1024.size a ≤ S16x512x1024.size a := fun i v0 v11 v136 k0_hw2 k0_h1 k0_h2 k0_h3 => k0_hw2.2 k0_h1 k0_h2 k0_h3

def k0_off17 (v9 : BitVec 32) : Fin 4 → Nat :=
  let c1_i32_99 : BitVec 32 := 1#32
  let c0_i32_100 : BitVec 32 := 0#32
  let c0_i32_101 : BitVec 32 := 0#32
  ![v9.toNat, 1, 0, 0]
def k0_off18 (v138 : BitVec 32) : Fin 3 → Nat :=
  let c0_i32_102 : BitVec 32 := 0#32
  let c0_i32_103 : BitVec 32 := 0#32
  ![v138.toNat, 0, 0]

def k0_chk3 (i : grid0.Coords) (v0 : BitVec 32) (v11 : BitVec 32) (v138 : BitVec 32) : Prop :=
  (∀ (k0_h1 : k0_cond1 i v0 = 1#1), ∀ (k0_h2 : k0_cond2 v11 = 1#1), ∀ (k0_h3 : k0_cond3 i = 1#1), ∀ a, (k0_off12 v138) a + S1x1024x512.size a ≤ S16x1024x512.size a) ∧
  (∀ (k0_h1 : k0_cond1 i v0 = 1#1), ∀ (k0_h2 : k0_cond2 v11 = 1#1), ∀ (k0_h3 : k0_cond3 i = 1#1), ∀ a, (k0_off18 v138) a + S1x512x1024.size a ≤ S16x512x1024.size a)
theorem k0_off12_inb : ∀ (i : grid0.Coords) (v0 : BitVec 32) (v11 : BitVec 32) (v138 : BitVec 32) (k0_hw3 : k0_chk3 i v0 v11 v138), ∀ (k0_h1 : k0_cond1 i v0 = 1#1), ∀ (k0_h2 : k0_cond2 v11 = 1#1), ∀ (k0_h3 : k0_cond3 i = 1#1), ∀ a, (k0_off12 v138) a + S1x1024x512.size a ≤ S16x1024x512.size a := fun i v0 v11 v138 k0_hw3 k0_h1 k0_h2 k0_h3 => k0_hw3.1 k0_h1 k0_h2 k0_h3
theorem k0_off18_inb : ∀ (i : grid0.Coords) (v0 : BitVec 32) (v11 : BitVec 32) (v138 : BitVec 32) (k0_hw3 : k0_chk3 i v0 v11 v138), ∀ (k0_h1 : k0_cond1 i v0 = 1#1), ∀ (k0_h2 : k0_cond2 v11 = 1#1), ∀ (k0_h3 : k0_cond3 i = 1#1), ∀ a, (k0_off18 v138) a + S1x512x1024.size a ≤ S16x512x1024.size a := fun i v0 v11 v138 k0_hw3 k0_h1 k0_h2 k0_h3 => k0_hw3.2 k0_h1 k0_h2 k0_h3

def k0_off19 (i : grid0.Coords) : Fin 2 → Nat :=
  let c1_40 : Index := 1#32
  let arg0 : BitVec 32 := BitVec.ofNat 32 (i 0).val
  let v90 : Index := Scalar.indexCast arg0
  ![1, v90.toNat]
def k0_off20 (i : grid0.Coords) : Fin 2 → Nat :=
  let c2_41 : Index := 2#32
  let arg0 : BitVec 32 := BitVec.ofNat 32 (i 0).val
  let v92 : Index := Scalar.indexCast arg0
  ![2, v92.toNat]
def k0_off21 (v9 : BitVec 32) : Fin 1 → Nat :=
  ![v9.toNat]
def k0_off22 (v9 : BitVec 32) : Fin 4 → Nat :=
  let c0_i32_42 : BitVec 32 := 0#32
  let c0_i32_43 : BitVec 32 := 0#32
  let c0_i32_44 : BitVec 32 := 0#32
  ![v9.toNat, 0, 0, 0]
def k0_off23 (v91 : BitVec 32) : Fin 3 → Nat :=
  let c0_i32_45 : BitVec 32 := 0#32
  let c0_i32_46 : BitVec 32 := 0#32
  ![v91.toNat, 0, 0]

def k0_off24 (v9 : BitVec 32) : Fin 1 → Nat :=
  ![v9.toNat]
def k0_off25 (v9 : BitVec 32) : Fin 4 → Nat :=
  let c1_i32_47 : BitVec 32 := 1#32
  let c0_i32_48 : BitVec 32 := 0#32
  let c0_i32_49 : BitVec 32 := 0#32
  ![v9.toNat, 1, 0, 0]
def k0_off26 (v9 : BitVec 32) : Fin 4 → Nat :=
  let c2_i32 : BitVec 32 := 2#32
  let c0_i32_52 : BitVec 32 := 0#32
  let c0_i32_53 : BitVec 32 := 0#32
  ![v9.toNat, 2, 0, 0]
def k0_off27 (v93 : BitVec 32) : Fin 3 → Nat :=
  let c0_i32_54 : BitVec 32 := 0#32
  let c0_i32_55 : BitVec 32 := 0#32
  ![v93.toNat, 0, 0]

def k0_off28 (v9 : BitVec 32) : Fin 1 → Nat :=
  ![v9.toNat]
def k0_off29 (v9 : BitVec 32) : Fin 4 → Nat :=
  let c3_i32 : BitVec 32 := 3#32
  let c0_i32_56 : BitVec 32 := 0#32
  let c0_i32_57 : BitVec 32 := 0#32
  ![v9.toNat, 3, 0, 0]
def k0_off30 (v9 : BitVec 32) : Fin 4 → Nat :=
  let c0_i32_60 : BitVec 32 := 0#32
  let c0_i32_61 : BitVec 32 := 0#32
  let c0_i32_62 : BitVec 32 := 0#32
  ![v9.toNat, 0, 0, 0]
def k0_off31 (v91 : BitVec 32) : Fin 3 → Nat :=
  let c0_i32_63 : BitVec 32 := 0#32
  let c0_i32_64 : BitVec 32 := 0#32
  ![v91.toNat, 0, 0]

def k0_chk4 (i : grid0.Coords) (v0 : BitVec 32) (v11 : BitVec 32) (v91 : BitVec 32) : Prop :=
  (∀ (k0_h1 : k0_cond1 i v0 = 1#1), ∀ (k0_h2 : k0_cond2 v11 = 1#1), ∀ a, (k0_off23 v91) a + S1x1024x512.size a ≤ S16x1024x512.size a) ∧
  (∀ (k0_h1 : k0_cond1 i v0 = 1#1), ∀ (k0_h2 : k0_cond2 v11 = 1#1), ∀ a, (k0_off31 v91) a + S1x512x1024.size a ≤ S16x512x1024.size a)
theorem k0_off23_inb : ∀ (i : grid0.Coords) (v0 : BitVec 32) (v11 : BitVec 32) (v91 : BitVec 32) (k0_hw4 : k0_chk4 i v0 v11 v91), ∀ (k0_h1 : k0_cond1 i v0 = 1#1), ∀ (k0_h2 : k0_cond2 v11 = 1#1), ∀ a, (k0_off23 v91) a + S1x1024x512.size a ≤ S16x1024x512.size a := fun i v0 v11 v91 k0_hw4 k0_h1 k0_h2 => k0_hw4.1 k0_h1 k0_h2
theorem k0_off31_inb : ∀ (i : grid0.Coords) (v0 : BitVec 32) (v11 : BitVec 32) (v91 : BitVec 32) (k0_hw4 : k0_chk4 i v0 v11 v91), ∀ (k0_h1 : k0_cond1 i v0 = 1#1), ∀ (k0_h2 : k0_cond2 v11 = 1#1), ∀ a, (k0_off31 v91) a + S1x512x1024.size a ≤ S16x512x1024.size a := fun i v0 v11 v91 k0_hw4 k0_h1 k0_h2 => k0_hw4.2 k0_h1 k0_h2

def k0_off32 (v9 : BitVec 32) : Fin 4 → Nat :=
  let c1_i32_65 : BitVec 32 := 1#32
  let c0_i32_66 : BitVec 32 := 0#32
  let c0_i32_67 : BitVec 32 := 0#32
  ![v9.toNat, 1, 0, 0]

def k0_chk1 (i : grid0.Coords) (v0 : BitVec 32) (v9 : BitVec 32) (v11 : BitVec 32) : Prop :=
  (∀ (k0_h1 : k0_cond1 i v0 = 1#1), ∀ (k0_h2 : k0_cond2 v11 = 1#1), ∀ (k0_h3 : k0_cond3 i = 1#1), ∀ a, (k0_off6 v9) a + S1.size a ≤ S2.size a) ∧
  (∀ (k0_h1 : k0_cond1 i v0 = 1#1), ∀ (k0_h2 : k0_cond2 v11 = 1#1), ∀ (k0_h3 : k0_cond3 i = 1#1), ∀ a, (k0_off7 v9) a + S1x1x1024x512.size a ≤ S2x4x1024x512.size a) ∧
  (∀ (k0_h1 : k0_cond1 i v0 = 1#1), ∀ (k0_h2 : k0_cond2 v11 = 1#1), ∀ (k0_h3 : k0_cond3 i = 1#1), ∀ a, (k0_off9 v9) a + S1.size a ≤ S2.size a) ∧
  (∀ (k0_h1 : k0_cond1 i v0 = 1#1), ∀ (k0_h2 : k0_cond2 v11 = 1#1), ∀ (k0_h3 : k0_cond3 i = 1#1), ∀ a, (k0_off10 v9) a + S1x1x1024x512.size a ≤ S2x4x1024x512.size a) ∧
  (∀ (k0_h1 : k0_cond1 i v0 = 1#1), ∀ (k0_h2 : k0_cond2 v11 = 1#1), ∀ (k0_h3 : k0_cond3 i = 1#1), ∀ a, (k0_off11 v9) a + S1x1x1024x512.size a ≤ S2x4x1024x512.size a) ∧
  (∀ (k0_h1 : k0_cond1 i v0 = 1#1), ∀ (k0_h2 : k0_cond2 v11 = 1#1), ∀ (k0_h3 : k0_cond3 i = 1#1), ∀ a, (k0_off13 v9) a + S1.size a ≤ S2.size a) ∧
  (∀ (k0_h1 : k0_cond1 i v0 = 1#1), ∀ (k0_h2 : k0_cond2 v11 = 1#1), ∀ (k0_h3 : k0_cond3 i = 1#1), ∀ a, (k0_off14 v9) a + S1x1x1024x512.size a ≤ S2x4x1024x512.size a) ∧
  (∀ (k0_h1 : k0_cond1 i v0 = 1#1), ∀ (k0_h2 : k0_cond2 v11 = 1#1), ∀ (k0_h3 : k0_cond3 i = 1#1), ∀ a, (k0_off15 v9) a + S1x1x512x1024.size a ≤ S2x2x512x1024.size a) ∧
  (∀ (k0_h1 : k0_cond1 i v0 = 1#1), ∀ (k0_h2 : k0_cond2 v11 = 1#1), ∀ (k0_h3 : k0_cond3 i = 1#1), ∀ a, (k0_off17 v9) a + S1x1x512x1024.size a ≤ S2x2x512x1024.size a) ∧
  (∀ (k0_h1 : k0_cond1 i v0 = 1#1), ∀ (k0_h2 : k0_cond2 v11 = 1#1), ∀ a, (k0_off21 v9) a + S1.size a ≤ S2.size a) ∧
  (∀ (k0_h1 : k0_cond1 i v0 = 1#1), ∀ (k0_h2 : k0_cond2 v11 = 1#1), ∀ a, (k0_off22 v9) a + S1x1x1024x512.size a ≤ S2x4x1024x512.size a) ∧
  (∀ (k0_h1 : k0_cond1 i v0 = 1#1), ∀ (k0_h2 : k0_cond2 v11 = 1#1), ∀ a, (k0_off24 v9) a + S1.size a ≤ S2.size a) ∧
  (∀ (k0_h1 : k0_cond1 i v0 = 1#1), ∀ (k0_h2 : k0_cond2 v11 = 1#1), ∀ a, (k0_off25 v9) a + S1x1x1024x512.size a ≤ S2x4x1024x512.size a) ∧
  (∀ (k0_h1 : k0_cond1 i v0 = 1#1), ∀ (k0_h2 : k0_cond2 v11 = 1#1), ∀ a, (k0_off26 v9) a + S1x1x1024x512.size a ≤ S2x4x1024x512.size a) ∧
  (∀ (k0_h1 : k0_cond1 i v0 = 1#1), ∀ (k0_h2 : k0_cond2 v11 = 1#1), ∀ a, (k0_off28 v9) a + S1.size a ≤ S2.size a) ∧
  (∀ (k0_h1 : k0_cond1 i v0 = 1#1), ∀ (k0_h2 : k0_cond2 v11 = 1#1), ∀ a, (k0_off29 v9) a + S1x1x1024x512.size a ≤ S2x4x1024x512.size a) ∧
  (∀ (k0_h1 : k0_cond1 i v0 = 1#1), ∀ (k0_h2 : k0_cond2 v11 = 1#1), ∀ a, (k0_off30 v9) a + S1x1x512x1024.size a ≤ S2x2x512x1024.size a) ∧
  (∀ (k0_h1 : k0_cond1 i v0 = 1#1), ∀ (k0_h2 : k0_cond2 v11 = 1#1), ∀ a, (k0_off32 v9) a + S1x1x512x1024.size a ≤ S2x2x512x1024.size a)
theorem k0_off6_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ (k0_h3 : k0_cond3 i = 1#1), ∀ a, (k0_off6 v9) a + S1.size a ≤ S2.size a := fun i v0 v9 v11 k0_hw1 k0_h1 k0_h2 k0_h3 => k0_hw1.1 k0_h1 k0_h2 k0_h3
theorem k0_off7_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ (k0_h3 : k0_cond3 i = 1#1), ∀ a, (k0_off7 v9) a + S1x1x1024x512.size a ≤ S2x4x1024x512.size a := fun i v0 v9 v11 k0_hw1 k0_h1 k0_h2 k0_h3 => k0_hw1.2.1 k0_h1 k0_h2 k0_h3
theorem k0_off9_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ (k0_h3 : k0_cond3 i = 1#1), ∀ a, (k0_off9 v9) a + S1.size a ≤ S2.size a := fun i v0 v9 v11 k0_hw1 k0_h1 k0_h2 k0_h3 => k0_hw1.2.2.1 k0_h1 k0_h2 k0_h3
theorem k0_off10_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ (k0_h3 : k0_cond3 i = 1#1), ∀ a, (k0_off10 v9) a + S1x1x1024x512.size a ≤ S2x4x1024x512.size a := fun i v0 v9 v11 k0_hw1 k0_h1 k0_h2 k0_h3 => k0_hw1.2.2.2.1 k0_h1 k0_h2 k0_h3
theorem k0_off11_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ (k0_h3 : k0_cond3 i = 1#1), ∀ a, (k0_off11 v9) a + S1x1x1024x512.size a ≤ S2x4x1024x512.size a := fun i v0 v9 v11 k0_hw1 k0_h1 k0_h2 k0_h3 => k0_hw1.2.2.2.2.1 k0_h1 k0_h2 k0_h3
theorem k0_off13_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ (k0_h3 : k0_cond3 i = 1#1), ∀ a, (k0_off13 v9) a + S1.size a ≤ S2.size a := fun i v0 v9 v11 k0_hw1 k0_h1 k0_h2 k0_h3 => k0_hw1.2.2.2.2.2.1 k0_h1 k0_h2 k0_h3
theorem k0_off14_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ (k0_h3 : k0_cond3 i = 1#1), ∀ a, (k0_off14 v9) a + S1x1x1024x512.size a ≤ S2x4x1024x512.size a := fun i v0 v9 v11 k0_hw1 k0_h1 k0_h2 k0_h3 => k0_hw1.2.2.2.2.2.2.1 k0_h1 k0_h2 k0_h3
theorem k0_off15_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ (k0_h3 : k0_cond3 i = 1#1), ∀ a, (k0_off15 v9) a + S1x1x512x1024.size a ≤ S2x2x512x1024.size a := fun i v0 v9 v11 k0_hw1 k0_h1 k0_h2 k0_h3 => k0_hw1.2.2.2.2.2.2.2.1 k0_h1 k0_h2 k0_h3
theorem k0_off17_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ (k0_h3 : k0_cond3 i = 1#1), ∀ a, (k0_off17 v9) a + S1x1x512x1024.size a ≤ S2x2x512x1024.size a := fun i v0 v9 v11 k0_hw1 k0_h1 k0_h2 k0_h3 => k0_hw1.2.2.2.2.2.2.2.2.1 k0_h1 k0_h2 k0_h3
theorem k0_off21_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ a, (k0_off21 v9) a + S1.size a ≤ S2.size a := fun i v0 v9 v11 k0_hw1 k0_h1 k0_h2 => k0_hw1.2.2.2.2.2.2.2.2.2.1 k0_h1 k0_h2
theorem k0_off22_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ a, (k0_off22 v9) a + S1x1x1024x512.size a ≤ S2x4x1024x512.size a := fun i v0 v9 v11 k0_hw1 k0_h1 k0_h2 => k0_hw1.2.2.2.2.2.2.2.2.2.2.1 k0_h1 k0_h2
theorem k0_off24_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ a, (k0_off24 v9) a + S1.size a ≤ S2.size a := fun i v0 v9 v11 k0_hw1 k0_h1 k0_h2 => k0_hw1.2.2.2.2.2.2.2.2.2.2.2.1 k0_h1 k0_h2
theorem k0_off25_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ a, (k0_off25 v9) a + S1x1x1024x512.size a ≤ S2x4x1024x512.size a := fun i v0 v9 v11 k0_hw1 k0_h1 k0_h2 => k0_hw1.2.2.2.2.2.2.2.2.2.2.2.2.1 k0_h1 k0_h2
theorem k0_off26_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ a, (k0_off26 v9) a + S1x1x1024x512.size a ≤ S2x4x1024x512.size a := fun i v0 v9 v11 k0_hw1 k0_h1 k0_h2 => k0_hw1.2.2.2.2.2.2.2.2.2.2.2.2.2.1 k0_h1 k0_h2
theorem k0_off28_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ a, (k0_off28 v9) a + S1.size a ≤ S2.size a := fun i v0 v9 v11 k0_hw1 k0_h1 k0_h2 => k0_hw1.2.2.2.2.2.2.2.2.2.2.2.2.2.2.1 k0_h1 k0_h2
theorem k0_off29_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ a, (k0_off29 v9) a + S1x1x1024x512.size a ≤ S2x4x1024x512.size a := fun i v0 v9 v11 k0_hw1 k0_h1 k0_h2 => k0_hw1.2.2.2.2.2.2.2.2.2.2.2.2.2.2.2.1 k0_h1 k0_h2
theorem k0_off30_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ a, (k0_off30 v9) a + S1x1x512x1024.size a ≤ S2x2x512x1024.size a := fun i v0 v9 v11 k0_hw1 k0_h1 k0_h2 => k0_hw1.2.2.2.2.2.2.2.2.2.2.2.2.2.2.2.2.1 k0_h1 k0_h2
theorem k0_off32_inb : ∀ (i : grid0.Coords) (v0 : BitVec 32) (v9 : BitVec 32) (v11 : BitVec 32) (k0_hw1 : k0_chk1 i v0 v9 v11), ∀ (k0_h1 : k0_cond1 i v0 = 1#1), ∀ (k0_h2 : k0_cond2 v11 = 1#1), ∀ a, (k0_off32 v9) a + S1x1x512x1024.size a ≤ S2x2x512x1024.size a := fun i v0 v9 v11 k0_hw1 k0_h1 k0_h2 => k0_hw1.2.2.2.2.2.2.2.2.2.2.2.2.2.2.2.2.2 k0_h1 k0_h2

def k0_off33 (v93 : BitVec 32) : Fin 3 → Nat :=
  let c0_i32_68 : BitVec 32 := 0#32
  let c0_i32_69 : BitVec 32 := 0#32
  ![v93.toNat, 0, 0]

def k0_chk5 (i : grid0.Coords) (v0 : BitVec 32) (v11 : BitVec 32) (v93 : BitVec 32) : Prop :=
  (∀ (k0_h1 : k0_cond1 i v0 = 1#1), ∀ (k0_h2 : k0_cond2 v11 = 1#1), ∀ a, (k0_off27 v93) a + S1x1024x512.size a ≤ S16x1024x512.size a) ∧
  (∀ (k0_h1 : k0_cond1 i v0 = 1#1), ∀ (k0_h2 : k0_cond2 v11 = 1#1), ∀ a, (k0_off33 v93) a + S1x512x1024.size a ≤ S16x512x1024.size a)
theorem k0_off27_inb : ∀ (i : grid0.Coords) (v0 : BitVec 32) (v11 : BitVec 32) (v93 : BitVec 32) (k0_hw5 : k0_chk5 i v0 v11 v93), ∀ (k0_h1 : k0_cond1 i v0 = 1#1), ∀ (k0_h2 : k0_cond2 v11 = 1#1), ∀ a, (k0_off27 v93) a + S1x1024x512.size a ≤ S16x1024x512.size a := fun i v0 v11 v93 k0_hw5 k0_h1 k0_h2 => k0_hw5.1 k0_h1 k0_h2
theorem k0_off33_inb : ∀ (i : grid0.Coords) (v0 : BitVec 32) (v11 : BitVec 32) (v93 : BitVec 32) (k0_hw5 : k0_chk5 i v0 v11 v93), ∀ (k0_h1 : k0_cond1 i v0 = 1#1), ∀ (k0_h2 : k0_cond2 v11 = 1#1), ∀ a, (k0_off33 v93) a + S1x512x1024.size a ≤ S16x512x1024.size a := fun i v0 v11 v93 k0_hw5 k0_h1 k0_h2 => k0_hw5.2 k0_h1 k0_h2

def k0_off34 (i : grid0.Coords) : Fin 2 → Nat :=
  let c7 : Index := 7#32
  let arg0 : BitVec 32 := BitVec.ofNat 32 (i 0).val
  let v130 : Index := Scalar.indexCast arg0
  ![7, v130.toNat]
def k0_off35 (i : grid0.Coords) : Fin 2 → Nat :=
  let c5 : Index := 5#32
  let arg0 : BitVec 32 := BitVec.ofNat 32 (i 0).val
  let v135 : Index := Scalar.indexCast arg0
  ![5, v135.toNat]
def k0_off36 (i : grid0.Coords) : Fin 2 → Nat :=
  let c6 : Index := 6#32
  let arg0 : BitVec 32 := BitVec.ofNat 32 (i 0).val
  let v137 : Index := Scalar.indexCast arg0
  ![6, v137.toNat]
def k0_off37 (v9 : BitVec 32) : Fin 1 → Nat :=
  let c1_i32_72 : BitVec 32 := 1#32
  let v139 : BitVec 32 := Scalar.subi c1_i32_72 v9
  ![v139.toNat]
def k0_cond4 (v131 : BitVec 32) : BitVec 1 :=
  let c1_i32_70 : BitVec 32 := 1#32
  let v132 : BitVec 1 := Scalar.cmpi .eq v131 c1_i32_70
  let v133 : BitVec 32 := Scalar.extui v132
  let c0_i32_71 : BitVec 32 := 0#32
  let v134 : BitVec 1 := Scalar.cmpi .ne v133 c0_i32_71
  v134

def k0_off38 (v9 : BitVec 32) : Fin 4 → Nat :=
  let c1_i32_72 : BitVec 32 := 1#32
  let v139 : BitVec 32 := Scalar.subi c1_i32_72 v9
  let c0_i32_73 : BitVec 32 := 0#32
  let c0_i32_74 : BitVec 32 := 0#32
  let c0_i32_75 : BitVec 32 := 0#32
  ![v139.toNat, 0, 0, 0]
def k0_off39 (v136 : BitVec 32) : Fin 3 → Nat :=
  let c0_i32_76 : BitVec 32 := 0#32
  let c0_i32_77 : BitVec 32 := 0#32
  ![v136.toNat, 0, 0]

def k0_off40 (v9 : BitVec 32) : Fin 1 → Nat :=
  let c1_i32_72 : BitVec 32 := 1#32
  let v139 : BitVec 32 := Scalar.subi c1_i32_72 v9
  ![v139.toNat]
def k0_off41 (v9 : BitVec 32) : Fin 4 → Nat :=
  let c1_i32_72 : BitVec 32 := 1#32
  let v139 : BitVec 32 := Scalar.subi c1_i32_72 v9
  let c1_i32_78 : BitVec 32 := 1#32
  let c0_i32_79 : BitVec 32 := 0#32
  let c0_i32_80 : BitVec 32 := 0#32
  ![v139.toNat, 1, 0, 0]
def k0_off42 (v9 : BitVec 32) : Fin 4 → Nat :=
  let c1_i32_72 : BitVec 32 := 1#32
  let v139 : BitVec 32 := Scalar.subi c1_i32_72 v9
  let c2_i32_83 : BitVec 32 := 2#32
  let c0_i32_84 : BitVec 32 := 0#32
  let c0_i32_85 : BitVec 32 := 0#32
  ![v139.toNat, 2, 0, 0]
def k0_off43 (v138 : BitVec 32) : Fin 3 → Nat :=
  let c0_i32_86 : BitVec 32 := 0#32
  let c0_i32_87 : BitVec 32 := 0#32
  ![v138.toNat, 0, 0]

def k0_off44 (v9 : BitVec 32) : Fin 1 → Nat :=
  let c1_i32_72 : BitVec 32 := 1#32
  let v139 : BitVec 32 := Scalar.subi c1_i32_72 v9
  ![v139.toNat]
def k0_off45 (v9 : BitVec 32) : Fin 4 → Nat :=
  let c1_i32_72 : BitVec 32 := 1#32
  let v139 : BitVec 32 := Scalar.subi c1_i32_72 v9
  let c3_i32_88 : BitVec 32 := 3#32
  let c0_i32_89 : BitVec 32 := 0#32
  let c0_i32_90 : BitVec 32 := 0#32
  ![v139.toNat, 3, 0, 0]
def k0_off46 (v9 : BitVec 32) : Fin 4 → Nat :=
  let c1_i32_72 : BitVec 32 := 1#32
  let v139 : BitVec 32 := Scalar.subi c1_i32_72 v9
  let c0_i32_93 : BitVec 32 := 0#32
  let c0_i32_94 : BitVec 32 := 0#32
  let c0_i32_95 : BitVec 32 := 0#32
  ![v139.toNat, 0, 0, 0]
def k0_off47 (v136 : BitVec 32) : Fin 3 → Nat :=
  let c0_i32_96 : BitVec 32 := 0#32
  let c0_i32_97 : BitVec 32 := 0#32
  ![v136.toNat, 0, 0]

def k0_chk7 (i : grid0.Coords) (v0 : BitVec 32) (v11 : BitVec 32) (v131 : BitVec 32) (v136 : BitVec 32) : Prop :=
  (∀ (k0_h1 : k0_cond1 i v0 = 1#1), ∀ (k0_h2 : k0_cond2 v11 = 1#1), ∀ (k0_h4 : k0_cond4 v131 = 1#1), ∀ a, (k0_off39 v136) a + S1x1024x512.size a ≤ S16x1024x512.size a) ∧
  (∀ (k0_h1 : k0_cond1 i v0 = 1#1), ∀ (k0_h2 : k0_cond2 v11 = 1#1), ∀ (k0_h4 : k0_cond4 v131 = 1#1), ∀ a, (k0_off47 v136) a + S1x512x1024.size a ≤ S16x512x1024.size a)
theorem k0_off39_inb : ∀ (i : grid0.Coords) (v0 : BitVec 32) (v11 : BitVec 32) (v131 : BitVec 32) (v136 : BitVec 32) (k0_hw7 : k0_chk7 i v0 v11 v131 v136), ∀ (k0_h1 : k0_cond1 i v0 = 1#1), ∀ (k0_h2 : k0_cond2 v11 = 1#1), ∀ (k0_h4 : k0_cond4 v131 = 1#1), ∀ a, (k0_off39 v136) a + S1x1024x512.size a ≤ S16x1024x512.size a := fun i v0 v11 v131 v136 k0_hw7 k0_h1 k0_h2 k0_h4 => k0_hw7.1 k0_h1 k0_h2 k0_h4
theorem k0_off47_inb : ∀ (i : grid0.Coords) (v0 : BitVec 32) (v11 : BitVec 32) (v131 : BitVec 32) (v136 : BitVec 32) (k0_hw7 : k0_chk7 i v0 v11 v131 v136), ∀ (k0_h1 : k0_cond1 i v0 = 1#1), ∀ (k0_h2 : k0_cond2 v11 = 1#1), ∀ (k0_h4 : k0_cond4 v131 = 1#1), ∀ a, (k0_off47 v136) a + S1x512x1024.size a ≤ S16x512x1024.size a := fun i v0 v11 v131 v136 k0_hw7 k0_h1 k0_h2 k0_h4 => k0_hw7.2 k0_h1 k0_h2 k0_h4

def k0_off48 (v9 : BitVec 32) : Fin 4 → Nat :=
  let c1_i32_72 : BitVec 32 := 1#32
  let v139 : BitVec 32 := Scalar.subi c1_i32_72 v9
  let c1_i32_98 : BitVec 32 := 1#32
  let c0_i32_99 : BitVec 32 := 0#32
  let c0_i32_100 : BitVec 32 := 0#32
  ![v139.toNat, 1, 0, 0]

def k0_chk6 (i : grid0.Coords) (v0 : BitVec 32) (v9 : BitVec 32) (v11 : BitVec 32) (v131 : BitVec 32) : Prop :=
  (∀ (k0_h1 : k0_cond1 i v0 = 1#1), ∀ (k0_h2 : k0_cond2 v11 = 1#1), ∀ (k0_h4 : k0_cond4 v131 = 1#1), ∀ a, (k0_off37 v9) a + S1.size a ≤ S2.size a) ∧
  (∀ (k0_h1 : k0_cond1 i v0 = 1#1), ∀ (k0_h2 : k0_cond2 v11 = 1#1), ∀ (k0_h4 : k0_cond4 v131 = 1#1), ∀ a, (k0_off38 v9) a + S1x1x1024x512.size a ≤ S2x4x1024x512.size a) ∧
  (∀ (k0_h1 : k0_cond1 i v0 = 1#1), ∀ (k0_h2 : k0_cond2 v11 = 1#1), ∀ (k0_h4 : k0_cond4 v131 = 1#1), ∀ a, (k0_off40 v9) a + S1.size a ≤ S2.size a) ∧
  (∀ (k0_h1 : k0_cond1 i v0 = 1#1), ∀ (k0_h2 : k0_cond2 v11 = 1#1), ∀ (k0_h4 : k0_cond4 v131 = 1#1), ∀ a, (k0_off41 v9) a + S1x1x1024x512.size a ≤ S2x4x1024x512.size a) ∧
  (∀ (k0_h1 : k0_cond1 i v0 = 1#1), ∀ (k0_h2 : k0_cond2 v11 = 1#1), ∀ (k0_h4 : k0_cond4 v131 = 1#1), ∀ a, (k0_off42 v9) a + S1x1x1024x512.size a ≤ S2x4x1024x512.size a) ∧
  (∀ (k0_h1 : k0_cond1 i v0 = 1#1), ∀ (k0_h2 : k0_cond2 v11 = 1#1), ∀ (k0_h4 : k0_cond4 v131 = 1#1), ∀ a, (k0_off44 v9) a + S1.size a ≤ S2.size a) ∧
  (∀ (k0_h1 : k0_cond1 i v0 = 1#1), ∀ (k0_h2 : k0_cond2 v11 = 1#1), ∀ (k0_h4 : k0_cond4 v131 = 1#1), ∀ a, (k0_off45 v9) a + S1x1x1024x512.size a ≤ S2x4x1024x512.size a) ∧
  (∀ (k0_h1 : k0_cond1 i v0 = 1#1), ∀ (k0_h2 : k0_cond2 v11 = 1#1), ∀ (k0_h4 : k0_cond4 v131 = 1#1), ∀ a, (k0_off46 v9) a + S1x1x512x1024.size a ≤ S2x2x512x1024.size a) ∧
  (∀ (k0_h1 : k0_cond1 i v0 = 1#1), ∀ (k0_h2 : k0_cond2 v11 = 1#1), ∀ (k0_h4 : k0_cond4 v131 = 1#1), ∀ a, (k0_off48 v9) a + S1x1x512x1024.size a ≤ S2x2x512x1024.size a)
theorem k0_off37_inb : ∀ (i : grid0.Coords) (v0 : BitVec 32) (v9 : BitVec 32) (v11 : BitVec 32) (v131 : BitVec 32) (k0_hw6 : k0_chk6 i v0 v9 v11 v131), ∀ (k0_h1 : k0_cond1 i v0 = 1#1), ∀ (k0_h2 : k0_cond2 v11 = 1#1), ∀ (k0_h4 : k0_cond4 v131 = 1#1), ∀ a, (k0_off37 v9) a + S1.size a ≤ S2.size a := fun i v0 v9 v11 v131 k0_hw6 k0_h1 k0_h2 k0_h4 => k0_hw6.1 k0_h1 k0_h2 k0_h4
theorem k0_off38_inb : ∀ (i : grid0.Coords) (v0 : BitVec 32) (v9 : BitVec 32) (v11 : BitVec 32) (v131 : BitVec 32) (k0_hw6 : k0_chk6 i v0 v9 v11 v131), ∀ (k0_h1 : k0_cond1 i v0 = 1#1), ∀ (k0_h2 : k0_cond2 v11 = 1#1), ∀ (k0_h4 : k0_cond4 v131 = 1#1), ∀ a, (k0_off38 v9) a + S1x1x1024x512.size a ≤ S2x4x1024x512.size a := fun i v0 v9 v11 v131 k0_hw6 k0_h1 k0_h2 k0_h4 => k0_hw6.2.1 k0_h1 k0_h2 k0_h4
theorem k0_off40_inb : ∀ (i : grid0.Coords) (v0 : BitVec 32) (v9 : BitVec 32) (v11 : BitVec 32) (v131 : BitVec 32) (k0_hw6 : k0_chk6 i v0 v9 v11 v131), ∀ (k0_h1 : k0_cond1 i v0 = 1#1), ∀ (k0_h2 : k0_cond2 v11 = 1#1), ∀ (k0_h4 : k0_cond4 v131 = 1#1), ∀ a, (k0_off40 v9) a + S1.size a ≤ S2.size a := fun i v0 v9 v11 v131 k0_hw6 k0_h1 k0_h2 k0_h4 => k0_hw6.2.2.1 k0_h1 k0_h2 k0_h4
theorem k0_off41_inb : ∀ (i : grid0.Coords) (v0 : BitVec 32) (v9 : BitVec 32) (v11 : BitVec 32) (v131 : BitVec 32) (k0_hw6 : k0_chk6 i v0 v9 v11 v131), ∀ (k0_h1 : k0_cond1 i v0 = 1#1), ∀ (k0_h2 : k0_cond2 v11 = 1#1), ∀ (k0_h4 : k0_cond4 v131 = 1#1), ∀ a, (k0_off41 v9) a + S1x1x1024x512.size a ≤ S2x4x1024x512.size a := fun i v0 v9 v11 v131 k0_hw6 k0_h1 k0_h2 k0_h4 => k0_hw6.2.2.2.1 k0_h1 k0_h2 k0_h4
theorem k0_off42_inb : ∀ (i : grid0.Coords) (v0 : BitVec 32) (v9 : BitVec 32) (v11 : BitVec 32) (v131 : BitVec 32) (k0_hw6 : k0_chk6 i v0 v9 v11 v131), ∀ (k0_h1 : k0_cond1 i v0 = 1#1), ∀ (k0_h2 : k0_cond2 v11 = 1#1), ∀ (k0_h4 : k0_cond4 v131 = 1#1), ∀ a, (k0_off42 v9) a + S1x1x1024x512.size a ≤ S2x4x1024x512.size a := fun i v0 v9 v11 v131 k0_hw6 k0_h1 k0_h2 k0_h4 => k0_hw6.2.2.2.2.1 k0_h1 k0_h2 k0_h4
theorem k0_off44_inb : ∀ (i : grid0.Coords) (v0 : BitVec 32) (v9 : BitVec 32) (v11 : BitVec 32) (v131 : BitVec 32) (k0_hw6 : k0_chk6 i v0 v9 v11 v131), ∀ (k0_h1 : k0_cond1 i v0 = 1#1), ∀ (k0_h2 : k0_cond2 v11 = 1#1), ∀ (k0_h4 : k0_cond4 v131 = 1#1), ∀ a, (k0_off44 v9) a + S1.size a ≤ S2.size a := fun i v0 v9 v11 v131 k0_hw6 k0_h1 k0_h2 k0_h4 => k0_hw6.2.2.2.2.2.1 k0_h1 k0_h2 k0_h4
theorem k0_off45_inb : ∀ (i : grid0.Coords) (v0 : BitVec 32) (v9 : BitVec 32) (v11 : BitVec 32) (v131 : BitVec 32) (k0_hw6 : k0_chk6 i v0 v9 v11 v131), ∀ (k0_h1 : k0_cond1 i v0 = 1#1), ∀ (k0_h2 : k0_cond2 v11 = 1#1), ∀ (k0_h4 : k0_cond4 v131 = 1#1), ∀ a, (k0_off45 v9) a + S1x1x1024x512.size a ≤ S2x4x1024x512.size a := fun i v0 v9 v11 v131 k0_hw6 k0_h1 k0_h2 k0_h4 => k0_hw6.2.2.2.2.2.2.1 k0_h1 k0_h2 k0_h4
theorem k0_off46_inb : ∀ (i : grid0.Coords) (v0 : BitVec 32) (v9 : BitVec 32) (v11 : BitVec 32) (v131 : BitVec 32) (k0_hw6 : k0_chk6 i v0 v9 v11 v131), ∀ (k0_h1 : k0_cond1 i v0 = 1#1), ∀ (k0_h2 : k0_cond2 v11 = 1#1), ∀ (k0_h4 : k0_cond4 v131 = 1#1), ∀ a, (k0_off46 v9) a + S1x1x512x1024.size a ≤ S2x2x512x1024.size a := fun i v0 v9 v11 v131 k0_hw6 k0_h1 k0_h2 k0_h4 => k0_hw6.2.2.2.2.2.2.2.1 k0_h1 k0_h2 k0_h4
theorem k0_off48_inb : ∀ (i : grid0.Coords) (v0 : BitVec 32) (v9 : BitVec 32) (v11 : BitVec 32) (v131 : BitVec 32) (k0_hw6 : k0_chk6 i v0 v9 v11 v131), ∀ (k0_h1 : k0_cond1 i v0 = 1#1), ∀ (k0_h2 : k0_cond2 v11 = 1#1), ∀ (k0_h4 : k0_cond4 v131 = 1#1), ∀ a, (k0_off48 v9) a + S1x1x512x1024.size a ≤ S2x2x512x1024.size a := fun i v0 v9 v11 v131 k0_hw6 k0_h1 k0_h2 k0_h4 => k0_hw6.2.2.2.2.2.2.2.2 k0_h1 k0_h2 k0_h4

def k0_off49 (v138 : BitVec 32) : Fin 3 → Nat :=
  let c0_i32_101 : BitVec 32 := 0#32
  let c0_i32_102 : BitVec 32 := 0#32
  ![v138.toNat, 0, 0]

def k0_chk8 (i : grid0.Coords) (v0 : BitVec 32) (v11 : BitVec 32) (v131 : BitVec 32) (v138 : BitVec 32) : Prop :=
  (∀ (k0_h1 : k0_cond1 i v0 = 1#1), ∀ (k0_h2 : k0_cond2 v11 = 1#1), ∀ (k0_h4 : k0_cond4 v131 = 1#1), ∀ a, (k0_off43 v138) a + S1x1024x512.size a ≤ S16x1024x512.size a) ∧
  (∀ (k0_h1 : k0_cond1 i v0 = 1#1), ∀ (k0_h2 : k0_cond2 v11 = 1#1), ∀ (k0_h4 : k0_cond4 v131 = 1#1), ∀ a, (k0_off49 v138) a + S1x512x1024.size a ≤ S16x512x1024.size a)
theorem k0_off43_inb : ∀ (i : grid0.Coords) (v0 : BitVec 32) (v11 : BitVec 32) (v131 : BitVec 32) (v138 : BitVec 32) (k0_hw8 : k0_chk8 i v0 v11 v131 v138), ∀ (k0_h1 : k0_cond1 i v0 = 1#1), ∀ (k0_h2 : k0_cond2 v11 = 1#1), ∀ (k0_h4 : k0_cond4 v131 = 1#1), ∀ a, (k0_off43 v138) a + S1x1024x512.size a ≤ S16x1024x512.size a := fun i v0 v11 v131 v138 k0_hw8 k0_h1 k0_h2 k0_h4 => k0_hw8.1 k0_h1 k0_h2 k0_h4
theorem k0_off49_inb : ∀ (i : grid0.Coords) (v0 : BitVec 32) (v11 : BitVec 32) (v131 : BitVec 32) (v138 : BitVec 32) (k0_hw8 : k0_chk8 i v0 v11 v131 v138), ∀ (k0_h1 : k0_cond1 i v0 = 1#1), ∀ (k0_h2 : k0_cond2 v11 = 1#1), ∀ (k0_h4 : k0_cond4 v131 = 1#1), ∀ a, (k0_off49 v138) a + S1x512x1024.size a ≤ S16x512x1024.size a := fun i v0 v11 v131 v138 k0_hw8 k0_h1 k0_h2 k0_h4 => k0_hw8.2 k0_h1 k0_h2 k0_h4

def k0_off50 (v9 : BitVec 32) : Fin 4 → Nat :=
  let v34 : Index := Scalar.indexCast v9
  let c0_10 : Index := 0#32
  let c0_11 : Index := 0#32
  let c0_12 : Index := 0#32
  ![v34.toNat, 0, 0, 0]

def k0_off51 (v9 : BitVec 32) : Fin 4 → Nat :=
  let v39 : Index := Scalar.indexCast v9
  let c1 : Index := 1#32
  let c0_14 : Index := 0#32
  let c0_15 : Index := 0#32
  ![v39.toNat, 1, 0, 0]
def k0_off52 (v9 : BitVec 32) : Fin 4 → Nat :=
  let v52 : Index := Scalar.indexCast v9
  let c0_19 : Index := 0#32
  let c0_20 : Index := 0#32
  let c0_21 : Index := 0#32
  ![v52.toNat, 0, 0, 0]
def k0_off53 (v9 : BitVec 32) : Fin 4 → Nat :=
  let v59 : Index := Scalar.indexCast v9
  let c2 : Index := 2#32
  let c0_23 : Index := 0#32
  let c0_24 : Index := 0#32
  ![v59.toNat, 2, 0, 0]
def k0_off54 (v9 : BitVec 32) : Fin 4 → Nat :=
  let v64 : Index := Scalar.indexCast v9
  let c3_26 : Index := 3#32
  let c0_27 : Index := 0#32
  let c0_28 : Index := 0#32
  ![v64.toNat, 3, 0, 0]
def k0_off55 (v9 : BitVec 32) : Fin 4 → Nat :=
  let v77 : Index := Scalar.indexCast v9
  let c1_32 : Index := 1#32
  let c0_33 : Index := 0#32
  let c0_34 : Index := 0#32
  ![v77.toNat, 1, 0, 0]

def k0_chk9 (i : grid0.Coords) (v0 : BitVec 32) (v9 : BitVec 32) : Prop :=
  (∀ (k0_h1 : k0_cond1 i v0 = 1#1), ∀ a, (k0_off50 v9) a + S1x1x1024x512.size a ≤ S2x4x1024x512.size a) ∧
  (∀ (k0_h1 : k0_cond1 i v0 = 1#1), ∀ a, (k0_off51 v9) a + S1x1x1024x512.size a ≤ S2x4x1024x512.size a) ∧
  (∀ (k0_h1 : k0_cond1 i v0 = 1#1), ∀ a, (k0_off52 v9) a + S1x1x512x1024.size a ≤ S2x2x512x1024.size a) ∧
  (∀ (k0_h1 : k0_cond1 i v0 = 1#1), ∀ a, (k0_off53 v9) a + S1x1x1024x512.size a ≤ S2x4x1024x512.size a) ∧
  (∀ (k0_h1 : k0_cond1 i v0 = 1#1), ∀ a, (k0_off54 v9) a + S1x1x1024x512.size a ≤ S2x4x1024x512.size a) ∧
  (∀ (k0_h1 : k0_cond1 i v0 = 1#1), ∀ a, (k0_off55 v9) a + S1x1x512x1024.size a ≤ S2x2x512x1024.size a)
theorem k0_off50_inb : ∀ (i : grid0.Coords) (v0 : BitVec 32) (v9 : BitVec 32) (k0_hw9 : k0_chk9 i v0 v9), ∀ (k0_h1 : k0_cond1 i v0 = 1#1), ∀ a, (k0_off50 v9) a + S1x1x1024x512.size a ≤ S2x4x1024x512.size a := fun i v0 v9 k0_hw9 k0_h1 => k0_hw9.1 k0_h1
theorem k0_off51_inb : ∀ (i : grid0.Coords) (v0 : BitVec 32) (v9 : BitVec 32) (k0_hw9 : k0_chk9 i v0 v9), ∀ (k0_h1 : k0_cond1 i v0 = 1#1), ∀ a, (k0_off51 v9) a + S1x1x1024x512.size a ≤ S2x4x1024x512.size a := fun i v0 v9 k0_hw9 k0_h1 => k0_hw9.2.1 k0_h1
theorem k0_off52_inb : ∀ (i : grid0.Coords) (v0 : BitVec 32) (v9 : BitVec 32) (k0_hw9 : k0_chk9 i v0 v9), ∀ (k0_h1 : k0_cond1 i v0 = 1#1), ∀ a, (k0_off52 v9) a + S1x1x512x1024.size a ≤ S2x2x512x1024.size a := fun i v0 v9 k0_hw9 k0_h1 => k0_hw9.2.2.1 k0_h1
theorem k0_off53_inb : ∀ (i : grid0.Coords) (v0 : BitVec 32) (v9 : BitVec 32) (k0_hw9 : k0_chk9 i v0 v9), ∀ (k0_h1 : k0_cond1 i v0 = 1#1), ∀ a, (k0_off53 v9) a + S1x1x1024x512.size a ≤ S2x4x1024x512.size a := fun i v0 v9 k0_hw9 k0_h1 => k0_hw9.2.2.2.1 k0_h1
theorem k0_off54_inb : ∀ (i : grid0.Coords) (v0 : BitVec 32) (v9 : BitVec 32) (k0_hw9 : k0_chk9 i v0 v9), ∀ (k0_h1 : k0_cond1 i v0 = 1#1), ∀ a, (k0_off54 v9) a + S1x1x1024x512.size a ≤ S2x4x1024x512.size a := fun i v0 v9 k0_hw9 k0_h1 => k0_hw9.2.2.2.2.1 k0_h1
theorem k0_off55_inb : ∀ (i : grid0.Coords) (v0 : BitVec 32) (v9 : BitVec 32) (k0_hw9 : k0_chk9 i v0 v9), ∀ (k0_h1 : k0_cond1 i v0 = 1#1), ∀ a, (k0_off55 v9) a + S1x1x512x1024.size a ≤ S2x2x512x1024.size a := fun i v0 v9 k0_hw9 k0_h1 => k0_hw9.2.2.2.2.2 k0_h1

def k0_cond5 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1x1.size a ≤ S8x88.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S8x88) ![0, v0.toNat] S1x1.size (k0_off1_inb i)) numel1_S1x1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S24 : Shape := ⟨1, ![24]⟩
abbrev S22528x1152 : Shape := ⟨2, ![22528, 1152]⟩
abbrev S1x1024 : Shape := ⟨2, ![1, 1024]⟩
abbrev S1x16x1024x512 : Shape := ⟨4, ![1, 16, 1024, 512]⟩
abbrev S1x16x512x1024 : Shape := ⟨4, ![1, 16, 512, 1024]⟩
abbrev S6 : Shape := ⟨1, ![6]⟩
abbrev S_ : Shape := ⟨0, ![]⟩
abbrev S22528 : Shape := ⟨1, ![22528]⟩
abbrev S1x24 : Shape := ⟨2, ![1, 24]⟩
abbrev S22528x1 : Shape := ⟨2, ![22528, 1]⟩
abbrev S22528x24 : Shape := ⟨2, ![22528, 24]⟩
abbrev S22528x1024 : Shape := ⟨2, ![22528, 1024]⟩
abbrev S1x16 : Shape := ⟨2, ![1, 16]⟩
abbrev S22528x16 : Shape := ⟨2, ![22528, 16]⟩
abbrev S1024 : Shape := ⟨1, ![1024]⟩
abbrev S16x1024x512 : Shape := ⟨3, ![16, 1024, 512]⟩
abbrev S16x512x22528 : Shape := ⟨3, ![16, 512, 22528]⟩
abbrev S16x22528x512 : Shape := ⟨3, ![16, 22528, 512]⟩
abbrev S16x22528 : Shape := ⟨2, ![16, 22528]⟩
abbrev S16x22528x1 : Shape := ⟨3, ![16, 22528, 1]⟩
abbrev S16x512x1024 : Shape := ⟨3, ![16, 512, 1024]⟩
abbrev S16x22528x1024 : Shape := ⟨3, ![16, 22528, 1024]⟩

abbrev nBuf : Space → Nat
  | .hbm => 221
  | .vmem => 0
  | .smem => 0
  | _ => 0

abbrev hbmTy0_0 (i : Nat) : BufTy := match i % 128 with
  | 0 => ⟨S24, .i32⟩
  | 1 => ⟨S22528x1152, .f32⟩
  | 2 => ⟨S1x1024, .f32⟩
  | 3 => ⟨S1x16x1024x512, .f32⟩
  | 4 => ⟨S1x16x1024x512, .f32⟩
  | 5 => ⟨S1x16x512x1024, .f32⟩
  | 6 => ⟨S6, .i32⟩
  | 7 => ⟨S6, .i32⟩
  | 8 => ⟨S_, .i32⟩
  | 9 => ⟨S24, .i32⟩
  | 10 => ⟨S24, .i32⟩
  | 11 => ⟨S_, .i32⟩
  | 12 => ⟨S_, .i32⟩
  | 13 => ⟨S24, .i32⟩
  | 14 => ⟨S24, .i32⟩
  | 15 => ⟨S24, .i32⟩
  | 16 => ⟨S_, .i32⟩
  | 17 => ⟨S24, .i32⟩
  | 18 => ⟨S24, .i1⟩
  | 19 => ⟨S24, .i32⟩
  | 20 => ⟨S24, .i32⟩
  | 21 => ⟨S_, .i32⟩
  | 22 => ⟨S24, .i32⟩
  | 23 => ⟨S24, .i1⟩
  | 24 => ⟨S24, .i1⟩
  | 25 => ⟨S_, .i32⟩
  | 26 => ⟨S24, .i32⟩
  | 27 => ⟨S24, .i32⟩
  | 28 => ⟨S24, .i32⟩
  | 29 => ⟨S_, .i32⟩
  | 30 => ⟨S_, .i32⟩
  | 31 => ⟨S24, .i32⟩
  | 32 => ⟨S_, .i32⟩
  | 33 => ⟨S24, .i32⟩
  | 34 => ⟨S24, .i32⟩
  | 35 => ⟨S22528, .i32⟩
  | 36 => ⟨S1x24, .i32⟩
  | 37 => ⟨S22528x1, .i32⟩
  | 38 => ⟨S22528x24, .i32⟩
  | 39 => ⟨S22528x24, .i32⟩
  | 40 => ⟨S22528x24, .i1⟩
  | 41 => ⟨S22528x24, .i32⟩
  | 42 => ⟨S_, .i32⟩
  | 43 => ⟨S22528, .i32⟩
  | 44 => ⟨S_, .i32⟩
  | 45 => ⟨S_, .i32⟩
  | 46 => ⟨S22528, .i32⟩
  | 47 => ⟨S22528, .i32⟩
  | 48 => ⟨S22528, .i32⟩
  | 49 => ⟨S_, .i32⟩
  | 50 => ⟨S22528, .i32⟩
  | 51 => ⟨S22528, .i1⟩
  | 52 => ⟨S22528, .i32⟩
  | 53 => ⟨S22528, .i32⟩
  | 54 => ⟨S_, .i32⟩
  | 55 => ⟨S22528, .i32⟩
  | 56 => ⟨S22528, .i1⟩
  | 57 => ⟨S22528, .i1⟩
  | 58 => ⟨S_, .i32⟩
  | 59 => ⟨S22528, .i32⟩
  | 60 => ⟨S22528, .i32⟩
  | 61 => ⟨S22528, .i32⟩
  | 62 => ⟨S_, .i32⟩
  | 63 => ⟨S22528, .i32⟩
  | 64 => ⟨S22528, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S22528, .i32⟩
  | 72 => ⟨S22528, .i32⟩
  | 73 => ⟨S_, .i32⟩
  | 74 => ⟨S22528, .i32⟩
  | 75 => ⟨S22528, .i1⟩
  | 76 => ⟨S_, .i32⟩
  | 77 => ⟨S22528, .i32⟩
  | 78 => ⟨S22528, .i1⟩
  | 79 => ⟨S_, .i32⟩
  | 80 => ⟨S_, .i1⟩
  | 81 => ⟨S22528, .i1⟩
  | 82 => ⟨S22528, .i1⟩
  | 83 => ⟨S22528, .i1⟩
  | 84 => ⟨S22528, .i32⟩
  | 85 => ⟨S22528, .i32⟩
  | 86 => ⟨S22528, .i32⟩
  | 87 => ⟨S_, .i32⟩
  | 88 => ⟨S22528, .i32⟩
  | 89 => ⟨S22528, .i1⟩
  | 90 => ⟨S_, .i32⟩
  | 91 => ⟨S22528, .i32⟩
  | 92 => ⟨S22528, .i32⟩
  | 93 => ⟨S22528, .i32⟩
  | 94 => ⟨S22528x1, .i32⟩
  | 95 => ⟨S22528, .i32⟩
  | 96 => ⟨S22528, .i32⟩
  | 97 => ⟨S_, .i32⟩
  | 98 => ⟨S_, .i32⟩
  | 99 => ⟨S22528, .i32⟩
  | 100 => ⟨S22528, .i32⟩
  | 101 => ⟨S22528, .i32⟩
  | 102 => ⟨S_, .i32⟩
  | 103 => ⟨S22528, .i32⟩
  | 104 => ⟨S22528, .i1⟩
  | 105 => ⟨S22528, .i32⟩
  | 106 => ⟨S22528, .i32⟩
  | 107 => ⟨S_, .i32⟩
  | 108 => ⟨S22528, .i32⟩
  | 109 => ⟨S22528, .i1⟩
  | 110 => ⟨S22528, .i1⟩
  | 111 => ⟨S_, .i32⟩
  | 112 => ⟨S22528, .i32⟩
  | 113 => ⟨S22528, .i32⟩
  | 114 => ⟨S22528, .i32⟩
  | 115 => ⟨S_, .i32⟩
  | 116 => ⟨S22528, .i32⟩
  | 117 => ⟨S22528, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S22528, .i32⟩
  | 125 => ⟨S22528, .i32⟩
  | 126 => ⟨S_, .i32⟩
  | 127 => ⟨S22528, .i32⟩
  | _ => ⟨S24, .i32⟩

abbrev hbmTy0_1 (i : Nat) : BufTy := match i % 128 with
  | 0 => ⟨S22528, .i1⟩
  | 1 => ⟨S_, .i32⟩
  | 2 => ⟨S22528, .i32⟩
  | 3 => ⟨S22528, .i1⟩
  | 4 => ⟨S_, .i32⟩
  | 5 => ⟨S_, .i1⟩
  | 6 => ⟨S22528, .i1⟩
  | 7 => ⟨S22528, .i1⟩
  | 8 => ⟨S22528, .i1⟩
  | 9 => ⟨S22528, .i32⟩
  | 10 => ⟨S22528, .i32⟩
  | 11 => ⟨S22528, .i32⟩
  | 12 => ⟨S_, .i32⟩
  | 13 => ⟨S22528, .i32⟩
  | 14 => ⟨S22528, .i1⟩
  | 15 => ⟨S_, .i32⟩
  | 16 => ⟨S22528, .i32⟩
  | 17 => ⟨S22528, .i32⟩
  | 18 => ⟨S22528, .i32⟩
  | 19 => ⟨S22528x1, .i32⟩
  | 20 => ⟨S22528, .i32⟩
  | 21 => ⟨S22528, .i32⟩
  | 22 => ⟨S22528x1024, .f32⟩
  | 23 => ⟨S22528x1, .f32⟩
  | 24 => ⟨S22528x1, .f32⟩
  | 25 => ⟨S22528x1, .i32⟩
  | 26 => ⟨S1x16, .i32⟩
  | 27 => ⟨S22528x16, .i32⟩
  | 28 => ⟨S22528x16, .i32⟩
  | 29 => ⟨S22528x16, .i1⟩
  | 30 => ⟨S22528x16, .f32⟩
  | 31 => ⟨S22528x16, .f32⟩
  | 32 => ⟨S22528x16, .f32⟩
  | 33 => ⟨S22528x1, .i32⟩
  | 34 => ⟨S1x16, .i32⟩
  | 35 => ⟨S22528x16, .i32⟩
  | 36 => ⟨S22528x16, .i32⟩
  | 37 => ⟨S22528x16, .i1⟩
  | 38 => ⟨S22528x16, .f32⟩
  | 39 => ⟨S22528x16, .f32⟩
  | 40 => ⟨S22528x16, .f32⟩
  | 41 => ⟨S22528x16, .f32⟩
  | 42 => ⟨S1024, .f32⟩
  | 43 => ⟨S22528x1024, .f32⟩
  | 44 => ⟨S_, .f32⟩
  | 45 => ⟨S22528, .f32⟩
  | 46 => ⟨S22528x1, .f32⟩
  | 47 => ⟨S_, .f32⟩
  | 48 => ⟨S22528x1, .f32⟩
  | 49 => ⟨S22528x1, .f32⟩
  | 50 => ⟨S_, .f32⟩
  | 51 => ⟨S22528x1, .f32⟩
  | 52 => ⟨S22528x1, .f32⟩
  | 53 => ⟨S22528x1, .f32⟩
  | 54 => ⟨S22528x1024, .f32⟩
  | 55 => ⟨S22528x1024, .f32⟩
  | 56 => ⟨S1x1024, .f32⟩
  | 57 => ⟨S22528x1024, .f32⟩
  | 58 => ⟨S22528x1024, .f32⟩
  | 59 => ⟨S16x1024x512, .f32⟩
  | 60 => ⟨S16x512x22528, .f32⟩
  | 61 => ⟨S16x22528x512, .f32⟩
  | 62 => ⟨S16x22528x512, .f32⟩
  | 63 => ⟨S16x22528x512, .f32⟩
  | 64 => ⟨S_, .f32⟩
  | 65 => ⟨S16x22528x512, .f32⟩
  | 66 => ⟨S16x22528x512, .f32⟩
  | 67 => ⟨S_, .f32⟩
  | 68 => ⟨S16x22528x512, .f32⟩
  | 69 => ⟨S16x22528x512, .f32⟩
  | 70 => ⟨S16x22528x512, .f32⟩
  | 71 => ⟨S16x1024x512, .f32⟩
  | 72 => ⟨S16x512x22528, .f32⟩
  | 73 => ⟨S16x22528x512, .f32⟩
  | 74 => ⟨S16x22528x512, .f32⟩
  | 75 => ⟨S16x22528, .f32⟩
  | 76 => ⟨S16x22528x1, .f32⟩
  | 77 => ⟨S16x512x1024, .f32⟩
  | 78 => ⟨S16x22528x1024, .f32⟩
  | 79 => ⟨S16x22528x1024, .f32⟩
  | 80 => ⟨S16x22528x1024, .f32⟩
  | 81 => ⟨S_, .f32⟩
  | 82 => ⟨S22528x1024, .f32⟩
  | 83 => ⟨S_, .i32⟩
  | 84 => ⟨S22528, .i32⟩
  | 85 => ⟨S22528, .i1⟩
  | 86 => ⟨S22528x1, .i1⟩
  | 87 => ⟨S22528x1024, .f32⟩
  | 88 => ⟨S_, .f32⟩
  | 89 => ⟨S_, .f32⟩
  | 90 => ⟨S22528x1024, .i1⟩
  | 91 => ⟨S22528x1024, .f32⟩
  | 92 => ⟨S22528x1024, .f32⟩
  | _ => ⟨S24, .i32⟩

abbrev hbmTy (i : Nat) : BufTy := match i / 128 with
  | 0 => hbmTy0_0 i
  | 1 => hbmTy0_1 i
  | _ => ⟨S24, .i32⟩

abbrev bufTy : (tb : Table) → Fin (tcTables nBuf tb) → BufTy
  | .hbm, ⟨i, _⟩ => hbmTy i
  | _, _ => ⟨S24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_call1_call0_c : Ref sig .tc := ⟨.hbm, 29, rfl⟩
abbrev main_call1_call0_v0 : Ref sig .tc := ⟨.hbm, 30, rfl⟩
abbrev main_v3 : Ref sig .tc := ⟨.hbm, 31, rfl⟩
abbrev main_c_3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_4 : Ref sig .tc := ⟨.hbm, 42, rfl⟩
abbrev main_v13 : Ref sig .tc := ⟨.hbm, 43, rfl⟩
abbrev main_c_5 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v14 : Ref sig .tc := ⟨.hbm, 61, rfl⟩
abbrev main_c_6 : Ref sig .tc := ⟨.hbm, 62, rfl⟩
abbrev main_v15 : Ref sig .tc := ⟨.hbm, 63, rfl⟩
abbrev main_v16 : Ref sig .tc := ⟨.hbm, 64, rfl⟩
abbrev main_c_7 : Ref sig .tc := ⟨.hbm, 65, rfl⟩
abbrev main_call3_v0 : Ref sig .tc := ⟨.hbm, 66, rfl⟩
abbrev main_call3_c : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_c_1 : Ref sig .tc := ⟨.hbm, 73, rfl⟩
abbrev main_call3_v5 : Ref sig .tc := ⟨.hbm, 74, rfl⟩
abbrev main_call3_v6 : Ref sig .tc := ⟨.hbm, 75, rfl⟩
abbrev main_call3_c_2 : Ref sig .tc := ⟨.hbm, 76, rfl⟩
abbrev main_call3_v7 : Ref sig .tc := ⟨.hbm, 77, rfl⟩
abbrev main_call3_v8 : Ref sig .tc := ⟨.hbm, 78, rfl⟩
abbrev main_call3_c_3 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_v17 : Ref sig .tc := ⟨.hbm, 86, rfl⟩
abbrev main_c_8 : Ref sig .tc := ⟨.hbm, 87, rfl⟩
abbrev main_v18 : Ref sig .tc := ⟨.hbm, 88, rfl⟩
abbrev main_v19 : Ref sig .tc := ⟨.hbm, 89, rfl⟩
abbrev main_c_9 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_c_10 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_c : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_0 : Ref sig .tc := ⟨.hbm, 111, rfl⟩
abbrev main_call4_v12 : Ref sig .tc := ⟨.hbm, 112, rfl⟩
abbrev main_call4_v13 : Ref sig .tc := ⟨.hbm, 113, rfl⟩
abbrev main_v26 : Ref sig .tc := ⟨.hbm, 114, rfl⟩
abbrev main_c_11 : Ref sig .tc := ⟨.hbm, 115, rfl⟩
abbrev main_v27 : Ref sig .tc := ⟨.hbm, 116, rfl⟩
abbrev main_v28 : Ref sig .tc := ⟨.hbm, 117, rfl⟩
abbrev main_c_12 : Ref sig .tc := ⟨.hbm, 118, rfl⟩
abbrev main_call5_v0 : Ref sig .tc := ⟨.hbm, 119, rfl⟩
abbrev main_call5_c : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_c_1 : Ref sig .tc := ⟨.hbm, 126, rfl⟩
abbrev main_call5_v5 : Ref sig .tc := ⟨.hbm, 127, rfl⟩
abbrev main_call5_v6 : Ref sig .tc := ⟨.hbm, 128, rfl⟩
abbrev main_call5_c_2 : Ref sig .tc := ⟨.hbm, 129, rfl⟩
abbrev main_call5_v7 : Ref sig .tc := ⟨.hbm, 130, rfl⟩
abbrev main_call5_v8 : Ref sig .tc := ⟨.hbm, 131, rfl⟩
abbrev main_call5_c_3 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_v12 : Ref sig .tc := ⟨.hbm, 136, rfl⟩
abbrev main_call5_v13 : Ref sig .tc := ⟨.hbm, 137, rfl⟩
abbrev main_call5_v14 : Ref sig .tc := ⟨.hbm, 138, rfl⟩
abbrev main_v29 : Ref sig .tc := ⟨.hbm, 139, rfl⟩
abbrev main_c_13 : Ref sig .tc := ⟨.hbm, 140, rfl⟩
abbrev main_v30 : Ref sig .tc := ⟨.hbm, 141, rfl⟩
abbrev main_v31 : Ref sig .tc := ⟨.hbm, 142, rfl⟩
abbrev main_c_14 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_call7_v0 : Ref sig .tc := ⟨.hbm, 161, rfl⟩
abbrev main_call7_v1 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_cst : Ref sig .tc := ⟨.hbm, 172, rfl⟩
abbrev main_v50 : Ref sig .tc := ⟨.hbm, 173, rfl⟩
abbrev main_v51 : Ref sig .tc := ⟨.hbm, 174, rfl⟩
abbrev main_cst_15 : Ref sig .tc := ⟨.hbm, 175, rfl⟩
abbrev main_v52 : Ref sig .tc := ⟨.hbm, 176, rfl⟩
abbrev main_v53 : Ref sig .tc := ⟨.hbm, 177, rfl⟩
abbrev main_cst_16 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_call8_v0 : Ref sig .tc := ⟨.hbm, 190, rfl⟩
abbrev main_call8_v1 : Ref sig .tc := ⟨.hbm, 191, rfl⟩
abbrev main_call8_cst : Ref sig .tc := ⟨.hbm, 192, rfl⟩
abbrev main_call8_v2 : Ref sig .tc := ⟨.hbm, 193, rfl⟩
abbrev main_call8_v3 : Ref sig .tc := ⟨.hbm, 194, rfl⟩
abbrev main_call8_cst_0 : Ref sig .tc := ⟨.hbm, 195, rfl⟩
abbrev main_call8_v4 : Ref sig .tc := ⟨.hbm, 196, rfl⟩
abbrev main_call8_v5 : Ref sig .tc := ⟨.hbm, 197, rfl⟩
abbrev main_v65 : Ref sig .tc := ⟨.hbm, 198, rfl⟩
abbrev main_v66 : Ref sig .tc := ⟨.hbm, 199, rfl⟩
abbrev main_v67 : Ref sig .tc := ⟨.hbm, 200, rfl⟩
abbrev main_v68 : Ref sig .tc := ⟨.hbm, 201, rfl⟩
abbrev main_v69 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_cst_17 : Ref sig .tc := ⟨.hbm, 209, rfl⟩
abbrev main_v76 : Ref sig .tc := ⟨.hbm, 210, rfl⟩
abbrev main_c_18 : Ref sig .tc := ⟨.hbm, 211, rfl⟩
abbrev main_v77 : Ref sig .tc := ⟨.hbm, 212, rfl⟩
abbrev main_v78 : Ref sig .tc := ⟨.hbm, 213, rfl⟩
abbrev main_v79 : Ref sig .tc := ⟨.hbm, 214, rfl⟩
abbrev main_v80 : Ref sig .tc := ⟨.hbm, 215, rfl⟩
abbrev main_cst_19 : Ref sig .tc := ⟨.hbm, 216, rfl⟩
abbrev main_call9_v0 : Ref sig .tc := ⟨.hbm, 217, rfl⟩
abbrev main_call9_v1 : Ref sig .tc := ⟨.hbm, 218, rfl⟩
abbrev main_call9_v2 : Ref sig .tc := ⟨.hbm, 219, rfl⟩
abbrev main_v81 : Ref sig .tc := ⟨.hbm, 220, rfl⟩

abbrev nD : Nat := 1
abbrev τ : Topo := Topo.v7x

variable {F : FTy → Type} [FloatOps F]
-- ==== Kernel2.lean ====
abbrev S16384x1024 : Shape := ⟨2, ![16384, 1024]⟩
abbrev S1x1024x1024 : Shape := ⟨3, ![1, 1024, 1024]⟩
abbrev S1x1024 : Shape := ⟨2, ![1, 1024]⟩
abbrev S1x256 : Shape := ⟨2, ![1, 256]⟩
abbrev S1024x1024 : Shape := ⟨2, ![1024, 1024]⟩
abbrev S1024 : Shape := ⟨1, ![1024]⟩
abbrev S256 : Shape := ⟨1, ![256]⟩
abbrev S1024x1 : Shape := ⟨2, ![1024, 1]⟩
abbrev S1024x256 : Shape := ⟨2, ![1024, 256]⟩

abbrev nBuf : Space → Nat
  | .hbm => 16
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S1x1024, .f32⟩
  | .hbm, ⟨4, _⟩ => ⟨S1x1024x1024, .f32⟩
  | .hbm, ⟨5, _⟩ => ⟨S1x256, .f32⟩
  | .hbm, ⟨6, _⟩ => ⟨S1024x1024, .f32⟩
  | .hbm, ⟨7, _⟩ => ⟨S1024x1024, .bf16⟩
  | .hbm, ⟨8, _⟩ => ⟨S1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S256, .f32⟩
  | .hbm, ⟨13, _⟩ => ⟨S1x256, .f32⟩
  | .hbm, ⟨14, _⟩ => ⟨S16384x1024, .f32⟩
  | .hbm, ⟨15, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x256, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1x1024x1024 : Shape := ⟨3, ![1, 1024, 1024]⟩
abbrev S1x1024 : Shape := ⟨2, ![1, 1024]⟩
abbrev S1x256 : Shape := ⟨2, ![1, 256]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4x256 : Shape := ⟨3, ![16384, 4, 256]⟩
abbrev S256 : Shape := ⟨1, ![256]⟩
abbrev S16384x4 : Shape := ⟨2, ![16384, 4]⟩
abbrev S16384x4x1 : Shape := ⟨3, ![16384, 4, 1]⟩
abbrev S1x1x256 : Shape := ⟨3, ![1, 1, 256]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S1x1024, .f32⟩
  | .hbm, ⟨4, _⟩ => ⟨S1x1024x1024, .f32⟩
  | .hbm, ⟨5, _⟩ => ⟨S1x256, .f32⟩
  | .hbm, ⟨6, _⟩ => ⟨S16384x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1024x1024, .f32⟩
  | .hbm, ⟨28, _⟩ => ⟨S16384x1024, .f32⟩
  | .hbm, ⟨29, _⟩ => ⟨S16384x4x256, .f32⟩
  | .hbm, ⟨30, _⟩ => ⟨S256, .f32⟩
  | .hbm, ⟨31, _⟩ => ⟨S16384x4x256, .f32⟩
  | .hbm, ⟨32, _⟩ => ⟨S_, .f32⟩
  | .hbm, ⟨33, _⟩ => ⟨S16384x4, .f32⟩
  | .hbm, ⟨34, _⟩ => ⟨S16384x4x1, .f32⟩
  | .hbm, ⟨35, _⟩ => ⟨S_, .f32⟩
  | .hbm, ⟨36, _⟩ => ⟨S16384x4x1, .f32⟩
  | .hbm, ⟨37, _⟩ => ⟨S16384x4x1, .f32⟩
  | .hbm, ⟨38, _⟩ => ⟨S_, .f32⟩
  | .hbm, ⟨39, _⟩ => ⟨S16384x4x1, .f32⟩
  | .hbm, ⟨40, _⟩ => ⟨S16384x4x1, .f32⟩
  | .hbm, ⟨41, _⟩ => ⟨S16384x4x1, .f32⟩
  | .hbm, ⟨42, _⟩ => ⟨S16384x4x256, .f32⟩
  | .hbm, ⟨43, _⟩ => ⟨S16384x4x256, .f32⟩
  | .hbm, ⟨44, _⟩ => ⟨S1x1x256, .f32⟩
  | .hbm, ⟨45, _⟩ => ⟨S16384x4x256, .f32⟩
  | .hbm, ⟨46, _⟩ => ⟨S16384x4x256, .f32⟩
  | .hbm, ⟨47, _⟩ => ⟨S_, .f32⟩
  | .hbm, ⟨48, _⟩ => ⟨S16384x4x256, .f32⟩
  | .hbm, ⟨49, _⟩ => ⟨S16384x4x256, .f32⟩
  | .hbm, ⟨50, _⟩ => ⟨S16384x1024, .f32⟩
  | .hbm, ⟨51, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1x1024x3076 : Shape := ⟨3, ![1, 1024, 3076]⟩
abbrev S1x4 : Shape := ⟨2, ![1, 4]⟩
abbrev S1x64 : Shape := ⟨2, ![1, 64]⟩
abbrev S1x128 : Shape := ⟨2, ![1, 128]⟩
abbrev S1x1024x1024 : Shape := ⟨3, ![1, 1024, 1024]⟩
abbrev S1024x1024 : Shape := ⟨2, ![1024, 1024]⟩
abbrev S1024x2048 : Shape := ⟨2, ![1024, 2048]⟩
abbrev S1x1024x512 : Shape := ⟨3, ![1, 1024, 512]⟩
abbrev S1024x512 : Shape := ⟨2, ![1024, 512]⟩
abbrev S_ : Shape := ⟨0, ![]⟩
abbrev S8x1024 : Shape := ⟨2, ![8, 1024]⟩
abbrev S1x1024x4 : Shape := ⟨3, ![1, 1024, 4]⟩
abbrev S1024x4 : Shape := ⟨2, ![1024, 4]⟩
abbrev S4x1024 : Shape := ⟨2, ![4, 1024]⟩
abbrev S1 : Shape := ⟨1, ![1]⟩
abbrev S8x1 : Shape := ⟨2, ![8, 1]⟩
abbrev S4 : Shape := ⟨1, ![4]⟩
abbrev S2 : Shape := ⟨1, ![2]⟩
abbrev S128 : Shape := ⟨1, ![128]⟩
abbrev S64 : Shape := ⟨1, ![64]⟩
abbrev S2x64 : Shape := ⟨2, ![2, 64]⟩
abbrev S8x128 : Shape := ⟨2, ![8, 128]⟩
abbrev S16384x1024 : Shape := ⟨2, ![16384, 1024]⟩
abbrev S1024 : Shape := ⟨1, ![1024]⟩
abbrev S8x16x2048x128 : Shape := ⟨4, ![8, 16, 2048, 128]⟩
abbrev S8x8x144x2048 : Shape := ⟨4, ![8, 8, 144, 2048]⟩
abbrev S8x8x2048 : Shape := ⟨3, ![8, 8, 2048]⟩
abbrev S1x16x1024x128 : Shape := ⟨4, ![1, 16, 1024, 128]⟩
abbrev S1x8x144x1024 : Shape := ⟨4, ![1, 8, 144, 1024]⟩
abbrev S1x8x1024 : Shape := ⟨3, ![1, 8, 1024]⟩
abbrev S1024x1 : Shape := ⟨2, ![1024, 1]⟩
abbrev S1024x128 : Shape := ⟨2, ![1024, 128]⟩
abbrev S1x1x1024x128 : Shape := ⟨4, ![1, 1, 1024, 128]⟩
abbrev S512x1024 : Shape := ⟨2, ![512, 1024]⟩
abbrev S128x1024 : Shape := ⟨2, ![128, 1024]⟩
abbrev S1x1x128x1024 : Shape := ⟨4, ![1, 1, 128, 1024]⟩
abbrev S16x1024 : Shape := ⟨2, ![16, 1024]⟩
abbrev S1x1x16x1024 : Shape := ⟨4, ![1, 1, 16, 1024]⟩

abbrev nBuf : Space → Nat
  | .hbm => 72
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3076, .f32⟩
  | .hbm, ⟨3, _⟩ => ⟨S1x4, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S1x128, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1024x2048, .f32⟩
  | .hbm, ⟨13, _⟩ => ⟨S1024x2048, .bf16⟩
  | .hbm, ⟨14, _⟩ => ⟨S1x1024x512, .f32⟩
  | .hbm, ⟨15, _⟩ => ⟨S1024x512, .f32⟩
  | .hbm, ⟨16, _⟩ => ⟨S1x1024x512, .f32⟩
  | .hbm, ⟨17, _⟩ => ⟨S1024x512, .f32⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S_, .f32⟩
  | .hbm, ⟨22, _⟩ => ⟨S8x1024, .f32⟩
  | .hbm, ⟨23, _⟩ => ⟨S1x1024x4, .f32⟩
  | .hbm, ⟨24, _⟩ => ⟨S1024x4, .f32⟩
  | .hbm, ⟨25, _⟩ => ⟨S4x1024, .f32⟩
  | .hbm, ⟨26, _⟩ => ⟨S_, .i32⟩
  | .hbm, ⟨27, _⟩ => ⟨S1, .i32⟩
  | .hbm, ⟨28, _⟩ => ⟨S8x1024, .f32⟩
  | .hbm, ⟨29, _⟩ => ⟨S8x1024, .bf16⟩
  | .hbm, ⟨30, _⟩ => ⟨S_, .f32⟩
  | .hbm, ⟨31, _⟩ => ⟨S8x1, .f32⟩
  | .hbm, ⟨32, _⟩ => ⟨S4, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S8x1, .f32⟩
  | .hbm, ⟨39, _⟩ => ⟨S_, .f32⟩
  | .hbm, ⟨40, _⟩ => ⟨S128, .f32⟩
  | .hbm, ⟨41, _⟩ => ⟨S64, .f32⟩
  | .hbm, ⟨42, _⟩ => ⟨S1x64, .f32⟩
  | .hbm, ⟨43, _⟩ => ⟨S2x64, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S64, .f32⟩
  | .hbm, ⟨49, _⟩ => ⟨S1x64, .f32⟩
  | .hbm, ⟨50, _⟩ => ⟨S2x64, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S8x128, .f32⟩
  | .hbm, ⟨66, _⟩ => ⟨S16384x1024, .f32⟩
  | .hbm, ⟨67, _⟩ => ⟨S1024, .f32⟩
  | .hbm, ⟨68, _⟩ => ⟨S1x1024, .f32⟩
  | .hbm, ⟨69, _⟩ => ⟨S8x16x2048x128, .bf16⟩
  | .hbm, ⟨70, _⟩ => ⟨S8x8x144x2048, .bf16⟩
  | .hbm, ⟨71, _⟩ => ⟨S8x8x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1024, .bf16⟩
  | .local _ .vmem, ⟨5, _⟩ => ⟨S8x1024, .bf16⟩
  | .local _ .vmem, ⟨6, _⟩ => ⟨S8x1, .f32⟩
  | .local _ .vmem, ⟨7, _⟩ => ⟨S8x128, .f32⟩
  | .local _ .vmem, ⟨8, _⟩ => ⟨S1x16x1024x128, .bf16⟩
  | .local _ .vmem, ⟨9, _⟩ => ⟨S1x16x1024x128, .bf16⟩
  | .local _ .vmem, ⟨10, _⟩ => ⟨S1x8x144x1024, .bf16⟩
  | .local _ .vmem, ⟨11, _⟩ => ⟨S1x8x144x1024, .bf16⟩
  | .local _ .vmem, ⟨12, _⟩ => ⟨S1x8x1024, .f32⟩
  | .local _ .vmem, ⟨13, _⟩ => ⟨S1x8x1024, .f32⟩
  | .local _ .vmem, ⟨14, _⟩ => ⟨S8x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53_0 : Ref sig .tc := ⟨.hbm, 69, rfl⟩
abbrev main_v53_1 : Ref sig .tc := ⟨.hbm, 70, rfl⟩
abbrev main_v53_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x144x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x2048x1024 : Shape := ⟨3, ![8, 2048, 1024]⟩
abbrev S1x1024 : Shape := ⟨2, ![1, 1024]⟩
abbrev S1x1024x3076 : Shape := ⟨3, ![1, 1024, 3076]⟩
abbrev S1x4 : Shape := ⟨2, ![1, 4]⟩
abbrev S1x64 : Shape := ⟨2, ![1, 64]⟩
abbrev S1x128 : Shape := ⟨2, ![1, 128]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3076 : Shape := ⟨2, ![1024, 3076]⟩
abbrev S8x2048x3076 : Shape := ⟨3, ![8, 2048, 3076]⟩
abbrev S8x2048x512 : Shape := ⟨3, ![8, 2048, 512]⟩
abbrev S8x2048x4x2x64 : Shape := ⟨5, ![8, 2048, 4, 2, 64]⟩
abbrev S64 : Shape := ⟨1, ![64]⟩
abbrev S8x2048x4x2 : Shape := ⟨4, ![8, 2048, 4, 2]⟩
abbrev S8x2048x4x2x1 : Shape := ⟨5, ![8, 2048, 4, 2, 1]⟩
abbrev S1x1x1x1x64 : Shape := ⟨5, ![1, 1, 1, 1, 64]⟩
abbrev S8x2048x4x128 : Shape := ⟨4, ![8, 2048, 4, 128]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x16x128 : Shape := ⟨4, ![8, 2048, 16, 128]⟩
abbrev S8x16x2048x128 : Shape := ⟨4, ![8, 16, 2048, 128]⟩
abbrev S8x2048x8x128 : Shape := ⟨4, ![8, 2048, 8, 128]⟩
abbrev S8x2048x8x16 : Shape := ⟨4, ![8, 2048, 8, 16]⟩
abbrev S8x2048x8x144 : Shape := ⟨4, ![8, 2048, 8, 144]⟩
abbrev S8x8x144x2048 : Shape := ⟨4, ![8, 8, 144, 2048]⟩

abbrev nBuf : Space → Nat
  | .hbm => 124
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3076, .f32⟩
  | .hbm, ⟨3, _⟩ => ⟨S1x4, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S1x128, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1024x3076, .f32⟩
  | .hbm, ⟨26, _⟩ => ⟨S8x2048x3076, .f32⟩
  | .hbm, ⟨27, _⟩ => ⟨S8x2048x512, .f32⟩
  | .hbm, ⟨28, _⟩ => ⟨S8x2048x4x2x64, .f32⟩
  | .hbm, ⟨29, _⟩ => ⟨S64, .f32⟩
  | .hbm, ⟨30, _⟩ => ⟨S8x2048x4x2x64, .f32⟩
  | .hbm, ⟨31, _⟩ => ⟨S_, .f32⟩
  | .hbm, ⟨32, _⟩ => ⟨S8x2048x4x2, .f32⟩
  | .hbm, ⟨33, _⟩ => ⟨S8x2048x4x2x1, .f32⟩
  | .hbm, ⟨34, _⟩ => ⟨S_, .f32⟩
  | .hbm, ⟨35, _⟩ => ⟨S8x2048x4x2x1, .f32⟩
  | .hbm, ⟨36, _⟩ => ⟨S8x2048x4x2x1, .f32⟩
  | .hbm, ⟨37, _⟩ => ⟨S_, .f32⟩
  | .hbm, ⟨38, _⟩ => ⟨S8x2048x4x2x1, .f32⟩
  | .hbm, ⟨39, _⟩ => ⟨S8x2048x4x2x1, .f32⟩
  | .hbm, ⟨40, _⟩ => ⟨S8x2048x4x2x1, .f32⟩
  | .hbm, ⟨41, _⟩ => ⟨S8x2048x4x2x64, .f32⟩
  | .hbm, ⟨42, _⟩ => ⟨S8x2048x4x2x64, .f32⟩
  | .hbm, ⟨43, _⟩ => ⟨S1x1x1x1x64, .f32⟩
  | .hbm, ⟨44, _⟩ => ⟨S8x2048x4x2x64, .f32⟩
  | .hbm, ⟨45, _⟩ => ⟨S8x2048x4x2x64, .f32⟩
  | .hbm, ⟨46, _⟩ => ⟨S8x2048x4x128, .f32⟩
  | .hbm, ⟨47, _⟩ => ⟨S_, .f32⟩
  | .hbm, ⟨48, _⟩ => ⟨S8x2048x4x128, .f32⟩
  | .hbm, ⟨49, _⟩ => ⟨S8x2048x4x128, .f32⟩
  | .hbm, ⟨50, _⟩ => ⟨S8x2048x512, .f32⟩
  | .hbm, ⟨51, _⟩ => ⟨S8x2048x4x2x64, .f32⟩
  | .hbm, ⟨52, _⟩ => ⟨S64, .f32⟩
  | .hbm, ⟨53, _⟩ => ⟨S8x2048x4x2x64, .f32⟩
  | .hbm, ⟨54, _⟩ => ⟨S_, .f32⟩
  | .hbm, ⟨55, _⟩ => ⟨S8x2048x4x2, .f32⟩
  | .hbm, ⟨56, _⟩ => ⟨S8x2048x4x2x1, .f32⟩
  | .hbm, ⟨57, _⟩ => ⟨S_, .f32⟩
  | .hbm, ⟨58, _⟩ => ⟨S8x2048x4x2x1, .f32⟩
  | .hbm, ⟨59, _⟩ => ⟨S8x2048x4x2x1, .f32⟩
  | .hbm, ⟨60, _⟩ => ⟨S_, .f32⟩
  | .hbm, ⟨61, _⟩ => ⟨S8x2048x4x2x1, .f32⟩
  | .hbm, ⟨62, _⟩ => ⟨S8x2048x4x2x1, .f32⟩
  | .hbm, ⟨63, _⟩ => ⟨S8x2048x4x2x1, .f32⟩
  | .hbm, ⟨64, _⟩ => ⟨S8x2048x4x2x64, .f32⟩
  | .hbm, ⟨65, _⟩ => ⟨S8x2048x4x2x64, .f32⟩
  | .hbm, ⟨66, _⟩ => ⟨S1x1x1x1x64, .f32⟩
  | .hbm, ⟨67, _⟩ => ⟨S8x2048x4x2x64, .f32⟩
  | .hbm, ⟨68, _⟩ => ⟨S8x2048x4x2x64, .f32⟩
  | .hbm, ⟨69, _⟩ => ⟨S8x2048x4x128, .f32⟩
  | .hbm, ⟨70, _⟩ => ⟨S8x2048x512, .f32⟩
  | .hbm, ⟨71, _⟩ => ⟨S8x2048x4x128, .f32⟩
  | .hbm, ⟨72, _⟩ => ⟨S8x2048x512, .f32⟩
  | .hbm, ⟨73, _⟩ => ⟨S8x2048x4x128, .f32⟩
  | .hbm, ⟨74, _⟩ => ⟨S128, .f32⟩
  | .hbm, ⟨75, _⟩ => ⟨S8x2048x4x128, .f32⟩
  | .hbm, ⟨76, _⟩ => ⟨S_, .f32⟩
  | .hbm, ⟨77, _⟩ => ⟨S8x2048x4, .f32⟩
  | .hbm, ⟨78, _⟩ => ⟨S8x2048x4x1, .f32⟩
  | .hbm, ⟨79, _⟩ => ⟨S_, .f32⟩
  | .hbm, ⟨80, _⟩ => ⟨S8x2048x4x1, .f32⟩
  | .hbm, ⟨81, _⟩ => ⟨S8x2048x4x1, .f32⟩
  | .hbm, ⟨82, _⟩ => ⟨S_, .f32⟩
  | .hbm, ⟨83, _⟩ => ⟨S8x2048x4x1, .f32⟩
  | .hbm, ⟨84, _⟩ => ⟨S8x2048x4x1, .f32⟩
  | .hbm, ⟨85, _⟩ => ⟨S8x2048x4x1, .f32⟩
  | .hbm, ⟨86, _⟩ => ⟨S8x2048x4x128, .f32⟩
  | .hbm, ⟨87, _⟩ => ⟨S8x2048x4x128, .f32⟩
  | .hbm, ⟨88, _⟩ => ⟨S1x1x1x128, .f32⟩
  | .hbm, ⟨89, _⟩ => ⟨S8x2048x4x128, .f32⟩
  | .hbm, ⟨90, _⟩ => ⟨S8x2048x4x128, .f32⟩
  | .hbm, ⟨91, _⟩ => ⟨S_, .f32⟩
  | .hbm, ⟨92, _⟩ => ⟨S8x2048x4x128, .f32⟩
  | .hbm, ⟨93, _⟩ => ⟨S8x2048x4x128, .f32⟩
  | .hbm, ⟨94, _⟩ => ⟨S8x2048x512, .f32⟩
  | .hbm, ⟨95, _⟩ => ⟨S8x2048x4x128, .f32⟩
  | .hbm, ⟨96, _⟩ => ⟨S128, .f32⟩
  | .hbm, ⟨97, _⟩ => ⟨S8x2048x4x128, .f32⟩
  | .hbm, ⟨98, _⟩ => ⟨S_, .f32⟩
  | .hbm, ⟨99, _⟩ => ⟨S8x2048x4, .f32⟩
  | .hbm, ⟨100, _⟩ => ⟨S8x2048x4x1, .f32⟩
  | .hbm, ⟨101, _⟩ => ⟨S_, .f32⟩
  | .hbm, ⟨102, _⟩ => ⟨S8x2048x4x1, .f32⟩
  | .hbm, ⟨103, _⟩ => ⟨S8x2048x4x1, .f32⟩
  | .hbm, ⟨104, _⟩ => ⟨S_, .f32⟩
  | .hbm, ⟨105, _⟩ => ⟨S8x2048x4x1, .f32⟩
  | .hbm, ⟨106, _⟩ => ⟨S8x2048x4x1, .f32⟩
  | .hbm, ⟨107, _⟩ => ⟨S8x2048x4x1, .f32⟩
  | .hbm, ⟨108, _⟩ => ⟨S8x2048x4x128, .f32⟩
  | .hbm, ⟨109, _⟩ => ⟨S8x2048x4x128, .f32⟩
  | .hbm, ⟨110, _⟩ => ⟨S1x1x1x128, .f32⟩
  | .hbm, ⟨111, _⟩ => ⟨S8x2048x4x128, .f32⟩
  | .hbm, ⟨112, _⟩ => ⟨S8x2048x4x128, .f32⟩
  | .hbm, ⟨113, _⟩ => ⟨S8x2048x512, .f32⟩
  | .hbm, ⟨114, _⟩ => ⟨S8x2048x4x128, .f32⟩
  | .hbm, ⟨115, _⟩ => ⟨S8x2048x16x128, .f32⟩
  | .hbm, ⟨116, _⟩ => ⟨S8x16x2048x128, .f32⟩
  | .hbm, ⟨117, _⟩ => ⟨S8x2048x8x128, .f32⟩
  | .hbm, ⟨118, _⟩ => ⟨S_, .f32⟩
  | .hbm, ⟨119, _⟩ => ⟨S8x2048x8x16, .f32⟩
  | .hbm, ⟨120, _⟩ => ⟨S8x2048x8x144, .f32⟩
  | .hbm, ⟨121, _⟩ => ⟨S8x8x144x2048, .f32⟩
  | .hbm, ⟨122, _⟩ => ⟨S8x16x2048x128, .bf16⟩
  | .hbm, ⟨123, _⟩ => ⟨S8x8x144x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_13 : Ref sig .tc := ⟨.hbm, 98, rfl⟩
abbrev main_v76 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_16 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== Proof.Moe.Setup.lean ====
/-
  The expert kernel's operands, as the proofs of this directory name them: the two tables the plan is read from, the
  weights left in HBM, the two scratch buffers cut into the pieces the kernel's own copies fill (one gate or up matrix,
  or one down matrix, each), and the six copies of one bucket switch as one batch on the slot's semaphore.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra of the proof: the pipeline library's beside the transfers' counters. -/
local notation "𝕄" => MT nD τ sig Unit (Elt F) ℕ (Pipeline.UD sig nD τ) ℕ

/-- The plan table and the count of active tiles, in SMEM. -/
abbrev planM : Memref sig .tc .smem S8x88 .i32 := Memref.whole main_v93
abbrev nactM : Memref sig .tc .smem S1 .i32 := Memref.whole main_v94
/-- The gate, up and down weights, in HBM. -/
abbrev gateM : Memref sig .tc .hbm S16x1024x512 .f32 := Memref.whole main_v97
abbrev upM : Memref sig .tc .hbm S16x1024x512 .f32 := Memref.whole main_v98
abbrev downM : Memref sig .tc .hbm S16x512x1024 .f32 := Memref.whole main_v99
/-- The two scratch buffers: gate and up matrices by slot and part, down matrices by slot and part. -/
abbrev guM : Memref sig .tc .vmem S2x4x1024x512 .f32 := Memref.whole cc0_scratch0
abbrev dnM : Memref sig .tc .vmem S2x2x512x1024 .f32 := Memref.whole cc0_scratch1

theorem inbGu (b k : ℕ) (hb : b < 2) (hk : k < 4) : ∀ a, (![b, k, 0, 0] : Fin 4 → ℕ) a + S1x1x1024x512.size a ≤ S2x4x1024x512.size a := by
  intro a; fin_cases a
  · show b + 1 ≤ 2; omega
  · show k + 1 ≤ 4; omega
  · exact le_refl 1024
  · exact le_refl 512
theorem inbDn (b k : ℕ) (hb : b < 2) (hk : k < 2) : ∀ a, (![b, k, 0, 0] : Fin 4 → ℕ) a + S1x1x512x1024.size a ≤ S2x2x512x1024.size a := by
  intro a; fin_cases a
  · show b + 1 ≤ 2; omega
  · show k + 1 ≤ 2; omega
  · exact le_refl 512
  · exact le_refl 1024
theorem inbGuH (e : ℕ) (he : e < 16) : ∀ a, (![e, 0, 0] : Fin 3 → ℕ) a + S1x1024x512.size a ≤ S16x1024x512.size a := by
  intro a; fin_cases a
  · show e + 1 ≤ 16; omega
  · exact le_refl 1024
  · exact le_refl 512
theorem inbDnH (e : ℕ) (he : e < 16) : ∀ a, (![e, 0, 0] : Fin 3 → ℕ) a + S1x512x1024.size a ≤ S16x512x1024.size a := by
  intro a; fin_cases a
  · show e + 1 ≤ 16; omega
  · exact le_refl 512
  · exact le_refl 1024

/-- Part `k` of slot `b` of the gate-and-up scratch, as the copies name it. -/
abbrev guP (b k : ℕ) (hb : b < 2) (hk : k < 4) : Memref sig .tc .vmem S1024x512 .f32 :=
  (guM.slice (Rect.unit (s := S2x4x1024x512) ![b, k, 0, 0] S1x1x1024x512.size (inbGu b k hb hk)) (fun _ => rfl)).squeeze S1024x512 squeezes_S1x1x1024x512_S1024x512
/-- Part `k` of slot `b` of the down scratch. -/
abbrev dnP (b k : ℕ) (hb : b < 2) (hk : k < 2) : Memref sig .tc .vmem S512x1024 .f32 :=
  (dnM.slice (Rect.unit (s := S2x2x512x1024) ![b, k, 0, 0] S1x1x512x1024.size (inbDn b k hb hk)) (fun _ => rfl)).squeeze S512x1024 squeezes_S1x1x512x1024_S512x1024
/-- Expert `e`'s matrix in an HBM weight array. -/
abbrev guH (M : Memref sig .tc .hbm S16x1024x512 .f32) (e : ℕ) (he : e < 16) : Memref sig .tc .hbm S1024x512 .f32 :=
  (M.slice (Rect.unit (s := S16x1024x512) ![e, 0, 0] S1x1024x512.size (inbGuH e he)) (fun _ => rfl)).squeeze S1024x512 squeezes_S1x1024x512_S1024x512
abbrev dnH (M : Memref sig .tc .hbm S16x512x1024 .f32) (e : ℕ) (he : e < 16) : Memref sig .tc .hbm S512x1024 .f32 :=
  (M.slice (Rect.unit (s := S16x512x1024) ![e, 0, 0] S1x512x1024.size (inbDnH e he)) (fun _ => rfl)).squeeze S512x1024 squeezes_S1x512x1024_S512x1024

abbrev BufOf (c : Dev nD) {sp : Space} {S : Shape} {e : EltTy} (M : Memref sig .tc sp S e) : Type := Buf (Elt F) (M.view.loc (c : Thread nD τ))
/-- The whole buffer held, at a share. -/
abbrev heldAll (c : Dev nD) {sp : Space} {S : Shape} {e : EltTy} (M : Memref sig .tc sp S e) (q : PosShare TreeShare) (f : BufOf (F := F) c M) : sProp 𝕄 :=
  M.view.loc (c : Thread nD τ) ↦{q} f

theorem k0lt4 : 0 < 4 := by decide
theorem k1lt4 : 1 < 4 := by decide
theorem k2lt4 : 2 < 4 := by decide
theorem k3lt4 : 3 < 4 := by decide
theorem k0lt2 : 0 < 2 := by decide
theorem k1lt2 : 1 < 2 := by decide

/-- A piece of a scratch buffer held at the full share. -/
abbrev guPt (c : Dev nD) (b k : ℕ) (hb : b < 2) (hk : k < 4) (f : BufOf (F := F) c guM) : sProp 𝕄 :=
  (guP b k hb hk).view.loc (c : Thread nD τ) ↦[(guP b k hb hk).view.set]{fullShare} f
abbrev dnPt (c : Dev nD) (b k : ℕ) (hb : b < 2) (hk : k < 2) (f : BufOf (F := F) c dnM) : sProp 𝕄 :=
  (dnP b k hb hk).view.loc (c : Thread nD τ) ↦[(dnP b k hb hk).view.set]{fullShare} f

/-- A piece landed: the matrix written over the whole piece. -/
abbrev landGu (c : Dev nD) (b k : ℕ) (hb : b < 2) (hk : k < 4) (M : Memref sig .tc .hbm S16x1024x512 .f32) (e : ℕ) (he : e < 16)
    (f : BufOf (F := F) c M) : BufOf (F := F) c guM :=
  (guP b k hb hk).view.writes (Elt F) (guP b k hb hk).view.junk [⟨Rect.whole S1024x512, ReadAs.same.apply ((guH M e he).view.read (Elt F) f)⟩]
abbrev landDn (c : Dev nD) (b k : ℕ) (hb : b < 2) (hk : k < 2) (M : Memref sig .tc .hbm S16x512x1024 .f32) (e : ℕ) (he : e < 16)
    (f : BufOf (F := F) c M) : BufOf (F := F) c dnM :=
  (dnP b k hb hk).view.writes (Elt F) (dnP b k hb hk).view.junk [⟨Rect.whole S512x1024, ReadAs.same.apply ((dnH M e he).view.read (Elt F) f)⟩]

/-- What one copy delivers: its piece landed, and expert `e`'s matrix back at the share it was read at. -/
abbrev dlvGu (c : Dev nD) (b k : ℕ) (hb : b < 2) (hk : k < 4) (M : Memref sig .tc .hbm S16x1024x512 .f32) (e : ℕ) (he : e < 16)
    (q : PosShare TreeShare) (f : BufOf (F := F) c M) : sProp 𝕄 :=
  iprop(guPt c b k hb hk (landGu c b k hb hk M e he f) ∗ ((guH M e he).view.loc (c : Thread nD τ) ↦[(guH M e he).view.set]{q} f))
abbrev dlvDn (c : Dev nD) (b k : ℕ) (hb : b < 2) (hk : k < 2) (M : Memref sig .tc .hbm S16x512x1024 .f32) (e : ℕ) (he : e < 16)
    (q : PosShare TreeShare) (f : BufOf (F := F) c M) : sProp 𝕄 :=
  iprop(dnPt c b k hb hk (landDn c b k hb hk M e he f) ∗ ((dnH M e he).view.loc (c : Thread nD τ) ↦[(dnH M e he).view.set]{q} f))

/-- The six copies of one bucket switch, in the order they start: gate and up of the first expert, gate and up of the
    second, down of the first, down of the second. The first expert's copies read the weights at one half share, the
    second's at the other. -/
def deliv (c : Dev nD) (fg : BufOf (F := F) c gateM) (fu : BufOf (F := F) c upM) (fd : BufOf (F := F) c downM)
    (b : ℕ) (hb : b < 2) (ea eb : ℕ) (ha : ea < 16) (hb' : eb < 16) : Fin 6 → sProp 𝕄
  | 0 => dlvGu c b 0 hb k0lt4 gateM ea ha fullShare.left fg
  | 1 => dlvGu c b 1 hb k1lt4 upM ea ha fullShare.left fu
  | 2 => dlvGu c b 2 hb k2lt4 gateM eb hb' fullShare.right fg
  | 3 => dlvGu c b 3 hb k3lt4 upM eb hb' fullShare.right fu
  | 4 => dlvDn c b 0 hb k0lt2 downM ea ha fullShare.left fd
  | 5 => dlvDn c b 1 hb k1lt2 downM eb hb' fullShare.right fd
instance deliv_storable (c : Dev nD) (fg : BufOf (F := F) c gateM) (fu : BufOf (F := F) c upM) (fd : BufOf (F := F) c downM)
    (b : ℕ) (hb : b < 2) (ea eb : ℕ) (ha : ea < 16) (hb' : eb < 16) (t : Fin 6) :
    Storable (upEmb : UEmb _ 𝕄) (deliv c fg fu fd b hb ea eb ha hb' t) := by
  fin_cases t <;> simp only [deliv] <;> infer_instance

/-- The semaphore of slot `b`. -/
abbrev cell0 : SemLoc sig := SemLoc.dma 5
abbrev cell1 : SemLoc sig := SemLoc.dma 6

/-- What one copy adds to its semaphore. -/
abbrev credit : ℕ := (guP 0 0 (by decide) (by decide)).view.amount (cell0)

example : credit = (dnP 1 0 (by decide) (by decide)).view.amount (cell1) := by rfl

end Cert.KernelIdeal.Moe

end
-- ==== Proof.Moe.Words.lean ====
/-
  The words the kernel reads off the plan: the word of row `k` at grid point `t`, the count of active tiles, and the
  facts the body assumes of them, each from the words' ranges.
-/
module

public import proofs.«01_k».proof.Proof.Moe.Setup

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row `k`, column `t` of the plan. -/
def planIx (k : Fin 8) (t : Fin 88) : S8x88.Idx := fun | ⟨0, _⟩ => k | ⟨1, _⟩ => t | ⟨_ + 2, h⟩ => absurd h (Nat.not_lt.2 (Nat.le_add_left _ _))
def nactIx : S1.Idx := fun | ⟨0, _⟩ => (0 : Fin 1) | ⟨_ + 1, h⟩ => absurd h (Nat.not_lt.2 (Nat.le_add_left _ _))

/-- The body's read of one word of the plan, at offsets of a closed form. -/
theorem plan_read (c : Dev nD) (T0 : BufOf (F := F) c planM) (off : Fin 2 → ℕ) (h : ∀ a, off a + S1x1.size a ≤ S8x88.size a) (k : Fin 8) (t : Fin 88)
    (hoff : off = ![k.val, t.val]) (x) :
    View.readAt (Elt F) planM.view (Rect.unit (s := S8x88) off S1x1.size h).toLoadRect T0 x = T0 (planIx k t) := by
  subst hoff
  rw [View.readAt_apply]
  refine congrArg T0 ?_
  funext a
  have hx : ∀ a, (x a).val = 0 := by
    intro a; have := (x a).isLt
    have h1 : S1x1.size a = 1 := by fin_cases a <;> rfl
    change (x a).val < S1x1.size a at this; omega
  have hx0 := hx 0; have hx1 := hx 1
  fin_cases a
  · apply Fin.ext; show k.val + 1 * (x 0).val = k.val; omega
  · apply Fin.ext; show t.val + 1 * (x 1).val = t.val; omega

theorem nact_read (c : Dev nD) (T1 : BufOf (F := F) c nactM) (h : ∀ a, (![0] : Fin 1 → ℕ) a + S1.size a ≤ S1.size a) (x) :
    View.readAt (Elt F) nactM.view (Rect.unit (s := S1) ![0] S1.size h).toLoadRect T1 x = T1 nactIx := by
  rw [View.readAt_apply]
  refine congrArg T1 ?_
  funext a
  have hx0 : (x 0).val = 0 := by have : (x 0).val < 1 := (x 0).isLt; omega
  fin_cases a
  apply Fin.ext; show 0 + 1 * (x 0).val = 0; omega

/-! ## What the body assumes of the words -/

theorem slot_cases {v : BitVec 32} (h : v = 0#32 ∨ v = 1#32) : v.toNat < 2 := by rcases h with rfl | rfl <;> decide

theorem chk9_of (i : grid0.Coords) (v0 v9 : BitVec 32) (h : v9 = 0#32 ∨ v9 = 1#32) : k0_chk9 i v0 v9 := by
  rcases h with rfl | rfl <;> refine ⟨?_, ?_, ?_, ?_, ?_, ?_⟩ <;> intro _ <;> decide
theorem chk1_of (i : grid0.Coords) (v0 v9 v11 : BitVec 32) (h : v9 = 0#32 ∨ v9 = 1#32) : k0_chk1 i v0 v9 v11 := by
  rcases h with rfl | rfl <;> refine ⟨?_, ?_, ?_, ?_, ?_, ?_, ?_, ?_, ?_, ?_, ?_, ?_, ?_, ?_, ?_, ?_, ?_, ?_⟩ <;> intro _ _ <;> (first | decide | (intro _; decide))
theorem chk6_of (i : grid0.Coords) (v0 v9 v11 v131 : BitVec 32) (h : v9 = 0#32 ∨ v9 = 1#32) : k0_chk6 i v0 v9 v11 v131 := by
  unfold k0_chk6
  rcases h with rfl | rfl <;> refine ⟨?_, ?_, ?_, ?_, ?_, ?_, ?_, ?_, ?_⟩ <;> intro _ _ _ <;> decide
theorem chk2_of (i : grid0.Coords) (v0 v11 w : BitVec 32) (h : w.toNat < 16) : k0_chk2 i v0 v11 w :=
  ⟨fun _ _ _ => inbGuH _ h, fun _ _ _ => inbDnH _ h⟩
theorem chk3_of (i : grid0.Coords) (v0 v11 w : BitVec 32) (h : w.toNat < 16) : k0_chk3 i v0 v11 w :=
  ⟨fun _ _ _ => inbGuH _ h, fun _ _ _ => inbDnH _ h⟩
theorem chk4_of (i : grid0.Coords) (v0 v11 w : BitVec 32) (h : w.toNat < 16) : k0_chk4 i v0 v11 w :=
  ⟨fun _ _ => inbGuH _ h, fun _ _ => inbDnH _ h⟩
theorem chk5_of (i : grid0.Coords) (v0 v11 w : BitVec 32) (h : w.toNat < 16) : k0_chk5 i v0 v11 w :=
  ⟨fun _ _ => inbGuH _ h, fun _ _ => inbDnH _ h⟩
theorem chk7_of (i : grid0.Coords) (v0 v11 v131 w : BitVec 32) (h : w.toNat < 16) : k0_chk7 i v0 v11 v131 w :=
  ⟨fun _ _ _ => inbGuH _ h, fun _ _ _ => inbDnH _ h⟩
theorem chk8_of (i : grid0.Coords) (v0 v11 v131 w : BitVec 32) (h : w.toNat < 16) : k0_chk8 i v0 v11 v131 w :=
  ⟨fun _ _ _ => inbGuH _ h, fun _ _ _ => inbDnH _ h⟩

end Cert.KernelIdeal.Moe

end
-- ==== Proof.Moe.States.lean ====
/-
  The states a slot of the scratch buffers goes through: free, holding one bucket's six matrices, or with the six copies
  of a bucket switch in flight into it; and the weights' two half shares, cut around the six matrices being copied.
-/
module

public import proofs.«01_k».proof.Proof.Moe.Words

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Slot `b` of both scratch buffers, at contents nobody names. -/
def freeSlot (c : Dev nD) (b : ℕ) (hb : b < 2) : sProp 𝕄 :=
  iprop((∃ f : BufOf (F := F) c guM, guPt c b 0 hb k0lt4 f) ∗ (∃ f : BufOf (F := F) c guM, guPt c b 1 hb k1lt4 f) ∗ (∃ f : BufOf (F := F) c guM, guPt c b 2 hb k2lt4 f) ∗ (∃ f : BufOf (F := F) c guM, guPt c b 3 hb k3lt4 f)
    ∗ (∃ f : BufOf (F := F) c dnM, dnPt c b 0 hb k0lt2 f) ∗ (∃ f : BufOf (F := F) c dnM, dnPt c b 1 hb k1lt2 f))

variable (c : Dev nD) (fg : BufOf (F := F) c gateM) (fu : BufOf (F := F) c upM) (fd : BufOf (F := F) c downM)

/-- Slot `b` with the matrices of experts `ea` and `eb` landed. -/
def haveSlot (b : ℕ) (hs : b < 2) (ea eb : ℕ) (ha : ea < 16) (hb : eb < 16) : sProp 𝕄 :=
  iprop(guPt c b 0 hs k0lt4 (landGu c b 0 hs k0lt4 gateM ea ha fg) ∗ guPt c b 1 hs k1lt4 (landGu c b 1 hs k1lt4 upM ea ha fu)
    ∗ guPt c b 2 hs k2lt4 (landGu c b 2 hs k2lt4 gateM eb hb fg) ∗ guPt c b 3 hs k3lt4 (landGu c b 3 hs k3lt4 upM eb hb fu)
    ∗ dnPt c b 0 hs k0lt2 (landDn c b 0 hs k0lt2 downM ea ha fd) ∗ dnPt c b 1 hs k1lt2 (landDn c b 1 hs k1lt2 downM eb hb fd))

/-- The weights whole, each array as its two half shares. -/
def weights : sProp 𝕄 :=
  iprop((gateM.view.loc (c : Thread nD τ) ↦{fullShare.left} fg)
    ∗ (upM.view.loc (c : Thread nD τ) ↦{fullShare.left} fu)
    ∗ (gateM.view.loc (c : Thread nD τ) ↦{fullShare.right} fg)
    ∗ (upM.view.loc (c : Thread nD τ) ↦{fullShare.right} fu)
    ∗ (downM.view.loc (c : Thread nD τ) ↦{fullShare.left} fd)
    ∗ (downM.view.loc (c : Thread nD τ) ↦{fullShare.right} fd))

/-- The six matrices a bucket switch reads. -/
def srcs (ea eb : ℕ) (ha : ea < 16) (hb : eb < 16) : sProp 𝕄 :=
  iprop(((guH gateM ea ha).view.loc (c : Thread nD τ) ↦[(guH gateM ea ha).view.set]{fullShare.left} fg)
    ∗ ((guH upM ea ha).view.loc (c : Thread nD τ) ↦[(guH upM ea ha).view.set]{fullShare.left} fu)
    ∗ ((guH gateM eb hb).view.loc (c : Thread nD τ) ↦[(guH gateM eb hb).view.set]{fullShare.right} fg)
    ∗ ((guH upM eb hb).view.loc (c : Thread nD τ) ↦[(guH upM eb hb).view.set]{fullShare.right} fu)
    ∗ ((dnH downM ea ha).view.loc (c : Thread nD τ) ↦[(dnH downM ea ha).view.set]{fullShare.left} fd)
    ∗ ((dnH downM eb hb).view.loc (c : Thread nD τ) ↦[(dnH downM eb hb).view.set]{fullShare.right} fd))

/-- The weights' half shares less those six matrices. -/
def rests (ea eb : ℕ) (ha : ea < 16) (hb : eb < 16) : sProp 𝕄 :=
  iprop((gateM.view.loc (c : Thread nD τ) ↦[Finset.univ \ (guH gateM ea ha).view.set]{fullShare.left} fg)
    ∗ (upM.view.loc (c : Thread nD τ) ↦[Finset.univ \ (guH upM ea ha).view.set]{fullShare.left} fu)
    ∗ (gateM.view.loc (c : Thread nD τ) ↦[Finset.univ \ (guH gateM eb hb).view.set]{fullShare.right} fg)
    ∗ (upM.view.loc (c : Thread nD τ) ↦[Finset.univ \ (guH upM eb hb).view.set]{fullShare.right} fu)
    ∗ (downM.view.loc (c : Thread nD τ) ↦[Finset.univ \ (dnH downM ea ha).view.set]{fullShare.left} fd)
    ∗ (downM.view.loc (c : Thread nD τ) ↦[Finset.univ \ (dnH downM eb hb).view.set]{fullShare.right} fd))

theorem pt_cut {ℓ : Loc nD τ sig} (I : Finset (Idx ℓ)) {q : PosShare TreeShare} (f : Buf (Elt F) ℓ) :
    (ℓ ↦{q} f : sProp 𝕄) ⊢ iprop((ℓ ↦[I]{q} f) ∗ ℓ ↦[Finset.univ \ I]{q} f) := (pointsTo_split_subset (Finset.subset_univ I)).1
theorem pt_join {ℓ : Loc nD τ sig} (I : Finset (Idx ℓ)) {q : PosShare TreeShare} (f : Buf (Elt F) ℓ) :
    iprop((ℓ ↦[I]{q} f) ∗ ℓ ↦[Finset.univ \ I]{q} f) ⊢ (ℓ ↦{q} f : sProp 𝕄) := (pointsTo_split_subset (Finset.subset_univ I)).2

theorem weights_cut (ea eb : ℕ) (ha : ea < 16) (hb : eb < 16) :
    weights c fg fu fd ⊢ iprop(srcs c fg fu fd ea eb ha hb ∗ rests c fg fu fd ea eb ha hb) := by
  unfold weights srcs rests
  iintro ⟨Q0, Q1, Q2, Q3, Q4, Q5⟩
  ihave Z := (pt_cut (ℓ := gateM.view.loc (c : Thread nD τ)) (guH gateM ea ha).view.set fg) $$ Q0
  icases Z with ⟨S0, R0⟩
  ihave Z := (pt_cut (ℓ := upM.view.loc (c : Thread nD τ)) (guH upM ea ha).view.set fu) $$ Q1
  icases Z with ⟨S1, R1⟩
  ihave Z := (pt_cut (ℓ := gateM.view.loc (c : Thread nD τ)) (guH gateM eb hb).view.set fg) $$ Q2
  icases Z with ⟨S2, R2⟩
  ihave Z := (pt_cut (ℓ := upM.view.loc (c : Thread nD τ)) (guH upM eb hb).view.set fu) $$ Q3
  icases Z with ⟨S3, R3⟩
  ihave Z := (pt_cut (ℓ := downM.view.loc (c : Thread nD τ)) (dnH downM ea ha).view.set fd) $$ Q4
  icases Z with ⟨S4, R4⟩
  ihave Z := (pt_cut (ℓ := downM.view.loc (c : Thread nD τ)) (dnH downM eb hb).view.set fd) $$ Q5
  icases Z with ⟨S5, R5⟩
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [R0]; · iexact R0
  isplitl [R1]; · iexact R1
  isplitl [R2]; · iexact R2
  isplitl [R3]; · iexact R3
  isplitl [R4]; · iexact R4
  iexact R5

theorem weights_join (ea eb : ℕ) (ha : ea < 16) (hb : eb < 16) :
    iprop(srcs c fg fu fd ea eb ha hb ∗ rests c fg fu fd ea eb ha hb) ⊢ weights c fg fu fd := by
  unfold weights srcs rests
  iintro ⟨⟨S0, S1, S2, S3, S4, S5⟩, ⟨R0, R1, R2, R3, R4, R5⟩⟩
  ihave Q0 := (pt_join (ℓ := gateM.view.loc (c : Thread nD τ)) (guH gateM ea ha).view.set fg) $$ [S0 R0]
  · isplitl [S0] <;> iassumption
  ihave Q1 := (pt_join (ℓ := upM.view.loc (c : Thread nD τ)) (guH upM ea ha).view.set fu) $$ [S1 R1]
  · isplitl [S1] <;> iassumption
  ihave Q2 := (pt_join (ℓ := gateM.view.loc (c : Thread nD τ)) (guH gateM eb hb).view.set fg) $$ [S2 R2]
  · isplitl [S2] <;> iassumption
  ihave Q3 := (pt_join (ℓ := upM.view.loc (c : Thread nD τ)) (guH upM eb hb).view.set fu) $$ [S3 R3]
  · isplitl [S3] <;> iassumption
  ihave Q4 := (pt_join (ℓ := downM.view.loc (c : Thread nD τ)) (dnH downM ea ha).view.set fd) $$ [S4 R4]
  · isplitl [S4] <;> iassumption
  ihave Q5 := (pt_join (ℓ := downM.view.loc (c : Thread nD τ)) (dnH downM eb hb).view.set fd) $$ [S5 R5]
  · isplitl [S5] <;> iassumption
  isplitl [Q0]; · iexact Q0
  isplitl [Q1]; · iexact Q1
  isplitl [Q2]; · iexact Q2
  isplitl [Q3]; · iexact Q3
  isplitl [Q4]; · iexact Q4
  iexact Q5

end Cert.KernelIdeal.Moe

end
-- ==== Proof.Plan.Model.lean ====
/- The tile plan on natural numbers: what the host computes from the 24 bucket counts before the kernel call. -/
module

public import Mathlib.Data.Nat.Count
public import Mathlib.Algebra.BigOperators.Group.List.Basic

@[expose] public section

namespace Cert.Plan

/-- The two experts of a pair of a group, and the pairs as the program lists them. -/
def pa (p : ℕ) : ℕ := if p < 3 then 0 else if p < 5 then 1 else 3
def pb (p : ℕ) : ℕ := if p = 0 then 1 else if p = 1 then 2 else if p = 2 then 3 else if p = 3 then 3 else 2

variable (k : ℕ → ℕ)

/-- Tiles of 256 rows that bucket `b` fills. -/
def til (b : ℕ) : ℕ := (k b + 255) / 256
/-- The tile after the last tile of bucket `b`. -/
def nd (b : ℕ) : ℕ := ((List.range (b + 1)).map (til k)).sum
/-- How many tiles are active. -/
def na : ℕ := nd k 23
/-- The tile whose rows grid point `t` reads. -/
def ti (t : ℕ) : ℕ := min t (na k - 1)
/-- The bucket of that tile. -/
def bk (t : ℕ) : ℕ := min (Nat.count (fun b => nd k b ≤ ti k t) 24) 23
/-- The bucket's two experts. -/
def ea (t : ℕ) : ℕ := bk k t / 6 * 4 + pa (bk k t % 6)
def eb (t : ℕ) : ℕ := bk k t / 6 * 4 + pb (bk k t % 6)
/-- One at the first tile of a bucket. -/
def fi (t : ℕ) : ℕ := if t = 0 then 1 else if bk k t = bk k (t - 1) then 0 else 1
/-- The scratch buffer that holds the tile's weights. -/
def bf (t : ℕ) : ℕ := (((List.range (t + 1)).map (fi k)).sum - 1) % 2
/-- The tile at which the next bucket starts. -/
def nx (t : ℕ) : ℕ := nd k (bk k t)
/-- One where a next bucket exists. -/
def hn (t : ℕ) : ℕ := if nx k t < na k then 1 else 0
/-- The next bucket's experts. -/
def nxa (t : ℕ) : ℕ := ea k (min (nx k t) 87)
def nxb (t : ℕ) : ℕ := eb k (min (nx k t) 87)

end Cert.Plan
-- ==== Proof.Plan.Facts.lean ====
/- The plan on natural numbers: what the kernel's walk over the tiles relies on. -/
module

public import proofs.«01_k».proof.Proof.Plan.Model
public import Idealize.ShloMosaic.Lib.Routing.Words

@[expose] public section

namespace Cert.Plan

variable (k : ℕ → ℕ)

theorem nd_succ (b : ℕ) : nd k (b + 1) = nd k b + til k (b + 1) := by
  unfold nd
  rw [List.range_succ, List.map_append, List.sum_append]
  simp

theorem nd_mono : Monotone (nd k) := monotone_nat_of_le_succ fun b => by rw [nd_succ]; omega

theorem til_bounds (b : ℕ) : 256 * til k b ≤ k b + 255 ∧ k b ≤ 256 * til k b := by
  unfold til
  omega

/-- Tiles against rows, summed over the first buckets. -/
theorem nd_bounds (b : ℕ) : 256 * nd k b ≤ ((List.range (b + 1)).map k).sum + 255 * (b + 1) ∧ ((List.range (b + 1)).map k).sum ≤ 256 * nd k b := by
  induction b with
  | zero =>
    have := til_bounds k 0
    have e : nd k 0 = til k 0 := by simp [nd]
    simp only [e, zero_add, List.range_one, List.map_cons, List.map_nil, List.sum_cons, List.sum_nil]
    omega
  | succ b ih =>
    have := til_bounds k (b + 1)
    rw [nd_succ, List.range_succ, List.map_append, List.sum_append]
    simp only [List.map_cons, List.map_nil, List.sum_cons, List.sum_nil]
    omega

variable (hs : ((List.range 24).map k).sum = 16384)
include hs

theorem na_bounds : 1 ≤ na k ∧ na k ≤ 88 := by
  have h := nd_bounds k 23
  rw [show 23 + 1 = 24 from rfl, hs] at h
  unfold na
  omega

theorem nd_le (b : ℕ) (hb : b ≤ 23) : nd k b ≤ 88 := (nd_mono k hb).trans (na_bounds k hs).2

omit hs in
/-- The bucket of a tile: the first whose end lies past it. -/
theorem count_spec (u : ℕ) (hu : u < na k) :
    Nat.count (fun b => nd k b ≤ u) 24 ≤ 23 ∧ u < nd k (Nat.count (fun b => nd k b ≤ u) 24)
      ∧ ∀ b < Nat.count (fun b => nd k b ≤ u) 24, nd k b ≤ u := by
  have hex : ∃ b, u < nd k b := ⟨23, hu⟩
  classical
  have h1 := Nat.find_spec hex
  have h2 : ∀ b < Nat.find hex, nd k b ≤ u := fun b hb => not_lt.1 (Nat.find_min hex hb)
  have h3 : Nat.find hex ≤ 23 := Nat.find_min' hex hu
  have e : Nat.count (fun b => nd k b ≤ u) 24 = Nat.find hex := by
    obtain ⟨d, hd⟩ : ∃ d, 24 = Nat.find hex + d := ⟨24 - Nat.find hex, by omega⟩
    rw [hd, Nat.count_add, Nat.count_iff_forall.2 (fun b hb => h2 b hb), Nat.count_iff_forall_not.2 fun b _ => ?_]
    · omega
    · exact not_le.2 (lt_of_lt_of_le h1 (nd_mono k (Nat.le_add_right _ _)))
  rw [e]
  exact ⟨h3, h1, h2⟩

omit hs in
theorem bk_spec (t : ℕ) (ht : t < na k) : bk k t ≤ 23 ∧ t < nd k (bk k t) ∧ ∀ b < bk k t, nd k b ≤ t := by
  have e : ti k t = t := by unfold ti; omega
  have h := count_spec k t ht
  have e2 : bk k t = Nat.count (fun b => nd k b ≤ t) 24 := by unfold bk; rw [e]; omega
  rw [e2]
  exact h

omit hs in
theorem bk_mono (t t' : ℕ) (h : t ≤ t') (ht : t' < na k) : bk k t ≤ bk k t' := by
  by_contra hc
  have h1 := (bk_spec k t (by omega)).2.2 (bk k t') (by omega)
  have h2 := (bk_spec k t' ht).2.1
  omega

omit hs in
theorem ea_lt (t : ℕ) : ea k t < 16 := by
  have : bk k t < 24 := by unfold bk; omega
  have : pa (bk k t % 6) ≤ 3 := by unfold pa; split_ifs <;> omega
  unfold ea
  omega

omit hs in
theorem eb_lt (t : ℕ) : eb k t < 16 := by
  have : bk k t < 24 := by unfold bk; omega
  have : pb (bk k t % 6) ≤ 3 := by unfold pb; split_ifs <;> omega
  unfold eb
  omega

omit hs in
theorem fi_01 (t : ℕ) : fi k t = 0 ∨ fi k t = 1 := by unfold fi; split_ifs <;> simp
omit hs in
theorem bf_01 (t : ℕ) : bf k t = 0 ∨ bf k t = 1 := by unfold bf; omega
omit hs in
theorem hn_01 (t : ℕ) : hn k t = 0 ∨ hn k t = 1 := by unfold hn; split_ifs <;> simp

omit hs in
theorem fi_zero : fi k 0 = 1 := rfl
omit hs in
theorem bf_zero : bf k 0 = 0 := by simp [bf, fi]

omit hs in
theorem fi_pos (t : ℕ) : 1 ≤ ((List.range (t + 1)).map (fi k)).sum := by
  induction t with
  | zero => simp [fi]
  | succ t ih => rw [List.range_succ, List.map_append, List.sum_append]; omega

omit hs in
theorem bf_succ (t : ℕ) : bf k (t + 1) = (bf k t + fi k (t + 1)) % 2 := by
  have h := fi_pos k t
  unfold bf
  rw [List.range_succ, List.map_append, List.sum_append]
  simp only [List.map_cons, List.map_nil, List.sum_cons, List.sum_nil]
  omega

/-- At a first tile the step before named this bucket as the next one. -/
theorem at_first (t : ℕ) (ht : t + 1 < na k) (hf : fi k (t + 1) = 1) :
    hn k t = 1 ∧ nxa k t = ea k (t + 1) ∧ nxb k t = eb k (t + 1) ∧ bf k (t + 1) = 1 - bf k t := by
  have hne : bk k (t + 1) ≠ bk k t := fun h => by unfold fi at hf; simp [h] at hf
  have hm := bk_mono k t (t + 1) (by omega) ht
  have h1 := (bk_spec k t (by omega)).2.1
  have h2 := (bk_spec k (t + 1) ht).2.2 (bk k t) (by omega)
  have hx : nx k t = t + 1 := by unfold nx; omega
  have hna := (na_bounds k hs).2
  have hmin : min (nx k t) 87 = t + 1 := by omega
  have hb := bf_01 k t
  refine ⟨by unfold hn; rw [hx, if_pos ht], by unfold nxa; rw [hmin], by unfold nxb; rw [hmin], ?_⟩
  rw [bf_succ, hf]
  omega

omit hs in
/-- At a later tile of the same bucket nothing changes. -/
theorem at_stay (t : ℕ) (hf : fi k (t + 1) = 0) :
    ea k (t + 1) = ea k t ∧ eb k (t + 1) = eb k t ∧ bf k (t + 1) = bf k t ∧ nxa k (t + 1) = nxa k t ∧ nxb k (t + 1) = nxb k t ∧ hn k (t + 1) = hn k t := by
  have he : bk k (t + 1) = bk k t := by
    by_contra h
    unfold fi at hf
    simp [h] at hf
  have hb := bf_01 k t
  have hx : nx k (t + 1) = nx k t := by unfold nx; rw [he]
  refine ⟨by unfold ea; rw [he], by unfold eb; rw [he], by rw [bf_succ, hf]; omega, by unfold nxa; rw [hx], by unfold nxb; rw [hx], by unfold hn; rw [hx]⟩

/-- After the last active tile no bucket follows. -/
theorem at_last : hn k (na k - 1) = 0 := by
  have h := na_bounds k hs
  have h1 := bk_spec k (na k - 1) (by omega)
  have h2 : nd k (bk k (na k - 1)) ≤ na k := nd_mono k h1.1
  unfold hn nx
  rw [if_neg (by omega)]

theorem ti_lt (t : ℕ) : ti k t < 88 := by
  have h := na_bounds k hs
  unfold ti
  omega

end Cert.Plan
-- ==== Proof.Moe.State.lean ====
/-
  The scratch buffers, their two semaphores and the weights between two grid points: a bucket's six matrices in one
  slot, and the other slot either free or with the next bucket's six copies in flight into it.
-/
module

public import proofs.«01_k».proof.Proof.Moe.States
public import proofs.«01_k».proof.Proof.Plan.Facts
@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (fg : BufOf (F := F) c gateM) (fu : BufOf (F := F) c upM) (fd : BufOf (F := F) c downM)

/-- Landed matrices forgotten. -/
theorem haveSlot_free (b : ℕ) (hs : b < 2) (ea eb : ℕ) (ha : ea < 16) (hb : eb < 16) :
    haveSlot c fg fu fd b hs ea eb ha hb ⊢ freeSlot (F := F) c b hs := by
  unfold haveSlot freeSlot
  iintro ⟨H0, H1, H2, H3, H4, H5⟩
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- Before the first grid point: both slots free, nothing in flight, the weights whole. -/
def atStart : sProp 𝕄 :=
  iprop(freeSlot (F := F) c 0 k0lt2 ∗ freeSlot (F := F) c 1 k1lt2 ∗ semVal ((c : Thread nD τ), SemLoc.dma 5) 0
    ∗ semVal ((c : Thread nD τ), SemLoc.dma 6) 0 ∗ weights c fg fu fd)

/-- The other slot: the next bucket's copies in flight into it, or free. -/
def other1 (hn na nb : ℕ) (hna : na < 16) (hnb : nb < 16) : sProp 𝕄 :=
  if hn = 1 then iprop(Transfers.Batch (countersEmb (U := Pipeline.UD sig nD τ)) (c : Thread nD τ) (.dma 6) () credit
      (deliv c fg fu fd 1 k1lt2 na nb hna hnb) 6 0 ∗ rests c fg fu fd na nb hna hnb)
  else iprop(semVal ((c : Thread nD τ), SemLoc.dma 6) 0 ∗ freeSlot (F := F) c 1 k1lt2 ∗ weights c fg fu fd)
def other0 (hn na nb : ℕ) (hna : na < 16) (hnb : nb < 16) : sProp 𝕄 :=
  if hn = 1 then iprop(Transfers.Batch (countersEmb (U := Pipeline.UD sig nD τ)) (c : Thread nD τ) (.dma 5) () credit
      (deliv c fg fu fd 0 k0lt2 na nb hna hnb) 6 0 ∗ rests c fg fu fd na nb hna hnb)
  else iprop(semVal ((c : Thread nD τ), SemLoc.dma 5) 0 ∗ freeSlot (F := F) c 0 k0lt2 ∗ weights c fg fu fd)

/-- The tile of a bucket done, its matrices in slot `b`. -/
def running (b ea eb hn na nb : ℕ) (ha : ea < 16) (hb : eb < 16) (hna : na < 16) (hnb : nb < 16) : sProp 𝕄 :=
  if b = 0 then iprop(haveSlot c fg fu fd 0 k0lt2 ea eb ha hb ∗ semVal ((c : Thread nD τ), SemLoc.dma 5) 0
      ∗ other1 c fg fu fd hn na nb hna hnb)
  else iprop(haveSlot c fg fu fd 1 k1lt2 ea eb ha hb ∗ semVal ((c : Thread nD τ), SemLoc.dma 6) 0
      ∗ other0 c fg fu fd hn na nb hna hnb)

theorem running_congr {b ea eb hn na nb b' ea' eb' hn' na' nb' : ℕ} (h1 : b = b') (h2 : ea = ea') (h3 : eb = eb') (h4 : hn = hn')
    (h5 : na = na') (h6 : nb = nb') (ha : ea < 16) (hb : eb < 16) (hna : na < 16) (hnb : nb < 16)
    (ha' : ea' < 16) (hb' : eb' < 16) (hna' : na' < 16) (hnb' : nb' < 16) :
    running c fg fu fd b ea eb hn na nb ha hb hna hnb = running c fg fu fd b' ea' eb' hn' na' nb' ha' hb' hna' hnb' := by
  subst h1 h2 h3 h4 h5 h6; rfl

/-- What surrounds the state at a grid point: the tables' shares, the operands' blocks, the result's block and the waits
    recorded, with the continuation that takes them back. -/
abbrev Around (arg3 : Memref sig .tc .vmem S256x1152 .f32) (arg4 : Memref sig .tc .vmem S1x1024 .f32) (arg8 : Memref sig .tc .vmem S256x1024 .f32)
    (T0 : BufOf (F := F) c planM) (T1 : BufOf (F := F) c nactM) (x : BufOf (F := F) c arg3) (g : BufOf (F := F) c arg4)
    (Out : Vec F S256x1024 .f32) (St St' : sProp 𝕄) (W : Waits sig Unit) (K : PUnit → sProp 𝕄) : sProp 𝕄 :=
  iprop(heldAll c planM fullShare.right T0
    ∗ heldAll c nactM fullShare.right T1
    ∗ (arg3.view.loc (c : Thread nD τ) ↦[arg3.view.set]{fullShare} x)
    ∗ (arg4.view.loc (c : Thread nD τ) ↦[arg4.view.set]{fullShare} g)
    ∗ (∃ f, arg8.view.loc (c : Thread nD τ) ↦[arg8.view.set]{fullShare} f)
    ∗ St
    ∗ owes (c : Thread nD τ) 0 W
    ∗ (iprop(heldAll c planM fullShare.right T0
      ∗ heldAll c nactM fullShare.right T1
      ∗ (arg3.view.loc (c : Thread nD τ) ↦[arg3.view.set]{fullShare} x)
      ∗ (arg4.view.loc (c : Thread nD τ) ↦[arg4.view.set]{fullShare} g)
      ∗ owns (c : Thread nD τ) arg8 fullShare Out
      ∗ St'
      ∗ (∃ W', owes (c : Thread nD τ) 0 W')) -∗ K ⟨⟩))

end Cert.KernelIdeal.Moe

end
-- ==== Proof.Moe.Tile.lean ====
/-
  What an active grid point stores: the tile's value from its rows, the gain and the six matrices of its bucket; and the
  reads of a landed matrix and of a stored tile.
-/
module

public import proofs.«01_k».proof.Proof.Moe.States
public import Idealize.ShloMosaic.Lib.WritesUnit
public import Idealize.ShloMosaic.Lib.ValueLayout
public import Idealize.ShloMosaic.Lib.Pipeline.Value

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Expert `e`'s gate or up matrix, as the body loads it from the scratch. -/
def guW {M : Memref sig .tc .hbm S16x1024x512 .f32} (f : M.view.ty.Contents (Elt F)) (e : ℕ) (he : e < 16) : Vec F S1x1x1024x512 .f32 :=
  fun j => M.view.read (Elt F) f (ix3 (⟨e, he⟩ : Fin 16) (j 2) (j 3))
/-- Expert `e`'s down matrix, as the body loads it from the scratch. -/
def dnW {M : Memref sig .tc .hbm S16x512x1024 .f32} (f : M.view.ty.Contents (Elt F)) (e : ℕ) (he : e < 16) : Vec F S1x1x512x1024 .f32 :=
  fun j => M.view.read (Elt F) f (ix3 (⟨e, he⟩ : Fin 16) (j 2) (j 3))

/-- A tile of 256 rows through the two experts of its bucket: the residual plus each expert's output times its gate. -/
def tileOf (X : Vec F S256x1152 .f32) (G : Vec F S1x1024 .f32) (ga ua gb ub : Vec F S1x1x1024x512 .f32) (da db : Vec F S1x1x512x1024 .f32) : FVec F S256x1024 .f32 :=
  have A : Vec F S256x1024 .f32 := fun j => X ((Rect.unit (s := S256x1152) ![0, 0] S256x1024.size inb_S256x1152_S256x1024_0_0).toLoadRect.idx j)
  have B : Vec F S256x128 .f32 := fun j => X ((Rect.unit (s := S256x1152) ![0, 1024] S256x128.size inb_S256x1152_S256x128_0_1024).toLoadRect.idx j)
  have Gn : Vec F S1x1024 .f32 := fun j => G ((Rect.unit (s := S1x1024) ![0, 0] S1x1024.size inb_S1x1024_S1x1024_0_0).toLoadRect.idx j)
  k0_pay1 A (k0_pay8 (k0_pay3 B) (k0_pay6 A Gn ga) (k0_pay7 A Gn ua) da) (k0_pay9 (k0_pay4 B) (k0_pay5 A Gn) gb ub db)

/-- The tile's value from the weights in HBM and the two experts' numbers. -/
def tileAt (c : Dev nD) (fg : BufOf (F := F) c gateM) (fu : BufOf (F := F) c upM) (fd : BufOf (F := F) c downM)
    (X : Vec F S256x1152 .f32) (G : Vec F S1x1024 .f32) (ea eb : ℕ) (ha : ea < 16) (hb : eb < 16) : FVec F S256x1024 .f32 :=
  tileOf X G (guW (M := gateM) fg ea ha) (guW (M := upM) fu ea ha) (guW (M := gateM) fg eb hb) (guW (M := upM) fu eb hb)
    (dnW (M := downM) fd ea ha) (dnW (M := downM) fd eb hb)

theorem landGu_read (c : Dev nD) (b k : ℕ) (hb : b < 2) (hk : k < 4) (M : Memref sig .tc .hbm S16x1024x512 .f32) (e : ℕ) (he : e < 16)
    (f : BufOf (F := F) c M) (h : ∀ a, (![b, k, 0, 0] : Fin 4 → ℕ) a + S1x1x1024x512.size a ≤ S2x4x1024x512.size a) :
    View.readAt (Elt F) guM.view (Rect.unit (s := S2x4x1024x512) ![b, k, 0, 0] S1x1x1024x512.size h).toLoadRect (landGu c b k hb hk M e he f)
      = guW (M := M) f e he := by
  funext j
  have hj : j = ix4 (0 : Fin 1) (0 : Fin 1) (j 2) (j 3) := by
    funext a; fin_cases a
    · exact Fin.ext (by have : (j 0).val < 1 := (j 0).isLt; show (j 0).val = 0; omega)
    · exact Fin.ext (by have : (j 1).val < 1 := (j 1).isLt; show (j 1).val = 0; omega)
    · rfl
    · rfl
  have hL : (guP b k hb hk).view.read (Elt F) (landGu c b k hb hk M e he f)
      = (guH M e he).view.read (Elt F) f := by
    show (guP b k hb hk).view.read (Elt F) ((guP b k hb hk).view.writes (Elt F) _ [⟨Rect.whole S1024x512, _⟩]) = _
    rw [← View.write_univ_eq_writes_whole, View.writes_nil, View.read_write_univ]
  have h1 := congrFun hL (ix2 (j 2) (j 3))
  have hc : S1x1x1024x512.ShapeCasts S1024x512 := shapeCasts_S1x1x1024x512_S1024x512
  have hc' : S1x1024x512.ShapeCasts S1024x512 := squeezes_S1x1024x512_S1024x512.numel_eq
  have e1 : (guP b k hb hk).view.read (Elt F) (landGu c b k hb hk M e he f)
      = shapeCast S1024x512 (View.readAt (Elt F) guM.view (Rect.unit (s := S2x4x1024x512) ![b, k, 0, 0] S1x1x1024x512.size (inbGu b k hb hk)).toLoadRect (landGu c b k hb hk M e he f)) hc := rfl
  have e2 : (guH M e he).view.read (Elt F) f
      = shapeCast S1024x512 (View.readAt (Elt F) M.view (Rect.unit (s := S16x1024x512) ![e, 0, 0] S1x1024x512.size (inbGuH e he)).toLoadRect f) hc' := rfl
  rw [e1, e2, shapeCast_apply _ hc (ix2 (j 2) (j 3)) (ix4 (0 : Fin 1) (0 : Fin 1) (j 2) (j 3)) (by
      rw [Shape.rowMajor_val_four, Shape.rowMajor_val_two]
      show ((0 * 1 + 0) * 1024 + (j 2).val) * 512 + (j 3).val = (j 2).val * 512 + (j 3).val; omega),
    shapeCast_apply _ hc' (ix2 (j 2) (j 3)) (ix3 (0 : Fin 1) (j 2) (j 3)) (by
      rw [Shape.rowMajor_val_three, Shape.rowMajor_val_two]
      show (0 * 1024 + (j 2).val) * 512 + (j 3).val = (j 2).val * 512 + (j 3).val; omega)] at h1
  refine (congrArg _ hj).trans (h1.trans ?_)
  rw [View.readAt_apply]
  refine congrArg (M.view.read (Elt F) f) ?_
  funext a; fin_cases a
  · exact Fin.ext (by show e + 1 * 0 = e; omega)
  · exact Fin.ext (by show 0 + 1 * (j 2).val = (j 2).val; omega)
  · exact Fin.ext (by show 0 + 1 * (j 3).val = (j 3).val; omega)

theorem landDn_read (c : Dev nD) (b k : ℕ) (hb : b < 2) (hk : k < 2) (M : Memref sig .tc .hbm S16x512x1024 .f32) (e : ℕ) (he : e < 16)
    (f : BufOf (F := F) c M) (h : ∀ a, (![b, k, 0, 0] : Fin 4 → ℕ) a + S1x1x512x1024.size a ≤ S2x2x512x1024.size a) :
    View.readAt (Elt F) dnM.view (Rect.unit (s := S2x2x512x1024) ![b, k, 0, 0] S1x1x512x1024.size h).toLoadRect (landDn c b k hb hk M e he f)
      = dnW (M := M) f e he := by
  funext j
  have hj : j = ix4 (0 : Fin 1) (0 : Fin 1) (j 2) (j 3) := by
    funext a; fin_cases a
    · exact Fin.ext (by have : (j 0).val < 1 := (j 0).isLt; show (j 0).val = 0; omega)
    · exact Fin.ext (by have : (j 1).val < 1 := (j 1).isLt; show (j 1).val = 0; omega)
    · rfl
    · rfl
  have hL : (dnP b k hb hk).view.read (Elt F) (landDn c b k hb hk M e he f)
      = (dnH M e he).view.read (Elt F) f := by
    show (dnP b k hb hk).view.read (Elt F) ((dnP b k hb hk).view.writes (Elt F) _ [⟨Rect.whole S512x1024, _⟩]) = _
    rw [← View.write_univ_eq_writes_whole, View.writes_nil, View.read_write_univ]
  have h1 := congrFun hL (ix2 (j 2) (j 3))
  have hc : S1x1x512x1024.ShapeCasts S512x1024 := shapeCasts_S1x1x512x1024_S512x1024
  have hc' : S1x512x1024.ShapeCasts S512x1024 := squeezes_S1x512x1024_S512x1024.numel_eq
  have e1 : (dnP b k hb hk).view.read (Elt F) (landDn c b k hb hk M e he f)
      = shapeCast S512x1024 (View.readAt (Elt F) dnM.view (Rect.unit (s := S2x2x512x1024) ![b, k, 0, 0] S1x1x512x1024.size (inbDn b k hb hk)).toLoadRect (landDn c b k hb hk M e he f)) hc := rfl
  have e2 : (dnH M e he).view.read (Elt F) f
      = shapeCast S512x1024 (View.readAt (Elt F) M.view (Rect.unit (s := S16x512x1024) ![e, 0, 0] S1x512x1024.size (inbDnH e he)).toLoadRect f) hc' := rfl
  rw [e1, e2, shapeCast_apply _ hc (ix2 (j 2) (j 3)) (ix4 (0 : Fin 1) (0 : Fin 1) (j 2) (j 3)) (by
      rw [Shape.rowMajor_val_four, Shape.rowMajor_val_two]
      show ((0 * 1 + 0) * 512 + (j 2).val) * 1024 + (j 3).val = (j 2).val * 1024 + (j 3).val; omega),
    shapeCast_apply _ hc' (ix2 (j 2) (j 3)) (ix3 (0 : Fin 1) (j 2) (j 3)) (by
      rw [Shape.rowMajor_val_three, Shape.rowMajor_val_two]
      show (0 * 512 + (j 2).val) * 1024 + (j 3).val = (j 2).val * 1024 + (j 3).val; omega)] at h1
  refine (congrArg _ hj).trans (h1.trans ?_)
  rw [View.readAt_apply]
  refine congrArg (M.view.read (Elt F) f) ?_
  funext a; fin_cases a
  · exact Fin.ext (by show e + 1 * 0 = e; omega)
  · exact Fin.ext (by show 0 + 1 * (j 2).val = (j 2).val; omega)
  · exact Fin.ext (by show 0 + 1 * (j 3).val = (j 3).val; omega)

/-- A tile stored over the whole output window reads as that tile. -/
theorem stored_owns (c : Dev nD) (M : Memref sig .tc .vmem S256x1024 .f32) (f : BufOf (F := F) c M) (h) (p q : Vec F S256x1024 .f32) (hp : p = q) :
    (M.view.loc (c : Thread nD τ) ↦[M.view.set]{fullShare} M.view.writes (Elt F) f [⟨Rect.unit (s := S256x1024) ![0, 0] S256x1024.size h, p⟩] : sProp 𝕄)
      ⊢ owns (c : Thread nD τ) M fullShare q := by
  subst hp
  unfold owns
  iintro H
  iexists _
  isplitr
  swap
  · iexact H
  ipureintro
  funext y
  refine View.read_writes_cons_unit_of_mem _ _ h p [] y y rfl ?_
  intro a; fin_cases a
  · exact (Nat.zero_add _).symm
  · exact (Nat.zero_add _).symm

/-- The body's loads of a bucket's matrices and of the tile's rows, put together: the value it stores. -/
theorem tile_eq (c : Dev nD) (arg3 : Memref sig .tc .vmem S256x1152 .f32) (arg4 : Memref sig .tc .vmem S1x1024 .f32)
    (x : BufOf (F := F) c arg3) (g : BufOf (F := F) c arg4)
    (fg : BufOf (F := F) c gateM) (fu : BufOf (F := F) c upM) (fd : BufOf (F := F) c downM)
    (b : ℕ) (hs : b < 2) (ea eb : ℕ) (ha : ea < 16) (hb : eb < 16) (h0 h1 h2 h3 h4 h5)
    (A : Vec F S256x1024 .f32) (B : Vec F S256x128 .f32) (Gn : Vec F S1x1024 .f32)
    (hA : A = View.readAt (Elt F) arg3.view (Rect.unit (s := S256x1152) ![0, 0] S256x1024.size inb_S256x1152_S256x1024_0_0).toLoadRect x)
    (hB : B = View.readAt (Elt F) arg3.view (Rect.unit (s := S256x1152) ![0, 1024] S256x128.size inb_S256x1152_S256x128_0_1024).toLoadRect x)
    (hG : Gn = View.readAt (Elt F) arg4.view (Rect.unit (s := S1x1024) ![0, 0] S1x1024.size inb_S1x1024_S1x1024_0_0).toLoadRect g) :
    k0_pay1 A
      (k0_pay8 (k0_pay3 B)
        (k0_pay6 A Gn (View.readAt (Elt F) guM.view (Rect.unit (s := S2x4x1024x512) ![b, 0, 0, 0] S1x1x1024x512.size h0).toLoadRect (landGu c b 0 hs k0lt4 gateM ea ha fg)))
        (k0_pay7 A Gn (View.readAt (Elt F) guM.view (Rect.unit (s := S2x4x1024x512) ![b, 1, 0, 0] S1x1x1024x512.size h1).toLoadRect (landGu c b 1 hs k1lt4 upM ea ha fu)))
        (View.readAt (Elt F) dnM.view (Rect.unit (s := S2x2x512x1024) ![b, 0, 0, 0] S1x1x512x1024.size h4).toLoadRect (landDn c b 0 hs k0lt2 downM ea ha fd)))
      (k0_pay9 (k0_pay4 B) (k0_pay5 A Gn)
        (View.readAt (Elt F) guM.view (Rect.unit (s := S2x4x1024x512) ![b, 2, 0, 0] S1x1x1024x512.size h2).toLoadRect (landGu c b 2 hs k2lt4 gateM eb hb fg))
        (View.readAt (Elt F) guM.view (Rect.unit (s := S2x4x1024x512) ![b, 3, 0, 0] S1x1x1024x512.size h3).toLoadRect (landGu c b 3 hs k3lt4 upM eb hb fu))
        (View.readAt (Elt F) dnM.view (Rect.unit (s := S2x2x512x1024) ![b, 1, 0, 0] S1x1x512x1024.size h5).toLoadRect (landDn c b 1 hs k1lt2 downM eb hb fd)))
      = tileAt c fg fu fd (arg3.view.read (Elt F) x) (arg4.view.read (Elt F) g) ea eb ha hb := by
  subst hA hB hG
  rw [landGu_read c b 0 hs k0lt4 gateM ea ha fg h0, landGu_read c b 1 hs k1lt4 upM ea ha fu h1, landGu_read c b 2 hs k2lt4 gateM eb hb fg h2,
    landGu_read c b 3 hs k3lt4 upM eb hb fu h3, landDn_read c b 0 hs k0lt2 downM ea ha fd h4, landDn_read c b 1 hs k1lt2 downM eb hb fd h5]
  rfl

end Cert.KernelIdeal.Moe

end
-- ==== Proof.Moe.RunIdle.lean ====
/-
  A grid point past the last active tile stores zeros and touches nothing else.
-/
module

public import proofs.«01_k».proof.Proof.Moe.Tile

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- A grid point past the last active tile stores zeros and touches nothing else. -/
theorem run_idle (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : ¬ k0_cond1 i (T1 nactIx) = 1#1) (h5 : k0_cond5 i (T1 nactIx) = 1#1)
    (W : Waits sig Unit) (K : PUnit → sProp 𝕄) :
    iprop(heldAll c planM fullShare.right T0
        ∗ heldAll c nactM fullShare.right T1
        ∗ (arg3.view.loc (c : Thread nD τ) ↦[arg3.view.set]{fullShare} x)
        ∗ (arg4.view.loc (c : Thread nD τ) ↦[arg4.view.set]{fullShare} g)
        ∗ (∃ f, arg8.view.loc (c : Thread nD τ) ↦[arg8.view.set]{fullShare} f)
        ∗ owes (c : Thread nD τ) 0 W
        ∗ (iprop(heldAll c planM fullShare.right T0
          ∗ heldAll c nactM fullShare.right T1
          ∗ (arg3.view.loc (c : Thread nD τ) ↦[arg3.view.set]{fullShare} x)
          ∗ (arg4.view.loc (c : Thread nD τ) ↦[arg4.view.set]{fullShare} g)
          ∗ owns (c : Thread nD τ) arg8 fullShare (k0_pay2 (F := F))
          ∗ (∃ W', owes (c : Thread nD τ) 0 W')) -∗ K ⟨⟩))
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  simp only [cc0_moe_eq_skeleton]; unfold cc0_moe_skel
  iintro ⟨HT0, HT1, H3, H4, ⟨%f8, H8⟩, HW, Hk⟩
  sl_exec
  have e0 : run_idle.sl.r c T1 = T1 nactIx := by unfold run_idle.sl.r; exact nact_read c T1 _ _
  rw [e0]
  sl_exec
  have ez : run_idle.sl.r_2 c T1 = T1 nactIx := by unfold run_idle.sl.r_2; exact nact_read c T1 _ _
  rw [ez, dif_pos h5]
  sl_step
  iapply Hk
  isplitl [HT0]; · iexact HT0
  isplitl [HT1]; · iexact HT1
  isplitl [H3]; · iexact H3
  isplitl [H4]; · iexact H4
  isplitl [H8]
  · iapply (stored_owns c arg8 f8 inb_S256x1024_S256x1024_0_0 _ _ rfl) $$ H8
  iexists _; iexact HW

end Cert.KernelIdeal.Moe

end
-- ==== Proof.Moe.RunStay0.lean ====
/-
  A grid point inside a bucket, its matrices already in slot 0: it stores its tile.
-/
module

public import proofs.«01_k».proof.Proof.Moe.Tile

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- A grid point inside a bucket, its matrices already in slot 0: it stores its tile. -/
theorem run_stay0 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (hslot : T0 (planIx 4 t) = 0#32) (hfirst : T0 (planIx 3 t) = 0#32)
    (ha : (T0 (planIx 1 t)).toNat < 16) (hb : (T0 (planIx 2 t)).toNat < 16)
    (W : Waits sig Unit) (K : PUnit → sProp 𝕄) :
    iprop(heldAll c planM fullShare.right T0
        ∗ heldAll c nactM fullShare.right T1
        ∗ (arg3.view.loc (c : Thread nD τ) ↦[arg3.view.set]{fullShare} x)
        ∗ (arg4.view.loc (c : Thread nD τ) ↦[arg4.view.set]{fullShare} g)
        ∗ (∃ f, arg8.view.loc (c : Thread nD τ) ↦[arg8.view.set]{fullShare} f)
        ∗ haveSlot c fg fu fd 0 k0lt2 (T0 (planIx 1 t)).toNat (T0 (planIx 2 t)).toNat ha hb
        ∗ owes (c : Thread nD τ) 0 W
        ∗ (iprop(heldAll c planM fullShare.right T0
          ∗ heldAll c nactM fullShare.right T1
          ∗ (arg3.view.loc (c : Thread nD τ) ↦[arg3.view.set]{fullShare} x)
          ∗ (arg4.view.loc (c : Thread nD τ) ↦[arg4.view.set]{fullShare} g)
          ∗ owns (c : Thread nD τ) arg8 fullShare (tileAt c fg fu fd (arg3.view.read (Elt F) x) (arg4.view.read (Elt F) g) (T0 (planIx 1 t)).toNat (T0 (planIx 2 t)).toNat ha hb)
          ∗ haveSlot c fg fu fd 0 k0lt2 (T0 (planIx 1 t)).toNat (T0 (planIx 2 t)).toNat ha hb
          ∗ (∃ W', owes (c : Thread nD τ) 0 W')) -∗ K ⟨⟩))
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  simp only [cc0_moe_eq_skeleton]; unfold cc0_moe_skel
  iintro ⟨HT0, HT1, H3, H4, ⟨%f8, H8⟩, HV, HW, Hk⟩
  sl_exec
  have e0 : run_stay0.sl.r c T1 = T1 nactIx := by unfold run_stay0.sl.r; exact nact_read c T1 _ _
  rw [e0]
  sl_exec
  have e9 : run_stay0.sl.r_2 c i T0 = 0#32 := by unfold run_stay0.sl.r_2; exact (plan_read c T0 _ _ 4 t ((Gen.k0_off2_eq i).trans (by rw [hi]; rfl)) _).trans hslot
  rw [e9]
  have h9 : k0_chk9 i (T1 nactIx) 0#32 := chk9_of _ _ _ (.inl rfl)
  sl_exec
  have ef : run_stay0.sl.r_3 c i T0 = 0#32 := by unfold run_stay0.sl.r_3; exact (plan_read c T0 _ _ 3 t ((Gen.k0_off3_eq i).trans (by rw [hi]; rfl)) _).trans hfirst
  rw [ef]
  have hc1 : k0_chk1 i (T1 nactIx) 0#32 0#32 := chk1_of _ _ _ _ (.inl rfl)
  have c2 : ¬ k0_cond2 0#32 = 1#1 := by decide
  unfold haveSlot
  icases HV with ⟨D0, D1, D2, D3, D4, D5⟩
  sl_exec
  have ez : run_stay0.sl.r_12 c T1 = T1 nactIx := by unfold run_stay0.sl.r_12; exact nact_read c T1 _ _
  rw [ez, dif_neg h5]
  unfold run_stay0.sl.H8_1 run_stay0.sl.r_11 run_stay0.sl.r_10
  unfold run_stay0.sl.r_9 run_stay0.sl.r_8 run_stay0.sl.r_7 run_stay0.sl.r_6 run_stay0.sl.r_5 run_stay0.sl.r_4
  unfold run_stay0.sl.v35 run_stay0.sl.v40 run_stay0.sl.v53 run_stay0.sl.v60 run_stay0.sl.v65 run_stay0.sl.v78
  sl_step
  iapply Hk
  isplitl [HT0]; · iexact HT0
  isplitl [HT1]; · iexact HT1
  isplitl [H3]; · iexact H3
  isplitl [H4]; · iexact H4
  isplitl [H8]
  · iapply (stored_owns c arg8 f8 inb_S256x1024_S256x1024_0_0 _ _ (tile_eq c arg3 arg4 x g fg fu fd 0 k0lt2 _ _ ha hb
      (inbGu 0 0 k0lt2 k0lt4) (inbGu 0 1 k0lt2 k1lt4) (inbGu 0 2 k0lt2 k2lt4) (inbGu 0 3 k0lt2 k3lt4) (inbDn 0 0 k0lt2 k0lt2) (inbDn 0 1 k0lt2 k1lt2) _ _ _ rfl rfl rfl)) $$ H8
  isplitl [D0 D1 D2 D3 D4 D5]
  · isplitl [D0]; · iexact D0
    isplitl [D1]; · iexact D1
    isplitl [D2]; · iexact D2
    isplitl [D3]; · iexact D3
    isplitl [D4]; · iexact D4
    iexact D5
  iexists _; iexact HW

end Cert.KernelIdeal.Moe

end
-- ==== Proof.Moe.RunStay1.lean ====
/-
  A grid point inside a bucket, its matrices already in slot 1: it stores its tile.
-/
module

public import proofs.«01_k».proof.Proof.Moe.Tile

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- A grid point inside a bucket, its matrices already in slot 1: it stores its tile. -/
theorem run_stay1 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (hslot : T0 (planIx 4 t) = 1#32) (hfirst : T0 (planIx 3 t) = 0#32)
    (ha : (T0 (planIx 1 t)).toNat < 16) (hb : (T0 (planIx 2 t)).toNat < 16)
    (W : Waits sig Unit) (K : PUnit → sProp 𝕄) :
    iprop(heldAll c planM fullShare.right T0
        ∗ heldAll c nactM fullShare.right T1
        ∗ (arg3.view.loc (c : Thread nD τ) ↦[arg3.view.set]{fullShare} x)
        ∗ (arg4.view.loc (c : Thread nD τ) ↦[arg4.view.set]{fullShare} g)
        ∗ (∃ f, arg8.view.loc (c : Thread nD τ) ↦[arg8.view.set]{fullShare} f)
        ∗ haveSlot c fg fu fd 1 k1lt2 (T0 (planIx 1 t)).toNat (T0 (planIx 2 t)).toNat ha hb
        ∗ owes (c : Thread nD τ) 0 W
        ∗ (iprop(heldAll c planM fullShare.right T0
          ∗ heldAll c nactM fullShare.right T1
          ∗ (arg3.view.loc (c : Thread nD τ) ↦[arg3.view.set]{fullShare} x)
          ∗ (arg4.view.loc (c : Thread nD τ) ↦[arg4.view.set]{fullShare} g)
          ∗ owns (c : Thread nD τ) arg8 fullShare (tileAt c fg fu fd (arg3.view.read (Elt F) x) (arg4.view.read (Elt F) g) (T0 (planIx 1 t)).toNat (T0 (planIx 2 t)).toNat ha hb)
          ∗ haveSlot c fg fu fd 1 k1lt2 (T0 (planIx 1 t)).toNat (T0 (planIx 2 t)).toNat ha hb
          ∗ (∃ W', owes (c : Thread nD τ) 0 W')) -∗ K ⟨⟩))
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  simp only [cc0_moe_eq_skeleton]; unfold cc0_moe_skel
  iintro ⟨HT0, HT1, H3, H4, ⟨%f8, H8⟩, HV, HW, Hk⟩
  sl_exec
  have e0 : run_stay1.sl.r c T1 = T1 nactIx := by unfold run_stay1.sl.r; exact nact_read c T1 _ _
  rw [e0]
  sl_exec
  have e9 : run_stay1.sl.r_2 c i T0 = 1#32 := by unfold run_stay1.sl.r_2; exact (plan_read c T0 _ _ 4 t ((Gen.k0_off2_eq i).trans (by rw [hi]; rfl)) _).trans hslot
  rw [e9]
  have h9 : k0_chk9 i (T1 nactIx) 1#32 := chk9_of _ _ _ (.inr rfl)
  sl_exec
  have ef : run_stay1.sl.r_3 c i T0 = 0#32 := by unfold run_stay1.sl.r_3; exact (plan_read c T0 _ _ 3 t ((Gen.k0_off3_eq i).trans (by rw [hi]; rfl)) _).trans hfirst
  rw [ef]
  have hc1 : k0_chk1 i (T1 nactIx) 1#32 0#32 := chk1_of _ _ _ _ (.inr rfl)
  have c2 : ¬ k0_cond2 0#32 = 1#1 := by decide
  unfold haveSlot
  icases HV with ⟨D0, D1, D2, D3, D4, D5⟩
  sl_exec
  have ez : run_stay1.sl.r_12 c T1 = T1 nactIx := by unfold run_stay1.sl.r_12; exact nact_read c T1 _ _
  rw [ez, dif_neg h5]
  unfold run_stay1.sl.H8_1 run_stay1.sl.r_11 run_stay1.sl.r_10
  unfold run_stay1.sl.r_9 run_stay1.sl.r_8 run_stay1.sl.r_7 run_stay1.sl.r_6 run_stay1.sl.r_5 run_stay1.sl.r_4
  unfold run_stay1.sl.v35 run_stay1.sl.v40 run_stay1.sl.v53 run_stay1.sl.v60 run_stay1.sl.v65 run_stay1.sl.v78
  sl_step
  iapply Hk
  isplitl [HT0]; · iexact HT0
  isplitl [HT1]; · iexact HT1
  isplitl [H3]; · iexact H3
  isplitl [H4]; · iexact H4
  isplitl [H8]
  · iapply (stored_owns c arg8 f8 inb_S256x1024_S256x1024_0_0 _ _ (tile_eq c arg3 arg4 x g fg fu fd 1 k1lt2 _ _ ha hb
      (inbGu 1 0 k1lt2 k0lt4) (inbGu 1 1 k1lt2 k1lt4) (inbGu 1 2 k1lt2 k2lt4) (inbGu 1 3 k1lt2 k3lt4) (inbDn 1 0 k1lt2 k0lt2) (inbDn 1 1 k1lt2 k1lt2) _ _ _ rfl rfl rfl)) $$ H8
  isplitl [D0 D1 D2 D3 D4 D5]
  · isplitl [D0]; · iexact D0
    isplitl [D1]; · iexact D1
    isplitl [D2]; · iexact D2
    isplitl [D3]; · iexact D3
    isplitl [D4]; · iexact D4
    iexact D5
  iexists _; iexact HW

end Cert.KernelIdeal.Moe

end
-- ==== Proof.Moe.RunLast0.lean ====
/-
  The first tile of the last bucket: it waits for the six copies into slot 0 and stores its tile.
-/
module

public import proofs.«01_k».proof.Proof.Moe.Tile

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The first tile of the last bucket: it waits for the six copies into slot 0 and stores its tile. -/
theorem run_last0 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : ¬ k0_cond3 i = 1#1)
    (hslot : T0 (planIx 4 t) = 0#32) (hfirst : T0 (planIx 3 t) = 1#32) (hnext : T0 (planIx 7 t) = 0#32)
    (ha : (T0 (planIx 1 t)).toNat < 16) (hb : (T0 (planIx 2 t)).toNat < 16)
    (W : Waits sig Unit) (K : PUnit → sProp 𝕄) :
    iprop(heldAll c planM fullShare.right T0
        ∗ heldAll c nactM fullShare.right T1
        ∗ (arg3.view.loc (c : Thread nD τ) ↦[arg3.view.set]{fullShare} x)
        ∗ (arg4.view.loc (c : Thread nD τ) ↦[arg4.view.set]{fullShare} g)
        ∗ (∃ f, arg8.view.loc (c : Thread nD τ) ↦[arg8.view.set]{fullShare} f)
        ∗ Transfers.Batch (countersEmb (U := Pipeline.UD sig nD τ)) (c : Thread nD τ) (.dma 5) () credit
            (deliv c fg fu fd 0 k0lt2 (T0 (planIx 1 t)).toNat (T0 (planIx 2 t)).toNat ha hb) 6 0
        ∗ rests c fg fu fd (T0 (planIx 1 t)).toNat (T0 (planIx 2 t)).toNat ha hb
        ∗ owes (c : Thread nD τ) 0 W
        ∗ (iprop(heldAll c planM fullShare.right T0
          ∗ heldAll c nactM fullShare.right T1
          ∗ (arg3.view.loc (c : Thread nD τ) ↦[arg3.view.set]{fullShare} x)
          ∗ (arg4.view.loc (c : Thread nD τ) ↦[arg4.view.set]{fullShare} g)
          ∗ owns (c : Thread nD τ) arg8 fullShare (tileAt c fg fu fd (arg3.view.read (Elt F) x) (arg4.view.read (Elt F) g) (T0 (planIx 1 t)).toNat (T0 (planIx 2 t)).toNat ha hb)
          ∗ haveSlot c fg fu fd 0 k0lt2 (T0 (planIx 1 t)).toNat (T0 (planIx 2 t)).toNat ha hb
          ∗ semVal ((c : Thread nD τ), SemLoc.dma 5) 0
          ∗ weights c fg fu fd
          ∗ (∃ W', owes (c : Thread nD τ) 0 W')) -∗ K ⟨⟩))
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  simp only [cc0_moe_eq_skeleton]; unfold cc0_moe_skel
  iintro ⟨HT0, HT1, H3, H4, ⟨%f8, H8⟩, HB, HR, HW, Hk⟩
  sl_exec
  have e0 : run_last0.sl.r c T1 = T1 nactIx := by unfold run_last0.sl.r; exact nact_read c T1 _ _
  rw [e0]
  sl_exec
  have e9 : run_last0.sl.r_2 c i T0 = 0#32 := by unfold run_last0.sl.r_2; exact (plan_read c T0 _ _ 4 t ((Gen.k0_off2_eq i).trans (by rw [hi]; rfl)) _).trans hslot
  rw [e9]
  have h9 : k0_chk9 i (T1 nactIx) 0#32 := chk9_of _ _ _ (.inl rfl)
  sl_exec
  have ef : run_last0.sl.r_3 c i T0 = 1#32 := by unfold run_last0.sl.r_3; exact (plan_read c T0 _ _ 3 t ((Gen.k0_off3_eq i).trans (by rw [hi]; rfl)) _).trans hfirst
  rw [ef]
  have hc1 : k0_chk1 i (T1 nactIx) 0#32 1#32 := chk1_of _ _ _ _ (.inl rfl)
  have c2 : k0_cond2 1#32 = 1#1 := by decide
  sl_exec
  have ea : run_last0.sl.r_4 c i T0 = T0 (planIx 1 t) := by unfold run_last0.sl.r_4; exact (plan_read c T0 _ _ 1 t ((Gen.k0_off19_eq i).trans (by rw [hi]; rfl)) _)
  rw [ea]
  have hc4 : k0_chk4 i (T1 nactIx) 1#32 (T0 (planIx 1 t)) := chk4_of _ _ _ _ ha
  sl_exec
  have eb : run_last0.sl.r_5 c i T0 = T0 (planIx 2 t) := by unfold run_last0.sl.r_5; exact (plan_read c T0 _ _ 2 t ((Gen.k0_off20_eq i).trans (by rw [hi]; rfl)) _)
  rw [eb]
  have hc5 : k0_chk5 i (T1 nactIx) 1#32 (T0 (planIx 2 t)) := chk5_of _ _ _ _ hb
  sl_exec
  have eh : run_last0.sl.r_8 c i T0 = 0#32 := by unfold run_last0.sl.r_8; exact (plan_read c T0 _ _ 7 t ((Gen.k0_off34_eq i).trans (by rw [hi]; rfl)) _).trans hnext
  rw [eh]
  have hc6 : k0_chk6 i (T1 nactIx) 0#32 1#32 0#32 := chk6_of _ _ _ _ _ (.inl rfl)
  have c4 : ¬ k0_cond4 0#32 = 1#1 := by decide
  ihave HWt := (weights_join c fg fu fd _ _ ha hb) $$ [HB_src0 HB_src1 HB_src2 HB_src3 HB_src4 HB_src5 HR]
  · isplitr [HR]
    · unfold srcs
      isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    · iexact HR
  sl_exec
  have ez : run_last0.sl.r_17 c T1 = T1 nactIx := by unfold run_last0.sl.r_17; exact nact_read c T1 _ _
  rw [ez, dif_neg h5]
  unfold run_last0.sl.H8_1 run_last0.sl.r_16 run_last0.sl.r_15
  unfold run_last0.sl.r_14 run_last0.sl.r_13 run_last0.sl.r_12 run_last0.sl.r_11 run_last0.sl.r_10 run_last0.sl.r_9
  unfold run_last0.sl.v35 run_last0.sl.v40 run_last0.sl.v53 run_last0.sl.v60 run_last0.sl.v65 run_last0.sl.v78
  sl_step
  iapply Hk
  isplitl [HT0]; · iexact HT0
  isplitl [HT1]; · iexact HT1
  isplitl [H3]; · iexact H3
  isplitl [H4]; · iexact H4
  isplitl [H8]
  · iapply (stored_owns c arg8 f8 inb_S256x1024_S256x1024_0_0 _ _ (tile_eq c arg3 arg4 x g fg fu fd 0 k0lt2 _ _ ha hb
      (inbGu 0 0 k0lt2 k0lt4) (inbGu 0 1 k0lt2 k1lt4) (inbGu 0 2 k0lt2 k2lt4) (inbGu 0 3 k0lt2 k3lt4) (inbDn 0 0 k0lt2 k0lt2) (inbDn 0 1 k0lt2 k1lt2) _ _ _ rfl rfl rfl)) $$ H8
  isplitl [HB_dst0 HB_dst1 HB_dst2 HB_dst3 HB_dst4 HB_dst5]
  · unfold haveSlot
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  isplitl [HB]; · iexact HB
  isplitl [HWt]; · iexact HWt
  iexists _; iexact HW

end Cert.KernelIdeal.Moe

end
-- ==== Proof.Moe.RunLast1.lean ====
/-
  The first tile of the last bucket: it waits for the six copies into slot 1 and stores its tile.
-/
module

public import proofs.«01_k».proof.Proof.Moe.Tile

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The first tile of the last bucket: it waits for the six copies into slot 1 and stores its tile. -/
theorem run_last1 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : ¬ k0_cond3 i = 1#1)
    (hslot : T0 (planIx 4 t) = 1#32) (hfirst : T0 (planIx 3 t) = 1#32) (hnext : T0 (planIx 7 t) = 0#32)
    (ha : (T0 (planIx 1 t)).toNat < 16) (hb : (T0 (planIx 2 t)).toNat < 16)
    (W : Waits sig Unit) (K : PUnit → sProp 𝕄) :
    iprop(heldAll c planM fullShare.right T0
        ∗ heldAll c nactM fullShare.right T1
        ∗ (arg3.view.loc (c : Thread nD τ) ↦[arg3.view.set]{fullShare} x)
        ∗ (arg4.view.loc (c : Thread nD τ) ↦[arg4.view.set]{fullShare} g)
        ∗ (∃ f, arg8.view.loc (c : Thread nD τ) ↦[arg8.view.set]{fullShare} f)
        ∗ Transfers.Batch (countersEmb (U := Pipeline.UD sig nD τ)) (c : Thread nD τ) (.dma 6) () credit
            (deliv c fg fu fd 1 k1lt2 (T0 (planIx 1 t)).toNat (T0 (planIx 2 t)).toNat ha hb) 6 0
        ∗ rests c fg fu fd (T0 (planIx 1 t)).toNat (T0 (planIx 2 t)).toNat ha hb
        ∗ owes (c : Thread nD τ) 0 W
        ∗ (iprop(heldAll c planM fullShare.right T0
          ∗ heldAll c nactM fullShare.right T1
          ∗ (arg3.view.loc (c : Thread nD τ) ↦[arg3.view.set]{fullShare} x)
          ∗ (arg4.view.loc (c : Thread nD τ) ↦[arg4.view.set]{fullShare} g)
          ∗ owns (c : Thread nD τ) arg8 fullShare (tileAt c fg fu fd (arg3.view.read (Elt F) x) (arg4.view.read (Elt F) g) (T0 (planIx 1 t)).toNat (T0 (planIx 2 t)).toNat ha hb)
          ∗ haveSlot c fg fu fd 1 k1lt2 (T0 (planIx 1 t)).toNat (T0 (planIx 2 t)).toNat ha hb
          ∗ semVal ((c : Thread nD τ), SemLoc.dma 6) 0
          ∗ weights c fg fu fd
          ∗ (∃ W', owes (c : Thread nD τ) 0 W')) -∗ K ⟨⟩))
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  simp only [cc0_moe_eq_skeleton]; unfold cc0_moe_skel
  iintro ⟨HT0, HT1, H3, H4, ⟨%f8, H8⟩, HB, HR, HW, Hk⟩
  sl_exec
  have e0 : run_last1.sl.r c T1 = T1 nactIx := by unfold run_last1.sl.r; exact nact_read c T1 _ _
  rw [e0]
  sl_exec
  have e9 : run_last1.sl.r_2 c i T0 = 1#32 := by unfold run_last1.sl.r_2; exact (plan_read c T0 _ _ 4 t ((Gen.k0_off2_eq i).trans (by rw [hi]; rfl)) _).trans hslot
  rw [e9]
  have h9 : k0_chk9 i (T1 nactIx) 1#32 := chk9_of _ _ _ (.inr rfl)
  sl_exec
  have ef : run_last1.sl.r_3 c i T0 = 1#32 := by unfold run_last1.sl.r_3; exact (plan_read c T0 _ _ 3 t ((Gen.k0_off3_eq i).trans (by rw [hi]; rfl)) _).trans hfirst
  rw [ef]
  have hc1 : k0_chk1 i (T1 nactIx) 1#32 1#32 := chk1_of _ _ _ _ (.inr rfl)
  have c2 : k0_cond2 1#32 = 1#1 := by decide
  sl_exec
  have ea : run_last1.sl.r_4 c i T0 = T0 (planIx 1 t) := by unfold run_last1.sl.r_4; exact (plan_read c T0 _ _ 1 t ((Gen.k0_off19_eq i).trans (by rw [hi]; rfl)) _)
  rw [ea]
  have hc4 : k0_chk4 i (T1 nactIx) 1#32 (T0 (planIx 1 t)) := chk4_of _ _ _ _ ha
  sl_exec
  have eb : run_last1.sl.r_5 c i T0 = T0 (planIx 2 t) := by unfold run_last1.sl.r_5; exact (plan_read c T0 _ _ 2 t ((Gen.k0_off20_eq i).trans (by rw [hi]; rfl)) _)
  rw [eb]
  have hc5 : k0_chk5 i (T1 nactIx) 1#32 (T0 (planIx 2 t)) := chk5_of _ _ _ _ hb
  sl_exec
  have eh : run_last1.sl.r_8 c i T0 = 0#32 := by unfold run_last1.sl.r_8; exact (plan_read c T0 _ _ 7 t ((Gen.k0_off34_eq i).trans (by rw [hi]; rfl)) _).trans hnext
  rw [eh]
  have hc6 : k0_chk6 i (T1 nactIx) 1#32 1#32 0#32 := chk6_of _ _ _ _ _ (.inr rfl)
  have c4 : ¬ k0_cond4 0#32 = 1#1 := by decide
  ihave HWt := (weights_join c fg fu fd _ _ ha hb) $$ [HB_src0 HB_src1 HB_src2 HB_src3 HB_src4 HB_src5 HR]
  · isplitr [HR]
    · unfold srcs
      isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    · iexact HR
  sl_exec
  have ez : run_last1.sl.r_17 c T1 = T1 nactIx := by unfold run_last1.sl.r_17; exact nact_read c T1 _ _
  rw [ez, dif_neg h5]
  unfold run_last1.sl.H8_1 run_last1.sl.r_16 run_last1.sl.r_15
  unfold run_last1.sl.r_14 run_last1.sl.r_13 run_last1.sl.r_12 run_last1.sl.r_11 run_last1.sl.r_10 run_last1.sl.r_9
  unfold run_last1.sl.v35 run_last1.sl.v40 run_last1.sl.v53 run_last1.sl.v60 run_last1.sl.v65 run_last1.sl.v78
  sl_step
  iapply Hk
  isplitl [HT0]; · iexact HT0
  isplitl [HT1]; · iexact HT1
  isplitl [H3]; · iexact H3
  isplitl [H4]; · iexact H4
  isplitl [H8]
  · iapply (stored_owns c arg8 f8 inb_S256x1024_S256x1024_0_0 _ _ (tile_eq c arg3 arg4 x g fg fu fd 1 k1lt2 _ _ ha hb
      (inbGu 1 0 k1lt2 k0lt4) (inbGu 1 1 k1lt2 k1lt4) (inbGu 1 2 k1lt2 k2lt4) (inbGu 1 3 k1lt2 k3lt4) (inbDn 1 0 k1lt2 k0lt2) (inbDn 1 1 k1lt2 k1lt2) _ _ _ rfl rfl rfl)) $$ H8
  isplitl [HB_dst0 HB_dst1 HB_dst2 HB_dst3 HB_dst4 HB_dst5]
  · unfold haveSlot
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  isplitl [HB]; · iexact HB
  isplitl [HWt]; · iexact HWt
  iexists _; iexact HW

end Cert.KernelIdeal.Moe

end
-- ==== Proof.Moe.RunTurn0.lean ====
/-
  The first tile of a bucket with another to come: it waits for the six copies into slot 0, starts the
  six of the next bucket into the other slot, and stores its tile.
-/
module

public import proofs.«01_k».proof.Proof.Moe.Tile

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The first tile of a bucket with another to come: it waits for the six copies into slot 0, starts the six of the next bucket into the other slot, and stores its tile. -/
theorem run_turn0 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : ¬ k0_cond3 i = 1#1)
    (hslot : T0 (planIx 4 t) = 0#32) (hfirst : T0 (planIx 3 t) = 1#32) (hnext : T0 (planIx 7 t) = 1#32)
    (ha : (T0 (planIx 1 t)).toNat < 16) (hb : (T0 (planIx 2 t)).toNat < 16)
    (hna : (T0 (planIx 5 t)).toNat < 16) (hnb : (T0 (planIx 6 t)).toNat < 16)
    (W : Waits sig Unit) (K : PUnit → sProp 𝕄) :
    iprop(heldAll c planM fullShare.right T0
        ∗ heldAll c nactM fullShare.right T1
        ∗ (arg3.view.loc (c : Thread nD τ) ↦[arg3.view.set]{fullShare} x)
        ∗ (arg4.view.loc (c : Thread nD τ) ↦[arg4.view.set]{fullShare} g)
        ∗ (∃ f, arg8.view.loc (c : Thread nD τ) ↦[arg8.view.set]{fullShare} f)
        ∗ Transfers.Batch (countersEmb (U := Pipeline.UD sig nD τ)) (c : Thread nD τ) (.dma 5) () credit
            (deliv c fg fu fd 0 k0lt2 (T0 (planIx 1 t)).toNat (T0 (planIx 2 t)).toNat ha hb) 6 0
        ∗ rests c fg fu fd (T0 (planIx 1 t)).toNat (T0 (planIx 2 t)).toNat ha hb
        ∗ semVal ((c : Thread nD τ), SemLoc.dma 6) 0
        ∗ freeSlot (F := F) c 1 k1lt2
        ∗ owes (c : Thread nD τ) 0 W
        ∗ (iprop(heldAll c planM fullShare.right T0
          ∗ heldAll c nactM fullShare.right T1
          ∗ (arg3.view.loc (c : Thread nD τ) ↦[arg3.view.set]{fullShare} x)
          ∗ (arg4.view.loc (c : Thread nD τ) ↦[arg4.view.set]{fullShare} g)
          ∗ owns (c : Thread nD τ) arg8 fullShare (tileAt c fg fu fd (arg3.view.read (Elt F) x) (arg4.view.read (Elt F) g) (T0 (planIx 1 t)).toNat (T0 (planIx 2 t)).toNat ha hb)
          ∗ haveSlot c fg fu fd 0 k0lt2 (T0 (planIx 1 t)).toNat (T0 (planIx 2 t)).toNat ha hb
          ∗ semVal ((c : Thread nD τ), SemLoc.dma 5) 0
          ∗ Transfers.Batch (countersEmb (U := Pipeline.UD sig nD τ)) (c : Thread nD τ) (.dma 6) () credit
            (deliv c fg fu fd 1 k1lt2 (T0 (planIx 5 t)).toNat (T0 (planIx 6 t)).toNat hna hnb) 6 0
          ∗ rests c fg fu fd (T0 (planIx 5 t)).toNat (T0 (planIx 6 t)).toNat hna hnb
          ∗ (∃ W', owes (c : Thread nD τ) 0 W')) -∗ K ⟨⟩))
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  simp only [cc0_moe_eq_skeleton]; unfold cc0_moe_skel
  iintro ⟨HT0, HT1, H3, H4, ⟨%f8, H8⟩, HB, HR, Hcell, HF, HW, Hk⟩
  sl_exec
  have e0 : run_turn0.sl.r c T1 = T1 nactIx := by unfold run_turn0.sl.r; exact nact_read c T1 _ _
  rw [e0]
  sl_exec
  have e9 : run_turn0.sl.r_2 c i T0 = 0#32 := by unfold run_turn0.sl.r_2; exact (plan_read c T0 _ _ 4 t ((Gen.k0_off2_eq i).trans (by rw [hi]; rfl)) _).trans hslot
  rw [e9]
  have h9 : k0_chk9 i (T1 nactIx) 0#32 := chk9_of _ _ _ (.inl rfl)
  sl_exec
  have ef : run_turn0.sl.r_3 c i T0 = 1#32 := by unfold run_turn0.sl.r_3; exact (plan_read c T0 _ _ 3 t ((Gen.k0_off3_eq i).trans (by rw [hi]; rfl)) _).trans hfirst
  rw [ef]
  have hc1 : k0_chk1 i (T1 nactIx) 0#32 1#32 := chk1_of _ _ _ _ (.inl rfl)
  have c2 : k0_cond2 1#32 = 1#1 := by decide
  sl_exec
  have ea : run_turn0.sl.r_4 c i T0 = T0 (planIx 1 t) := by unfold run_turn0.sl.r_4; exact (plan_read c T0 _ _ 1 t ((Gen.k0_off19_eq i).trans (by rw [hi]; rfl)) _)
  rw [ea]
  have hc4 : k0_chk4 i (T1 nactIx) 1#32 (T0 (planIx 1 t)) := chk4_of _ _ _ _ ha
  sl_exec
  have eb : run_turn0.sl.r_5 c i T0 = T0 (planIx 2 t) := by unfold run_turn0.sl.r_5; exact (plan_read c T0 _ _ 2 t ((Gen.k0_off20_eq i).trans (by rw [hi]; rfl)) _)
  rw [eb]
  have hc5 : k0_chk5 i (T1 nactIx) 1#32 (T0 (planIx 2 t)) := chk5_of _ _ _ _ hb
  sl_exec
  have eh : run_turn0.sl.r_8 c i T0 = 1#32 := by unfold run_turn0.sl.r_8; exact (plan_read c T0 _ _ 7 t ((Gen.k0_off34_eq i).trans (by rw [hi]; rfl)) _).trans hnext
  rw [eh]
  have hc6 : k0_chk6 i (T1 nactIx) 0#32 1#32 1#32 := chk6_of _ _ _ _ _ (.inl rfl)
  have c4 : k0_cond4 1#32 = 1#1 := by decide
  ihave HWt := (weights_join c fg fu fd _ _ ha hb) $$ [HB_src0 HB_src1 HB_src2 HB_src3 HB_src4 HB_src5 HR]
  · isplitr [HR]
    · unfold srcs
      isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    · iexact HR
  ihave Z := (weights_cut c fg fu fd _ _ hna hnb) $$ HWt
  unfold srcs freeSlot
  icases Z with ⟨⟨S0, S1, S2, S3, S4, S5⟩, HR⟩
  icases HF with ⟨⟨%f0, G0⟩, ⟨%f1, G1⟩, ⟨%f2, G2⟩, ⟨%f3, G3⟩, ⟨%f4, G4⟩, ⟨%f5, G5⟩⟩
  imod (Transfers.batch_alloc' (Lvl := ℕ) (countersEmb (U := Pipeline.UD sig nD τ)) (c : Thread nD τ) () credit
      (deliv c fg fu fd 1 k1lt2 (T0 (planIx 5 t)).toNat (T0 (planIx 6 t)).toNat hna hnb) (sm := .dma 6) (E := Set.univ)) $$ Hcell with HN
  sl_exec
  have en : run_turn0.sl.r_9 c i T0 = T0 (planIx 5 t) := by unfold run_turn0.sl.r_9; exact (plan_read c T0 _ _ 5 t ((Gen.k0_off35_eq i).trans (by rw [hi]; rfl)) _)
  rw [en]
  have hc7 : k0_chk7 i (T1 nactIx) 1#32 1#32 (T0 (planIx 5 t)) := chk7_of _ _ _ _ _ hna
  sl_exec
  have em : run_turn0.sl.r_10 c i T0 = T0 (planIx 6 t) := by unfold run_turn0.sl.r_10; exact (plan_read c T0 _ _ 6 t ((Gen.k0_off36_eq i).trans (by rw [hi]; rfl)) _)
  rw [em]
  have hc8 : k0_chk8 i (T1 nactIx) 1#32 1#32 (T0 (planIx 6 t)) := chk8_of _ _ _ _ _ hnb
  sl_exec
  have ez : run_turn0.sl.r_21 c T1 = T1 nactIx := by unfold run_turn0.sl.r_21; exact nact_read c T1 _ _
  rw [ez, dif_neg h5]
  unfold run_turn0.sl.H8_1 run_turn0.sl.r_20 run_turn0.sl.r_19
  unfold run_turn0.sl.r_18 run_turn0.sl.r_17 run_turn0.sl.r_16 run_turn0.sl.r_15 run_turn0.sl.r_14 run_turn0.sl.r_13
  unfold run_turn0.sl.v35 run_turn0.sl.v40 run_turn0.sl.v53 run_turn0.sl.v60 run_turn0.sl.v65 run_turn0.sl.v78
  sl_step
  iapply Hk
  isplitl [HT0]; · iexact HT0
  isplitl [HT1]; · iexact HT1
  isplitl [H3]; · iexact H3
  isplitl [H4]; · iexact H4
  isplitl [H8]
  · iapply (stored_owns c arg8 f8 inb_S256x1024_S256x1024_0_0 _ _ (tile_eq c arg3 arg4 x g fg fu fd 0 k0lt2 _ _ ha hb
      (inbGu 0 0 k0lt2 k0lt4) (inbGu 0 1 k0lt2 k1lt4) (inbGu 0 2 k0lt2 k2lt4) (inbGu 0 3 k0lt2 k3lt4) (inbDn 0 0 k0lt2 k0lt2) (inbDn 0 1 k0lt2 k1lt2) _ _ _ rfl rfl rfl)) $$ H8
  isplitl [HB_dst0 HB_dst1 HB_dst2 HB_dst3 HB_dst4 HB_dst5]
  · unfold haveSlot
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  isplitl [HB]; · iexact HB
  isplitl [HN]; · iexact HN
  isplitl [HR]; · iexact HR
  iexists _; iexact HW

end Cert.KernelIdeal.Moe

end
-- ==== Proof.Moe.RunTurn1.lean ====
/-
  The first tile of a bucket with another to come: it waits for the six copies into slot 1, starts the
  six of the next bucket into the other slot, and stores its tile.
-/
module

public import proofs.«01_k».proof.Proof.Moe.Tile

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The first tile of a bucket with another to come: it waits for the six copies into slot 1, starts the six of the next bucket into the other slot, and stores its tile. -/
theorem run_turn1 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : ¬ k0_cond3 i = 1#1)
    (hslot : T0 (planIx 4 t) = 1#32) (hfirst : T0 (planIx 3 t) = 1#32) (hnext : T0 (planIx 7 t) = 1#32)
    (ha : (T0 (planIx 1 t)).toNat < 16) (hb : (T0 (planIx 2 t)).toNat < 16)
    (hna : (T0 (planIx 5 t)).toNat < 16) (hnb : (T0 (planIx 6 t)).toNat < 16)
    (W : Waits sig Unit) (K : PUnit → sProp 𝕄) :
    iprop(heldAll c planM fullShare.right T0
        ∗ heldAll c nactM fullShare.right T1
        ∗ (arg3.view.loc (c : Thread nD τ) ↦[arg3.view.set]{fullShare} x)
        ∗ (arg4.view.loc (c : Thread nD τ) ↦[arg4.view.set]{fullShare} g)
        ∗ (∃ f, arg8.view.loc (c : Thread nD τ) ↦[arg8.view.set]{fullShare} f)
        ∗ Transfers.Batch (countersEmb (U := Pipeline.UD sig nD τ)) (c : Thread nD τ) (.dma 6) () credit
            (deliv c fg fu fd 1 k1lt2 (T0 (planIx 1 t)).toNat (T0 (planIx 2 t)).toNat ha hb) 6 0
        ∗ rests c fg fu fd (T0 (planIx 1 t)).toNat (T0 (planIx 2 t)).toNat ha hb
        ∗ semVal ((c : Thread nD τ), SemLoc.dma 5) 0
        ∗ freeSlot (F := F) c 0 k0lt2
        ∗ owes (c : Thread nD τ) 0 W
        ∗ (iprop(heldAll c planM fullShare.right T0
          ∗ heldAll c nactM fullShare.right T1
          ∗ (arg3.view.loc (c : Thread nD τ) ↦[arg3.view.set]{fullShare} x)
          ∗ (arg4.view.loc (c : Thread nD τ) ↦[arg4.view.set]{fullShare} g)
          ∗ owns (c : Thread nD τ) arg8 fullShare (tileAt c fg fu fd (arg3.view.read (Elt F) x) (arg4.view.read (Elt F) g) (T0 (planIx 1 t)).toNat (T0 (planIx 2 t)).toNat ha hb)
          ∗ haveSlot c fg fu fd 1 k1lt2 (T0 (planIx 1 t)).toNat (T0 (planIx 2 t)).toNat ha hb
          ∗ semVal ((c : Thread nD τ), SemLoc.dma 6) 0
          ∗ Transfers.Batch (countersEmb (U := Pipeline.UD sig nD τ)) (c : Thread nD τ) (.dma 5) () credit
            (deliv c fg fu fd 0 k0lt2 (T0 (planIx 5 t)).toNat (T0 (planIx 6 t)).toNat hna hnb) 6 0
          ∗ rests c fg fu fd (T0 (planIx 5 t)).toNat (T0 (planIx 6 t)).toNat hna hnb
          ∗ (∃ W', owes (c : Thread nD τ) 0 W')) -∗ K ⟨⟩))
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  simp only [cc0_moe_eq_skeleton]; unfold cc0_moe_skel
  iintro ⟨HT0, HT1, H3, H4, ⟨%f8, H8⟩, HB, HR, Hcell, HF, HW, Hk⟩
  sl_exec
  have e0 : run_turn1.sl.r c T1 = T1 nactIx := by unfold run_turn1.sl.r; exact nact_read c T1 _ _
  rw [e0]
  sl_exec
  have e9 : run_turn1.sl.r_2 c i T0 = 1#32 := by unfold run_turn1.sl.r_2; exact (plan_read c T0 _ _ 4 t ((Gen.k0_off2_eq i).trans (by rw [hi]; rfl)) _).trans hslot
  rw [e9]
  have h9 : k0_chk9 i (T1 nactIx) 1#32 := chk9_of _ _ _ (.inr rfl)
  sl_exec
  have ef : run_turn1.sl.r_3 c i T0 = 1#32 := by unfold run_turn1.sl.r_3; exact (plan_read c T0 _ _ 3 t ((Gen.k0_off3_eq i).trans (by rw [hi]; rfl)) _).trans hfirst
  rw [ef]
  have hc1 : k0_chk1 i (T1 nactIx) 1#32 1#32 := chk1_of _ _ _ _ (.inr rfl)
  have c2 : k0_cond2 1#32 = 1#1 := by decide
  sl_exec
  have ea : run_turn1.sl.r_4 c i T0 = T0 (planIx 1 t) := by unfold run_turn1.sl.r_4; exact (plan_read c T0 _ _ 1 t ((Gen.k0_off19_eq i).trans (by rw [hi]; rfl)) _)
  rw [ea]
  have hc4 : k0_chk4 i (T1 nactIx) 1#32 (T0 (planIx 1 t)) := chk4_of _ _ _ _ ha
  sl_exec
  have eb : run_turn1.sl.r_5 c i T0 = T0 (planIx 2 t) := by unfold run_turn1.sl.r_5; exact (plan_read c T0 _ _ 2 t ((Gen.k0_off20_eq i).trans (by rw [hi]; rfl)) _)
  rw [eb]
  have hc5 : k0_chk5 i (T1 nactIx) 1#32 (T0 (planIx 2 t)) := chk5_of _ _ _ _ hb
  sl_exec
  have eh : run_turn1.sl.r_8 c i T0 = 1#32 := by unfold run_turn1.sl.r_8; exact (plan_read c T0 _ _ 7 t ((Gen.k0_off34_eq i).trans (by rw [hi]; rfl)) _).trans hnext
  rw [eh]
  have hc6 : k0_chk6 i (T1 nactIx) 1#32 1#32 1#32 := chk6_of _ _ _ _ _ (.inr rfl)
  have c4 : k0_cond4 1#32 = 1#1 := by decide
  ihave HWt := (weights_join c fg fu fd _ _ ha hb) $$ [HB_src0 HB_src1 HB_src2 HB_src3 HB_src4 HB_src5 HR]
  · isplitr [HR]
    · unfold srcs
      isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    · iexact HR
  ihave Z := (weights_cut c fg fu fd _ _ hna hnb) $$ HWt
  unfold srcs freeSlot
  icases Z with ⟨⟨S0, S1, S2, S3, S4, S5⟩, HR⟩
  icases HF with ⟨⟨%f0, G0⟩, ⟨%f1, G1⟩, ⟨%f2, G2⟩, ⟨%f3, G3⟩, ⟨%f4, G4⟩, ⟨%f5, G5⟩⟩
  imod (Transfers.batch_alloc' (Lvl := ℕ) (countersEmb (U := Pipeline.UD sig nD τ)) (c : Thread nD τ) () credit
      (deliv c fg fu fd 0 k0lt2 (T0 (planIx 5 t)).toNat (T0 (planIx 6 t)).toNat hna hnb) (sm := .dma 5) (E := Set.univ)) $$ Hcell with HN
  sl_exec
  have en : run_turn1.sl.r_9 c i T0 = T0 (planIx 5 t) := by unfold run_turn1.sl.r_9; exact (plan_read c T0 _ _ 5 t ((Gen.k0_off35_eq i).trans (by rw [hi]; rfl)) _)
  rw [en]
  have hc7 : k0_chk7 i (T1 nactIx) 1#32 1#32 (T0 (planIx 5 t)) := chk7_of _ _ _ _ _ hna
  sl_exec
  have em : run_turn1.sl.r_10 c i T0 = T0 (planIx 6 t) := by unfold run_turn1.sl.r_10; exact (plan_read c T0 _ _ 6 t ((Gen.k0_off36_eq i).trans (by rw [hi]; rfl)) _)
  rw [em]
  have hc8 : k0_chk8 i (T1 nactIx) 1#32 1#32 (T0 (planIx 6 t)) := chk8_of _ _ _ _ _ hnb
  sl_exec
  have ez : run_turn1.sl.r_21 c T1 = T1 nactIx := by unfold run_turn1.sl.r_21; exact nact_read c T1 _ _
  rw [ez, dif_neg h5]
  unfold run_turn1.sl.H8_1 run_turn1.sl.r_20 run_turn1.sl.r_19
  unfold run_turn1.sl.r_18 run_turn1.sl.r_17 run_turn1.sl.r_16 run_turn1.sl.r_15 run_turn1.sl.r_14 run_turn1.sl.r_13
  unfold run_turn1.sl.v35 run_turn1.sl.v40 run_turn1.sl.v53 run_turn1.sl.v60 run_turn1.sl.v65 run_turn1.sl.v78
  sl_step
  iapply Hk
  isplitl [HT0]; · iexact HT0
  isplitl [HT1]; · iexact HT1
  isplitl [H3]; · iexact H3
  isplitl [H4]; · iexact H4
  isplitl [H8]
  · iapply (stored_owns c arg8 f8 inb_S256x1024_S256x1024_0_0 _ _ (tile_eq c arg3 arg4 x g fg fu fd 1 k1lt2 _ _ ha hb
      (inbGu 1 0 k1lt2 k0lt4) (inbGu 1 1 k1lt2 k1lt4) (inbGu 1 2 k1lt2 k2lt4) (inbGu 1 3 k1lt2 k3lt4) (inbDn 1 0 k1lt2 k0lt2) (inbDn 1 1 k1lt2 k1lt2) _ _ _ rfl rfl rfl)) $$ H8
  isplitl [HB_dst0 HB_dst1 HB_dst2 HB_dst3 HB_dst4 HB_dst5]
  · unfold haveSlot
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  isplitl [HB]; · iexact HB
  isplitl [HN]; · iexact HN
  isplitl [HR]; · iexact HR
  iexists _; iexact HW

end Cert.KernelIdeal.Moe

end
-- ==== Proof.Moe.RunOnly.lean ====
/-
  The first grid point when there is one bucket: it starts its own six copies, waits for them and stores its tile.
-/
module

public import proofs.«01_k».proof.Proof.Moe.Tile

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The first grid point when there is one bucket: it starts its own six copies, waits for them and stores its tile. -/
theorem run_only (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : k0_cond3 i = 1#1)
    (hslot : T0 (planIx 4 t) = 0#32) (hfirst : T0 (planIx 3 t) = 1#32) (hnext : T0 (planIx 7 t) = 0#32)
    (ha : (T0 (planIx 1 t)).toNat < 16) (hb : (T0 (planIx 2 t)).toNat < 16)
    (W : Waits sig Unit) (K : PUnit → sProp 𝕄) :
    iprop(heldAll c planM fullShare.right T0
        ∗ heldAll c nactM fullShare.right T1
        ∗ (arg3.view.loc (c : Thread nD τ) ↦[arg3.view.set]{fullShare} x)
        ∗ (arg4.view.loc (c : Thread nD τ) ↦[arg4.view.set]{fullShare} g)
        ∗ (∃ f, arg8.view.loc (c : Thread nD τ) ↦[arg8.view.set]{fullShare} f)
        ∗ weights c fg fu fd
        ∗ semVal ((c : Thread nD τ), SemLoc.dma 5) 0
        ∗ freeSlot (F := F) c 0 k0lt2
        ∗ owes (c : Thread nD τ) 0 W
        ∗ (iprop(heldAll c planM fullShare.right T0
          ∗ heldAll c nactM fullShare.right T1
          ∗ (arg3.view.loc (c : Thread nD τ) ↦[arg3.view.set]{fullShare} x)
          ∗ (arg4.view.loc (c : Thread nD τ) ↦[arg4.view.set]{fullShare} g)
          ∗ owns (c : Thread nD τ) arg8 fullShare (tileAt c fg fu fd (arg3.view.read (Elt F) x) (arg4.view.read (Elt F) g) (T0 (planIx 1 t)).toNat (T0 (planIx 2 t)).toNat ha hb)
          ∗ haveSlot c fg fu fd 0 k0lt2 (T0 (planIx 1 t)).toNat (T0 (planIx 2 t)).toNat ha hb
          ∗ semVal ((c : Thread nD τ), SemLoc.dma 5) 0
          ∗ weights c fg fu fd
          ∗ (∃ W', owes (c : Thread nD τ) 0 W')) -∗ K ⟨⟩))
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  simp only [cc0_moe_eq_skeleton]; unfold cc0_moe_skel
  iintro ⟨HT0, HT1, H3, H4, ⟨%f8, H8⟩, HWt, HC, HF0, HW, Hk⟩
  sl_exec
  have e0 : run_only.sl.r c T1 = T1 nactIx := by unfold run_only.sl.r; exact nact_read c T1 _ _
  rw [e0]
  sl_exec
  have e9 : run_only.sl.r_2 c i T0 = 0#32 := by unfold run_only.sl.r_2; exact (plan_read c T0 _ _ 4 t ((Gen.k0_off2_eq i).trans (by rw [hi]; rfl)) _).trans hslot
  rw [e9]
  have h9 : k0_chk9 i (T1 nactIx) 0#32 := chk9_of _ _ _ (.inl rfl)
  sl_exec
  have ef : run_only.sl.r_3 c i T0 = 1#32 := by unfold run_only.sl.r_3; exact (plan_read c T0 _ _ 3 t ((Gen.k0_off3_eq i).trans (by rw [hi]; rfl)) _).trans hfirst
  rw [ef]
  have hc1 : k0_chk1 i (T1 nactIx) 0#32 1#32 := chk1_of _ _ _ _ (.inl rfl)
  have c2 : k0_cond2 1#32 = 1#1 := by decide
  sl_exec
  ihave Z := (weights_cut c fg fu fd _ _ ha hb) $$ HWt
  unfold srcs freeSlot
  icases Z with ⟨⟨S0, S1, S2, S3, S4, S5⟩, HR⟩
  icases HF0 with ⟨⟨%p0, P0⟩, ⟨%p1, P1⟩, ⟨%p2, P2⟩, ⟨%p3, P3⟩, ⟨%p4, P4⟩, ⟨%p5, P5⟩⟩
  imod (Transfers.batch_alloc' (Lvl := ℕ) (countersEmb (U := Pipeline.UD sig nD τ)) (c : Thread nD τ) () credit
      (deliv c fg fu fd 0 k0lt2 (T0 (planIx 1 t)).toNat (T0 (planIx 2 t)).toNat ha hb) (sm := .dma 5) (E := Set.univ)) $$ HC with HB
  have ea0 : run_only.sl.r_4 c i T0 h3 = T0 (planIx 1 t) := by unfold run_only.sl.r_4; exact (plan_read c T0 _ _ 1 t ((Gen.k0_off4_eq i).trans (by rw [hi]; rfl)) _)
  rw [ea0]
  have hc2 : k0_chk2 i (T1 nactIx) 1#32 (T0 (planIx 1 t)) := chk2_of _ _ _ _ ha
  sl_exec
  have eb0 : run_only.sl.r_5 c i T0 h3 = T0 (planIx 2 t) := by unfold run_only.sl.r_5; exact (plan_read c T0 _ _ 2 t ((Gen.k0_off5_eq i).trans (by rw [hi]; rfl)) _)
  rw [eb0]
  have hc3 : k0_chk3 i (T1 nactIx) 1#32 (T0 (planIx 2 t)) := chk3_of _ _ _ _ hb
  sl_exec
  have ea : run_only.sl.r_8 c i T0 = T0 (planIx 1 t) := by unfold run_only.sl.r_8; exact (plan_read c T0 _ _ 1 t ((Gen.k0_off19_eq i).trans (by rw [hi]; rfl)) _)
  rw [ea]
  have hc4 : k0_chk4 i (T1 nactIx) 1#32 (T0 (planIx 1 t)) := chk4_of _ _ _ _ ha
  sl_exec
  have eb : run_only.sl.r_9 c i T0 = T0 (planIx 2 t) := by unfold run_only.sl.r_9; exact (plan_read c T0 _ _ 2 t ((Gen.k0_off20_eq i).trans (by rw [hi]; rfl)) _)
  rw [eb]
  have hc5 : k0_chk5 i (T1 nactIx) 1#32 (T0 (planIx 2 t)) := chk5_of _ _ _ _ hb
  sl_exec
  have eh : run_only.sl.r_12 c i T0 = 0#32 := by unfold run_only.sl.r_12; exact (plan_read c T0 _ _ 7 t ((Gen.k0_off34_eq i).trans (by rw [hi]; rfl)) _).trans hnext
  rw [eh]
  have hc6 : k0_chk6 i (T1 nactIx) 0#32 1#32 0#32 := chk6_of _ _ _ _ _ (.inl rfl)
  have c4 : ¬ k0_cond4 0#32 = 1#1 := by decide
  ihave HWt := (weights_join c fg fu fd _ _ ha hb) $$ [HB_src0 HB_src1 HB_src2 HB_src3 HB_src4 HB_src5 HR]
  · isplitr [HR]
    · unfold srcs
      isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    · iexact HR
  sl_exec
  have ez : run_only.sl.r_21 c T1 = T1 nactIx := by unfold run_only.sl.r_21; exact nact_read c T1 _ _
  rw [ez, dif_neg h5]
  unfold run_only.sl.H8_1 run_only.sl.r_20 run_only.sl.r_19
  unfold run_only.sl.r_18 run_only.sl.r_17 run_only.sl.r_16 run_only.sl.r_15 run_only.sl.r_14 run_only.sl.r_13
  unfold run_only.sl.v35 run_only.sl.v40 run_only.sl.v53 run_only.sl.v60 run_only.sl.v65 run_only.sl.v78
  sl_step
  iapply Hk
  isplitl [HT0]; · iexact HT0
  isplitl [HT1]; · iexact HT1
  isplitl [H3]; · iexact H3
  isplitl [H4]; · iexact H4
  isplitl [H8]
  · iapply (stored_owns c arg8 f8 inb_S256x1024_S256x1024_0_0 _ _ (tile_eq c arg3 arg4 x g fg fu fd 0 k0lt2 _ _ ha hb
      (inbGu 0 0 k0lt2 k0lt4) (inbGu 0 1 k0lt2 k1lt4) (inbGu 0 2 k0lt2 k2lt4) (inbGu 0 3 k0lt2 k3lt4) (inbDn 0 0 k0lt2 k0lt2) (inbDn 0 1 k0lt2 k1lt2) _ _ _ rfl rfl rfl)) $$ H8
  isplitl [HB_dst0 HB_dst1 HB_dst2 HB_dst3 HB_dst4 HB_dst5]
  · unfold haveSlot
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  isplitl [HB]; · iexact HB
  isplitl [HWt]; · iexact HWt
  iexists _; iexact HW

end Cert.KernelIdeal.Moe

end
-- ==== Proof.Moe.RunOpen.lean ====
/-
  The first grid point when there is another bucket: it starts its own six copies, waits for them, starts the next
  bucket's six into the other slot, and stores its tile.
-/
module

public import proofs.«01_k».proof.Proof.Moe.Tile

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The first grid point when there is another bucket: it starts its own six copies, waits for them, starts the next bucket's six into the other slot, and stores its tile. -/
theorem run_open (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : k0_cond3 i = 1#1)
    (hslot : T0 (planIx 4 t) = 0#32) (hfirst : T0 (planIx 3 t) = 1#32) (hnext : T0 (planIx 7 t) = 1#32)
    (ha : (T0 (planIx 1 t)).toNat < 16) (hb : (T0 (planIx 2 t)).toNat < 16)
    (hna : (T0 (planIx 5 t)).toNat < 16) (hnb : (T0 (planIx 6 t)).toNat < 16)
    (W : Waits sig Unit) (K : PUnit → sProp 𝕄) :
    iprop(heldAll c planM fullShare.right T0
        ∗ heldAll c nactM fullShare.right T1
        ∗ (arg3.view.loc (c : Thread nD τ) ↦[arg3.view.set]{fullShare} x)
        ∗ (arg4.view.loc (c : Thread nD τ) ↦[arg4.view.set]{fullShare} g)
        ∗ (∃ f, arg8.view.loc (c : Thread nD τ) ↦[arg8.view.set]{fullShare} f)
        ∗ weights c fg fu fd
        ∗ semVal ((c : Thread nD τ), SemLoc.dma 5) 0
        ∗ freeSlot (F := F) c 0 k0lt2
        ∗ semVal ((c : Thread nD τ), SemLoc.dma 6) 0
        ∗ freeSlot (F := F) c 1 k1lt2
        ∗ owes (c : Thread nD τ) 0 W
        ∗ (iprop(heldAll c planM fullShare.right T0
          ∗ heldAll c nactM fullShare.right T1
          ∗ (arg3.view.loc (c : Thread nD τ) ↦[arg3.view.set]{fullShare} x)
          ∗ (arg4.view.loc (c : Thread nD τ) ↦[arg4.view.set]{fullShare} g)
          ∗ owns (c : Thread nD τ) arg8 fullShare (tileAt c fg fu fd (arg3.view.read (Elt F) x) (arg4.view.read (Elt F) g) (T0 (planIx 1 t)).toNat (T0 (planIx 2 t)).toNat ha hb)
          ∗ haveSlot c fg fu fd 0 k0lt2 (T0 (planIx 1 t)).toNat (T0 (planIx 2 t)).toNat ha hb
          ∗ semVal ((c : Thread nD τ), SemLoc.dma 5) 0
          ∗ Transfers.Batch (countersEmb (U := Pipeline.UD sig nD τ)) (c : Thread nD τ) (.dma 6) () credit
            (deliv c fg fu fd 1 k1lt2 (T0 (planIx 5 t)).toNat (T0 (planIx 6 t)).toNat hna hnb) 6 0
          ∗ rests c fg fu fd (T0 (planIx 5 t)).toNat (T0 (planIx 6 t)).toNat hna hnb
          ∗ (∃ W', owes (c : Thread nD τ) 0 W')) -∗ K ⟨⟩))
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  simp only [cc0_moe_eq_skeleton]; unfold cc0_moe_skel
  iintro ⟨HT0, HT1, H3, H4, ⟨%f8, H8⟩, HWt, HC, HF0, Hcell, HF, HW, Hk⟩
  sl_exec
  have e0 : run_open.sl.r c T1 = T1 nactIx := by unfold run_open.sl.r; exact nact_read c T1 _ _
  rw [e0]
  sl_exec
  have e9 : run_open.sl.r_2 c i T0 = 0#32 := by unfold run_open.sl.r_2; exact (plan_read c T0 _ _ 4 t ((Gen.k0_off2_eq i).trans (by rw [hi]; rfl)) _).trans hslot
  rw [e9]
  have h9 : k0_chk9 i (T1 nactIx) 0#32 := chk9_of _ _ _ (.inl rfl)
  sl_exec
  have ef : run_open.sl.r_3 c i T0 = 1#32 := by unfold run_open.sl.r_3; exact (plan_read c T0 _ _ 3 t ((Gen.k0_off3_eq i).trans (by rw [hi]; rfl)) _).trans hfirst
  rw [ef]
  have hc1 : k0_chk1 i (T1 nactIx) 0#32 1#32 := chk1_of _ _ _ _ (.inl rfl)
  have c2 : k0_cond2 1#32 = 1#1 := by decide
  sl_exec
  ihave Z := (weights_cut c fg fu fd _ _ ha hb) $$ HWt
  unfold srcs freeSlot
  icases Z with ⟨⟨S0, S1, S2, S3, S4, S5⟩, HR⟩
  icases HF0 with ⟨⟨%p0, P0⟩, ⟨%p1, P1⟩, ⟨%p2, P2⟩, ⟨%p3, P3⟩, ⟨%p4, P4⟩, ⟨%p5, P5⟩⟩
  imod (Transfers.batch_alloc' (Lvl := ℕ) (countersEmb (U := Pipeline.UD sig nD τ)) (c : Thread nD τ) () credit
      (deliv c fg fu fd 0 k0lt2 (T0 (planIx 1 t)).toNat (T0 (planIx 2 t)).toNat ha hb) (sm := .dma 5) (E := Set.univ)) $$ HC with HB
  have ea0 : run_open.sl.r_4 c i T0 h3 = T0 (planIx 1 t) := by unfold run_open.sl.r_4; exact (plan_read c T0 _ _ 1 t ((Gen.k0_off4_eq i).trans (by rw [hi]; rfl)) _)
  rw [ea0]
  have hc2 : k0_chk2 i (T1 nactIx) 1#32 (T0 (planIx 1 t)) := chk2_of _ _ _ _ ha
  sl_exec
  have eb0 : run_open.sl.r_5 c i T0 h3 = T0 (planIx 2 t) := by unfold run_open.sl.r_5; exact (plan_read c T0 _ _ 2 t ((Gen.k0_off5_eq i).trans (by rw [hi]; rfl)) _)
  rw [eb0]
  have hc3 : k0_chk3 i (T1 nactIx) 1#32 (T0 (planIx 2 t)) := chk3_of _ _ _ _ hb
  sl_exec
  have ea : run_open.sl.r_8 c i T0 = T0 (planIx 1 t) := by unfold run_open.sl.r_8; exact (plan_read c T0 _ _ 1 t ((Gen.k0_off19_eq i).trans (by rw [hi]; rfl)) _)
  rw [ea]
  have hc4 : k0_chk4 i (T1 nactIx) 1#32 (T0 (planIx 1 t)) := chk4_of _ _ _ _ ha
  sl_exec
  have eb : run_open.sl.r_9 c i T0 = T0 (planIx 2 t) := by unfold run_open.sl.r_9; exact (plan_read c T0 _ _ 2 t ((Gen.k0_off20_eq i).trans (by rw [hi]; rfl)) _)
  rw [eb]
  have hc5 : k0_chk5 i (T1 nactIx) 1#32 (T0 (planIx 2 t)) := chk5_of _ _ _ _ hb
  sl_exec
  have eh : run_open.sl.r_12 c i T0 = 1#32 := by unfold run_open.sl.r_12; exact (plan_read c T0 _ _ 7 t ((Gen.k0_off34_eq i).trans (by rw [hi]; rfl)) _).trans hnext
  rw [eh]
  have hc6 : k0_chk6 i (T1 nactIx) 0#32 1#32 1#32 := chk6_of _ _ _ _ _ (.inl rfl)
  have c4 : k0_cond4 1#32 = 1#1 := by decide
  ihave HWt := (weights_join c fg fu fd _ _ ha hb) $$ [HB_src0 HB_src1 HB_src2 HB_src3 HB_src4 HB_src5 HR]
  · isplitr [HR]
    · unfold srcs
      isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    · iexact HR
  ihave Z := (weights_cut c fg fu fd _ _ hna hnb) $$ HWt
  unfold srcs
  icases Z with ⟨⟨S0, S1, S2, S3, S4, S5⟩, HR⟩
  icases HF with ⟨⟨%f0, G0⟩, ⟨%f1, G1⟩, ⟨%f2, G2⟩, ⟨%f3, G3⟩, ⟨%f4, G4⟩, ⟨%f5, G5⟩⟩
  imod (Transfers.batch_alloc' (Lvl := ℕ) (countersEmb (U := Pipeline.UD sig nD τ)) (c : Thread nD τ) () credit
      (deliv c fg fu fd 1 k1lt2 (T0 (planIx 5 t)).toNat (T0 (planIx 6 t)).toNat hna hnb) (sm := .dma 6) (E := Set.univ)) $$ Hcell with HN
  sl_exec
  have en : run_open.sl.r_13 c i T0 = T0 (planIx 5 t) := by unfold run_open.sl.r_13; exact (plan_read c T0 _ _ 5 t ((Gen.k0_off35_eq i).trans (by rw [hi]; rfl)) _)
  rw [en]
  have hc7 : k0_chk7 i (T1 nactIx) 1#32 1#32 (T0 (planIx 5 t)) := chk7_of _ _ _ _ _ hna
  sl_exec
  have em : run_open.sl.r_14 c i T0 = T0 (planIx 6 t) := by unfold run_open.sl.r_14; exact (plan_read c T0 _ _ 6 t ((Gen.k0_off36_eq i).trans (by rw [hi]; rfl)) _)
  rw [em]
  have hc8 : k0_chk8 i (T1 nactIx) 1#32 1#32 (T0 (planIx 6 t)) := chk8_of _ _ _ _ _ hnb
  sl_exec
  have ez : run_open.sl.r_25 c T1 = T1 nactIx := by unfold run_open.sl.r_25; exact nact_read c T1 _ _
  rw [ez, dif_neg h5]
  unfold run_open.sl.H8_1 run_open.sl.r_24 run_open.sl.r_23
  unfold run_open.sl.r_22 run_open.sl.r_21 run_open.sl.r_20 run_open.sl.r_19 run_open.sl.r_18 run_open.sl.r_17
  unfold run_open.sl.v35 run_open.sl.v40 run_open.sl.v53 run_open.sl.v60 run_open.sl.v65 run_open.sl.v78
  sl_step
  iapply Hk
  isplitl [HT0]; · iexact HT0
  isplitl [HT1]; · iexact HT1
  isplitl [H3]; · iexact H3
  isplitl [H4]; · iexact H4
  isplitl [H8]
  · iapply (stored_owns c arg8 f8 inb_S256x1024_S256x1024_0_0 _ _ (tile_eq c arg3 arg4 x g fg fu fd 0 k0lt2 _ _ ha hb
      (inbGu 0 0 k0lt2 k0lt4) (inbGu 0 1 k0lt2 k1lt4) (inbGu 0 2 k0lt2 k2lt4) (inbGu 0 3 k0lt2 k3lt4) (inbDn 0 0 k0lt2 k0lt2) (inbDn 0 1 k0lt2 k1lt2) _ _ _ rfl rfl rfl)) $$ H8
  isplitl [HB_dst0 HB_dst1 HB_dst2 HB_dst3 HB_dst4 HB_dst5]
  · unfold haveSlot
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  isplitl [HB]; · iexact HB
  isplitl [HN]; · iexact HN
  isplitl [HR]; · iexact HR
  iexists _; iexact HW

end Cert.KernelIdeal.Moe

end
-- ==== Proof.Moe.Cases.lean ====
/-
  One grid point, by the plan's words: each run of the body, between the states of `State.lean`.
-/
module

public import proofs.«01_k».proof.Proof.Moe.States
public import proofs.«01_k».proof.Proof.Moe.State
public import proofs.«01_k».proof.Proof.Moe.RunIdle
public import proofs.«01_k».proof.Proof.Moe.RunStay0
public import proofs.«01_k».proof.Proof.Moe.RunStay1
public import proofs.«01_k».proof.Proof.Moe.RunLast0
public import proofs.«01_k».proof.Proof.Moe.RunLast1
public import proofs.«01_k».proof.Proof.Moe.RunTurn0
public import proofs.«01_k».proof.Proof.Moe.RunTurn1
public import proofs.«01_k».proof.Proof.Moe.RunOnly
public import proofs.«01_k».proof.Proof.Moe.RunOpen
@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Forms
variable (c : Dev nD) (fg : BufOf (F := F) c gateM) (fu : BufOf (F := F) c upM) (fd : BufOf (F := F) c downM)
  (ea eb hn na nb : ℕ) (ha : ea < 16) (hb : eb < 16) (hna : na < 16) (hnb : nb < 16)

theorem running_at0 : running c fg fu fd 0 ea eb hn na nb ha hb hna hnb
    = iprop(haveSlot c fg fu fd 0 k0lt2 ea eb ha hb ∗ semVal ((c : Thread nD τ), SemLoc.dma 5) 0 ∗ other1 c fg fu fd hn na nb hna hnb) := if_pos rfl
theorem running_at1 : running c fg fu fd 1 ea eb hn na nb ha hb hna hnb
    = iprop(haveSlot c fg fu fd 1 k1lt2 ea eb ha hb ∗ semVal ((c : Thread nD τ), SemLoc.dma 6) 0 ∗ other0 c fg fu fd hn na nb hna hnb) := if_neg (by decide)
theorem other1_busy : other1 c fg fu fd 1 na nb hna hnb
    = iprop(Transfers.Batch (countersEmb (U := Pipeline.UD sig nD τ)) (c : Thread nD τ) (.dma 6) () credit
        (deliv c fg fu fd 1 k1lt2 na nb hna hnb) 6 0 ∗ rests c fg fu fd na nb hna hnb) := if_pos rfl
theorem other0_busy : other0 c fg fu fd 1 na nb hna hnb
    = iprop(Transfers.Batch (countersEmb (U := Pipeline.UD sig nD τ)) (c : Thread nD τ) (.dma 5) () credit
        (deliv c fg fu fd 0 k0lt2 na nb hna hnb) 6 0 ∗ rests c fg fu fd na nb hna hnb) := if_pos rfl
theorem other1_free : other1 c fg fu fd 0 na nb hna hnb
    = iprop(semVal ((c : Thread nD τ), SemLoc.dma 6) 0 ∗ freeSlot (F := F) c 1 k1lt2 ∗ weights c fg fu fd) := if_neg (by decide)
theorem other0_free : other0 c fg fu fd 0 na nb hna hnb
    = iprop(semVal ((c : Thread nD τ), SemLoc.dma 5) 0 ∗ freeSlot (F := F) c 0 k0lt2 ∗ weights c fg fu fd) := if_neg (by decide)
end Forms

/-- A further tile of the bucket in slot 0. -/
theorem case_stay0 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (hslot : T0 (planIx 4 t) = 0#32) (hfirst : T0 (planIx 3 t) = 0#32)
    (ea eb : ℕ) (hea : (T0 (planIx 1 t)).toNat = ea) (heb : (T0 (planIx 2 t)).toNat = eb) (ha : ea < 16) (hb : eb < 16)
    (hn na nb : ℕ) (hna : na < 16) (hnb : nb < 16)
    (W : Waits sig Unit) (K : PUnit → sProp 𝕄) :
    Around c arg3 arg4 arg8 T0 T1 x g (tileAt c fg fu fd (arg3.view.read (Elt F) x) (arg4.view.read (Elt F) g) ea eb ha hb)
        (running c fg fu fd 0 ea eb hn na nb ha hb hna hnb)
        (running c fg fu fd 0 ea eb hn na nb ha hb hna hnb) W K
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  subst hea heb
  rw [running_at0]
  iintro ⟨HT0, HT1, H3, H4, H8, ⟨HH, HS, HO⟩, HW, Hk⟩
  iapply (run_stay0 c i t hi arg3 harg3 arg4 harg4 arg8 harg8 T0 T1 x g fg fu fd h1 h5 hslot hfirst ha hb W K)
  isplitl [HT0]; · iexact HT0
  isplitl [HT1]; · iexact HT1
  isplitl [H3]; · iexact H3
  isplitl [H4]; · iexact H4
  isplitl [H8]; · iexact H8
  isplitl [HH]; · iexact HH
  isplitl [HW]; · iexact HW
  iintro ⟨HT0, HT1, H3, H4, H8, HH, HW⟩
  iapply Hk
  isplitl [HT0]; · iexact HT0
  isplitl [HT1]; · iexact HT1
  isplitl [H3]; · iexact H3
  isplitl [H4]; · iexact H4
  isplitl [H8]; · iexact H8
  isplitl [HH HS HO]
  · isplitl [HH]; · iexact HH
    isplitl [HS]; · iexact HS
    iexact HO
  iexact HW

/-- A further tile of the bucket in slot 1. -/
theorem case_stay1 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (hslot : T0 (planIx 4 t) = 1#32) (hfirst : T0 (planIx 3 t) = 0#32)
    (ea eb : ℕ) (hea : (T0 (planIx 1 t)).toNat = ea) (heb : (T0 (planIx 2 t)).toNat = eb) (ha : ea < 16) (hb : eb < 16)
    (hn na nb : ℕ) (hna : na < 16) (hnb : nb < 16)
    (W : Waits sig Unit) (K : PUnit → sProp 𝕄) :
    Around c arg3 arg4 arg8 T0 T1 x g (tileAt c fg fu fd (arg3.view.read (Elt F) x) (arg4.view.read (Elt F) g) ea eb ha hb)
        (running c fg fu fd 1 ea eb hn na nb ha hb hna hnb)
        (running c fg fu fd 1 ea eb hn na nb ha hb hna hnb) W K
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  subst hea heb
  rw [running_at1]
  iintro ⟨HT0, HT1, H3, H4, H8, ⟨HH, HS, HO⟩, HW, Hk⟩
  iapply (run_stay1 c i t hi arg3 harg3 arg4 harg4 arg8 harg8 T0 T1 x g fg fu fd h1 h5 hslot hfirst ha hb W K)
  isplitl [HT0]; · iexact HT0
  isplitl [HT1]; · iexact HT1
  isplitl [H3]; · iexact H3
  isplitl [H4]; · iexact H4
  isplitl [H8]; · iexact H8
  isplitl [HH]; · iexact HH
  isplitl [HW]; · iexact HW
  iintro ⟨HT0, HT1, H3, H4, H8, HH, HW⟩
  iapply Hk
  isplitl [HT0]; · iexact HT0
  isplitl [HT1]; · iexact HT1
  isplitl [H3]; · iexact H3
  isplitl [H4]; · iexact H4
  isplitl [H8]; · iexact H8
  isplitl [HH HS HO]
  · isplitl [HH]; · iexact HH
    isplitl [HS]; · iexact HS
    iexact HO
  iexact HW

/-- The first tile of the last bucket, its copies into slot 0 in flight. -/
theorem case_last0 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : ¬ k0_cond3 i = 1#1)
    (hslot : T0 (planIx 4 t) = 0#32) (hfirst : T0 (planIx 3 t) = 1#32) (hnext : T0 (planIx 7 t) = 0#32)
    (ea eb : ℕ) (hea : (T0 (planIx 1 t)).toNat = ea) (heb : (T0 (planIx 2 t)).toNat = eb) (ha : ea < 16) (hb : eb < 16)
    (pa pb : ℕ) (hpa : pa < 16) (hpb : pb < 16) (na nb : ℕ) (hna : na < 16) (hnb : nb < 16)
    (W : Waits sig Unit) (K : PUnit → sProp 𝕄) :
    Around c arg3 arg4 arg8 T0 T1 x g (tileAt c fg fu fd (arg3.view.read (Elt F) x) (arg4.view.read (Elt F) g) ea eb ha hb)
        (running c fg fu fd 1 pa pb 1 ea eb hpa hpb ha hb)
        (running c fg fu fd 0 ea eb 0 na nb ha hb hna hnb) W K
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  subst hea heb
  rw [running_at1, running_at0, other0_busy, other1_free]
  iintro ⟨HT0, HT1, H3, H4, H8, ⟨HP, HS, HB, HR⟩, HW, Hk⟩
  iapply (run_last0 c i t hi arg3 harg3 arg4 harg4 arg8 harg8 T0 T1 x g fg fu fd h1 h5 h3 hslot hfirst hnext ha hb W K)
  isplitl [HT0]; · iexact HT0
  isplitl [HT1]; · iexact HT1
  isplitl [H3]; · iexact H3
  isplitl [H4]; · iexact H4
  isplitl [H8]; · iexact H8
  isplitl [HB]; · iexact HB
  isplitl [HR]; · iexact HR
  isplitl [HW]; · iexact HW
  iintro ⟨HT0, HT1, H3, H4, H8, HH, Hc, HWt, HW⟩
  iapply Hk
  isplitl [HT0]; · iexact HT0
  isplitl [HT1]; · iexact HT1
  isplitl [H3]; · iexact H3
  isplitl [H4]; · iexact H4
  isplitl [H8]; · iexact H8
  isplitl [HH Hc HWt HP HS]
  · isplitl [HH]; · iexact HH
    isplitl [Hc]; · iexact Hc
    isplitl [HS]; · iexact HS
    isplitl [HP]; · iapply (haveSlot_free c fg fu fd 1 k1lt2 pa pb hpa hpb); iexact HP
    iexact HWt
  iexact HW

/-- The first tile of a bucket with another to come, its copies into slot 0 in flight. -/
theorem case_turn0 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : ¬ k0_cond3 i = 1#1)
    (hslot : T0 (planIx 4 t) = 0#32) (hfirst : T0 (planIx 3 t) = 1#32) (hnext : T0 (planIx 7 t) = 1#32)
    (ea eb : ℕ) (hea : (T0 (planIx 1 t)).toNat = ea) (heb : (T0 (planIx 2 t)).toNat = eb) (ha : ea < 16) (hb : eb < 16)
    (pa pb : ℕ) (hpa : pa < 16) (hpb : pb < 16)
    (na nb : ℕ) (hena : (T0 (planIx 5 t)).toNat = na) (henb : (T0 (planIx 6 t)).toNat = nb) (hna : na < 16) (hnb : nb < 16)
    (W : Waits sig Unit) (K : PUnit → sProp 𝕄) :
    Around c arg3 arg4 arg8 T0 T1 x g (tileAt c fg fu fd (arg3.view.read (Elt F) x) (arg4.view.read (Elt F) g) ea eb ha hb)
        (running c fg fu fd 1 pa pb 1 ea eb hpa hpb ha hb)
        (running c fg fu fd 0 ea eb 1 na nb ha hb hna hnb) W K
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  subst hea heb hena henb
  rw [running_at1, running_at0, other0_busy, other1_busy]
  iintro ⟨HT0, HT1, H3, H4, H8, ⟨HP, HS, HB, HR⟩, HW, Hk⟩
  iapply (run_turn0 c i t hi arg3 harg3 arg4 harg4 arg8 harg8 T0 T1 x g fg fu fd h1 h5 h3 hslot hfirst hnext ha hb hna hnb W K)
  isplitl [HT0]; · iexact HT0
  isplitl [HT1]; · iexact HT1
  isplitl [H3]; · iexact H3
  isplitl [H4]; · iexact H4
  isplitl [H8]; · iexact H8
  isplitl [HB]; · iexact HB
  isplitl [HR]; · iexact HR
  isplitl [HS]; · iexact HS
  isplitl [HP]; · iapply (haveSlot_free c fg fu fd 1 k1lt2 pa pb hpa hpb); iexact HP
  isplitl [HW]; · iexact HW
  iintro ⟨HT0, HT1, H3, H4, H8, HH, Hc, HB, HR, HW⟩
  iapply Hk
  isplitl [HT0]; · iexact HT0
  isplitl [HT1]; · iexact HT1
  isplitl [H3]; · iexact H3
  isplitl [H4]; · iexact H4
  isplitl [H8]; · iexact H8
  isplitl [HH Hc HB HR]
  · isplitl [HH]; · iexact HH
    isplitl [Hc]; · iexact Hc
    isplitl [HB]; · iexact HB
    iexact HR
  iexact HW

/-- The first tile of the last bucket, its copies into slot 1 in flight. -/
theorem case_last1 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : ¬ k0_cond3 i = 1#1)
    (hslot : T0 (planIx 4 t) = 1#32) (hfirst : T0 (planIx 3 t) = 1#32) (hnext : T0 (planIx 7 t) = 0#32)
    (ea eb : ℕ) (hea : (T0 (planIx 1 t)).toNat = ea) (heb : (T0 (planIx 2 t)).toNat = eb) (ha : ea < 16) (hb : eb < 16)
    (pa pb : ℕ) (hpa : pa < 16) (hpb : pb < 16) (na nb : ℕ) (hna : na < 16) (hnb : nb < 16)
    (W : Waits sig Unit) (K : PUnit → sProp 𝕄) :
    Around c arg3 arg4 arg8 T0 T1 x g (tileAt c fg fu fd (arg3.view.read (Elt F) x) (arg4.view.read (Elt F) g) ea eb ha hb)
        (running c fg fu fd 0 pa pb 1 ea eb hpa hpb ha hb)
        (running c fg fu fd 1 ea eb 0 na nb ha hb hna hnb) W K
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  subst hea heb
  rw [running_at0, running_at1, other1_busy, other0_free]
  iintro ⟨HT0, HT1, H3, H4, H8, ⟨HP, HS, HB, HR⟩, HW, Hk⟩
  iapply (run_last1 c i t hi arg3 harg3 arg4 harg4 arg8 harg8 T0 T1 x g fg fu fd h1 h5 h3 hslot hfirst hnext ha hb W K)
  isplitl [HT0]; · iexact HT0
  isplitl [HT1]; · iexact HT1
  isplitl [H3]; · iexact H3
  isplitl [H4]; · iexact H4
  isplitl [H8]; · iexact H8
  isplitl [HB]; · iexact HB
  isplitl [HR]; · iexact HR
  isplitl [HW]; · iexact HW
  iintro ⟨HT0, HT1, H3, H4, H8, HH, Hc, HWt, HW⟩
  iapply Hk
  isplitl [HT0]; · iexact HT0
  isplitl [HT1]; · iexact HT1
  isplitl [H3]; · iexact H3
  isplitl [H4]; · iexact H4
  isplitl [H8]; · iexact H8
  isplitl [HH Hc HWt HP HS]
  · isplitl [HH]; · iexact HH
    isplitl [Hc]; · iexact Hc
    isplitl [HS]; · iexact HS
    isplitl [HP]; · iapply (haveSlot_free c fg fu fd 0 k0lt2 pa pb hpa hpb); iexact HP
    iexact HWt
  iexact HW

/-- The first tile of a bucket with another to come, its copies into slot 1 in flight. -/
theorem case_turn1 (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : ¬ k0_cond3 i = 1#1)
    (hslot : T0 (planIx 4 t) = 1#32) (hfirst : T0 (planIx 3 t) = 1#32) (hnext : T0 (planIx 7 t) = 1#32)
    (ea eb : ℕ) (hea : (T0 (planIx 1 t)).toNat = ea) (heb : (T0 (planIx 2 t)).toNat = eb) (ha : ea < 16) (hb : eb < 16)
    (pa pb : ℕ) (hpa : pa < 16) (hpb : pb < 16)
    (na nb : ℕ) (hena : (T0 (planIx 5 t)).toNat = na) (henb : (T0 (planIx 6 t)).toNat = nb) (hna : na < 16) (hnb : nb < 16)
    (W : Waits sig Unit) (K : PUnit → sProp 𝕄) :
    Around c arg3 arg4 arg8 T0 T1 x g (tileAt c fg fu fd (arg3.view.read (Elt F) x) (arg4.view.read (Elt F) g) ea eb ha hb)
        (running c fg fu fd 0 pa pb 1 ea eb hpa hpb ha hb)
        (running c fg fu fd 1 ea eb 1 na nb ha hb hna hnb) W K
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  subst hea heb hena henb
  rw [running_at0, running_at1, other1_busy, other0_busy]
  iintro ⟨HT0, HT1, H3, H4, H8, ⟨HP, HS, HB, HR⟩, HW, Hk⟩
  iapply (run_turn1 c i t hi arg3 harg3 arg4 harg4 arg8 harg8 T0 T1 x g fg fu fd h1 h5 h3 hslot hfirst hnext ha hb hna hnb W K)
  isplitl [HT0]; · iexact HT0
  isplitl [HT1]; · iexact HT1
  isplitl [H3]; · iexact H3
  isplitl [H4]; · iexact H4
  isplitl [H8]; · iexact H8
  isplitl [HB]; · iexact HB
  isplitl [HR]; · iexact HR
  isplitl [HS]; · iexact HS
  isplitl [HP]; · iapply (haveSlot_free c fg fu fd 0 k0lt2 pa pb hpa hpb); iexact HP
  isplitl [HW]; · iexact HW
  iintro ⟨HT0, HT1, H3, H4, H8, HH, Hc, HB, HR, HW⟩
  iapply Hk
  isplitl [HT0]; · iexact HT0
  isplitl [HT1]; · iexact HT1
  isplitl [H3]; · iexact H3
  isplitl [H4]; · iexact H4
  isplitl [H8]; · iexact H8
  isplitl [HH Hc HB HR]
  · isplitl [HH]; · iexact HH
    isplitl [Hc]; · iexact Hc
    isplitl [HB]; · iexact HB
    iexact HR
  iexact HW

/-- The first grid point, its bucket the only one. -/
theorem case_only (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : k0_cond3 i = 1#1)
    (hslot : T0 (planIx 4 t) = 0#32) (hfirst : T0 (planIx 3 t) = 1#32) (hnext : T0 (planIx 7 t) = 0#32)
    (ea eb : ℕ) (hea : (T0 (planIx 1 t)).toNat = ea) (heb : (T0 (planIx 2 t)).toNat = eb) (ha : ea < 16) (hb : eb < 16)
    (na nb : ℕ) (hna : na < 16) (hnb : nb < 16)
    (W : Waits sig Unit) (K : PUnit → sProp 𝕄) :
    Around c arg3 arg4 arg8 T0 T1 x g (tileAt c fg fu fd (arg3.view.read (Elt F) x) (arg4.view.read (Elt F) g) ea eb ha hb)
        (atStart c fg fu fd)
        (running c fg fu fd 0 ea eb 0 na nb ha hb hna hnb) W K
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  subst hea heb
  rw [running_at0, other1_free]
  unfold atStart
  iintro ⟨HT0, HT1, H3, H4, H8, ⟨F0, F1, S5, S6, HWt⟩, HW, Hk⟩
  iapply (run_only c i t hi arg3 harg3 arg4 harg4 arg8 harg8 T0 T1 x g fg fu fd h1 h5 h3 hslot hfirst hnext ha hb W K)
  isplitl [HT0]; · iexact HT0
  isplitl [HT1]; · iexact HT1
  isplitl [H3]; · iexact H3
  isplitl [H4]; · iexact H4
  isplitl [H8]; · iexact H8
  isplitl [HWt]; · iexact HWt
  isplitl [S5]; · iexact S5
  isplitl [F0]; · iexact F0
  isplitl [HW]; · iexact HW
  iintro ⟨HT0, HT1, H3, H4, H8, HH, Hc, HWt, HW⟩
  iapply Hk
  isplitl [HT0]; · iexact HT0
  isplitl [HT1]; · iexact HT1
  isplitl [H3]; · iexact H3
  isplitl [H4]; · iexact H4
  isplitl [H8]; · iexact H8
  isplitl [HH Hc HWt F1 S6]
  · isplitl [HH]; · iexact HH
    isplitl [Hc]; · iexact Hc
    isplitl [S6]; · iexact S6
    isplitl [F1]; · iexact F1
    iexact HWt
  iexact HW

/-- The first grid point, another bucket to come. -/
theorem case_open (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (h1 : k0_cond1 i (T1 nactIx) = 1#1) (h5 : ¬ k0_cond5 i (T1 nactIx) = 1#1)
    (h3 : k0_cond3 i = 1#1)
    (hslot : T0 (planIx 4 t) = 0#32) (hfirst : T0 (planIx 3 t) = 1#32) (hnext : T0 (planIx 7 t) = 1#32)
    (ea eb : ℕ) (hea : (T0 (planIx 1 t)).toNat = ea) (heb : (T0 (planIx 2 t)).toNat = eb) (ha : ea < 16) (hb : eb < 16)
    (na nb : ℕ) (hena : (T0 (planIx 5 t)).toNat = na) (henb : (T0 (planIx 6 t)).toNat = nb) (hna : na < 16) (hnb : nb < 16)
    (W : Waits sig Unit) (K : PUnit → sProp 𝕄) :
    Around c arg3 arg4 arg8 T0 T1 x g (tileAt c fg fu fd (arg3.view.read (Elt F) x) (arg4.view.read (Elt F) g) ea eb ha hb)
        (atStart c fg fu fd)
        (running c fg fu fd 0 ea eb 1 na nb ha hb hna hnb) W K
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  subst hea heb hena henb
  rw [running_at0, other1_busy]
  unfold atStart
  iintro ⟨HT0, HT1, H3, H4, H8, ⟨F0, F1, S5, S6, HWt⟩, HW, Hk⟩
  iapply (run_open c i t hi arg3 harg3 arg4 harg4 arg8 harg8 T0 T1 x g fg fu fd h1 h5 h3 hslot hfirst hnext ha hb hna hnb W K)
  isplitl [HT0]; · iexact HT0
  isplitl [HT1]; · iexact HT1
  isplitl [H3]; · iexact H3
  isplitl [H4]; · iexact H4
  isplitl [H8]; · iexact H8
  isplitl [HWt]; · iexact HWt
  isplitl [S5]; · iexact S5
  isplitl [F0]; · iexact F0
  isplitl [S6]; · iexact S6
  isplitl [F1]; · iexact F1
  isplitl [HW]; · iexact HW
  iintro ⟨HT0, HT1, H3, H4, H8, HH, Hc, HB, HR, HW⟩
  iapply Hk
  isplitl [HT0]; · iexact HT0
  isplitl [HT1]; · iexact HT1
  isplitl [H3]; · iexact H3
  isplitl [H4]; · iexact H4
  isplitl [H8]; · iexact H8
  isplitl [HH Hc HB HR]
  · isplitl [HH]; · iexact HH
    isplitl [Hc]; · iexact Hc
    isplitl [HB]; · iexact HB
    iexact HR
  iexact HW

end Cert.KernelIdeal.Moe

end
-- ==== Proof.Moe.Conds.lean ====
/- The kernel's three guards on the grid point, on natural numbers. -/
module

public import proofs.«01_k».proof.Proof.Gen.KernelIdeal.Launch
public import proofs.«01_k».proof.Proof.Gen.KernelIdeal.Skeleton
public import Idealize.ShloMosaic.Lib.WordCmp
public import Idealize.ShloMosaic.Lib.StableHlo.Predicate

@[expose] public section

noncomputable section

namespace Cert.KernelIdeal.Moe

open Cert.KernelIdeal Cert.KernelIdeal.Gen Idealize.ShloMosaic

/-- A bit widened and tested against zero is the bit. -/
theorem bit_guard (b : BitVec 1) : Scalar.cmpi .ne (Scalar.extui b) (0#32) = b := by
  revert b; decide

theorem cond1_iff (i : grid0.Coords) (n : ℕ) (hn : n ≤ 88) : k0_cond1 i (BitVec.ofNat 32 n) = 1#1 ↔ (i 0).val < n := by
  have hi : (i 0).val < 88 := (i 0).isLt
  refine (iff_of_eq (congrArg (· = 1#1) (bit_guard (IntOp.cmpi .slt (BitVec.ofNat 32 (i 0).val) (BitVec.ofNat 32 n))))).trans ?_
  rw [StableHlo.Predicate.slt_iff_toNat (by rw [BitVec.toNat_ofNat]; omega) (by rw [BitVec.toNat_ofNat]; omega), BitVec.toNat_ofNat, BitVec.toNat_ofNat,
    Nat.mod_eq_of_lt (by omega), Nat.mod_eq_of_lt (by omega)]

theorem cond5_iff (i : grid0.Coords) (n : ℕ) (hn : n ≤ 88) : k0_cond5 i (BitVec.ofNat 32 n) = 1#1 ↔ n ≤ (i 0).val := by
  have hi : (i 0).val < 88 := (i 0).isLt
  refine (iff_of_eq (congrArg (· = 1#1) (bit_guard (IntOp.cmpi .sge (BitVec.ofNat 32 (i 0).val) (BitVec.ofNat 32 n))))).trans ?_
  rw [StableHlo.Predicate.sge_iff_toNat (by rw [BitVec.toNat_ofNat]; omega) (by rw [BitVec.toNat_ofNat]; omega), BitVec.toNat_ofNat, BitVec.toNat_ofNat,
    Nat.mod_eq_of_lt (by omega), Nat.mod_eq_of_lt (by omega)]

theorem cond3_iff (i : grid0.Coords) : k0_cond3 i = 1#1 ↔ (i 0).val = 0 := by
  have hi : (i 0).val < 88 := (i 0).isLt
  refine (iff_of_eq (congrArg (· = 1#1) (bit_guard (IntOp.cmpi .eq (BitVec.ofNat 32 (i 0).val) (0#32))))).trans ?_
  rw [StableHlo.Predicate.cmpi_eq_iff]
  refine ⟨fun h => ?_, fun h => by rw [h]⟩
  have := congrArg BitVec.toNat h
  rw [BitVec.toNat_ofNat, Nat.mod_eq_of_lt (by omega)] at this
  exact this

end Cert.KernelIdeal.Moe
-- ==== Proof.Plan.Stages.lean ====
/- What each stretch of the host's plan computation leaves, on natural numbers, from any contents of the buffers it reads. -/
module

public import proofs.«01_k».proof.Proof.Gen.KernelIdeal.Launch
public import proofs.«01_k».proof.Proof.Plan.Model
public import Idealize.ShloMosaic.Lib.StableHlo.ReadAt
public import Idealize.ShloMosaic.Lib.Routing.Words
public import Idealize.ShloMosaic.Lib.Routing.OpsSet
public import Idealize.ShloMosaic.Lib.Routing.OpsPair

@[expose] public section

noncomputable section

namespace Cert.HostPlan

open Idealize.ShloMosaic hiding ix0 ix1 ix2
open Idealize.ShloMosaic.TcCoe Idealize.ShloMosaic.ValueIdx Idealize.ShloMosaic.Routing
open Cert.KernelIdeal hiding ix0
open Cert.KernelIdeal.Gen Cert.Plan

variable {F : FTy → Type} [FloatOps F] (V : Valuation τ sig (Elt F))

/-- `v + 256 - 1` as words. -/
theorem tiles_word (n : ℕ) : BitVec.ofNat 32 n + 256#32 - 1#32 = BitVec.ofNat 32 (n + 255) := by
  rw [show (256#32 : BitVec 32) = BitVec.ofNat 32 256 from rfl, ← BitVec.ofNat_add,
    show (1#32 : BitVec 32) = BitVec.ofNat 32 1 from rfl, ofNat32_sub (by omega)]
  rfl

variable (k : ℕ → ℕ)

theorem g0 (h : ∀ j : Fin 24, (V (Proc.devRef .tc main_arg0) : IVec S24 32) (ix1 j) = BitVec.ofNat 32 (k j)) (j : Fin 24) :
    (StableHlo.after hostOps0 V (Proc.devRef .tc main_v3) : IVec S24 32) (ix1 j) = BitVec.ofNat 32 (k j + 255) := by
  refine Eq.trans ?_ (tiles_word (k j))
  rw [← h j]
  after_reads_simp
  rfl

theorem g0c : (StableHlo.after hostOps0 V (Proc.devRef .tc main_c_3) : IVec S_ 32) ix0 = BitVec.ofNat 32 256 := by
  after_reads_simp
  rfl

theorem g1 (h : ∀ j : Fin 24, (V (Proc.devRef .tc main_v3) : IVec S24 32) (ix1 j) = BitVec.ofNat 32 (k j + 255))
    (hc : (V (Proc.devRef .tc main_c_3) : IVec S_ 32) ix0 = BitVec.ofNat 32 256) (hk : ∀ j : Fin 24, k j ≤ 16384) (j : Fin 24) :
    (StableHlo.after hostOps0_1 V (Proc.devRef .tc main_v4) : IVec S24 32) (ix1 j) = BitVec.ofNat 32 (til k j) := by
  after_reads_simp
  simp -implicitDefEqProofs only [StableHlo.TRef.toBuf, StableHlo.TRef.ofBuf, cast_cast, cast_eq]
  clean_types
  have := hk j
  exact pyDiv_ap bcast_S_S24 _ _ (ix1 j) (h j) hc (by omega) (by decide) (by decide)

theorem g2 (h : ∀ j : Fin 24, (V (Proc.devRef .tc main_v4) : IVec S24 32) (ix1 j) = BitVec.ofNat 32 (til k j)) (j : Fin 24) :
    (StableHlo.after hostOps0_2 V (Proc.devRef .tc main_v5) : IVec S24 32) (ix1 j) = BitVec.ofNat 32 (nd k j) := by
  after_reads_simp
  simp -implicitDefEqProofs only [StableHlo.TRef.toBuf, StableHlo.TRef.ofBuf, cast_cast, cast_eq]
  clean_types
  exact cumsum1 (N := 24) (Nm1 := 23) rfl _ (til k) h _ (bc0 _ _ _) _ _ j

end Cert.HostPlan
-- ==== Proof.Plan.Stages2.lean ====
/- What each stretch of the host's plan computation leaves, on natural numbers, from any contents of the buffers it reads. -/
module

public import proofs.«01_k».proof.Proof.Gen.KernelIdeal.Launch
public import proofs.«01_k».proof.Proof.Plan.Stages
public import Idealize.ShloMosaic.Lib.StableHlo.ReadAt
public import Idealize.ShloMosaic.Lib.Routing.Words
public import Idealize.ShloMosaic.Lib.Routing.OpsSet
public import Idealize.ShloMosaic.Lib.Routing.OpsPair

@[expose] public section

noncomputable section

namespace Cert.HostPlan

open Idealize.ShloMosaic hiding ix0 ix1 ix2
open Idealize.ShloMosaic.TcCoe Idealize.ShloMosaic.ValueIdx Idealize.ShloMosaic.Routing
open Cert.KernelIdeal hiding ix0
open Cert.KernelIdeal.Gen Cert.Plan

variable {F : FTy → Type} [FloatOps F] (V : Valuation τ sig (Elt F))

variable (k : ℕ → ℕ)

theorem minsi_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · simp [h, Nat.min_eq_left h.le]
  · simp [h, Nat.min_eq_right (not_lt.1 h)]

theorem g3_7 (h : ∀ j : Fin 24, (V (Proc.devRef .tc main_v5) : IVec S24 32) (ix1 j) = BitVec.ofNat 32 (nd k j)) :
    (StableHlo.after hostOps0_3 V (Proc.devRef .tc main_v7) : IVec S_ 32) ix0 = BitVec.ofNat 32 (na k) := by
  after_reads_simp
  refine Eq.trans ?_ (h 23)
  clean_types
  refine (shapeCast_apply _ _ _ (ix1 (0 : Fin 1)) rfl).trans ?_
  exact slice1 23 _ _ 0 (by decide)

theorem g3_11 (h : ∀ j : Fin 24, (V (Proc.devRef .tc main_v5) : IVec S24 32) (ix1 j) = BitVec.ofNat 32 (nd k j))
    (hna : 1 ≤ na k) (hna' : na k ≤ 88) (t : Fin 88) :
    (StableHlo.after hostOps0_3 V (Proc.devRef .tc main_v11) : IVec S88 32) (ix1 t) = BitVec.ofNat 32 (ti k t) := by
  have h7 := g3_7 V k h
  revert h7
  after_reads_simp
  intro h7
  clean_types
  refine (congrArg₂ IntOp.minsi (iota1_ap t) ((bc0 _ _ _).trans ((congrArg (· - 1#32) h7).trans (ofNat32_sub (a := na k) (b := 1) hna)))).trans ?_
  exact minsi_word (by omega) (by omega)

theorem g3_20 (h : ∀ j : Fin 24, (V (Proc.devRef .tc main_v5) : IVec S24 32) (ix1 j) = BitVec.ofNat 32 (nd k j))
    (hna : 1 ≤ na k) (hna' : na k ≤ 88) (hnd : ∀ j : Fin 24, nd k j ≤ 88) (t : Fin 88) :
    (StableHlo.after hostOps0_3 V (Proc.devRef .tc main_v20) : IVec S88 32) (ix1 t) = BitVec.ofNat 32 (bk k t) := by
  have h11 := g3_11 V k h hna hna' t
  revert h11
  after_reads_simp
  intro h11
  clean_types
  have hti : ti k t < 2 ^ 31 := by unfold ti; omega
  refine (congrArg₂ IntOp.minsi (reduce_count (n := 88) (m := 24) (by decide) _ natLt_1_32 reducesTo_S88x24_S88_d1 h_S_ t (fun b => nd k b ≤ ti k t) fun q => ?_) (bc0 _ _ _)).trans ?_
  · have e1 := bcCols (n := 88) (m := 24) bcast_S24_S1x24_1 bcast_S1x24_S88x24_0_1 (V (Proc.devRef .tc main_v5) : IVec S24 32) t q
    refine (iff_of_eq (congrArg (· = 1#1) (congrArg₂ (IntOp.cmpi .sle) (e1.trans (h q)) ((bcRows bcast_S88_S88x1_0 bcast_S88x1_S88x24_0_1 _ t q).trans h11)))).trans ?_
    have := hnd q
    unfold IntOp.cmpi
    rw [sle_ofNat32 (by omega) hti]
    by_cases hq : nd k q ≤ ti k t <;> simp [hq]
  · refine minsi_word (a := Nat.count (fun b => nd k b ≤ ti k t) 24) (b := 23) ?_ (by decide)
    exact lt_of_le_of_lt (Nat.count_le _) (by decide)

theorem g3_c : (StableHlo.after hostOps0_3 V (Proc.devRef .tc main_c_7) : IVec S_ 32) ix0 = BitVec.ofNat 32 6 := by
  after_reads_simp
  rfl

theorem g4 (h : ∀ t : Fin 88, (V (Proc.devRef .tc main_v20) : IVec S88 32) (ix1 t) = BitVec.ofNat 32 (bk k t))
    (hc : (V (Proc.devRef .tc main_c_7) : IVec S_ 32) ix0 = BitVec.ofNat 32 6) (t : Fin 88) :
    (StableHlo.after hostOps0_4 V (Proc.devRef .tc main_v21) : IVec S88 32) (ix1 t) = BitVec.ofNat 32 (bk k t / 6) := by
  after_reads_simp
  simp -implicitDefEqProofs only [StableHlo.TRef.toBuf, StableHlo.TRef.ofBuf, cast_cast, cast_eq]
  clean_types
  exact pyDiv_ap bcast_S_S88 _ _ (ix1 t) (h t) hc (by unfold bk; omega) (by decide) (by decide)

theorem g5 : (StableHlo.after hostOps0_5 V (Proc.devRef .tc main_c_8) : IVec S_ 32) ix0 = BitVec.ofNat 32 6 := by
  after_reads_simp
  rfl

theorem g6 (h : ∀ t : Fin 88, (V (Proc.devRef .tc main_v20) : IVec S88 32) (ix1 t) = BitVec.ofNat 32 (bk k t))
    (hc : (V (Proc.devRef .tc main_c_8) : IVec S_ 32) ix0 = BitVec.ofNat 32 6) (t : Fin 88) :
    (StableHlo.after hostOps0_6 V (Proc.devRef .tc main_v22) : IVec S88 32) (ix1 t) = BitVec.ofNat 32 (bk k t % 6) := by
  after_reads_simp
  simp -implicitDefEqProofs only [StableHlo.TRef.toBuf, StableHlo.TRef.ofBuf, cast_cast, cast_eq]
  clean_types
  exact pyRem_ap bcast_S_S88 _ _ (ix1 t) (h t) hc (by unfold bk; omega) (by decide) (by decide)

end Cert.HostPlan
-- ==== Proof.Plan.Stages3.lean ====
/- What each stretch of the host's plan computation leaves, on natural numbers, from any contents of the buffers it reads. -/
module

public import proofs.«01_k».proof.Proof.Gen.KernelIdeal.Launch
public import proofs.«01_k».proof.Proof.Plan.Stages2
public import Idealize.ShloMosaic.Lib.StableHlo.ReadAt
public import Idealize.ShloMosaic.Lib.Routing.Words
public import Idealize.ShloMosaic.Lib.Routing.OpsSet
public import Idealize.ShloMosaic.Lib.Routing.OpsPair

@[expose] public section

noncomputable section

namespace Cert.HostPlan

open Idealize.ShloMosaic hiding ix0 ix1 ix2
open Idealize.ShloMosaic.TcCoe Idealize.ShloMosaic.ValueIdx Idealize.ShloMosaic.Routing
open Cert.KernelIdeal hiding ix0
open Cert.KernelIdeal.Gen Cert.Plan

variable {F : FTy → Type} [FloatOps F] (V : Valuation τ sig (Elt F))

variable (k : ℕ → ℕ)

/-- The tables of the pairs' experts. -/
theorem g0_pa (p : Fin 6) : (StableHlo.after hostOps0 V (Proc.devRef .tc main_c) : IVec S6 32) (ix1 p) = BitVec.ofNat 32 (pa p) := by
  after_reads_simp
  have e : S6.rowMajor (ix1 p) = p := Fin.ext (Shape.rowMajor_val_one _)
  show lit0 (S6.rowMajor (ix1 p)) = _
  rw [e]
  fin_cases p <;> rfl

theorem g0_pb (p : Fin 6) : (StableHlo.after hostOps0 V (Proc.devRef .tc main_c_0) : IVec S6 32) (ix1 p) = BitVec.ofNat 32 (pb p) := by
  after_reads_simp
  have e : S6.rowMajor (ix1 p) = p := Fin.ext (Shape.rowMajor_val_one _)
  show lit1 (S6.rowMajor (ix1 p)) = _
  rw [e]
  fin_cases p <;> rfl

theorem bk_lt (t : ℕ) : bk k t < 24 := by unfold bk; omega

/-- A word read through the host's wrap of negative indices, in a column of indices. -/
theorem wrap_col (x y z : IVec S88 32) (hz : ∀ i, z i = 0#32) (t : Fin 88) (n : ℕ) (hn : n < 2 ^ 31) (hx : x (ix1 t) = BitVec.ofNat 32 n) :
    (broadcastInDim S88x1 ![0] bcast_S88_S88x1_0 (select (cmpi .slt x z) y x) : IVec S88x1 32) (ix2 t (0 : Fin 1)) = BitVec.ofNat 32 n := by
  refine (bcCol bcast_S88_S88x1_0 _ t).trans ?_
  show Scalar.select (IntOp.cmpi .slt (x (ix1 t)) (z (ix1 t))) (y (ix1 t)) (x (ix1 t)) = _
  rw [hz, hx]
  refine wrap_of_lt _ _ ?_
  rw [BitVec.toNat_ofNat, Nat.mod_eq_of_lt (by omega)]
  exact hn

theorem g7_a (h21 : ∀ t : Fin 88, (V (Proc.devRef .tc main_v21) : IVec S88 32) (ix1 t) = BitVec.ofNat 32 (bk k t / 6))
    (h22 : ∀ t : Fin 88, (V (Proc.devRef .tc main_v22) : IVec S88 32) (ix1 t) = BitVec.ofNat 32 (bk k t % 6))
    (hc : ∀ p : Fin 6, (V (Proc.devRef .tc main_c) : IVec S6 32) (ix1 p) = BitVec.ofNat 32 (pa p)) (t : Fin 88) :
    (StableHlo.after hostOps0_7 V (Proc.devRef .tc main_v32) : IVec S88 32) (ix1 t) = BitVec.ofNat 32 (ea k t) := by
  after_reads_simp
  clean_types
  have hb := bk_lt k t
  have e := gather_take1 gather_S6_S88x1_S88_n_0_n_n_0_1_1 rfl rfl rfl rfl (V (Proc.devRef .tc main_c) : IVec S6 32) _ t
    ⟨bk k t % 6, by omega⟩ (wrap_col (V (Proc.devRef .tc main_v22)) (addi (V (Proc.devRef .tc main_v22)) (broadcastInDim S88 ![] bcast_S_S88 (constantI S_ 32 6#32))) (broadcastInDim S88 ![] bcast_S_S88 (constantI S_ 32 0#32)) (fun _ => rfl) t (bk k t % 6) (by omega) (h22 t)) (by decide)
  refine (congrArg₂ (· + ·) (congrArg (· * 4#32) (h21 t)) (e.trans (hc _))).trans ?_
  rw [show (4#32 : BitVec 32) = BitVec.ofNat 32 4 from rfl, ← BitVec.ofNat_mul, ← BitVec.ofNat_add]
  rfl

theorem g7_b (h21 : ∀ t : Fin 88, (V (Proc.devRef .tc main_v21) : IVec S88 32) (ix1 t) = BitVec.ofNat 32 (bk k t / 6))
    (h22 : ∀ t : Fin 88, (V (Proc.devRef .tc main_v22) : IVec S88 32) (ix1 t) = BitVec.ofNat 32 (bk k t % 6))
    (hc : ∀ p : Fin 6, (V (Proc.devRef .tc main_c_0) : IVec S6 32) (ix1 p) = BitVec.ofNat 32 (pb p)) (t : Fin 88) :
    (StableHlo.after hostOps0_7 V (Proc.devRef .tc main_v42) : IVec S88 32) (ix1 t) = BitVec.ofNat 32 (eb k t) := by
  after_reads_simp
  clean_types
  have hb := bk_lt k t
  have e := gather_take1 gather_S6_S88x1_S88_n_0_n_n_0_1_1 rfl rfl rfl rfl (V (Proc.devRef .tc main_c_0) : IVec S6 32) _ t
    ⟨bk k t % 6, by omega⟩ (wrap_col (V (Proc.devRef .tc main_v22)) (addi (V (Proc.devRef .tc main_v22)) (broadcastInDim S88 ![] bcast_S_S88 (constantI S_ 32 6#32))) (broadcastInDim S88 ![] bcast_S_S88 (constantI S_ 32 0#32)) (fun _ => rfl) t (bk k t % 6) (by omega) (h22 t)) (by decide)
  refine (congrArg₂ (· + ·) (congrArg (· * 4#32) (h21 t)) (e.trans (hc _))).trans ?_
  rw [show (4#32 : BitVec 32) = BitVec.ofNat 32 4 from rfl, ← BitVec.ofNat_mul, ← BitVec.ofNat_add]
  rfl

theorem g7_54 (h20 : ∀ t : Fin 88, (V (Proc.devRef .tc main_v20) : IVec S88 32) (ix1 t) = BitVec.ofNat 32 (bk k t)) (t : Fin 88) :
    (StableHlo.after hostOps0_7 V (Proc.devRef .tc main_v54) : IVec S88 32) (ix1 t) = BitVec.ofNat 32 (fi k t) := by
  after_reads_simp
  clean_types
  have hb := bk_lt k t
  have hb' := bk_lt k (t.val - 1)
  refine Eq.trans (b := (IntOp.cmpi .ne (BitVec.ofNat 32 (bk k t)) (if t.val = 0 then 4294967295#32 else BitVec.ofNat 32 (bk k (t.val - 1)))).setWidth 32) ?_ ?_
  · refine congrArg (BitVec.setWidth 32) (congrArg₂ (IntOp.cmpi .ne) (h20 t) ?_)
    by_cases h0 : t.val = 0
    · rw [if_pos h0]
      refine (concatenate_pair_apply_left 0 _ _ concatenates_S1_S87_S88_d0 _ rfl (ix1 (0 : Fin 1)) fun b => ?_).trans rfl
      match b with
      | ⟨0, _⟩ => exact h0.symm
    · rw [if_neg h0]
      have hlt : t.val - 1 < 87 := by omega
      refine (concatenate_pair_apply_right 0 _ _ concatenates_S1_S87_S88_d0 _ rfl rfl (ix1 (⟨t.val - 1, hlt⟩ : Fin 87)) (fun b hb => ?_) ?_).trans ?_
      · match b with
        | ⟨0, _⟩ => exact absurd rfl hb
      · show t.val - 1 + 1 = t.val
        omega
      · refine (slice1 0 (V (Proc.devRef .tc main_v20) : IVec S88 32) slices_S88_S87_0 ⟨t.val - 1, hlt⟩ (by show 0 + (t.val - 1) < 88; omega)).trans ?_
        refine (h20 _).trans ?_
        show BitVec.ofNat 32 (bk k (0 + (t.val - 1))) = _
        rw [Nat.zero_add]
  · unfold fi
    by_cases h0 : t.val = 0
    · rw [if_pos h0, if_pos h0, show (4294967295#32 : BitVec 32) = BitVec.ofNat 32 4294967295 from rfl, WordCmp.cmpi_ne_ofNat (by omega) (by omega)]
      rw [decide_eq_true (by omega)]
      rfl
    · rw [if_neg h0, if_neg h0, WordCmp.cmpi_ne_ofNat (by omega) (by omega)]
      by_cases he : bk k t = bk k (t.val - 1)
      · rw [if_pos he, decide_eq_false (not_not_intro he)]; rfl
      · rw [if_neg he, decide_eq_true he]; rfl

theorem g8 (h : ∀ t : Fin 88, (V (Proc.devRef .tc main_v54) : IVec S88 32) (ix1 t) = BitVec.ofNat 32 (fi k t)) (t : Fin 88) :
    (StableHlo.after hostOps0_8 V (Proc.devRef .tc main_v55) : IVec S88 32) (ix1 t) = BitVec.ofNat 32 (((List.range (t.val + 1)).map (fi k)).sum) := by
  after_reads_simp
  simp -implicitDefEqProofs only [StableHlo.TRef.toBuf, StableHlo.TRef.ofBuf, cast_cast, cast_eq]
  clean_types
  exact cumsum1 (N := 88) (Nm1 := 87) rfl _ (fi k) h _ (bc0 _ _ _) _ _ t

/-- The running count of first tiles is at least one, and at most the number of tiles. -/
theorem fi_sum (t : ℕ) : 1 ≤ ((List.range (t + 1)).map (fi k)).sum ∧ ((List.range (t + 1)).map (fi k)).sum ≤ t + 1 := by
  induction t with
  | zero => simp [fi]
  | succ t ih =>
    rw [List.range_succ, List.map_append, List.sum_append]
    have : fi k (t + 1) ≤ 1 := by unfold fi; split_ifs <;> omega
    simp only [List.map_cons, List.map_nil, List.sum_cons, List.sum_nil]
    omega

theorem g9 (h : ∀ t : Fin 88, (V (Proc.devRef .tc main_v55) : IVec S88 32) (ix1 t) = BitVec.ofNat 32 (((List.range (t.val + 1)).map (fi k)).sum)) (t : Fin 88) :
    (StableHlo.after hostOps0_9 V (Proc.devRef .tc main_v57) : IVec S88 32) (ix1 t) = BitVec.ofNat 32 (((List.range (t.val + 1)).map (fi k)).sum - 1) := by
  after_reads_simp
  clean_types
  refine (congrArg (· - 1#32) (h t)).trans ?_
  exact ofNat32_sub (fi_sum k t).1

theorem g9_c : (StableHlo.after hostOps0_9 V (Proc.devRef .tc main_c_20) : IVec S_ 32) ix0 = BitVec.ofNat 32 2 := by
  after_reads_simp
  rfl

theorem g10 (h : ∀ t : Fin 88, (V (Proc.devRef .tc main_v57) : IVec S88 32) (ix1 t) = BitVec.ofNat 32 (((List.range (t.val + 1)).map (fi k)).sum - 1))
    (hc : (V (Proc.devRef .tc main_c_20) : IVec S_ 32) ix0 = BitVec.ofNat 32 2) (t : Fin 88) :
    (StableHlo.after hostOps0_10 V (Proc.devRef .tc main_v58) : IVec S88 32) (ix1 t) = BitVec.ofNat 32 (bf k t) := by
  after_reads_simp
  simp -implicitDefEqProofs only [StableHlo.TRef.toBuf, StableHlo.TRef.ofBuf, cast_cast, cast_eq]
  clean_types
  have := (fi_sum k t).2
  exact pyRem_ap bcast_S_S88 _ _ (ix1 t) (h t) hc (by omega) (by decide) (by decide)

end Cert.HostPlan
-- ==== Proof.Plan.Stages4.lean ====
/- What each stretch of the host's plan computation leaves, on natural numbers, from any contents of the buffers it reads. -/
module

public import proofs.«01_k».proof.Proof.Gen.KernelIdeal.Launch
public import proofs.«01_k».proof.Proof.Plan.Stages3
public import Idealize.ShloMosaic.Lib.StableHlo.ReadAt
public import Idealize.ShloMosaic.Lib.Routing.Words
public import Idealize.ShloMosaic.Lib.Routing.OpsSet
public import Idealize.ShloMosaic.Lib.Routing.OpsPair

@[expose] public section

noncomputable section

namespace Cert.HostPlan

open Idealize.ShloMosaic hiding ix0 ix1 ix2
open Idealize.ShloMosaic.TcCoe Idealize.ShloMosaic.ValueIdx Idealize.ShloMosaic.Routing
open Cert.KernelIdeal hiding ix0
open Cert.KernelIdeal.Gen Cert.Plan

variable {F : FTy → Type} [FloatOps F] (V : Valuation τ sig (Elt F))

variable (k : ℕ → ℕ)

theorem g11_65 (h5 : ∀ j : Fin 24, (V (Proc.devRef .tc main_v5) : IVec S24 32) (ix1 j) = BitVec.ofNat 32 (nd k j))
    (h20 : ∀ t : Fin 88, (V (Proc.devRef .tc main_v20) : IVec S88 32) (ix1 t) = BitVec.ofNat 32 (bk k t)) (t : Fin 88) :
    (StableHlo.after hostOps0_11 V (Proc.devRef .tc main_v65) : IVec S88 32) (ix1 t) = BitVec.ofNat 32 (nx k t) := by
  after_reads_simp
  clean_types
  have hb := bk_lt k t
  exact (gather_take1 gather_S24_S88x1_S88_n_0_n_n_0_1_1 rfl rfl rfl rfl (V (Proc.devRef .tc main_v5) : IVec S24 32) _ t
    ⟨bk k t, hb⟩ (wrap_col (V (Proc.devRef .tc main_v20)) (addi (V (Proc.devRef .tc main_v20)) (broadcastInDim S88 ![] bcast_S_S88 (constantI S_ 32 24#32))) (broadcastInDim S88 ![] bcast_S_S88 (constantI S_ 32 0#32)) (fun _ => rfl) t (bk k t) (by omega) (h20 t)) (by decide)).trans (h5 _)

theorem g11_68 (h5 : ∀ j : Fin 24, (V (Proc.devRef .tc main_v5) : IVec S24 32) (ix1 j) = BitVec.ofNat 32 (nd k j))
    (h20 : ∀ t : Fin 88, (V (Proc.devRef .tc main_v20) : IVec S88 32) (ix1 t) = BitVec.ofNat 32 (bk k t))
    (h7 : (V (Proc.devRef .tc main_v7) : IVec S_ 32) ix0 = BitVec.ofNat 32 (na k)) (hna : na k ≤ 88) (hnd : ∀ j : Fin 24, nd k j ≤ 88) (t : Fin 88) :
    (StableHlo.after hostOps0_11 V (Proc.devRef .tc main_v68) : IVec S88 32) (ix1 t) = BitVec.ofNat 32 (hn k t) := by
  have h65 := g11_65 V k h5 h20 t
  revert h65
  after_reads_simp
  intro h65
  clean_types
  have hx : nx k t ≤ 88 := hnd ⟨bk k t, bk_lt k t⟩
  refine (congrArg (BitVec.setWidth 32) (congrArg₂ (IntOp.cmpi .slt) h65 ((bc0 _ _ _).trans h7))).trans ?_
  rw [WordCmp.cmpi_slt_ofNat (by omega) (by omega)]
  exact setWidth_ofBool _

theorem g11_70 (h5 : ∀ j : Fin 24, (V (Proc.devRef .tc main_v5) : IVec S24 32) (ix1 j) = BitVec.ofNat 32 (nd k j))
    (h20 : ∀ t : Fin 88, (V (Proc.devRef .tc main_v20) : IVec S88 32) (ix1 t) = BitVec.ofNat 32 (bk k t)) (hnd : ∀ j : Fin 24, nd k j ≤ 88) (t : Fin 88) :
    (StableHlo.after hostOps0_11 V (Proc.devRef .tc main_v70) : IVec S88 32) (ix1 t) = BitVec.ofNat 32 (min (nx k t) 87) := by
  have h65 := g11_65 V k h5 h20 t
  revert h65
  after_reads_simp
  intro h65
  clean_types
  have hx : nx k t ≤ 88 := hnd ⟨bk k t, bk_lt k t⟩
  refine (congrArg₂ IntOp.minsi h65 (bc0 _ _ _)).trans ?_
  exact minsi_word (a := nx k t) (b := 87) (by omega) (by decide)

theorem g11_77 (h5 : ∀ j : Fin 24, (V (Proc.devRef .tc main_v5) : IVec S24 32) (ix1 j) = BitVec.ofNat 32 (nd k j))
    (h20 : ∀ t : Fin 88, (V (Proc.devRef .tc main_v20) : IVec S88 32) (ix1 t) = BitVec.ofNat 32 (bk k t)) (hnd : ∀ j : Fin 24, nd k j ≤ 88)
    (hs : ∀ t : Fin 88, (V (Proc.devRef .tc main_v32) : IVec S88 32) (ix1 t) = BitVec.ofNat 32 (ea k t)) (t : Fin 88) :
    (StableHlo.after hostOps0_11 V (Proc.devRef .tc main_v77) : IVec S88 32) (ix1 t) = BitVec.ofNat 32 (nxa k t) := by
  have h70 := g11_70 V k h5 h20 hnd t
  revert h70
  after_reads_simp
  intro h70
  clean_types
  exact (gather_take1 gather_S88_S88x1_S88_n_0_n_n_0_1_1 rfl rfl rfl rfl (V (Proc.devRef .tc main_v32) : IVec S88 32) _ t
    ⟨min (nx k t) 87, by omega⟩ (wrap_col _ (addi (_) (broadcastInDim S88 ![] bcast_S_S88 (constantI S_ 32 88#32))) (broadcastInDim S88 ![] bcast_S_S88 (constantI S_ 32 0#32)) (fun _ => rfl) t _ (by omega) h70) (by decide)).trans (hs _)

theorem g11_84 (h5 : ∀ j : Fin 24, (V (Proc.devRef .tc main_v5) : IVec S24 32) (ix1 j) = BitVec.ofNat 32 (nd k j))
    (h20 : ∀ t : Fin 88, (V (Proc.devRef .tc main_v20) : IVec S88 32) (ix1 t) = BitVec.ofNat 32 (bk k t)) (hnd : ∀ j : Fin 24, nd k j ≤ 88)
    (hs : ∀ t : Fin 88, (V (Proc.devRef .tc main_v42) : IVec S88 32) (ix1 t) = BitVec.ofNat 32 (eb k t)) (t : Fin 88) :
    (StableHlo.after hostOps0_11 V (Proc.devRef .tc main_v84) : IVec S88 32) (ix1 t) = BitVec.ofNat 32 (nxb k t) := by
  have h70 := g11_70 V k h5 h20 hnd t
  revert h70
  after_reads_simp
  intro h70
  clean_types
  exact (gather_take1 gather_S88_S88x1_S88_n_0_n_n_0_1_1 rfl rfl rfl rfl (V (Proc.devRef .tc main_v42) : IVec S88 32) _ t
    ⟨min (nx k t) 87, by omega⟩ (wrap_col _ (addi (_) (broadcastInDim S88 ![] bcast_S_S88 (constantI S_ 32 88#32))) (broadcastInDim S88 ![] bcast_S_S88 (constantI S_ 32 0#32)) (fun _ => rfl) t _ (by omega) h70) (by decide)).trans (hs _)

/-- Row `r` of the plan. -/
theorem plan_row (x : Fin 8 → IVec S1x88 32) (h) (r : Fin 8) (t : Fin 88) :
    concatenate S8x88 0 [⟨S1x88, x 0⟩, ⟨S1x88, x 1⟩, ⟨S1x88, x 2⟩, ⟨S1x88, x 3⟩, ⟨S1x88, x 4⟩, ⟨S1x88, x 5⟩, ⟨S1x88, x 6⟩, ⟨S1x88, x 7⟩] h (ix2 r t) = x r (ix2 0 t) := by
  refine concatenate_apply_piece 0 _ h (ix2 r t) r.val (by exact r.isLt) S1x88 (x r) ?_ rfl r.val ?_ (ix2 (0 : Fin 1) t) (fun b hb => ?_) rfl
  · fin_cases r <;> rfl
  · fin_cases r <;> rfl
  · match b with
    | ⟨0, _⟩ => exact absurd rfl hb
    | ⟨1, _⟩ => rfl

/-- A vector as a row. -/
theorem as_row (x : IVec S88 32) (t : Fin 88) : (broadcastInDim S1x88 ![1] bcast_S88_S1x88_1 x : IVec S1x88 32) (ix2 0 t) = x (ix1 t) := by
  refine broadcastInDim_apply _ _ x _ _ fun a => ?_
  match a with
  | ⟨0, _⟩ => rfl

theorem row0 (h : ∀ t : Fin 88, (V (Proc.devRef .tc main_v11) : IVec S88 32) (ix1 t) = BitVec.ofNat 32 (ti k t)) (t : Fin 88) :
    (StableHlo.after hostOps0_11 V (Proc.devRef .tc main_v93) : IVec S8x88 32) (ix2 0 t) = BitVec.ofNat 32 (ti k t) := by
  after_reads_simp
  clean_types
  exact (plan_row (fun r => ![_, _, _, _, _, _, _, _] r) concatenates_S1x88_S1x88_S1x88_S1x88_S1x88_S1x88_S1x88_S1x88_S8x88_d0 0 t).trans ((as_row _ t).trans (h t))

theorem row1 (h : ∀ t : Fin 88, (V (Proc.devRef .tc main_v32) : IVec S88 32) (ix1 t) = BitVec.ofNat 32 (ea k t)) (t : Fin 88) :
    (StableHlo.after hostOps0_11 V (Proc.devRef .tc main_v93) : IVec S8x88 32) (ix2 1 t) = BitVec.ofNat 32 (ea k t) := by
  after_reads_simp
  clean_types
  exact (plan_row (fun r => ![_, _, _, _, _, _, _, _] r) concatenates_S1x88_S1x88_S1x88_S1x88_S1x88_S1x88_S1x88_S1x88_S8x88_d0 1 t).trans ((as_row _ t).trans (h t))

theorem row2 (h : ∀ t : Fin 88, (V (Proc.devRef .tc main_v42) : IVec S88 32) (ix1 t) = BitVec.ofNat 32 (eb k t)) (t : Fin 88) :
    (StableHlo.after hostOps0_11 V (Proc.devRef .tc main_v93) : IVec S8x88 32) (ix2 2 t) = BitVec.ofNat 32 (eb k t) := by
  after_reads_simp
  clean_types
  exact (plan_row (fun r => ![_, _, _, _, _, _, _, _] r) concatenates_S1x88_S1x88_S1x88_S1x88_S1x88_S1x88_S1x88_S1x88_S8x88_d0 2 t).trans ((as_row _ t).trans (h t))

theorem row3 (h : ∀ t : Fin 88, (V (Proc.devRef .tc main_v54) : IVec S88 32) (ix1 t) = BitVec.ofNat 32 (fi k t)) (t : Fin 88) :
    (StableHlo.after hostOps0_11 V (Proc.devRef .tc main_v93) : IVec S8x88 32) (ix2 3 t) = BitVec.ofNat 32 (fi k t) := by
  after_reads_simp
  clean_types
  exact (plan_row (fun r => ![_, _, _, _, _, _, _, _] r) concatenates_S1x88_S1x88_S1x88_S1x88_S1x88_S1x88_S1x88_S1x88_S8x88_d0 3 t).trans ((as_row _ t).trans (h t))

theorem row4 (h : ∀ t : Fin 88, (V (Proc.devRef .tc main_v58) : IVec S88 32) (ix1 t) = BitVec.ofNat 32 (bf k t)) (t : Fin 88) :
    (StableHlo.after hostOps0_11 V (Proc.devRef .tc main_v93) : IVec S8x88 32) (ix2 4 t) = BitVec.ofNat 32 (bf k t) := by
  after_reads_simp
  clean_types
  exact (plan_row (fun r => ![_, _, _, _, _, _, _, _] r) concatenates_S1x88_S1x88_S1x88_S1x88_S1x88_S1x88_S1x88_S1x88_S8x88_d0 4 t).trans ((as_row _ t).trans (h t))

set_option maxHeartbeats 2000000 in
theorem row5 (t : Fin 88) (n : ℕ) (h : (StableHlo.after hostOps0_11 V (Proc.devRef .tc main_v77) : IVec S88 32) (ix1 t) = BitVec.ofNat 32 n) :
    (StableHlo.after hostOps0_11 V (Proc.devRef .tc main_v93) : IVec S8x88 32) (ix2 5 t) = BitVec.ofNat 32 n := by
  revert h
  after_reads_simp
  intro h
  exact (plan_row (fun r => ![_, _, _, _, _, _, _, _] r) concatenates_S1x88_S1x88_S1x88_S1x88_S1x88_S1x88_S1x88_S1x88_S8x88_d0 5 t).trans ((as_row _ t).trans h)

set_option maxHeartbeats 2000000 in
theorem row6 (t : Fin 88) (n : ℕ) (h : (StableHlo.after hostOps0_11 V (Proc.devRef .tc main_v84) : IVec S88 32) (ix1 t) = BitVec.ofNat 32 n) :
    (StableHlo.after hostOps0_11 V (Proc.devRef .tc main_v93) : IVec S8x88 32) (ix2 6 t) = BitVec.ofNat 32 n := by
  revert h
  after_reads_simp
  intro h
  exact (plan_row (fun r => ![_, _, _, _, _, _, _, _] r) concatenates_S1x88_S1x88_S1x88_S1x88_S1x88_S1x88_S1x88_S1x88_S8x88_d0 6 t).trans ((as_row _ t).trans h)

set_option maxHeartbeats 2000000 in
theorem row7 (t : Fin 88) (n : ℕ) (h : (StableHlo.after hostOps0_11 V (Proc.devRef .tc main_v68) : IVec S88 32) (ix1 t) = BitVec.ofNat 32 n) :
    (StableHlo.after hostOps0_11 V (Proc.devRef .tc main_v93) : IVec S8x88 32) (ix2 7 t) = BitVec.ofNat 32 n := by
  revert h
  after_reads_simp
  intro h
  exact (plan_row (fun r => ![_, _, _, _, _, _, _, _] r) concatenates_S1x88_S1x88_S1x88_S1x88_S1x88_S1x88_S1x88_S1x88_S8x88_d0 7 t).trans ((as_row _ t).trans h)

theorem g11_94 (h7 : (V (Proc.devRef .tc main_v7) : IVec S_ 32) ix0 = BitVec.ofNat 32 (na k)) :
    (StableHlo.after hostOps0_11 V (Proc.devRef .tc main_v94) : IVec S1 32) (ix1 0) = BitVec.ofNat 32 (na k) := by
  after_reads_simp
  clean_types
  exact (shapeCast_apply _ _ _ ix0 rfl).trans h7

end Cert.HostPlan
-- ==== Proof.Plan.Words.lean ====
/- The plan's table and its count of active tiles, as the host's operations leave them from the bucket counts. -/
module

public import proofs.«01_k».proof.Proof.Plan.Stages4
public import proofs.«01_k».proof.Proof.Plan.Facts

@[expose] public section

noncomputable section

namespace Cert.HostPlan

open Idealize.ShloMosaic hiding ix0 ix1 ix2
open Idealize.ShloMosaic.TcCoe Idealize.ShloMosaic.ValueIdx Idealize.ShloMosaic.Routing
open Cert.KernelIdeal hiding ix0
open Cert.KernelIdeal.Gen Cert.Plan

variable {F : FTy → Type} [FloatOps F]

/-- The host's operations before the kernel call. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11]

theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l₁ ih => exact ih _

theorem carry1_c (V : Valuation τ sig (Elt F)) : StableHlo.after hostOps0_1 V (Proc.devRef .tc main_c) = V (Proc.devRef .tc main_c) := by after_reads_simp
theorem carry1_c_0 (V : Valuation τ sig (Elt F)) : StableHlo.after hostOps0_1 V (Proc.devRef .tc main_c_0) = V (Proc.devRef .tc main_c_0) := by after_reads_simp
theorem carry2_c (V : Valuation τ sig (Elt F)) : StableHlo.after hostOps0_2 V (Proc.devRef .tc main_c) = V (Proc.devRef .tc main_c) := by after_reads_simp
theorem carry2_c_0 (V : Valuation τ sig (Elt F)) : StableHlo.after hostOps0_2 V (Proc.devRef .tc main_c_0) = V (Proc.devRef .tc main_c_0) := by after_reads_simp
theorem carry3_v5 (V : Valuation τ sig (Elt F)) : StableHlo.after hostOps0_3 V (Proc.devRef .tc main_v5) = V (Proc.devRef .tc main_v5) := by after_reads_simp
theorem carry3_c (V : Valuation τ sig (Elt F)) : StableHlo.after hostOps0_3 V (Proc.devRef .tc main_c) = V (Proc.devRef .tc main_c) := by after_reads_simp
theorem carry3_c_0 (V : Valuation τ sig (Elt F)) : StableHlo.after hostOps0_3 V (Proc.devRef .tc main_c_0) = V (Proc.devRef .tc main_c_0) := by after_reads_simp
theorem carry4_v7 (V : Valuation τ sig (Elt F)) : StableHlo.after hostOps0_4 V (Proc.devRef .tc main_v7) = V (Proc.devRef .tc main_v7) := by after_reads_simp
theorem carry4_v11 (V : Valuation τ sig (Elt F)) : StableHlo.after hostOps0_4 V (Proc.devRef .tc main_v11) = V (Proc.devRef .tc main_v11) := by after_reads_simp
theorem carry4_v20 (V : Valuation τ sig (Elt F)) : StableHlo.after hostOps0_4 V (Proc.devRef .tc main_v20) = V (Proc.devRef .tc main_v20) := by after_reads_simp
theorem carry4_v5 (V : Valuation τ sig (Elt F)) : StableHlo.after hostOps0_4 V (Proc.devRef .tc main_v5) = V (Proc.devRef .tc main_v5) := by after_reads_simp
theorem carry4_c (V : Valuation τ sig (Elt F)) : StableHlo.after hostOps0_4 V (Proc.devRef .tc main_c) = V (Proc.devRef .tc main_c) := by after_reads_simp
theorem carry4_c_0 (V : Valuation τ sig (Elt F)) : StableHlo.after hostOps0_4 V (Proc.devRef .tc main_c_0) = V (Proc.devRef .tc main_c_0) := by after_reads_simp
theorem carry5_v21 (V : Valuation τ sig (Elt F)) : StableHlo.after hostOps0_5 V (Proc.devRef .tc main_v21) = V (Proc.devRef .tc main_v21) := by after_reads_simp
theorem carry5_v7 (V : Valuation τ sig (Elt F)) : StableHlo.after hostOps0_5 V (Proc.devRef .tc main_v7) = V (Proc.devRef .tc main_v7) := by after_reads_simp
theorem carry5_v11 (V : Valuation τ sig (Elt F)) : StableHlo.after hostOps0_5 V (Proc.devRef .tc main_v11) = V (Proc.devRef .tc main_v11) := by after_reads_simp
theorem carry5_v20 (V : Valuation τ sig (Elt F)) : StableHlo.after hostOps0_5 V (Proc.devRef .tc main_v20) = V (Proc.devRef .tc main_v20) := by after_reads_simp
theorem carry5_v5 (V : Valuation τ sig (Elt F)) : StableHlo.after hostOps0_5 V (Proc.devRef .tc main_v5) = V (Proc.devRef .tc main_v5) := by after_reads_simp
theorem carry5_c (V : Valuation τ sig (Elt F)) : StableHlo.after hostOps0_5 V (Proc.devRef .tc main_c) = V (Proc.devRef .tc main_c) := by after_reads_simp
theorem carry5_c_0 (V : Valuation τ sig (Elt F)) : StableHlo.after hostOps0_5 V (Proc.devRef .tc main_c_0) = V (Proc.devRef .tc main_c_0) := by after_reads_simp
theorem carry6_v21 (V : Valuation τ sig (Elt F)) : StableHlo.after hostOps0_6 V (Proc.devRef .tc main_v21) = V (Proc.devRef .tc main_v21) := by after_reads_simp
theorem carry6_v7 (V : Valuation τ sig (Elt F)) : StableHlo.after hostOps0_6 V (Proc.devRef .tc main_v7) = V (Proc.devRef .tc main_v7) := by after_reads_simp
theorem carry6_v11 (V : Valuation τ sig (Elt F)) : StableHlo.after hostOps0_6 V (Proc.devRef .tc main_v11) = V (Proc.devRef .tc main_v11) := by after_reads_simp
theorem carry6_v20 (V : Valuation τ sig (Elt F)) : StableHlo.after hostOps0_6 V (Proc.devRef .tc main_v20) = V (Proc.devRef .tc main_v20) := by after_reads_simp
theorem carry6_v5 (V : Valuation τ sig (Elt F)) : StableHlo.after hostOps0_6 V (Proc.devRef .tc main_v5) = V (Proc.devRef .tc main_v5) := by after_reads_simp
theorem carry6_c (V : Valuation τ sig (Elt F)) : StableHlo.after hostOps0_6 V (Proc.devRef .tc main_c) = V (Proc.devRef .tc main_c) := by after_reads_simp
theorem carry6_c_0 (V : Valuation τ sig (Elt F)) : StableHlo.after hostOps0_6 V (Proc.devRef .tc main_c_0) = V (Proc.devRef .tc main_c_0) := by after_reads_simp
theorem carry7_v7 (V : Valuation τ sig (Elt F)) : StableHlo.after hostOps0_7 V (Proc.devRef .tc main_v7) = V (Proc.devRef .tc main_v7) := by after_reads_simp
theorem carry7_v11 (V : Valuation τ sig (Elt F)) : StableHlo.after hostOps0_7 V (Proc.devRef .tc main_v11) = V (Proc.devRef .tc main_v11) := by after_reads_simp
theorem carry7_v20 (V : Valuation τ sig (Elt F)) : StableHlo.after hostOps0_7 V (Proc.devRef .tc main_v20) = V (Proc.devRef .tc main_v20) := by after_reads_simp
theorem carry7_v5 (V : Valuation τ sig (Elt F)) : StableHlo.after hostOps0_7 V (Proc.devRef .tc main_v5) = V (Proc.devRef .tc main_v5) := by after_reads_simp
theorem carry8_v32 (V : Valuation τ sig (Elt F)) : StableHlo.after hostOps0_8 V (Proc.devRef .tc main_v32) = V (Proc.devRef .tc main_v32) := by after_reads_simp
theorem carry8_v42 (V : Valuation τ sig (Elt F)) : StableHlo.after hostOps0_8 V (Proc.devRef .tc main_v42) = V (Proc.devRef .tc main_v42) := by after_reads_simp
theorem carry8_v54 (V : Valuation τ sig (Elt F)) : StableHlo.after hostOps0_8 V (Proc.devRef .tc main_v54) = V (Proc.devRef .tc main_v54) := by after_reads_simp
theorem carry8_v7 (V : Valuation τ sig (Elt F)) : StableHlo.after hostOps0_8 V (Proc.devRef .tc main_v7) = V (Proc.devRef .tc main_v7) := by after_reads_simp
theorem carry8_v11 (V : Valuation τ sig (Elt F)) : StableHlo.after hostOps0_8 V (Proc.devRef .tc main_v11) = V (Proc.devRef .tc main_v11) := by after_reads_simp
theorem carry8_v20 (V : Valuation τ sig (Elt F)) : StableHlo.after hostOps0_8 V (Proc.devRef .tc main_v20) = V (Proc.devRef .tc main_v20) := by after_reads_simp
theorem carry8_v5 (V : Valuation τ sig (Elt F)) : StableHlo.after hostOps0_8 V (Proc.devRef .tc main_v5) = V (Proc.devRef .tc main_v5) := by after_reads_simp
theorem carry9_v32 (V : Valuation τ sig (Elt F)) : StableHlo.after hostOps0_9 V (Proc.devRef .tc main_v32) = V (Proc.devRef .tc main_v32) := by after_reads_simp
theorem carry9_v42 (V : Valuation τ sig (Elt F)) : StableHlo.after hostOps0_9 V (Proc.devRef .tc main_v42) = V (Proc.devRef .tc main_v42) := by after_reads_simp
theorem carry9_v54 (V : Valuation τ sig (Elt F)) : StableHlo.after hostOps0_9 V (Proc.devRef .tc main_v54) = V (Proc.devRef .tc main_v54) := by after_reads_simp
theorem carry9_v7 (V : Valuation τ sig (Elt F)) : StableHlo.after hostOps0_9 V (Proc.devRef .tc main_v7) = V (Proc.devRef .tc main_v7) := by after_reads_simp
theorem carry9_v11 (V : Valuation τ sig (Elt F)) : StableHlo.after hostOps0_9 V (Proc.devRef .tc main_v11) = V (Proc.devRef .tc main_v11) := by after_reads_simp
theorem carry9_v20 (V : Valuation τ sig (Elt F)) : StableHlo.after hostOps0_9 V (Proc.devRef .tc main_v20) = V (Proc.devRef .tc main_v20) := by after_reads_simp
theorem carry9_v5 (V : Valuation τ sig (Elt F)) : StableHlo.after hostOps0_9 V (Proc.devRef .tc main_v5) = V (Proc.devRef .tc main_v5) := by after_reads_simp
theorem carry10_v32 (V : Valuation τ sig (Elt F)) : StableHlo.after hostOps0_10 V (Proc.devRef .tc main_v32) = V (Proc.devRef .tc main_v32) := by after_reads_simp
theorem carry10_v42 (V : Valuation τ sig (Elt F)) : StableHlo.after hostOps0_10 V (Proc.devRef .tc main_v42) = V (Proc.devRef .tc main_v42) := by after_reads_simp
theorem carry10_v54 (V : Valuation τ sig (Elt F)) : StableHlo.after hostOps0_10 V (Proc.devRef .tc main_v54) = V (Proc.devRef .tc main_v54) := by after_reads_simp
theorem carry10_v7 (V : Valuation τ sig (Elt F)) : StableHlo.after hostOps0_10 V (Proc.devRef .tc main_v7) = V (Proc.devRef .tc main_v7) := by after_reads_simp
theorem carry10_v11 (V : Valuation τ sig (Elt F)) : StableHlo.after hostOps0_10 V (Proc.devRef .tc main_v11) = V (Proc.devRef .tc main_v11) := by after_reads_simp
theorem carry10_v20 (V : Valuation τ sig (Elt F)) : StableHlo.after hostOps0_10 V (Proc.devRef .tc main_v20) = V (Proc.devRef .tc main_v20) := by after_reads_simp
theorem carry10_v5 (V : Valuation τ sig (Elt F)) : StableHlo.after hostOps0_10 V (Proc.devRef .tc main_v5) = V (Proc.devRef .tc main_v5) := by after_reads_simp

/-- The plan's words are the naturals of the model. -/
structure PlanWords (k : ℕ → ℕ) (T0 : IVec S8x88 32) (T1 : IVec S1 32) : Prop where
  ti : ∀ t : Fin 88, T0 (ix2 0 t) = BitVec.ofNat 32 (ti k t)
  ea : ∀ t : Fin 88, T0 (ix2 1 t) = BitVec.ofNat 32 (ea k t)
  eb : ∀ t : Fin 88, T0 (ix2 2 t) = BitVec.ofNat 32 (eb k t)
  fi : ∀ t : Fin 88, T0 (ix2 3 t) = BitVec.ofNat 32 (fi k t)
  bf : ∀ t : Fin 88, T0 (ix2 4 t) = BitVec.ofNat 32 (bf k t)
  nxa : ∀ t : Fin 88, T0 (ix2 5 t) = BitVec.ofNat 32 (nxa k t)
  nxb : ∀ t : Fin 88, T0 (ix2 6 t) = BitVec.ofNat 32 (nxb k t)
  hn : ∀ t : Fin 88, T0 (ix2 7 t) = BitVec.ofNat 32 (hn k t)
  na : T1 (ix1 0) = BitVec.ofNat 32 (na k)

theorem plan_words (V : Valuation τ sig (Elt F)) (k : ℕ → ℕ) (h : ∀ j : Fin 24, (V (Proc.devRef .tc main_arg0) : IVec S24 32) (ix1 j) = BitVec.ofNat 32 (k j))
    (hk : ∀ j : Fin 24, k j ≤ 16384) (hs : ((List.range 24).map k).sum = 16384) :
    PlanWords k (StableHlo.after opss.flatten V (Proc.devRef .tc main_v93)) (StableHlo.after opss.flatten V (Proc.devRef .tc main_v94)) := by
  have hna := na_bounds k hs
  have hnd : ∀ j : Fin 24, nd k j ≤ 88 := fun j => nd_le k hs j (by omega)
  simp only [opss, List.flatten_cons, List.flatten_nil, after_two, List.append_nil]
  -- the stretches in order; what a later one reads is carried over those that leave it
  have h0_v3 := g0 V k h
  have h0_c_3 := g0c V
  have h0_c := g0_pa V
  have h0_c_0 := g0_pb V
  generalize StableHlo.after hostOps0 V = W1 at h0_v3 h0_c_3 h0_c h0_c_0 ⊢
  have h1_v4 := g1 W1 k h0_v3 h0_c_3 hk
  have h1_c : ∀ p : Fin 6, (StableHlo.after hostOps0_1 W1 (Proc.devRef .tc main_c) : IVec S6 32) (ix1 p) = BitVec.ofNat 32 (pa p) :=
    fun p => (congrFun (carry1_c W1) (ix1 p)).trans (h0_c p)
  have h1_c_0 : ∀ p : Fin 6, (StableHlo.after hostOps0_1 W1 (Proc.devRef .tc main_c_0) : IVec S6 32) (ix1 p) = BitVec.ofNat 32 (pb p) :=
    fun p => (congrFun (carry1_c_0 W1) (ix1 p)).trans (h0_c_0 p)
  generalize StableHlo.after hostOps0_1 W1 = W2 at h1_v4 h1_c h1_c_0 ⊢
  have h2_v5 := g2 W2 k h1_v4
  have h2_c : ∀ p : Fin 6, (StableHlo.after hostOps0_2 W2 (Proc.devRef .tc main_c) : IVec S6 32) (ix1 p) = BitVec.ofNat 32 (pa p) :=
    fun p => (congrFun (carry2_c W2) (ix1 p)).trans (h1_c p)
  have h2_c_0 : ∀ p : Fin 6, (StableHlo.after hostOps0_2 W2 (Proc.devRef .tc main_c_0) : IVec S6 32) (ix1 p) = BitVec.ofNat 32 (pb p) :=
    fun p => (congrFun (carry2_c_0 W2) (ix1 p)).trans (h1_c_0 p)
  generalize StableHlo.after hostOps0_2 W2 = W3 at h2_v5 h2_c h2_c_0 ⊢
  have h3_v7 := g3_7 W3 k h2_v5
  have h3_v11 := g3_11 W3 k h2_v5 hna.1 hna.2
  have h3_v20 := g3_20 W3 k h2_v5 hna.1 hna.2 hnd
  have h3_c_7 := g3_c W3
  have h3_v5 : ∀ j : Fin 24, (StableHlo.after hostOps0_3 W3 (Proc.devRef .tc main_v5) : IVec S24 32) (ix1 j) = BitVec.ofNat 32 (nd k j) :=
    fun j => (congrFun (carry3_v5 W3) (ix1 j)).trans (h2_v5 j)
  have h3_c : ∀ p : Fin 6, (StableHlo.after hostOps0_3 W3 (Proc.devRef .tc main_c) : IVec S6 32) (ix1 p) = BitVec.ofNat 32 (pa p) :=
    fun p => (congrFun (carry3_c W3) (ix1 p)).trans (h2_c p)
  have h3_c_0 : ∀ p : Fin 6, (StableHlo.after hostOps0_3 W3 (Proc.devRef .tc main_c_0) : IVec S6 32) (ix1 p) = BitVec.ofNat 32 (pb p) :=
    fun p => (congrFun (carry3_c_0 W3) (ix1 p)).trans (h2_c_0 p)
  generalize StableHlo.after hostOps0_3 W3 = W4 at h3_v7 h3_v11 h3_v20 h3_c_7 h3_v5 h3_c h3_c_0 ⊢
  have h4_v21 := g4 W4 k h3_v20 h3_c_7
  have h4_v7 : (StableHlo.after hostOps0_4 W4 (Proc.devRef .tc main_v7) : IVec S_ 32) (ix0) = BitVec.ofNat 32 (na k) :=
    (congrFun (carry4_v7 W4) (ix0)).trans (h3_v7 )
  have h4_v11 : ∀ t : Fin 88, (StableHlo.after hostOps0_4 W4 (Proc.devRef .tc main_v11) : IVec S88 32) (ix1 t) = BitVec.ofNat 32 (ti k t) :=
    fun t => (congrFun (carry4_v11 W4) (ix1 t)).trans (h3_v11 t)
  have h4_v20 : ∀ t : Fin 88, (StableHlo.after hostOps0_4 W4 (Proc.devRef .tc main_v20) : IVec S88 32) (ix1 t) = BitVec.ofNat 32 (bk k t) :=
    fun t => (congrFun (carry4_v20 W4) (ix1 t)).trans (h3_v20 t)
  have h4_v5 : ∀ j : Fin 24, (StableHlo.after hostOps0_4 W4 (Proc.devRef .tc main_v5) : IVec S24 32) (ix1 j) = BitVec.ofNat 32 (nd k j) :=
    fun j => (congrFun (carry4_v5 W4) (ix1 j)).trans (h3_v5 j)
  have h4_c : ∀ p : Fin 6, (StableHlo.after hostOps0_4 W4 (Proc.devRef .tc main_c) : IVec S6 32) (ix1 p) = BitVec.ofNat 32 (pa p) :=
    fun p => (congrFun (carry4_c W4) (ix1 p)).trans (h3_c p)
  have h4_c_0 : ∀ p : Fin 6, (StableHlo.after hostOps0_4 W4 (Proc.devRef .tc main_c_0) : IVec S6 32) (ix1 p) = BitVec.ofNat 32 (pb p) :=
    fun p => (congrFun (carry4_c_0 W4) (ix1 p)).trans (h3_c_0 p)
  generalize StableHlo.after hostOps0_4 W4 = W5 at h4_v21 h4_v7 h4_v11 h4_v20 h4_v5 h4_c h4_c_0 ⊢
  have h5_c_8 := g5 W5
  have h5_v21 : ∀ t : Fin 88, (StableHlo.after hostOps0_5 W5 (Proc.devRef .tc main_v21) : IVec S88 32) (ix1 t) = BitVec.ofNat 32 (bk k t / 6) :=
    fun t => (congrFun (carry5_v21 W5) (ix1 t)).trans (h4_v21 t)
  have h5_v7 : (StableHlo.after hostOps0_5 W5 (Proc.devRef .tc main_v7) : IVec S_ 32) (ix0) = BitVec.ofNat 32 (na k) :=
    (congrFun (carry5_v7 W5) (ix0)).trans (h4_v7 )
  have h5_v11 : ∀ t : Fin 88, (StableHlo.after hostOps0_5 W5 (Proc.devRef .tc main_v11) : IVec S88 32) (ix1 t) = BitVec.ofNat 32 (ti k t) :=
    fun t => (congrFun (carry5_v11 W5) (ix1 t)).trans (h4_v11 t)
  have h5_v20 : ∀ t : Fin 88, (StableHlo.after hostOps0_5 W5 (Proc.devRef .tc main_v20) : IVec S88 32) (ix1 t) = BitVec.ofNat 32 (bk k t) :=
    fun t => (congrFun (carry5_v20 W5) (ix1 t)).trans (h4_v20 t)
  have h5_v5 : ∀ j : Fin 24, (StableHlo.after hostOps0_5 W5 (Proc.devRef .tc main_v5) : IVec S24 32) (ix1 j) = BitVec.ofNat 32 (nd k j) :=
    fun j => (congrFun (carry5_v5 W5) (ix1 j)).trans (h4_v5 j)
  have h5_c : ∀ p : Fin 6, (StableHlo.after hostOps0_5 W5 (Proc.devRef .tc main_c) : IVec S6 32) (ix1 p) = BitVec.ofNat 32 (pa p) :=
    fun p => (congrFun (carry5_c W5) (ix1 p)).trans (h4_c p)
  have h5_c_0 : ∀ p : Fin 6, (StableHlo.after hostOps0_5 W5 (Proc.devRef .tc main_c_0) : IVec S6 32) (ix1 p) = BitVec.ofNat 32 (pb p) :=
    fun p => (congrFun (carry5_c_0 W5) (ix1 p)).trans (h4_c_0 p)
  generalize StableHlo.after hostOps0_5 W5 = W6 at h5_c_8 h5_v21 h5_v7 h5_v11 h5_v20 h5_v5 h5_c h5_c_0 ⊢
  have h6_v22 := g6 W6 k h5_v20 h5_c_8
  have h6_v21 : ∀ t : Fin 88, (StableHlo.after hostOps0_6 W6 (Proc.devRef .tc main_v21) : IVec S88 32) (ix1 t) = BitVec.ofNat 32 (bk k t / 6) :=
    fun t => (congrFun (carry6_v21 W6) (ix1 t)).trans (h5_v21 t)
  have h6_v7 : (StableHlo.after hostOps0_6 W6 (Proc.devRef .tc main_v7) : IVec S_ 32) (ix0) = BitVec.ofNat 32 (na k) :=
    (congrFun (carry6_v7 W6) (ix0)).trans (h5_v7 )
  have h6_v11 : ∀ t : Fin 88, (StableHlo.after hostOps0_6 W6 (Proc.devRef .tc main_v11) : IVec S88 32) (ix1 t) = BitVec.ofNat 32 (ti k t) :=
    fun t => (congrFun (carry6_v11 W6) (ix1 t)).trans (h5_v11 t)
  have h6_v20 : ∀ t : Fin 88, (StableHlo.after hostOps0_6 W6 (Proc.devRef .tc main_v20) : IVec S88 32) (ix1 t) = BitVec.ofNat 32 (bk k t) :=
    fun t => (congrFun (carry6_v20 W6) (ix1 t)).trans (h5_v20 t)
  have h6_v5 : ∀ j : Fin 24, (StableHlo.after hostOps0_6 W6 (Proc.devRef .tc main_v5) : IVec S24 32) (ix1 j) = BitVec.ofNat 32 (nd k j) :=
    fun j => (congrFun (carry6_v5 W6) (ix1 j)).trans (h5_v5 j)
  have h6_c : ∀ p : Fin 6, (StableHlo.after hostOps0_6 W6 (Proc.devRef .tc main_c) : IVec S6 32) (ix1 p) = BitVec.ofNat 32 (pa p) :=
    fun p => (congrFun (carry6_c W6) (ix1 p)).trans (h5_c p)
  have h6_c_0 : ∀ p : Fin 6, (StableHlo.after hostOps0_6 W6 (Proc.devRef .tc main_c_0) : IVec S6 32) (ix1 p) = BitVec.ofNat 32 (pb p) :=
    fun p => (congrFun (carry6_c_0 W6) (ix1 p)).trans (h5_c_0 p)
  generalize StableHlo.after hostOps0_6 W6 = W7 at h6_v22 h6_v21 h6_v7 h6_v11 h6_v20 h6_v5 h6_c h6_c_0 ⊢
  have h7_v32 := g7_a W7 k h6_v21 h6_v22 h6_c
  have h7_v42 := g7_b W7 k h6_v21 h6_v22 h6_c_0
  have h7_v54 := g7_54 W7 k h6_v20
  have h7_v7 : (StableHlo.after hostOps0_7 W7 (Proc.devRef .tc main_v7) : IVec S_ 32) (ix0) = BitVec.ofNat 32 (na k) :=
    (congrFun (carry7_v7 W7) (ix0)).trans (h6_v7 )
  have h7_v11 : ∀ t : Fin 88, (StableHlo.after hostOps0_7 W7 (Proc.devRef .tc main_v11) : IVec S88 32) (ix1 t) = BitVec.ofNat 32 (ti k t) :=
    fun t => (congrFun (carry7_v11 W7) (ix1 t)).trans (h6_v11 t)
  have h7_v20 : ∀ t : Fin 88, (StableHlo.after hostOps0_7 W7 (Proc.devRef .tc main_v20) : IVec S88 32) (ix1 t) = BitVec.ofNat 32 (bk k t) :=
    fun t => (congrFun (carry7_v20 W7) (ix1 t)).trans (h6_v20 t)
  have h7_v5 : ∀ j : Fin 24, (StableHlo.after hostOps0_7 W7 (Proc.devRef .tc main_v5) : IVec S24 32) (ix1 j) = BitVec.ofNat 32 (nd k j) :=
    fun j => (congrFun (carry7_v5 W7) (ix1 j)).trans (h6_v5 j)
  generalize StableHlo.after hostOps0_7 W7 = W8 at h7_v32 h7_v42 h7_v54 h7_v7 h7_v11 h7_v20 h7_v5 ⊢
  have h8_v55 := g8 W8 k h7_v54
  have h8_v32 : ∀ t : Fin 88, (StableHlo.after hostOps0_8 W8 (Proc.devRef .tc main_v32) : IVec S88 32) (ix1 t) = BitVec.ofNat 32 (ea k t) :=
    fun t => (congrFun (carry8_v32 W8) (ix1 t)).trans (h7_v32 t)
  have h8_v42 : ∀ t : Fin 88, (StableHlo.after hostOps0_8 W8 (Proc.devRef .tc main_v42) : IVec S88 32) (ix1 t) = BitVec.ofNat 32 (eb k t) :=
    fun t => (congrFun (carry8_v42 W8) (ix1 t)).trans (h7_v42 t)
  have h8_v54 : ∀ t : Fin 88, (StableHlo.after hostOps0_8 W8 (Proc.devRef .tc main_v54) : IVec S88 32) (ix1 t) = BitVec.ofNat 32 (fi k t) :=
    fun t => (congrFun (carry8_v54 W8) (ix1 t)).trans (h7_v54 t)
  have h8_v7 : (StableHlo.after hostOps0_8 W8 (Proc.devRef .tc main_v7) : IVec S_ 32) (ix0) = BitVec.ofNat 32 (na k) :=
    (congrFun (carry8_v7 W8) (ix0)).trans (h7_v7 )
  have h8_v11 : ∀ t : Fin 88, (StableHlo.after hostOps0_8 W8 (Proc.devRef .tc main_v11) : IVec S88 32) (ix1 t) = BitVec.ofNat 32 (ti k t) :=
    fun t => (congrFun (carry8_v11 W8) (ix1 t)).trans (h7_v11 t)
  have h8_v20 : ∀ t : Fin 88, (StableHlo.after hostOps0_8 W8 (Proc.devRef .tc main_v20) : IVec S88 32) (ix1 t) = BitVec.ofNat 32 (bk k t) :=
    fun t => (congrFun (carry8_v20 W8) (ix1 t)).trans (h7_v20 t)
  have h8_v5 : ∀ j : Fin 24, (StableHlo.after hostOps0_8 W8 (Proc.devRef .tc main_v5) : IVec S24 32) (ix1 j) = BitVec.ofNat 32 (nd k j) :=
    fun j => (congrFun (carry8_v5 W8) (ix1 j)).trans (h7_v5 j)
  generalize StableHlo.after hostOps0_8 W8 = W9 at h8_v55 h8_v32 h8_v42 h8_v54 h8_v7 h8_v11 h8_v20 h8_v5 ⊢
  have h9_v57 := g9 W9 k h8_v55
  have h9_c_20 := g9_c W9
  have h9_v32 : ∀ t : Fin 88, (StableHlo.after hostOps0_9 W9 (Proc.devRef .tc main_v32) : IVec S88 32) (ix1 t) = BitVec.ofNat 32 (ea k t) :=
    fun t => (congrFun (carry9_v32 W9) (ix1 t)).trans (h8_v32 t)
  have h9_v42 : ∀ t : Fin 88, (StableHlo.after hostOps0_9 W9 (Proc.devRef .tc main_v42) : IVec S88 32) (ix1 t) = BitVec.ofNat 32 (eb k t) :=
    fun t => (congrFun (carry9_v42 W9) (ix1 t)).trans (h8_v42 t)
  have h9_v54 : ∀ t : Fin 88, (StableHlo.after hostOps0_9 W9 (Proc.devRef .tc main_v54) : IVec S88 32) (ix1 t) = BitVec.ofNat 32 (fi k t) :=
    fun t => (congrFun (carry9_v54 W9) (ix1 t)).trans (h8_v54 t)
  have h9_v7 : (StableHlo.after hostOps0_9 W9 (Proc.devRef .tc main_v7) : IVec S_ 32) (ix0) = BitVec.ofNat 32 (na k) :=
    (congrFun (carry9_v7 W9) (ix0)).trans (h8_v7 )
  have h9_v11 : ∀ t : Fin 88, (StableHlo.after hostOps0_9 W9 (Proc.devRef .tc main_v11) : IVec S88 32) (ix1 t) = BitVec.ofNat 32 (ti k t) :=
    fun t => (congrFun (carry9_v11 W9) (ix1 t)).trans (h8_v11 t)
  have h9_v20 : ∀ t : Fin 88, (StableHlo.after hostOps0_9 W9 (Proc.devRef .tc main_v20) : IVec S88 32) (ix1 t) = BitVec.ofNat 32 (bk k t) :=
    fun t => (congrFun (carry9_v20 W9) (ix1 t)).trans (h8_v20 t)
  have h9_v5 : ∀ j : Fin 24, (StableHlo.after hostOps0_9 W9 (Proc.devRef .tc main_v5) : IVec S24 32) (ix1 j) = BitVec.ofNat 32 (nd k j) :=
    fun j => (congrFun (carry9_v5 W9) (ix1 j)).trans (h8_v5 j)
  generalize StableHlo.after hostOps0_9 W9 = W10 at h9_v57 h9_c_20 h9_v32 h9_v42 h9_v54 h9_v7 h9_v11 h9_v20 h9_v5 ⊢
  have h10_v58 := g10 W10 k h9_v57 h9_c_20
  have h10_v32 : ∀ t : Fin 88, (StableHlo.after hostOps0_10 W10 (Proc.devRef .tc main_v32) : IVec S88 32) (ix1 t) = BitVec.ofNat 32 (ea k t) :=
    fun t => (congrFun (carry10_v32 W10) (ix1 t)).trans (h9_v32 t)
  have h10_v42 : ∀ t : Fin 88, (StableHlo.after hostOps0_10 W10 (Proc.devRef .tc main_v42) : IVec S88 32) (ix1 t) = BitVec.ofNat 32 (eb k t) :=
    fun t => (congrFun (carry10_v42 W10) (ix1 t)).trans (h9_v42 t)
  have h10_v54 : ∀ t : Fin 88, (StableHlo.after hostOps0_10 W10 (Proc.devRef .tc main_v54) : IVec S88 32) (ix1 t) = BitVec.ofNat 32 (fi k t) :=
    fun t => (congrFun (carry10_v54 W10) (ix1 t)).trans (h9_v54 t)
  have h10_v7 : (StableHlo.after hostOps0_10 W10 (Proc.devRef .tc main_v7) : IVec S_ 32) (ix0) = BitVec.ofNat 32 (na k) :=
    (congrFun (carry10_v7 W10) (ix0)).trans (h9_v7 )
  have h10_v11 : ∀ t : Fin 88, (StableHlo.after hostOps0_10 W10 (Proc.devRef .tc main_v11) : IVec S88 32) (ix1 t) = BitVec.ofNat 32 (ti k t) :=
    fun t => (congrFun (carry10_v11 W10) (ix1 t)).trans (h9_v11 t)
  have h10_v20 : ∀ t : Fin 88, (StableHlo.after hostOps0_10 W10 (Proc.devRef .tc main_v20) : IVec S88 32) (ix1 t) = BitVec.ofNat 32 (bk k t) :=
    fun t => (congrFun (carry10_v20 W10) (ix1 t)).trans (h9_v20 t)
  have h10_v5 : ∀ j : Fin 24, (StableHlo.after hostOps0_10 W10 (Proc.devRef .tc main_v5) : IVec S24 32) (ix1 j) = BitVec.ofNat 32 (nd k j) :=
    fun j => (congrFun (carry10_v5 W10) (ix1 j)).trans (h9_v5 j)
  generalize StableHlo.after hostOps0_10 W10 = W11 at h10_v58 h10_v32 h10_v42 h10_v54 h10_v7 h10_v11 h10_v20 h10_v5 ⊢
  have h93 := g11_68 W11 k h10_v5 h10_v20 h10_v7 hna.2 hnd
  have h77 := g11_77 W11 k h10_v5 h10_v20 hnd h10_v32
  have h84 := g11_84 W11 k h10_v5 h10_v20 hnd h10_v42
  exact ⟨row0 W11 k h10_v11, row1 W11 k h10_v32, row2 W11 k h10_v42, row3 W11 k h10_v54, row4 W11 k h10_v58,
    fun t => row5 W11 t _ (h77 t), fun t => row6 W11 t _ (h84 t), fun t => row7 W11 t _ (h93 t), g11_94 W11 k h10_v7⟩

end Cert.HostPlan
-- ==== Proof.Moe.Step.lean ====
/-
  One grid point under the plan: the state of the scratch buffers before a grid point, as a function of the counts, is
  taken to the state after it, and the block stored is the tile of the point's bucket, or zeros past the last tile.
-/
module

public import proofs.«01_k».proof.Proof.Moe.States
public import proofs.«01_k».proof.Proof.Moe.Cases
public import proofs.«01_k».proof.Proof.Moe.Conds
public import proofs.«01_k».proof.Proof.Plan.Words
@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Plan Cert.HostPlan

theorem planIx_eq (k : Fin 8) (t : Fin 88) : planIx k t = ValueIdx.ix2 k t := by
  funext a; fin_cases a <;> rfl
theorem nactIx_eq : nactIx = ValueIdx.ix1 (0 : Fin 1) := by
  funext a; fin_cases a; rfl

theorem toNat_small {w : BitVec 32} {v : ℕ} (h : w = BitVec.ofNat 32 v) (hv : v < 16) : w.toNat = v := by
  rw [h, BitVec.toNat_ofNat, Nat.mod_eq_of_lt (by omega)]

section State
variable (c : Dev nD) (fg : BufOf (F := F) c gateM) (fu : BufOf (F := F) c upM) (fd : BufOf (F := F) c downM) (k : ℕ → ℕ)

/-- The next bucket's experts, in range. -/
theorem nxa_lt (t : ℕ) : nxa k t < 16 := ea_lt k _
theorem nxb_lt (t : ℕ) : nxb k t < 16 := eb_lt k _

/-- After tile `t`. -/
abbrev afterTile (t : ℕ) : sProp 𝕄 :=
  running c fg fu fd (bf k t) (ea k t) (eb k t) (hn k t) (nxa k t) (nxb k t) (ea_lt k t) (eb_lt k t) (nxa_lt k t) (nxb_lt k t)

/-- Before grid point `n`. -/
def stateAt : ℕ → sProp 𝕄
  | 0 => atStart c fg fu fd
  | n + 1 => afterTile c fg fu fd k (min (n + 1) (na k) - 1)

/-- What grid point `n` stores. -/
def blockAt (X : Vec F S256x1152 .f32) (G : Vec F S1x1024 .f32) (n : ℕ) : Vec F S256x1024 .f32 :=
  if n < na k then tileAt c fg fu fd X G (ea k n) (eb k n) (ea_lt k n) (eb_lt k n) else k0_pay2 (F := F)

end State

set_option maxHeartbeats 1600000 in
theorem step (c : Dev nD) (i : grid0.Coords) (t : Fin 88) (hi : (i 0).val = t.val)
    (arg3 : Memref sig .tc .vmem S256x1152 .f32) (harg3 : arg3.IsWhole) (arg4 : Memref sig .tc .vmem S1x1024 .f32) (harg4 : arg4.IsWhole)
    (arg8 : Memref sig .tc .vmem S256x1024 .f32) (harg8 : arg8.IsWhole)
    (T0 : BufOf (F := F) c planM) (T1 : BufOf (F := F) c nactM)
    (x : BufOf (F := F) c arg3) (g : BufOf (F := F) c arg4)
    (fg : BufOf (F := F) c gateM) (fu : BufOf (F := F) c upM) (fd : BufOf (F := F) c downM)
    (k : ℕ → ℕ) (hs : ((List.range 24).map k).sum = 16384) (hw : PlanWords k T0 T1) (W : Waits sig Unit) (K : PUnit → sProp 𝕄) :
    Around c arg3 arg4 arg8 T0 T1 x g (blockAt c fg fu fd k (arg3.view.read (Elt F) x) (arg4.view.read (Elt F) g) t.val)
        (stateAt c fg fu fd k t.val) (stateAt c fg fu fd k (t.val + 1)) W K
      ⊢ wp frame (wpE (defs₀ (F := F)) Variants.none c none) Set.univ
          (cc0_moe i planM (Memref.isWhole_whole _) nactM (Memref.isWhole_whole _) arg3 harg3 arg4 harg4
            gateM (Memref.isWhole_whole _) upM (Memref.isWhole_whole _) downM (Memref.isWhole_whole _) arg8 harg8
            guM (Memref.isWhole_whole _) dnM (Memref.isWhole_whole _) cc0_scratch2) K := by
  have hna := na_bounds k hs
  have eN : T1 nactIx = BitVec.ofNat 32 (na k) := (congrArg T1 nactIx_eq).trans hw.na
  have w (r : Fin 8) (v : ℕ) (h : T0 (ValueIdx.ix2 r t) = BitVec.ofNat 32 v) : T0 (planIx r t) = BitVec.ofNat 32 v := (congrArg T0 (planIx_eq r t)).trans h
  have hea := toNat_small (w 1 _ (hw.ea t)) (ea_lt k t)
  have heb := toNat_small (w 2 _ (hw.eb t)) (eb_lt k t)
  have hena := toNat_small (w 5 _ (hw.nxa t)) (nxa_lt k t)
  have henb := toNat_small (w 6 _ (hw.nxb t)) (nxb_lt k t)
  have hf := w 3 _ (hw.fi t)
  have hb := w 4 _ (hw.bf t)
  have hh := w 7 _ (hw.hn t)
  obtain ⟨n, hn⟩ := t
  have hi' : (i 0).val = n := hi
  dsimp only at *
  by_cases hlt : n < na k
  · have h1 : k0_cond1 i (T1 nactIx) = 1#1 := by rw [eN]; exact (cond1_iff i _ hna.2).2 (by omega)
    have h5 : ¬ k0_cond5 i (T1 nactIx) = 1#1 := by rw [eN]; exact fun h => by have := (cond5_iff i _ hna.2).1 h; omega
    have eo : blockAt c fg fu fd k (arg3.view.read (Elt F) x) (arg4.view.read (Elt F) g) n
        = tileAt c fg fu fd (arg3.view.read (Elt F) x) (arg4.view.read (Elt F) g) (ea k n) (eb k n) (ea_lt k n) (eb_lt k n) := if_pos hlt
    have es : stateAt c fg fu fd k (n + 1) = afterTile c fg fu fd k n := by
      show afterTile c fg fu fd k (min (n + 1) (na k) - 1) = _
      rw [show min (n + 1) (na k) - 1 = n by omega]
    rw [eo, es]
    rcases n with _ | m
    · have h3 : k0_cond3 i = 1#1 := (cond3_iff i).2 hi'
      rw [bf_zero] at hb
      rw [fi_zero] at hf
      rcases hn_01 k 0 with e | e
      · rw [e] at hh
        have eq := running_congr c fg fu fd (bf_zero k) rfl rfl e rfl rfl (ea_lt k 0) (eb_lt k 0) (nxa_lt k 0) (nxb_lt k 0) (ea_lt k 0) (eb_lt k 0) (nxa_lt k 0) (nxb_lt k 0)
        unfold afterTile
        rw [eq]
        exact case_only c i _ hi arg3 harg3 arg4 harg4 arg8 harg8 T0 T1 x g fg fu fd h1 h5 h3 hb hf hh _ _ hea heb _ _ _ _ _ _ W K
      · rw [e] at hh
        have eq := running_congr c fg fu fd (bf_zero k) rfl rfl e rfl rfl (ea_lt k 0) (eb_lt k 0) (nxa_lt k 0) (nxb_lt k 0) (ea_lt k 0) (eb_lt k 0) (nxa_lt k 0) (nxb_lt k 0)
        unfold afterTile
        rw [eq]
        exact case_open c i _ hi arg3 harg3 arg4 harg4 arg8 harg8 T0 T1 x g fg fu fd h1 h5 h3 hb hf hh _ _ hea heb _ _ _ _ hena henb _ _ W K
    have h3 : ¬ k0_cond3 i = 1#1 := fun h => by have := (cond3_iff i).1 h; omega
    have ep : stateAt c fg fu fd k (m + 1) = afterTile c fg fu fd k m := by
      show afterTile c fg fu fd k (min (m + 1) (na k) - 1) = _
      rw [show min (m + 1) (na k) - 1 = m by omega]
    rw [ep]
    rcases fi_01 k (m + 1) with ef | ef
    · rw [ef] at hf
      obtain ⟨q1, q2, q3, q4, q5, q6⟩ := at_stay k m ef
      have eq : afterTile c fg fu fd k m = afterTile c fg fu fd k (m + 1) :=
        running_congr c fg fu fd q3.symm q1.symm q2.symm q6.symm q4.symm q5.symm _ _ _ _ _ _ _ _
      rw [eq]
      rcases bf_01 k (m + 1) with e | e
      · rw [e] at hb
        have eq := running_congr c fg fu fd e rfl rfl (rfl : Plan.hn k (m + 1) = Plan.hn k (m + 1)) rfl rfl (ea_lt k (m + 1)) (eb_lt k (m + 1)) (nxa_lt k (m + 1)) (nxb_lt k (m + 1)) (ea_lt k (m + 1)) (eb_lt k (m + 1)) (nxa_lt k (m + 1)) (nxb_lt k (m + 1))
        unfold afterTile
        rw [eq]
        exact case_stay0 c i _ hi arg3 harg3 arg4 harg4 arg8 harg8 T0 T1 x g fg fu fd h1 h5 hb hf _ _ hea heb _ _ _ _ _ _ _ W K
      · rw [e] at hb
        have eq := running_congr c fg fu fd e rfl rfl (rfl : Plan.hn k (m + 1) = Plan.hn k (m + 1)) rfl rfl (ea_lt k (m + 1)) (eb_lt k (m + 1)) (nxa_lt k (m + 1)) (nxb_lt k (m + 1)) (ea_lt k (m + 1)) (eb_lt k (m + 1)) (nxa_lt k (m + 1)) (nxb_lt k (m + 1))
        unfold afterTile
        rw [eq]
        exact case_stay1 c i _ hi arg3 harg3 arg4 harg4 arg8 harg8 T0 T1 x g fg fu fd h1 h5 hb hf _ _ hea heb _ _ _ _ _ _ _ W K
    · rw [ef] at hf
      obtain ⟨q1, q2, q3, q4⟩ := at_first k hs m hlt ef
      rcases bf_01 k (m + 1) with e | e
      · rw [e] at hb
        have eb' : bf k m = 1 := by have := bf_01 k m; omega
        have eq := running_congr c fg fu fd eb' rfl rfl q1 q2 q3 (ea_lt k m) (eb_lt k m) (nxa_lt k m) (nxb_lt k m) (ea_lt k m) (eb_lt k m) (ea_lt k (m + 1)) (eb_lt k (m + 1))
        unfold afterTile
        rw [eq]
        rcases hn_01 k (m + 1) with eh | eh
        · rw [eh] at hh
          have eq := running_congr c fg fu fd e rfl rfl eh rfl rfl (ea_lt k (m + 1)) (eb_lt k (m + 1)) (nxa_lt k (m + 1)) (nxb_lt k (m + 1)) (ea_lt k (m + 1)) (eb_lt k (m + 1)) (nxa_lt k (m + 1)) (nxb_lt k (m + 1))
          rw [eq]
          exact case_last0 c i _ hi arg3 harg3 arg4 harg4 arg8 harg8 T0 T1 x g fg fu fd h1 h5 h3 hb hf hh _ _ hea heb _ _ _ _ _ _ _ _ _ _ W K
        · rw [eh] at hh
          have eq := running_congr c fg fu fd e rfl rfl eh rfl rfl (ea_lt k (m + 1)) (eb_lt k (m + 1)) (nxa_lt k (m + 1)) (nxb_lt k (m + 1)) (ea_lt k (m + 1)) (eb_lt k (m + 1)) (nxa_lt k (m + 1)) (nxb_lt k (m + 1))
          rw [eq]
          exact case_turn0 c i _ hi arg3 harg3 arg4 harg4 arg8 harg8 T0 T1 x g fg fu fd h1 h5 h3 hb hf hh _ _ hea heb _ _ _ _ _ _ _ _ hena henb _ _ W K
      · rw [e] at hb
        have eb' : bf k m = 0 := by have := bf_01 k m; omega
        have eq := running_congr c fg fu fd eb' rfl rfl q1 q2 q3 (ea_lt k m) (eb_lt k m) (nxa_lt k m) (nxb_lt k m) (ea_lt k m) (eb_lt k m) (ea_lt k (m + 1)) (eb_lt k (m + 1))
        unfold afterTile
        rw [eq]
        rcases hn_01 k (m + 1) with eh | eh
        · rw [eh] at hh
          have eq := running_congr c fg fu fd e rfl rfl eh rfl rfl (ea_lt k (m + 1)) (eb_lt k (m + 1)) (nxa_lt k (m + 1)) (nxb_lt k (m + 1)) (ea_lt k (m + 1)) (eb_lt k (m + 1)) (nxa_lt k (m + 1)) (nxb_lt k (m + 1))
          rw [eq]
          exact case_last1 c i _ hi arg3 harg3 arg4 harg4 arg8 harg8 T0 T1 x g fg fu fd h1 h5 h3 hb hf hh _ _ hea heb _ _ _ _ _ _ _ _ _ _ W K
        · rw [eh] at hh
          have eq := running_congr c fg fu fd e rfl rfl eh rfl rfl (ea_lt k (m + 1)) (eb_lt k (m + 1)) (nxa_lt k (m + 1)) (nxb_lt k (m + 1)) (ea_lt k (m + 1)) (eb_lt k (m + 1)) (nxa_lt k (m + 1)) (nxb_lt k (m + 1))
          rw [eq]
          exact case_turn1 c i _ hi arg3 harg3 arg4 harg4 arg8 harg8 T0 T1 x g fg fu fd h1 h5 h3 hb hf hh _ _ hea heb _ _ _ _ _ _ _ _ hena henb _ _ W K
  · have h1 : ¬ k0_cond1 i (T1 nactIx) = 1#1 := by rw [eN]; exact fun h => by have := (cond1_iff i _ hna.2).1 h; omega
    have h5 : k0_cond5 i (T1 nactIx) = 1#1 := by rw [eN]; exact (cond5_iff i _ hna.2).2 (by omega)
    have eo : blockAt c fg fu fd k (arg3.view.read (Elt F) x) (arg4.view.read (Elt F) g) n = k0_pay2 (F := F) := if_neg hlt
    have es : stateAt c fg fu fd k (n + 1) = stateAt c fg fu fd k n := by
      rcases n with _ | m
      · omega
      · show afterTile c fg fu fd k (min (m + 1 + 1) (na k) - 1) = afterTile c fg fu fd k (min (m + 1) (na k) - 1)
        rw [show min (m + 1 + 1) (na k) - 1 = min (m + 1) (na k) - 1 by omega]
    rw [eo, es]
    iintro ⟨HT0, HT1, H3, H4, H8, HS, HW, Hk⟩
    iapply (run_idle c i ⟨n, hn⟩ hi arg3 harg3 arg4 harg4 arg8 harg8 T0 T1 x g fg fu fd h1 h5 W K)
    isplitl [HT0]; · iexact HT0
    isplitl [HT1]; · iexact HT1
    isplitl [H3]; · iexact H3
    isplitl [H4]; · iexact H4
    isplitl [H8]; · iexact H8
    isplitl [HW]; · iexact HW
    iintro ⟨HT0, HT1, H3, H4, H8, HW⟩
    iapply Hk
    isplitl [HT0]; · iexact HT0
    isplitl [HT1]; · iexact HT1
    isplitl [H3]; · iexact H3
    isplitl [H4]; · iexact H4
    isplitl [H8]; · iexact H8
    isplitl [HS]; · iexact HS
    iexact HW

end Cert.KernelIdeal.Moe

end
-- ==== Proof.Plan.Pre.lean ====
/- The precondition on the bucket counts, on natural numbers: each at most 16384, and 16384 altogether. -/
module

public import proofs.«01_k».proof.Pre_counts_of_tokens
public import Idealize.ShloMosaic.Lib.Routing.Ops
public import Idealize.ShloMosaic.Lib.Routing.Words

@[expose] public section

noncomputable section

namespace Cert.HostPlan

open Idealize.ShloMosaic
open Idealize.ShloMosaic.ValueIdx Idealize.ShloMosaic.Routing
open Cert.Pre_counts_of_tokens

/-- The counts as naturals, zero past the last bucket. -/
def kOf (x : IVec S24 32) (b : ℕ) : ℕ := if h : b < 24 then (x (ix1 ⟨b, h⟩)).toNat else 0

theorem kOf_word (x : IVec S24 32) (j : Fin 24) : x (ix1 j) = BitVec.ofNat 32 (kOf x j) := by
  unfold kOf
  rw [dif_pos j.isLt, BitVec.ofNat_toNat, BitVec.setWidth_eq]

theorem and_one {a b : BitVec 1} (h : a &&& b = 1#1) : a = 1#1 ∧ b = 1#1 := by
  revert a b
  decide

theorem pre_counts {F : FTy → Type} [FloatOps F] [Facts] (x : IVec S24 32) (a1 : FVec F S22528x1152 .f32) (a2 : FVec F S1x1024 .f32)
    (a3 a4 : FVec F S1x16x1024x512 .f32) (a5 : FVec F S1x16x512x1024 .f32) (h : fn (F := F) x a1 a2 a3 a4 a5 = fun _ => 1#1) :
    (∀ j : Fin 24, kOf x j ≤ 16384) ∧ ((List.range 24).map (kOf x)).sum = 16384 := by
  have h' : ∀ j : Fin 24, kOf x j ≤ 16384 ∧ (Host.reduce IntOp.addi x (constantI S_ 32 0#32) Facts.reducesTo_S24_S_d0 Facts.h_S_ : IVec S_ 32) ix0 = 16384#32 := by
    intro j
    have e := congrFun h (ix1 j)
    have e' : (IntOp.cmpi .sge (x (ix1 j)) 0#32 &&& IntOp.cmpi .sle (x (ix1 j)) 16384#32)
        &&& IntOp.cmpi .eq ((Host.reduce IntOp.addi x (constantI S_ 32 0#32) Facts.reducesTo_S24_S_d0 Facts.h_S_ : IVec S_ 32) ix0) 16384#32 = 1#1 := by
      refine Eq.trans ?_ e
      refine congrArg₂ (· &&& ·) rfl ?_
      exact (bc0 Facts.bcast_S_S24 (cmpi .eq (Host.reduce IntOp.addi x (constantI S_ 32 0#32) Facts.reducesTo_S24_S_d0 Facts.h_S_ : IVec S_ 32) (constantI S_ 32 16384#32)) (ix1 j)).symm
    obtain ⟨e1, e2⟩ := and_one e'
    obtain ⟨e3, e4⟩ := and_one e1
    have n0 : (x (ix1 j)).toNat < 2 ^ 31 := by
      refine toNat_lt_of_toInt_nonneg _ ?_
      have := (StableHlo.Predicate.ofBool_eq_one_iff _).1 e3
      simpa [BitVec.sle] using this
    refine ⟨?_, StableHlo.Predicate.cmpi_eq_iff.1 e2⟩
    unfold kOf
    rw [dif_pos j.isLt]
    exact (StableHlo.Predicate.sle_iff_toNat n0 (by decide)).1 e4
  refine ⟨fun j => (h' j).1, ?_⟩
  have hsum := (h' 0).2
  rw [reduce_sum (N := 24) x (kOf x) (kOf_word x) Facts.reducesTo_S24_S_d0 Facts.h_S_] at hsum
  have hle : ((List.range 24).map (kOf x)).sum ≤ 24 * 16384 := by
    refine (List.sum_le_card_nsmul _ 16384 fun y hy => ?_).trans (by simp)
    obtain ⟨b, hb, rfl⟩ := List.mem_map.1 hy
    exact (h' ⟨b, List.mem_range.1 hb⟩).1
  have := congrArg BitVec.toNat hsum
  rw [BitVec.toNat_ofNat, Nat.mod_eq_of_lt (by omega)] at this
  exact this

end Cert.HostPlan
-- ==== Proof.Moe.Entry.lean ====
/-
  What the kernel call finds: every buffer after the host's operations, the tables' words as the plan of the counts, and
  with them the pipeline's side condition.
-/
module

public import proofs.«01_k».proof.Proof.Moe.Step
public import proofs.«01_k».proof.Proof.Plan.Pre
@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

open Cert.Plan Cert.HostPlan

variable (m : (ℓ : Loc nD τ sig) → Buf (Elt F) ℓ)

/-- The buffers when the kernel call is reached. -/
@[irreducible] def V (c : Dev nD) (b : Ref sig .tc) : Buf (Elt F) ((c : Thread nD τ).loc b) :=
  StableHlo.after opss.flatten (fun b => m (c, b)) (Proc.devRef .tc b)

/-- The counts, as naturals. -/
def ks : ℕ → ℕ := kOf (m (((0 : Dev nD) : Thread nD τ).loc main_arg0))

/-- The counts are those of 16384 tokens. -/
structure Good : Prop where
  le : ∀ j : Fin 24, ks m j ≤ 16384
  sum : ((List.range 24).map (ks m)).sum = 16384

theorem dev_zero (c : Dev nD) : c = 0 := Subsingleton.elim (α := Fin 1) c 0

theorem words (h : Good m) (c : Dev nD) : PlanWords (ks m) (V m c main_v93) (V m c main_v94) := by
  obtain rfl := dev_zero c
  unfold V
  exact plan_words (fun b => m (0, b)) (ks m) (fun j => kOf_word _ j) h.le h.sum

/-- The tables' contents. -/
def pf : pre0.Contents (Elt F) := fun k => V m 0 (pre0.ref k)

theorem ti_word (h : Good m) (t : Fin 88) : (V m 0 main_v93 (ValueIdx.ix2 (0 : Fin 8) t)).toNat < 88 := by
  have e := (words m h 0).ti t
  have l := ti_lt (ks m) h.sum t
  have e' := congrArg BitVec.toNat e
  rw [BitVec.toNat_ofNat, Nat.mod_eq_of_lt (by omega)] at e'
  exact e'.trans_lt l

theorem ix_eq (i : grid0.Coords) (pf' : pre0.Contents (Elt F)) :
    cc0_transform_0 k0_off1_inb numel1_S1x1 pf' i = ![(pf' 0 (ValueIdx.ix2 (0 : Fin 8) (⟨(i 0).val, (i 0).isLt⟩ : Fin 88))).toNat, 0] := by
  have hi : (i 0).val < 88 := (i 0).isLt
  have e : (Rect.unit (s := S8x88) (k0_off1 i) S1x1.size (k0_off1_inb i)).emb (Shape.Idx.first (numel1_S1x1 ▸ Nat.one_pos)) = ValueIdx.ix2 (0 : Fin 8) (⟨(i 0).val, (i 0).isLt⟩ : Fin 88) := by
    funext a; fin_cases a
    · rfl
    · refine Fin.ext ?_
      show (BitVec.ofNat 32 (i 0).val).toNat + 0 = (i 0).val
      rw [BitVec.toNat_ofNat, Nat.mod_eq_of_lt (by omega), Nat.add_zero]
  have e2 := congrArg (fun x => (![(pf' 0 x).toNat, 0] : Fin 2 → ℕ)) e
  exact e2

theorem ok (h : Good m) : ok0 (pf m) := by
  intro i
  refine ⟨?_, Or.inl rfl⟩
  have aux : ∀ v : ℕ, v < 88 → ∀ a : Fin 2, ((![v, 0] : Fin 2 → ℕ) a + 1) * S256x1152.size a ≤ S22528x1152.size a := by
    intro v hv a; fin_cases a
    · show (v + 1) * 256 ≤ 22528; omega
    · show (0 + 1) * 1152 ≤ 1152; omega
  intro a
  have := aux _ (ti_word m h ⟨(i 0).val, (i 0).isLt⟩) a
  rw [ix_eq]; exact this

/-- The contents the pipeline is run at. -/
def adm (h : Good m) : (pcfg0 (F := F)).Adm := ⟨pf m, ok m h⟩
abbrev cfgA (h : Good m) : Cfg sig Λ₀ := cfg0 (adm m h)

theorem one_ix (x y : S1.Idx) : x = y := by
  have hx : (x 0).val < 1 := (x 0).isLt
  have hy : (y 0).val < 1 := (y 0).isLt
  funext a; fin_cases a; exact Fin.ext (by omega : (x 0).val = (y 0).val)

theorem nact_at (q : pre0.Contents (Elt F)) : Pipeline.Prefetch.Contents.atD q 1 ![0] = q 1 (ValueIdx.ix1 (0 : Fin 1)) := by
  have hin : ∀ a : Fin 1, (![0] : Fin 1 → ℕ) a + 1 ≤ S1.size a := by decide
  exact (dif_pos hin).trans (congrArg (q 1) (one_ix _ _))

/-- The result's block is stored at every grid point. -/
theorem idle_out (h : Good m) (i : grid0.Coords) : (cfgA m h).idle 2 i = false := by
  have hw := (words m h 0).na
  have hna := na_bounds (ks m) h.sum
  have e : Pipeline.Prefetch.Contents.atD (pf m) 1 ![0] = BitVec.ofNat 32 (na (ks m)) := by
    rw [nact_at]; exact hw
  show (!(k0_cond1 i (Pipeline.Prefetch.Contents.atD (pf m) 1 ![0]) == 1#1) && !(k0_cond5 i (Pipeline.Prefetch.Contents.atD (pf m) 1 ![0]) == 1#1)) = false
  rw [e]
  by_cases hlt : (i 0).val < na (ks m)
  · rw [(cond1_iff i _ hna.2).2 hlt]; rfl
  · rw [(cond5_iff i _ hna.2).2 (by omega)]
    rw [Bool.and_eq_false_iff]; exact Or.inr rfl

theorem coords_val (t : Fin grid0.N) : ((grid0.coords t) 0).val = t.val := by revert t; decide

set_option maxHeartbeats 2000000 in
theorem fresh0 : (hostOps0 : List (HloOp τ sig (Elt F))).Forall fun op => op.fresh = ∅ := StableHlo.forall_fresh_of_map rfl
set_option maxHeartbeats 2000000 in
theorem fresh1 : (hostOps0_1 : List (HloOp τ sig (Elt F))).Forall fun op => op.fresh = ∅ := StableHlo.forall_fresh_of_map rfl
set_option maxHeartbeats 2000000 in
theorem fresh2 : (hostOps0_2 : List (HloOp τ sig (Elt F))).Forall fun op => op.fresh = ∅ := StableHlo.forall_fresh_of_map rfl
set_option maxHeartbeats 2000000 in
theorem fresh3 : (hostOps0_3 : List (HloOp τ sig (Elt F))).Forall fun op => op.fresh = ∅ := StableHlo.forall_fresh_of_map rfl
set_option maxHeartbeats 2000000 in
theorem fresh4 : (hostOps0_4 : List (HloOp τ sig (Elt F))).Forall fun op => op.fresh = ∅ := StableHlo.forall_fresh_of_map rfl
set_option maxHeartbeats 2000000 in
theorem fresh5 : (hostOps0_5 : List (HloOp τ sig (Elt F))).Forall fun op => op.fresh = ∅ := StableHlo.forall_fresh_of_map rfl
set_option maxHeartbeats 2000000 in
theorem fresh6 : (hostOps0_6 : List (HloOp τ sig (Elt F))).Forall fun op => op.fresh = ∅ := StableHlo.forall_fresh_of_map rfl
set_option maxHeartbeats 2000000 in
theorem fresh7 : (hostOps0_7 : List (HloOp τ sig (Elt F))).Forall fun op => op.fresh = ∅ := StableHlo.forall_fresh_of_map rfl
set_option maxHeartbeats 2000000 in
theorem fresh8 : (hostOps0_8 : List (HloOp τ sig (Elt F))).Forall fun op => op.fresh = ∅ := StableHlo.forall_fresh_of_map rfl
set_option maxHeartbeats 2000000 in
theorem fresh9 : (hostOps0_9 : List (HloOp τ sig (Elt F))).Forall fun op => op.fresh = ∅ := StableHlo.forall_fresh_of_map rfl
set_option maxHeartbeats 2000000 in
theorem fresh10 : (hostOps0_10 : List (HloOp τ sig (Elt F))).Forall fun op => op.fresh = ∅ := StableHlo.forall_fresh_of_map rfl
set_option maxHeartbeats 2000000 in
theorem fresh11 : (hostOps0_11 : List (HloOp τ sig (Elt F))).Forall fun op => op.fresh = ∅ := StableHlo.forall_fresh_of_map rfl
theorem ops_fresh : (opss (F := F)).Forall fun ops => ops.Forall fun op => op.fresh = ∅ :=
  ⟨fresh0, fresh1, fresh2, fresh3, fresh4, fresh5, fresh6, fresh7, fresh8, fresh9, fresh10, fresh11⟩

theorem ops_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub⟩

theorem hmain (𝒱₀ : Variants) : Pipeline.HMainP (Ix := Unit) (Name := ℕ) (U := Pipeline.UD sig nD τ) (Lvl := ℕ) (pcfgs (F := F)) 0 defs₀ 𝒱₀ m (main (F := F)) (V m) := by
  unfold V
  exact Pipeline.hmainP_prefixes (pcfgs (F := F)) 0 defs₀ 𝒱₀ m main opss ops_sub ops_fresh fun c => (main_chain c).trans rfl

end Cert.KernelIdeal.Moe

end
-- ==== Proof.Moe.Scratch.lean ====
/-
  The two scratch buffers, whole at the launch and at the end, cut into the pieces the copies fill.
-/
module

public import proofs.«01_k».proof.Proof.Moe.States
public import proofs.«01_k».proof.Proof.Moe.State
@[expose] public section

noncomputable section

namespace Cert.KernelIdeal.Moe

open Cert.KernelIdeal Cert.KernelIdeal.Gen
open Idealize.ShloMosaic Idealize.ShloMosaic.TcCoe Idealize.ShloMosaic.Tactic
open Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem ent_of_eq {P Q : sProp 𝕄} (e : P = Q) : P ⊢ Q := e ▸ .rfl

theorem guP_set (b k : ℕ) (hb : b < 2) (hk : k < 4) :
    (guP b k hb hk).view.set = (Rect.unit (s := S2x4x1024x512) ![b, k, 0, 0] S1x1x1024x512.size (inbGu b k hb hk)).set :=
  (View.set_reshape _ _).trans (View.set_slice_whole _ _)

/-- The pieces' elements, by slot and part. -/
def guSet (p : Fin 2 × Fin 4) : Finset (Idx (guM.view.loc (c : Thread nD τ))) := (guP p.1.val p.2.val p.1.isLt p.2.isLt).view.set

theorem mem_guSet (p : Fin 2 × Fin 4) (i : S2x4x1024x512.Idx) : i ∈ guSet c p ↔ (i 0).val = p.1.val ∧ (i 1).val = p.2.val := by
  unfold guSet
  rw [guP_set]
  refine Rect.mem_set_unit.trans ⟨fun h => ?_, fun h a => ?_⟩
  · have h0 : p.1.val ≤ (i 0).val ∧ (i 0).val < p.1.val + 1 := h 0
    have h1 : p.2.val ≤ (i 1).val ∧ (i 1).val < p.2.val + 1 := h 1
    omega
  · fin_cases a
    · show p.1.val ≤ (i 0).val ∧ (i 0).val < p.1.val + 1; omega
    · show p.2.val ≤ (i 1).val ∧ (i 1).val < p.2.val + 1; omega
    · exact ⟨Nat.zero_le _, by have : (i 2).val < 1024 := (i 2).isLt; show (i 2).val < 0 + 1024; omega⟩
    · exact ⟨Nat.zero_le _, by have : (i 3).val < 512 := (i 3).isLt; show (i 3).val < 0 + 512; omega⟩

theorem guSet_disjoint (p p' : Fin 2 × Fin 4) (h : p ≠ p') : Disjoint (guSet c p) (guSet c p') := by
  rw [Finset.disjoint_left]
  intro i hi hi'
  have h1 := (mem_guSet c p i).1 hi
  have h2 := (mem_guSet c p' i).1 hi'
  exact h (Prod.ext (Fin.ext (h1.1.symm.trans h2.1)) (Fin.ext (h1.2.symm.trans h2.2)))

theorem guSet_cover : Finset.univ.biUnion (guSet c) = Finset.univ := by
  refine Finset.eq_univ_iff_forall.2 fun (i : S2x4x1024x512.Idx) => Finset.mem_biUnion.2 ⟨(i 0, i 1), Finset.mem_univ _, (mem_guSet c _ i).2 ⟨rfl, rfl⟩⟩

theorem gu_cut (f : BufOf (F := F) c guM) : heldAll c guM fullShare f
    ⊢ iprop(guPt c 0 0 k0lt2 k0lt4 f ∗ guPt c 0 1 k0lt2 k1lt4 f ∗ guPt c 0 2 k0lt2 k2lt4 f ∗ guPt c 0 3 k0lt2 k3lt4 f ∗ guPt c 1 0 k1lt2 k0lt4 f ∗ guPt c 1 1 k1lt2 k1lt4 f ∗ guPt c 1 2 k1lt2 k2lt4 f ∗ guPt c 1 3 k1lt2 k3lt4 f) := by
  refine ent_of_eq ((pointsTo_blocks (guSet c) (guSet_disjoint c) (guSet_cover c) f).trans ?_)
  rw [BI.bigSep_eq_bigSepL_of_eq [(0, 0), (0, 1), (0, 2), (0, 3), (1, 0), (1, 1), (1, 2), (1, 3)] (by decide) (by decide)]
  rfl

theorem gu_join (f₀ : BufOf (F := F) c guM) :
    iprop((∃ f : BufOf (F := F) c guM, guPt c 0 0 k0lt2 k0lt4 f) ∗ (∃ f : BufOf (F := F) c guM, guPt c 0 1 k0lt2 k1lt4 f) ∗ (∃ f : BufOf (F := F) c guM, guPt c 0 2 k0lt2 k2lt4 f) ∗ (∃ f : BufOf (F := F) c guM, guPt c 0 3 k0lt2 k3lt4 f) ∗ (∃ f : BufOf (F := F) c guM, guPt c 1 0 k1lt2 k0lt4 f) ∗ (∃ f : BufOf (F := F) c guM, guPt c 1 1 k1lt2 k1lt4 f) ∗ (∃ f : BufOf (F := F) c guM, guPt c 1 2 k1lt2 k2lt4 f) ∗ (∃ f : BufOf (F := F) c guM, guPt c 1 3 k1lt2 k3lt4 f)) ⊢ iprop(∃ f : BufOf (F := F) c guM, heldAll c guM fullShare f) := by
  refine (ent_of_eq ?_).trans (pointsTo_blocks_join_exists (guSet c) (guSet_disjoint c) (guSet_cover c) f₀)
  rw [BI.bigSep_eq_bigSepL_of_eq [(0, 0), (0, 1), (0, 2), (0, 3), (1, 0), (1, 1), (1, 2), (1, 3)] (by decide) (by decide)]
  rfl

theorem dnP_set (b k : ℕ) (hb : b < 2) (hk : k < 2) :
    (dnP b k hb hk).view.set = (Rect.unit (s := S2x2x512x1024) ![b, k, 0, 0] S1x1x512x1024.size (inbDn b k hb hk)).set :=
  (View.set_reshape _ _).trans (View.set_slice_whole _ _)

/-- The pieces' elements, by slot and part. -/
def dnSet (p : Fin 2 × Fin 2) : Finset (Idx (dnM.view.loc (c : Thread nD τ))) := (dnP p.1.val p.2.val p.1.isLt p.2.isLt).view.set

theorem mem_dnSet (p : Fin 2 × Fin 2) (i : S2x2x512x1024.Idx) : i ∈ dnSet c p ↔ (i 0).val = p.1.val ∧ (i 1).val = p.2.val := by
  unfold dnSet
  rw [dnP_set]
  refine Rect.mem_set_unit.trans ⟨fun h => ?_, fun h a => ?_⟩
  · have h0 : p.1.val ≤ (i 0).val ∧ (i 0).val < p.1.val + 1 := h 0
    have h1 : p.2.val ≤ (i 1).val ∧ (i 1).val < p.2.val + 1 := h 1
    omega
  · fin_cases a
    · show p.1.val ≤ (i 0).val ∧ (i 0).val < p.1.val + 1; omega
    · show p.2.val ≤ (i 1).val ∧ (i 1).val < p.2.val + 1; omega
    · exact ⟨Nat.zero_le _, by have : (i 2).val < 512 := (i 2).isLt; show (i 2).val < 0 + 512; omega⟩
    · exact ⟨Nat.zero_le _, by have : (i 3).val < 1024 := (i 3).isLt; show (i 3).val < 0 + 1024; omega⟩

theorem dnSet_disjoint (p p' : Fin 2 × Fin 2) (h : p ≠ p') : Disjoint (dnSet c p) (dnSet c p') := by
  rw [Finset.disjoint_left]
  intro i hi hi'
  have h1 := (mem_dnSet c p i).1 hi
  have h2 := (mem_dnSet c p' i).1 hi'
  exact h (Prod.ext (Fin.ext (h1.1.symm.trans h2.1)) (Fin.ext (h1.2.symm.trans h2.2)))

theorem dnSet_cover : Finset.univ.biUnion (dnSet c) = Finset.univ := by
  refine Finset.eq_univ_iff_forall.2 fun (i : S2x2x512x1024.Idx) => Finset.mem_biUnion.2 ⟨(i 0, i 1), Finset.mem_univ _, (mem_dnSet c _ i).2 ⟨rfl, rfl⟩⟩

theorem dn_cut (f : BufOf (F := F) c dnM) : heldAll c dnM fullShare f
    ⊢ iprop(dnPt c 0 0 k0lt2 k0lt2 f ∗ dnPt c 0 1 k0lt2 k1lt2 f ∗ dnPt c 1 0 k1lt2 k0lt2 f ∗ dnPt c 1 1 k1lt2 k1lt2 f) := by
  refine ent_of_eq ((pointsTo_blocks (dnSet c) (dnSet_disjoint c) (dnSet_cover c) f).trans ?_)
  rw [BI.bigSep_eq_bigSepL_of_eq [(0, 0), (0, 1), (1, 0), (1, 1)] (by decide) (by decide)]
  rfl

theorem dn_join (f₀ : BufOf (F := F) c dnM) :
    iprop((∃ f : BufOf (F := F) c dnM, dnPt c 0 0 k0lt2 k0lt2 f) ∗ (∃ f : BufOf (F := F) c dnM, dnPt c 0 1 k0lt2 k1lt2 f) ∗ (∃ f : BufOf (F := F) c dnM, dnPt c 1 0 k1lt2 k0lt2 f) ∗ (∃ f : BufOf (F := F) c dnM, dnPt c 1 1 k1lt2 k1lt2 f)) ⊢ iprop(∃ f : BufOf (F := F) c dnM, heldAll c dnM fullShare f) := by
  refine (ent_of_eq ?_).trans (pointsTo_blocks_join_exists (dnSet c) (dnSet_disjoint c) (dnSet_cover c) f₀)
  rw [BI.bigSep_eq_bigSepL_of_eq [(0, 0), (0, 1), (1, 0), (1, 1)] (by decide) (by decide)]
  rfl

theorem scratch_cut : iprop((∃ f : BufOf (F := F) c guM, heldAll c guM fullShare f) ∗ (∃ f : BufOf (F := F) c dnM, heldAll c dnM fullShare f))
    ⊢ iprop(freeSlot (F := F) c 0 k0lt2 ∗ freeSlot (F := F) c 1 k1lt2) := by
  unfold freeSlot
  iintro ⟨⟨%f, HG⟩, ⟨%f', HD⟩⟩
  ihave Z := (gu_cut c f) $$ HG
  icases Z with ⟨A0, A1, A2, A3, B0, B1, B2, B3⟩
  ihave Z := (dn_cut c f') $$ HD
  icases Z with ⟨A4, A5, B4, B5⟩
  isplitl [A0 A1 A2 A3 A4 A5]
  · isplitl [A0]; · iexists _; iexact A0
    isplitl [A1]; · iexists _; iexact A1
    isplitl [A2]; · iexists _; iexact A2
    isplitl [A3]; · iexists _; iexact A3
    isplitl [A4]; · iexists _; iexact A4
    iexists _; iexact A5
  isplitl [B0]; · iexists _; iexact B0
  isplitl [B1]; · iexists _; iexact B1
  isplitl [B2]; · iexists _; iexact B2
  isplitl [B3]; · iexists _; iexact B3
  isplitl [B4]; · iexists _; iexact B4
  iexists _; iexact B5

theorem scratch_join (f₀ : BufOf (F := F) c guM) (f₁ : BufOf (F := F) c dnM) : iprop(freeSlot (F := F) c 0 k0lt2 ∗ freeSlot (F := F) c 1 k1lt2)
    ⊢ iprop((∃ f : BufOf (F := F) c guM, heldAll c guM fullShare f) ∗ (∃ f : BufOf (F := F) c dnM, heldAll c dnM fullShare f)) := by
  unfold freeSlot
  iintro ⟨⟨A0, A1, A2, A3, A4, A5⟩, ⟨B0, B1, B2, B3, B4, B5⟩⟩
  isplitl [A0 A1 A2 A3 B0 B1 B2 B3]
  · iapply (gu_join c f₀)
    isplitl [A0]; · iexact A0
    isplitl [A1]; · iexact A1
    isplitl [A2]; · iexact A2
    isplitl [A3]; · iexact A3
    isplitl [B0]; · iexact B0
    isplitl [B1]; · iexact B1
    isplitl [B2]; · iexact B2
    iexact B3
  iapply (dn_join c f₁)
  isplitl [A4]; · iexact A4
  isplitl [A5]; · iexact A5
  isplitl [B4]; · iexact B4
  iexact B5

end Cert.KernelIdeal.Moe

end
-- ==== Proof.Moe.Launch.lean ====
/-
  The proof data of the one pipeline: what each window's buffer holds, and between grid points the tables' half shares
  beside the scratch buffers, the semaphores and the weights in the state the plan puts them in; the launch's resources
  go in at the state before the first point and come back after the last.
-/
module

public import proofs.«01_k».proof.Proof.Moe.Entry
public import proofs.«01_k».proof.Proof.Moe.Scratch
@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

open Cert.Plan Cert.HostPlan

variable (m : (ℓ : Loc nD τ sig) → Buf (Elt F) ℓ) (h : Good m)

/-- The activations' and the gain's blocks at a grid point. -/
def xBlk (c : Dev nD) (t : Fin grid0.N) : Vec F S256x1152 .f32 := (((cfgA m h).win 0).blk t).view.read (Elt F) (V m c main_arg1)
def gBlk (c : Dev nD) (t : Fin grid0.N) : Vec F S1x1024 .f32 := (((cfgA m h).win 1).blk t).view.read (Elt F) (V m c main_v96)

/-- What the body stores at a grid point. -/
@[irreducible] def outBlk (c : Dev nD) (t : Fin grid0.N) : Vec F S256x1024 .f32 :=
  blockAt c (V m c main_v97) (V m c main_v98) (V m c main_v99) (ks m) (xBlk m h c t) (gBlk m h c t) t.val

/-- Between grid points. -/
def St (c : Dev nD) (n : ℕ) : sProp 𝕄 :=
  iprop(heldAll c planM fullShare.right (V m c main_v93) ∗ heldAll c nactM fullShare.right (V m c main_v94) ∗ (∃ r, prngReg c r)
    ∗ stateAt c (V m c main_v97) (V m c main_v98) (V m c main_v99) (ks m) n)

def dats (_ : Fin 1) (c : Dev nD) : Dat τ (Elt F) Unit ℕ (Pipeline.UD sig nD τ) ℕ (cfgA m h) c where
  A w := V m c (Pipeline.arrRef spec0 w)
  after w t := match w with
    | ⟨0, _⟩ => xBlk m h c t
    | ⟨1, _⟩ => gBlk m h c t
    | ⟨2, _⟩ => outBlk m h c t
  Φ t := St m c t.val
  q _ := fullShare
  owed _ := 0

theorem A_eq (c : Dev nD) (w : Fin (cfgA m h).W) : (dats m h 0 c).A w = V m c (Pipeline.arrRef spec0 w) := by dsimp only [dats]
theorem after_0 (c : Dev nD) (t : Fin grid0.N) : (dats m h 0 c).after 0 t = xBlk m h c t := rfl
theorem after_1 (c : Dev nD) (t : Fin grid0.N) : (dats m h 0 c).after 1 t = gBlk m h c t := rfl
theorem after_2 (c : Dev nD) (t : Fin grid0.N) : (dats m h 0 c).after 2 t = outBlk m h c t := rfl

theorem before_0 (c : Dev nD) (t : Fin grid0.N) (d) : (dats m h 0 c).before 0 t d = xBlk m h c t :=
  (Dat.before_in_eq_fetched (dats m h 0 c) 0 rfl (fun _ => rfl) (fun _ _ _ => rfl) (fun _ => rfl) t d).trans rfl
theorem before_1 (c : Dev nD) (t : Fin grid0.N) (d) : (dats m h 0 c).before 1 t d = gBlk m h c t :=
  (Dat.before_in_eq_fetched (dats m h 0 c) 1 rfl (fun _ => rfl) (fun _ _ _ => rfl) (fun _ => rfl) t d).trans rfl

abbrev slot (t : Fin grid0.N) (w : Fin 3) := (cfgA m h).slots t w
abbrev ms0 (t : Fin grid0.N) : Memref sig .tc .vmem S256x1152 .f32 := spec0_0.stage ((cfgA m h).slots t 0)
abbrev ms1 (t : Fin grid0.N) : Memref sig .tc .vmem S1x1024 .f32 := spec0_1.stage ((cfgA m h).slots t 1)
abbrev ms2 (t : Fin grid0.N) : Memref sig .tc .vmem S256x1024 .f32 := spec0_2.stage ((cfgA m h).slots t 2)
theorem hs0 (t : Fin grid0.N) : (ms0 m h t).IsWhole := hstage0_0 (((cfgA m h).slots t 0).cast nbuf0_0)
theorem hs1 (t : Fin grid0.N) : (ms1 m h t).IsWhole := hstage0_1 (((cfgA m h).slots t 1).cast nbuf0_1)
theorem hs2 (t : Fin grid0.N) : (ms2 m h t).IsWhole := hstage0_2 (((cfgA m h).slots t 2).cast nbuf0_2)

/-- The body's call at a grid point. -/
def callAt (t : Fin grid0.N) : Prog (TpuEff nD τ sig (Elt F) Λ₀ .tc) PUnit :=
  cc0_moe (grid0.coords t) planM (Memref.isWhole_whole _) nactM (Memref.isWhole_whole _) (ms0 m h t) (hs0 m h t) (ms1 m h t) (hs1 m h t)
    gateM (Memref.isWhole_whole _) upM (Memref.isWhole_whole _) downM (Memref.isWhole_whole _) (ms2 m h t) (hs2 m h t)
    guM (Memref.isWhole_whole _) dnM (Memref.isWhole_whole _) cc0_scratch2

theorem defs₀_row (t : Fin grid0.N) : defs₀ (F := F) .tc (cfgA m h).body ((cfgA m h).bodyArgs t ((cfgA m h).slots t)) = callAt m h t := by
  unfold defs₀; rw [Defs.onTc_tc]; rfl

def bodyPre (c : Dev nD) (t : Fin grid0.N) : sProp 𝕄 :=
  iprop((dats m h 0 c).Φ t.castSucc ∗ (dats m h 0 c).owesAt () t.castSucc
    ∗ (∃ d, owns (c : Thread nD τ) (ms0 m h t) fullShare ((dats m h 0 c).before 0 t d))
    ∗ (∃ d, owns (c : Thread nD τ) (ms1 m h t) fullShare ((dats m h 0 c).before 1 t d))
    ∗ (∃ d, owns (c : Thread nD τ) (ms2 m h t) fullShare ((dats m h 0 c).before 2 t d)))
def bodyPost (c : Dev nD) (t : Fin grid0.N) : sProp 𝕄 :=
  iprop((dats m h 0 c).Φ t.succ ∗ (dats m h 0 c).owesAt () t.succ
    ∗ owns (c : Thread nD τ) (ms0 m h t) fullShare ((dats m h 0 c).after 0 t)
    ∗ owns (c : Thread nD τ) (ms1 m h t) fullShare ((dats m h 0 c).after 1 t)
    ∗ owns (c : Thread nD τ) (ms2 m h t) fullShare ((dats m h 0 c).after 2 t))

set_option maxHeartbeats 1000000 in
theorem sound_body (c : Dev nD) (t : Fin grid0.N) :
    bodyPre m h c t ⊢ wp frame (wpE (defs₀ (F := F)) Variants.none c none) Set.univ (callAt m h t) (fun _ => bodyPost m h c t) := by
  unfold bodyPre bodyPost
  have e1 : (dats m h 0 c).Φ t.castSucc = St m c t.val := rfl
  have e2 : (dats m h 0 c).Φ t.succ = St m c (t.val + 1) := rfl
  simp only [before_0, before_1]
  rw [e1, e2, after_0, after_1, after_2]
  unfold Dat.owesAt Pipeline.owesWithin
  rw [show (dats m h 0 c).owed t.castSucc = 0 from rfl, show (dats m h 0 c).owed t.succ = 0 from rfl]
  have hw := words m h c
  unfold St callAt
  rw [show owns (c : Thread nD τ) (ms0 m h t) fullShare (xBlk m h c t) = iprop(∃ f, ⌜(ms0 m h t).view.read (Elt F) f = xBlk m h c t⌝ ∗ ((ms0 m h t).view.loc (c : Thread nD τ) ↦[(ms0 m h t).view.set]{fullShare} f)) from rfl,
    show owns (c : Thread nD τ) (ms1 m h t) fullShare (gBlk m h c t) = iprop(∃ f, ⌜(ms1 m h t).view.read (Elt F) f = gBlk m h c t⌝ ∗ ((ms1 m h t).view.loc (c : Thread nD τ) ↦[(ms1 m h t).view.set]{fullShare} f)) from rfl]
  iintro ⟨⟨HT0, HT1, HP, HS⟩, ⟨%W, -, HW⟩, ⟨%d0, %x, %hx, H3⟩, ⟨%d1, %g, %hg, H4⟩, ⟨%d2, H8⟩⟩
  have eo : outBlk m h c t = blockAt c (V m c main_v97) (V m c main_v98) (V m c main_v99) (ks m) ((ms0 m h t).view.read (Elt F) x) ((ms1 m h t).view.read (Elt F) g) t.val := by
    unfold outBlk; rw [hx, hg]
  rw [eo]
  iapply (step c (grid0.coords t) (⟨t.val, t.isLt.trans_eq N_0⟩ : Fin 88) (coords_val t) (ms0 m h t) (hs0 m h t) (ms1 m h t) (hs1 m h t) (ms2 m h t) (hs2 m h t)
    (V m c main_v93) (V m c main_v94) x g (V m c main_v97) (V m c main_v98) (V m c main_v99) (ks m) h.sum hw W _)
  isplitl [HT0]; · iexact HT0
  isplitl [HT1]; · iexact HT1
  isplitl [H3]; · iexact H3
  isplitl [H4]; · iexact H4
  isplitl [H8]
  · unfold owns
    icases H8 with ⟨%f, -, H8⟩
    iexists f; iexact H8
  isplitl [HS]; · iexact HS
  isplitl [HW]; · iexact HW
  iintro ⟨HT0, HT1, H3, H4, H8, HS, ⟨%W', HW'⟩⟩
  isplitl [HT0 HT1 HP HS]
  · isplitl [HT0]; · iexact HT0
    isplitl [HT1]; · iexact HT1
    isplitl [HP]; · iexact HP
    iexact HS
  isplitl [HW']
  · iexists W'; isplitr; · ipureintro; exact fun _ _ => Or.inl trivial
    iexact HW'
  isplitl [H3]
  · iexists x; isplitr; · ipureintro; exact hx
    iexact H3
  isplitl [H4]
  · iexists g; isplitr; · ipureintro; exact hg
    iexact H4
  iexact H8

theorem body_obligation (c : Dev nD) : BodyObligation (dats m h 0 c) (defs₀ (F := F)) Variants.none () Set.univ := fun t => by
  rw [bigSep_W0, bigSep_W0, defs₀_row]
  refine triple_restated (sound_body m h c t) rfl .rfl fun _ => ?_
  unfold bodyPost
  refine sep_mono .rfl (sep_mono .rfl (sep_mono .rfl (sep_mono .rfl ?_)))
  show _ ⊢ (dats m h 0 c).leavesExact 2 t
  unfold Dat.leavesExact
  rw [idle_out m h]
  exact .rfl

end Cert.KernelIdeal.Moe

end
-- ==== Proof.Moe.Run.lean ====
/-
  The run: the launch's resources are the state before the first grid point, the state after the last gives them back,
  and every run ends with the result's blocks as the plan has them, every other unscoped buffer unchanged and every
  counter at zero.
-/
module

public import proofs.«01_k».proof.Proof.Moe.Launch
@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

open Cert.Plan Cert.HostPlan

variable (m : (ℓ : Loc nD τ sig) → Buf (Elt F) ℓ) (ρ : Dev nD → PrngReg) (h : Good m)

/-- The copies' two semaphores. -/
def osem0 : Fin 2 → SemLoc sig := fun j => (![SemLoc.dma 5, SemLoc.dma 6] : Fin 2 → SemLoc sig) j
theorem ownSemFacts0 : Pipeline.OwnSemFacts spec0 osem0 := by decide
theorem ownSems0_list (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma 5) 0 ∗ semVal ((c : Thread nD τ), SemLoc.dma 6) 0) := by
  rw [Pipeline.ownSems0_eq_of_list c osem0 [0, 1] (by decide) (by decide)]; rfl

/-- The weights the copies read. -/
def H0 : Finset (Ref sig .tc) := {main_v97, main_v98, main_v99}
theorem H0_sub : H0 ⊆ Pipeline.restRefsP sig pre0 spec0 := by decide
theorem H0_list (c : Dev nD) : (bigSep H0 fun b => ((c : Thread nD τ).loc b) ↦{fullShare} V m c b : sProp 𝕄)
    = iprop(heldAll c gateM fullShare (V m c main_v97) ∗ heldAll c upM fullShare (V m c main_v98) ∗ heldAll c downM fullShare (V m c main_v99)) := by
  rw [BI.bigSep_eq_bigSepL_of_eq [main_v97, main_v98, main_v99] (by decide) (by decide)]; rfl

theorem tables_list (c : Dev nD) (q : pre0.Contents (Elt F)) : (Pipeline.ΦT (U := Pipeline.UD sig nD τ) (τ := τ) pre0 q c : sProp 𝕄)
    = iprop(heldAll c planM fullShare.right (q 0) ∗ heldAll c nactM fullShare.right (q 1)) := by
  unfold Pipeline.ΦT Pipeline.prefHeld
  exact bigSep_univ_eq_bigSepL [(0 : Fin 2), (1 : Fin 2)] (by decide) (by decide) _

theorem halves (c : Dev nD) {sp : Space} {S : Shape} {e : EltTy} (M : Memref sig .tc sp S e) (f : BufOf (F := F) c M) :
    heldAll c M fullShare f ⊢ iprop(heldAll c M fullShare.left f ∗ heldAll c M fullShare.right f) :=
  (pointsTo_share (PosShare.mem_left_op_right fullShare)).1
theorem unhalves (c : Dev nD) {sp : Space} {S : Shape} {e : EltTy} (M : Memref sig .tc sp S e) (f : BufOf (F := F) c M) :
    iprop(heldAll c M fullShare.left f ∗ heldAll c M fullShare.right f) ⊢ heldAll c M fullShare f :=
  (pointsTo_share (PosShare.mem_left_op_right fullShare)).2

theorem weights_in (c : Dev nD) (fg : BufOf (F := F) c gateM) (fu : BufOf (F := F) c upM) (fd : BufOf (F := F) c downM) :
    iprop(heldAll c gateM fullShare fg ∗ heldAll c upM fullShare fu ∗ heldAll c downM fullShare fd) ⊢ weights c fg fu fd := by
  unfold weights
  iintro ⟨H0, H1, H2⟩
  ihave Z := (halves c gateM fg) $$ H0
  icases Z with ⟨A0, B0⟩
  ihave Z := (halves c upM fu) $$ H1
  icases Z with ⟨A1, B1⟩
  ihave Z := (halves c downM fd) $$ H2
  icases Z with ⟨A2, B2⟩
  isplitl [A0]; · iexact A0
  isplitl [A1]; · iexact A1
  isplitl [B0]; · iexact B0
  isplitl [B1]; · iexact B1
  isplitl [A2]; · iexact A2
  iexact B2
theorem weights_out (c : Dev nD) (fg : BufOf (F := F) c gateM) (fu : BufOf (F := F) c upM) (fd : BufOf (F := F) c downM) :
    weights c fg fu fd ⊢ iprop(heldAll c gateM fullShare fg ∗ heldAll c upM fullShare fu ∗ heldAll c downM fullShare fd) := by
  unfold weights
  iintro ⟨A0, A1, B0, B1, A2, B2⟩
  isplitl [A0 B0]
  · iapply (unhalves c gateM fg); isplitl [A0]; · iexact A0
    iexact B0
  isplitl [A1 B1]
  · iapply (unhalves c upM fu); isplitl [A1]; · iexact A1
    iexact B1
  iapply (unhalves c downM fd); isplitl [A2]; · iexact A2
  iexact B2

theorem state_end (c : Dev nD) (fg : BufOf (F := F) c gateM) (fu : BufOf (F := F) c upM) (fd : BufOf (F := F) c downM) (k : ℕ → ℕ)
    (hs : ((List.range 24).map k).sum = 16384) : stateAt c fg fu fd k 88 ⊢ atStart c fg fu fd := by
  have hna := na_bounds k hs
  have eh : Plan.hn k (na k - 1) = 0 := at_last k hs
  have e1 : stateAt c fg fu fd k 88 = afterTile c fg fu fd k (na k - 1) := by
    show afterTile c fg fu fd k (min (87 + 1) (na k) - 1) = _
    rw [show min (87 + 1) (na k) - 1 = na k - 1 by omega]
  rw [e1]
  unfold atStart afterTile running
  split
  · unfold other1
    rw [if_neg (by rw [eh]; decide)]
    iintro ⟨HA, H5, H6, HF, HW⟩
    isplitl [HA]; · iapply (haveSlot_free c fg fu fd 0 k0lt2 _ _ _ _); iexact HA
    isplitl [HF]; · iexact HF
    isplitl [H5]; · iexact H5
    isplitl [H6]; · iexact H6
    iexact HW
  · unfold other0
    rw [if_neg (by rw [eh]; decide)]
    iintro ⟨HA, H6, H5, HF, HW⟩
    isplitl [HF]; · iexact HF
    isplitl [HA]; · iapply (haveSlot_free c fg fu fd 1 k1lt2 _ _ _ _); iexact HA
    isplitl [H5]; · iexact H5
    isplitl [H6]; · iexact H6
    iexact HW

theorem hin (c : Dev nD) : iprop(Pipeline.ΦD osem0 spec0 H0 (V m) c ∗ Pipeline.ΦT pre0 (pf m) c) ⊢ St m c 0 := by
  rw [Pipeline.ΦD_eq, ownSems0_list, H0_list, tables_list, scopedRest0_eq]
  obtain rfl := dev_zero c
  unfold St
  show _ ⊢ iprop(heldAll 0 planM fullShare.right (V m 0 main_v93) ∗ heldAll 0 nactM fullShare.right (V m 0 main_v94) ∗ (∃ r, prngReg 0 r)
    ∗ atStart 0 (V m 0 main_v97) (V m 0 main_v98) (V m 0 main_v99))
  unfold atStart
  iintro ⟨⟨HR, HP, ⟨H5, H6⟩, HH⟩, HT0, HT1⟩
  isplitl [HT0]; · iexact HT0
  isplitl [HT1]; · iexact HT1
  isplitl [HP]; · iexact HP
  ihave Z := (scratch_cut (F := F) 0) $$ HR
  icases Z with ⟨HA, HB⟩
  isplitl [HA]; · iexact HA
  isplitl [HB]; · iexact HB
  isplitl [H5]; · iexact H5
  isplitl [H6]; · iexact H6
  iapply (weights_in 0 (V m 0 main_v97) (V m 0 main_v98) (V m 0 main_v99)); iexact HH

include h in
theorem hout (c : Dev nD) : St m c 88 ⊢ Pipeline.ΦD osem0 spec0 H0 (V m) c := by
  rw [Pipeline.ΦD_eq, ownSems0_list, H0_list, scopedRest0_eq]
  unfold St
  refine (sep_mono .rfl (sep_mono .rfl (sep_mono .rfl (state_end c _ _ _ (ks m) h.sum)))).trans ?_
  unfold atStart
  iintro ⟨-, -, HP, HA, HB, H5, H6, HW⟩
  isplitl [HA HB]
  · iapply (scratch_join c (V m c cc0_scratch0) (V m c cc0_scratch1)); isplitl [HA]; · iexact HA
    iexact HB
  isplitl [HP]; · iexact HP
  isplitl [H5 H6]
  · isplitl [H5]; · iexact H5
    iexact H6
  iapply (weights_out c (V m c main_v97) (V m c main_v98) (V m c main_v99)); iexact HW

theorem pf_eq (c : Dev nD) (k : Fin pre0.K) : V m c (pre0.ref k) = pf m k := by
  obtain rfl := dev_zero c; rfl

set_option backward.isDefEq.respectTransparency.types false in
theorem run_main : θ_run defs (onTc (τ := τ) (main (F := F))) (s₀ m ρ)
    (fun r => Pipeline.FramePost (Pipeline.pin (pcfgs (F := F)) fun _ => adm m h) (dats m h) 0 (V m) r ∧ r.2.sem = fun _ => 0) :=
  Pipeline.θ_run_frameP_dma (Q' := _) (pcfgs (F := F)) (fun _ => adm m h) (dats m h) (0 : Fin 1) launch0 osem0 defs₀ Variants.none ownSemFacts0 H0 H0_sub m ρ main
    (hbody := fun c => (body_obligation m h c).loose) (hshare := fun c => (dats m h 0 c).share_full fun _ => rfl)
    (howed := fun _ _ => rfl) (V := V m) (hmain := hmain m Variants.none) (hA := A_eq m h)
    (hpf := pf_eq m) (hin := fun c => hin m c) (hout := fun c => by
      show St m c (Fin.last grid0.N).val ⊢ _
      rw [show (Fin.last grid0.N).val = 88 from N_0]
      exact hout m h c)

end Cert.KernelIdeal.Moe

end
-- ==== Proof.Moe.Args.lean ====
/-
  What the host's operations leave alone and what they only reshape: the arguments arrive unchanged, and the gain and the
  weights as their own layer of the stacked tensors.
-/
module

public import proofs.«01_k».proof.Proof.Moe.Entry
public import Idealize.ShloMosaic.Lib.StableHlo.ReadAt
@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

open Cert.Plan Cert.HostPlan

/-- An argument is no operation's result. -/
theorem kept (V0 : Valuation τ sig (Elt F)) (b : Ref sig .tc) (hb : b ∈ [main_arg0, main_arg1, main_arg2, main_arg3, main_arg4, main_arg5]) :
    StableHlo.after opss.flatten V0 (Proc.devRef .tc b) = V0 (Proc.devRef .tc b) := by
  simp only [List.mem_cons, List.not_mem_nil, or_false] at hb
  simp only [opss, List.flatten_cons, List.flatten_nil, after_two, List.append_nil]
  rcases hb with rfl | rfl | rfl | rfl | rfl | rfl <;> after_reads_simp

variable (m : (ℓ : Loc nD τ sig) → Buf (Elt F) ℓ)

theorem V_arg (c : Dev nD) (b : Ref sig .tc) (hb : b ∈ [main_arg0, main_arg1, main_arg2, main_arg3, main_arg4, main_arg5]) :
    V m c b = m ((c : Thread nD τ).loc b) := by
  unfold V; exact kept (fun b => m (c, b)) b hb

theorem V_gain (c : Dev nD) : V m c main_v96 = shapeCast S1x1024 (shapeCast S1024 (m ((c : Thread nD τ).loc main_arg2) : Vec F S1x1024 .f32) shapeCasts_S1x1024_S1024) shapeCasts_S1024_S1x1024 := by
  unfold V
  simp only [opss, List.flatten_cons, List.flatten_nil, after_two, List.append_nil]
  after_reads_simp
  rfl
theorem V_gate (c : Dev nD) : V m c main_v97 = shapeCast S16x1024x512 (m ((c : Thread nD τ).loc main_arg3) : Vec F S1x16x1024x512 .f32) shapeCasts_S1x16x1024x512_S16x1024x512 := by
  unfold V
  simp only [opss, List.flatten_cons, List.flatten_nil, after_two, List.append_nil]
  after_reads_simp
  rfl
theorem V_up (c : Dev nD) : V m c main_v98 = shapeCast S16x1024x512 (m ((c : Thread nD τ).loc main_arg4) : Vec F S1x16x1024x512 .f32) shapeCasts_S1x16x1024x512_S16x1024x512 := by
  unfold V
  simp only [opss, List.flatten_cons, List.flatten_nil, after_two, List.append_nil]
  after_reads_simp
  rfl
theorem V_down (c : Dev nD) : V m c main_v99 = shapeCast S16x512x1024 (m ((c : Thread nD τ).loc main_arg5) : Vec F S1x16x512x1024 .f32) shapeCasts_S1x16x512x1024_S16x512x1024 := by
  unfold V
  simp only [opss, List.flatten_cons, List.flatten_nil, after_two, List.append_nil]
  after_reads_simp
  rfl

end Cert.KernelIdeal.Moe

end
-- ==== Proof.Moe.Frame.lean ====
/-
  The run in the claims' own words: every execution ends with the result as the pipeline's data have it, the arguments
  unchanged and every counter at zero.
-/
module

public import proofs.«01_k».proof.Proof.Moe.Run
public import proofs.«01_k».proof.Proof.Moe.Args
@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

open Cert.Plan Cert.HostPlan

variable (m : (ℓ : Loc nD τ sig) → Buf (Elt F) ℓ) (h : Good m)

/-- The arguments that are no window's array. -/
theorem rest (b : Ref sig .tc) (hb : b ∈ [main_arg0, main_arg2, main_arg3, main_arg4, main_arg5]) : b ∈ Pipeline.restRefs sig spec0 := by
  simp only [List.mem_cons, List.not_mem_nil, or_false] at hb
  rcases hb with rfl | rfl | rfl | rfl | rfl <;> exact Pipeline.mem_restRefs_of _ (by decide) (by decide)

/-- What the call returns. -/
def result (c : Dev nD) : Vec F S22528x1024 .f32 := (dats m h 0 c).arrAt 2 (Fin.last (cfgA m h).grid.N)

set_option backward.isDefEq.respectTransparency.types false in
theorem run (ρ : Dev nD → PrngReg) : θ_run defs (onTc (τ := τ) (main (F := F))) ⟨m, fun _ => 0, ρ⟩ (fun r =>
    (∀ c : Dev nD, r.2.mem ((c.tc : Thread nD τ).loc main_v100) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun r hr => ⟨fun c => ⟨(hr.1 c).1 2,
      ((hr.1 c).2 main_arg0 (rest main_arg0 (by decide))).trans (V_arg m c main_arg0 (by decide)),
      ((hr.1 c).1 0).trans (((dats m h 0 c).arrAt_in 0 rfl _).trans ((A_eq m h c 0).trans (V_arg m c main_arg1 (by decide)))),
      ((hr.1 c).2 main_arg2 (rest main_arg2 (by decide))).trans (V_arg m c main_arg2 (by decide)),
      ((hr.1 c).2 main_arg3 (rest main_arg3 (by decide))).trans (V_arg m c main_arg3 (by decide)),
      ((hr.1 c).2 main_arg4 (rest main_arg4 (by decide))).trans (V_arg m c main_arg4 (by decide)),
      ((hr.1 c).2 main_arg5 (rest main_arg5 (by decide))).trans (V_arg m c main_arg5 (by decide))⟩, hr.2⟩)
    (run_main m ρ h)

end Cert.KernelIdeal.Moe

end
-- ==== Proof.Claims.Frames.lean ====
/-
  The frames: the kernel's, as it is printed and read over the extended reals, from the run of each, and the
  reference's from the composed run of its operations.
-/
module

public import proofs.«01_k».proof.Defs
public import proofs.«01_k».proof.Proof.Gen.Kernel
public import proofs.«01_k».proof.Proof.Gen.Pre_counts_of_tokens
public import proofs.«01_k».proof.Proof.Gen.ReferenceIdeal.Run
public import proofs.«01_k».proof.Proof.Moe.Frame
public import proofs.«01_k».proof.Proof.WordMoe.Frame
@[expose] public section

noncomputable section

namespace Cert.Proof

open Idealize.ShloMosaic Idealize.SL.Sem Cert.KernelIdeal.Moe

/-- The precondition, on the counts as naturals. -/
theorem good {F : FTy → Type} [FloatOps F] [Cert.Pre_counts_of_tokens.Facts] (m : (ℓ : Loc Cert.KernelIdeal.nD Cert.KernelIdeal.τ Cert.KernelIdeal.sig) → Buf (Elt F) ℓ)
    (h : ∀ c : Dev Cert.KernelIdeal.nD, (Cert.Pre_counts_of_tokens.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = fun _ => 1#1) : Good m :=
  ⟨(Cert.HostPlan.pre_counts _ _ _ _ _ _ (h 0)).1, (Cert.HostPlan.pre_counts _ _ _ _ _ _ (h 0)).2⟩

attribute [local instance] Cert.Pre_counts_of_tokens.Gen.facts Cert.Kernel.Gen.facts Cert.KernelIdeal.Gen.facts Cert.ReferenceIdeal.Gen.facts

theorem kernel_ideal : Cert.quiescent_KernelIdeal := by
  intro m g hm
  exact (θ_run Cert.KernelIdeal.defs _ _).mono (fun r hr => ⟨fun c => (hr.1 c).2, hr.2⟩) (run m (good m hm) g)

/-- The same of the kernel as it is printed. -/
theorem good_word {F : FTy → Type} [FloatOps F] [Cert.Pre_counts_of_tokens.Facts] (m : (ℓ : Loc Cert.Kernel.nD Cert.Kernel.τ Cert.Kernel.sig) → Buf (Elt F) ℓ)
    (h : ∀ c : Dev Cert.Kernel.nD, (Cert.Pre_counts_of_tokens.fn (F := F) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = fun _ => 1#1) : Cert.Kernel.Moe.Good m :=
  ⟨(Cert.HostPlan.pre_counts _ _ _ _ _ _ (h 0)).1, (Cert.HostPlan.pre_counts _ _ _ _ _ _ (h 0)).2⟩

theorem kernel : Cert.quiescent_Kernel := by
  intro m g hm
  exact (θ_run Cert.Kernel.defs _ _).mono (fun r hr => ⟨fun c => (hr.1 c).2, hr.2⟩) (Cert.Kernel.Moe.run m (good_word m hm) g)

theorem reference : Cert.quiescent_ReferenceIdeal := by
  intro m g _
  exact (θ_run Cert.ReferenceIdeal.defs _ _).mono (fun r hr => ⟨fun c => (hr c).2, sem_eq_zero_of_no_sems (by decide) _⟩) (Cert.ReferenceIdeal.Value.run m g)

end Cert.Proof

end
-- ==== Proof.Value.Spec.lean ====
/-
  A row of the experts' layer over the extended reals, as mathematics: the normalised row, an expert's gated MLP of it,
  and the residual plus two experts' outputs times their gates.
-/
module

public import Idealize.ShloMosaic.PureOps.Ideal
public import Idealize.ShloMosaic.PureOps.Ideal.Laws
@[expose] public section

noncomputable section

namespace Cert.Value

open Idealize.ShloMosaic

/-- The row's mean square (the divisor the layer's 1024 features). -/
def meanSq (x : Fin 1024 → EReal) : EReal := Ideal.div (∑ k, x k * x k) (Ideal.ofBits .f32 0x44800000#32)
/-- The normalised row. -/
def hid (x g : Fin 1024 → EReal) (d : Fin 1024) : EReal := x d * Ideal.rsqrt (meanSq x + Ideal.ofBits .f32 0x358637BD#32) * g d
/-- A projection of the row onto an expert's feature. -/
def proj (h : Fin 1024 → EReal) (W : Fin 1024 → Fin 512 → EReal) (f : Fin 512) : EReal := ∑ d, h d * W d f
/-- The gated activation of a feature. -/
def act (a u : EReal) : EReal := Ideal.div a (1 + Ideal.exp (-a)) * u
/-- An expert's output at a column. -/
def mlp (h : Fin 1024 → EReal) (Wg Wu : Fin 1024 → Fin 512 → EReal) (Wd : Fin 512 → Fin 1024 → EReal) (q : Fin 1024) : EReal :=
  ∑ f, act (proj h Wg f) (proj h Wu f) * Wd f q
/-- The row after its two experts. -/
def rowOut (x g : Fin 1024 → EReal) (wa wb : EReal) (Wg Wu : Fin 16 → Fin 1024 → Fin 512 → EReal) (Wd : Fin 16 → Fin 512 → Fin 1024 → EReal)
    (ea eb : Fin 16) (q : Fin 1024) : EReal :=
  x q + (wa * mlp (hid x g) (Wg ea) (Wu ea) (Wd ea) q + wb * mlp (hid x g) (Wg eb) (Wu eb) (Wd eb) q)

end Cert.Value

end
-- ==== Proof.Value.Payloads.lean ====
/-
  The kernel's payloads at an index: one row of a tile.
-/
module

public import proofs.«01_k».proof.Proof.Value.Spec
public import proofs.«01_k».proof.Proof.Gen.KernelIdeal.Skeleton
public import Idealize.ShloMosaic.Lib.Pointwise
@[expose] public section

noncomputable section

namespace Cert.Value

open Idealize.ShloMosaic Cert.KernelIdeal Cert.KernelIdeal.Gen

variable (A : Vec Ideal S256x1024 .f32) (G : Vec Ideal S1x1024 .f32)

/-- The normalised rows. -/
theorem pay5 (r : Fin 256) (d : Fin 1024) :
    k0_pay5 (F := Ideal) A G (ix2 r d) = hid (fun k => A (ix2 r k)) (fun k => G (ix2 (0 : Fin 1) k)) d := by
  unfold hid meanSq
  pointwise [k0_pay5]

theorem pay6 (W : Vec Ideal S1x1x1024x512 .f32) (r : Fin 256) (f : Fin 512) :
    k0_pay6 (F := Ideal) A G W (ix2 r f) = proj (hid (fun k => A (ix2 r k)) (fun k => G (ix2 (0 : Fin 1) k))) (fun d f => W (ix4 (0 : Fin 1) (0 : Fin 1) d f)) f := by
  unfold proj
  pointwise [k0_pay6]
  simp only [pay5]

theorem pay7 (W : Vec Ideal S1x1x1024x512 .f32) (r : Fin 256) (f : Fin 512) :
    k0_pay7 (F := Ideal) A G W (ix2 r f) = proj (hid (fun k => A (ix2 r k)) (fun k => G (ix2 (0 : Fin 1) k))) (fun d f => W (ix4 (0 : Fin 1) (0 : Fin 1) d f)) f := by
  unfold proj
  pointwise [k0_pay7]
  simp only [pay5]

/-- The first expert's output times its gate. -/
theorem pay8 (w : FVec Ideal S256x1 .f32) (g u : FVec Ideal S256x512 .f32) (D : Vec Ideal S1x1x512x1024 .f32) (r : Fin 256) (q : Fin 1024) :
    k0_pay8 (F := Ideal) w g u D (ix2 r q) = w (ix2 r (0 : Fin 1)) * ∑ f : Fin 512, act (g (ix2 r f)) (u (ix2 r f)) * D (ix4 (0 : Fin 1) (0 : Fin 1) f q) := by
  unfold act
  pointwise [k0_pay8, zero_sub]

/-- The second expert's output times its gate. -/
theorem pay9 (w : FVec Ideal S256x1 .f32) (h : FVec Ideal S256x1024 .bf16) (Wg Wu : Vec Ideal S1x1x1024x512 .f32) (D : Vec Ideal S1x1x512x1024 .f32) (r : Fin 256) (q : Fin 1024) :
    k0_pay9 (F := Ideal) w h Wg Wu D (ix2 r q) = w (ix2 r (0 : Fin 1)) * mlp (fun k => h (ix2 r k)) (fun d f => Wg (ix4 (0 : Fin 1) (0 : Fin 1) d f))
      (fun d f => Wu (ix4 (0 : Fin 1) (0 : Fin 1) d f)) (fun f q => D (ix4 (0 : Fin 1) (0 : Fin 1) f q)) q := by
  unfold mlp act proj
  pointwise [k0_pay9, zero_sub]

end Cert.Value

end
-- ==== Proof.Value.TileRow.lean ====
/-
  A tile at an index: its row through the two experts.
-/
module

public import proofs.«01_k».proof.Proof.Value.Payloads
public import proofs.«01_k».proof.Proof.Moe.Tile
@[expose] public section

noncomputable section

namespace Cert.Value

open Idealize.ShloMosaic Cert.KernelIdeal Cert.KernelIdeal.Gen Cert.KernelIdeal.Moe

theorem tile_row (X : Vec Ideal S256x1152 .f32) (G : Vec Ideal S1x1024 .f32) (ga ua gb ub : Vec Ideal S1x1x1024x512 .f32) (da db : Vec Ideal S1x1x512x1024 .f32)
    (r : Fin 256) (q : Fin 1024) :
    tileOf (F := Ideal) X G ga ua gb ub da db (ix2 r q)
      = X (ix2 r (⟨q.val, by omega⟩ : Fin 1152))
        + (X (ix2 r (⟨1025, by omega⟩ : Fin 1152)) * mlp (hid (fun k => X (ix2 r (⟨k.val, by omega⟩ : Fin 1152))) fun k => G (ix2 (0 : Fin 1) k))
              (fun d f => ga (ix4 (0 : Fin 1) (0 : Fin 1) d f)) (fun d f => ua (ix4 (0 : Fin 1) (0 : Fin 1) d f)) (fun f q => da (ix4 (0 : Fin 1) (0 : Fin 1) f q)) q
          + X (ix2 r (⟨1026, by omega⟩ : Fin 1152)) * mlp (hid (fun k => X (ix2 r (⟨k.val, by omega⟩ : Fin 1152))) fun k => G (ix2 (0 : Fin 1) k))
              (fun d f => gb (ix4 (0 : Fin 1) (0 : Fin 1) d f)) (fun d f => ub (ix4 (0 : Fin 1) (0 : Fin 1) d f)) (fun f q => db (ix4 (0 : Fin 1) (0 : Fin 1) f q)) q) := by
  unfold tileOf
  pointwise [k0_pay1, k0_pay3, k0_pay4]
  rw [pay8, pay9]
  simp only [pay5, pay6, pay7]
  pointwise [mlp]

end Cert.Value

end
-- ==== Proof.Value.Layer.lean ====
/- The experts' layer at a row and a column: an active tile's row goes through its bucket's two experts, any other is zero. -/
module

public import proofs.«01_k».proof.Proof.Value.Spec
public import proofs.«01_k».proof.Proof.Plan.Facts

@[expose] public section

noncomputable section

namespace Cert.Value

open Idealize.ShloMosaic Cert.Plan

/-- Row `n` of the result at column `q`: its tile is `n / 256`, active below the plan's count. -/
def layer (k : ℕ → ℕ) (X : Fin 22528 → Fin 1152 → EReal) (g : Fin 1024 → EReal) (Wg Wu : Fin 16 → Fin 1024 → Fin 512 → EReal)
    (Wd : Fin 16 → Fin 512 → Fin 1024 → EReal) (n : Fin 22528) (q : Fin 1024) : EReal :=
  if n.val / 256 < na k then
    rowOut (fun d => X n ⟨d.val, by omega⟩) g (X n 1025) (X n 1026) Wg Wu Wd ⟨ea k (n.val / 256), ea_lt k _⟩ ⟨eb k (n.val / 256), eb_lt k _⟩ q
  else 0

/-- A sum over the experts whose gates are one at two of them. -/
theorem two_hot (a b : Fin 16) (hab : a ≠ b) (x y : EReal) (D : Fin 16 → EReal) :
    ∑ e : Fin 16, ((if a = e then (1 : EReal) else 0) * x + (if b = e then (1 : EReal) else 0) * y) * D e = x * D a + y * D b := by
  have h : ∀ e : Fin 16, ((if a = e then (1 : EReal) else 0) * x + (if b = e then (1 : EReal) else 0) * y) * D e
      = (if a = e then x * D e else 0) + (if b = e then y * D e else 0) := by
    intro e
    by_cases ha : a = e
    · have hb : b ≠ e := fun hb => hab (ha.trans hb.symm)
      simp [ha, hb]
    · by_cases hb : b = e
      · simp [ha, hb]
      · simp [ha, hb]
  rw [Finset.sum_congr rfl fun e _ => h e, Finset.sum_add_distrib, Finset.sum_ite_eq, Finset.sum_ite_eq]
  simp

/-- The two experts of a bucket differ. -/
theorem ea_ne_eb (b : ℕ) : b / 6 * 4 + pa (b % 6) ≠ b / 6 * 4 + pb (b % 6) := by
  unfold pa pb
  have : b % 6 < 6 := Nat.mod_lt _ (by decide)
  split_ifs <;> omega

/-- The bucket of a row is its tile's. -/
theorem count_row (k : ℕ → ℕ) (n : ℕ) : Nat.count (fun b => nd k b * 256 ≤ n) 24 = Nat.count (fun b => nd k b ≤ n / 256) 24 := by
  have : (fun b => nd k b * 256 ≤ n) = fun b => nd k b ≤ n / 256 := funext fun b => propext (Nat.le_div_iff_mul_le (by decide)).symm
  simp only [this]

theorem count_active (k : ℕ → ℕ) (t : ℕ) (ht : t < na k) : Nat.count (fun b => nd k b ≤ t) 24 = bk k t := by
  have e : ti k t = t := by unfold ti; omega
  have h := (count_spec k t ht).1
  unfold bk
  rw [e]
  omega

theorem count_idle (k : ℕ → ℕ) (t : ℕ) (ht : ¬ t < na k) : Nat.count (fun b => nd k b ≤ t) 24 = 24 := by
  refine Nat.count_iff_forall.2 fun b hb => ?_
  exact (nd_mono k (show b ≤ 23 by omega)).trans (not_lt.1 ht)

end Cert.Value

end
-- ==== Proof.Value.Blocks.lean ====
/- The blocks the kernel reads and writes, at an index of their arrays. -/
module

public import proofs.«01_k».proof.Proof.Value.TileRow
public import proofs.«01_k».proof.Proof.Value.Layer
public import proofs.«01_k».proof.Proof.Moe.Frame
@[expose] public section

noncomputable section

namespace Cert.Value

open Idealize.ShloMosaic Cert.KernelIdeal Cert.KernelIdeal.Gen Cert.KernelIdeal.Moe Cert.Plan
open Idealize.ShloMosaic.Pipeline (Window)

section Reads

variable {F : FTy → Type} [FloatOps F] (m : (ℓ : Loc nD τ sig) → Buf (Elt F) ℓ) (h : Good m) (c : Dev nD)

theorem lt88 (t : Fin grid0.N) : t.val < 88 := t.isLt.trans_eq N_0

/-- The block of rows an active grid point reads is its own tile's. -/
theorem index_0 (t : Fin grid0.N) (ht : t.val < na (ks m)) : (((cfgA m h).win 0).index t : Fin 2 → ℕ) = ![t.val, 0] := by
  have e := (words m h 0).ti ⟨t.val, lt88 t⟩
  have e' := congrArg BitVec.toNat e
  have ha := na_bounds (ks m) h.sum
  have hti : ti (ks m) t.val = t.val := by unfold ti; omega
  have hc : (⟨((grid0.coords t) 0).val, ((grid0.coords t) 0).isLt⟩ : Fin 88) = ⟨t.val, lt88 t⟩ := Fin.ext (coords_val t)
  rw [BitVec.toNat_ofNat, Nat.mod_eq_of_lt (by show ti (ks m) t.val < _; omega)] at e'
  change _ = ti (ks m) t.val at e'
  rw [hti] at e'
  refine (ix_eq (grid0.coords t) (pf m)).trans ?_
  rw [hc]
  exact congrArg (fun x => (![x, 0] : Fin 2 → ℕ)) e'

theorem xBlk_at (t : Fin grid0.N) (ht : t.val < na (ks m)) (r : Fin 256) (j : Fin 1152) :
    xBlk m h c t (ix2 r j) = (V m c main_arg1 : Vec F S22528x1152 .f32) (ix2 (⟨256 * t.val + r.val, by have := lt88 t; omega⟩ : Fin 22528) j) := by
  have hi := index_0 m h t ht
  refine congrArg (V m c main_arg1 : Vec F S22528x1152 .f32) (funext fun a => Fin.ext ?_)
  refine (Window.rect_emb_val ((cfgA m h).win 0) t (ix2 r j) a).trans ?_
  rw [hi]
  fin_cases a
  · show t.val * 256 + r.val = 256 * t.val + r.val; omega
  · show 0 * 1152 + j.val = j.val; omega

theorem gBlk_at (t : Fin grid0.N) (j : Fin 1024) : gBlk m h c t (ix2 (0 : Fin 1) j) = (V m c main_v96 : Vec F S1x1024 .f32) (ix2 (0 : Fin 1) j) := by
  refine congrArg (V m c main_v96 : Vec F S1x1024 .f32) (funext fun a => Fin.ext ?_)
  refine (Window.rect_emb_val ((cfgA m h).win 1) t (ix2 (0 : Fin 1) j) a).trans ?_
  fin_cases a
  · rfl
  · show 0 * 1024 + j.val = j.val; omega

theorem emb_2 (t : Fin grid0.N) (r : Fin 256) (q : Fin 1024) :
    (((cfgA m h).win 2).blk t).view.emb (ix2 r q) = ix2 (⟨256 * t.val + r.val, by have := lt88 t; omega⟩ : Fin 22528) q := by
  refine funext fun a => Fin.ext ?_
  refine (Window.rect_emb_val ((cfgA m h).win 2) t (ix2 r q) a).trans ?_
  have hc := coords_val t
  have h88 := lt88 t
  have e : (((cfgA m h).win 2).index t : Fin 2 → ℕ) = ![t.val, 0] := by
    show (![(BitVec.ofNat 32 ((grid0.coords t) 0).val).toNat, 0] : Fin 2 → ℕ) = _
    rw [hc, BitVec.toNat_ofNat, Nat.mod_eq_of_lt (by omega)]
  rw [e]
  fin_cases a
  · show t.val * 256 + r.val = 256 * t.val + r.val; omega
  · show 0 * 1024 + q.val = q.val; omega

/-- The result's block at a grid point is that point's tile. -/
theorem index_2 (t : Fin grid0.N) : ((cfgA m h).win 2).index t = (![t.val, 0] : Fin 2 → ℕ) := by
  show (![(BitVec.ofNat 32 ((grid0.coords t) 0).val).toNat, 0] : Fin 2 → ℕ) = _
  rw [coords_val t, BitVec.toNat_ofNat, Nat.mod_eq_of_lt (by have := lt88 t; omega)]

/-- The result's block leaves at every grid point. -/
theorem flush_2 (t : Fin grid0.N) : ((cfgA m h).win 2).flush t = true := by
  unfold Window.flush
  rw [Bool.and_eq_true]
  refine ⟨rfl, ?_⟩
  rw [Bool.or_eq_true, decide_eq_true_iff, decide_eq_true_iff]
  by_cases hl : t.val + 1 = grid0.N
  · exact Or.inl hl
  · refine Or.inr ⟨Nat.lt_of_le_of_ne t.isLt hl, fun he => ?_⟩
    have e : (![t.val + 1, 0] : Fin 2 → ℕ) = ![t.val, 0] := (index_2 m h ⟨t.val + 1, Nat.lt_of_le_of_ne t.isLt hl⟩).symm.trans (he.trans (index_2 m h t))
    have := congrFun e 0
    simp at this

end Reads

section Rows

variable (m : (ℓ : Loc nD τ sig) → Buf (Elt Ideal) ℓ) (h : Good m) (c : Dev nD)

/-- The arguments of the call: the rows, the gain and the experts' weights. -/
def aRows : Vec Ideal S22528x1152 .f32 := m ((c.tc : Thread nD τ).loc main_arg1)
def aGain : Vec Ideal S1x1024 .f32 := m ((c.tc : Thread nD τ).loc main_arg2)
def aGate : Vec Ideal S1x16x1024x512 .f32 := m ((c.tc : Thread nD τ).loc main_arg3)
def aUp : Vec Ideal S1x16x1024x512 .f32 := m ((c.tc : Thread nD τ).loc main_arg4)
def aDown : Vec Ideal S1x16x512x1024 .f32 := m ((c.tc : Thread nD τ).loc main_arg5)

theorem gain_at (j : Fin 1024) : (V m c main_v96 : Vec Ideal S1x1024 .f32) (ix2 (0 : Fin 1) j) = aGain m c (ix2 (0 : Fin 1) j) := by
  rw [V_gain]
  change shapeCast S1x1024 (shapeCast S1024 (aGain m c) shapeCasts_S1x1024_S1024) shapeCasts_S1024_S1x1024 (ix2 (0 : Fin 1) j) = _
  pointwise []

theorem gate_at (e : ℕ) (he : e < 16) (d : Fin 1024) (j : Fin 512) :
    guW (M := gateM) (V m c main_v97) e he (ix4 (0 : Fin 1) (0 : Fin 1) d j) = aGate m c (ix4 (0 : Fin 1) (⟨e, he⟩ : Fin 16) d j) := by
  rw [V_gate]
  change shapeCast S16x1024x512 (aGate m c) shapeCasts_S1x16x1024x512_S16x1024x512 (ix3 (⟨e, he⟩ : Fin 16) d j) = _
  pointwise []

theorem up_at (e : ℕ) (he : e < 16) (d : Fin 1024) (j : Fin 512) :
    guW (M := upM) (V m c main_v98) e he (ix4 (0 : Fin 1) (0 : Fin 1) d j) = aUp m c (ix4 (0 : Fin 1) (⟨e, he⟩ : Fin 16) d j) := by
  rw [V_up]
  change shapeCast S16x1024x512 (aUp m c) shapeCasts_S1x16x1024x512_S16x1024x512 (ix3 (⟨e, he⟩ : Fin 16) d j) = _
  pointwise []

theorem down_at (e : ℕ) (he : e < 16) (f : Fin 512) (j : Fin 1024) :
    dnW (M := downM) (V m c main_v99) e he (ix4 (0 : Fin 1) (0 : Fin 1) f j) = aDown m c (ix4 (0 : Fin 1) (⟨e, he⟩ : Fin 16) f j) := by
  rw [V_down]
  change shapeCast S16x512x1024 (aDown m c) shapeCasts_S1x16x512x1024_S16x512x1024 (ix3 (⟨e, he⟩ : Fin 16) f j) = _
  pointwise []

/-- The layer of the call's arguments. -/
@[irreducible] def out (n : Fin 22528) (q : Fin 1024) : EReal :=
  layer (ks m) (fun n d => aRows m c (ix2 n d)) (fun d => aGain m c (ix2 (0 : Fin 1) d)) (fun e d f => aGate m c (ix4 (0 : Fin 1) e d f))
    (fun e d f => aUp m c (ix4 (0 : Fin 1) e d f)) (fun e f d => aDown m c (ix4 (0 : Fin 1) e f d)) n q

theorem x_at (t : Fin grid0.N) (ht : t.val < na (ks m)) (r : Fin 256) (j : Fin 1152) :
    xBlk m h c t (ix2 r j) = aRows m c (ix2 (⟨256 * t.val + r.val, by have := lt88 t; omega⟩ : Fin 22528) j) :=
  (xBlk_at m h c t ht r j).trans (congrFun (V_arg m c main_arg1 (by decide)) _)

/-- A grid point's block, at an index, is the layer's row of its tile. -/
theorem out_row (t : Fin grid0.N) (r : Fin 256) (q : Fin 1024) :
    outBlk m h c t (ix2 r q) = out m c (⟨256 * t.val + r.val, by have := lt88 t; omega⟩ : Fin 22528) q := by
  have ed : (256 * t.val + r.val) / 256 = t.val := by omega
  unfold outBlk blockAt out layer
  simp only [ed]
  by_cases ht : t.val < na (ks m)
  · rw [if_pos ht, if_pos ht]
    unfold tileAt
    rw [tile_row]
    simp only [x_at m h c t ht, gBlk_at, gain_at, gate_at, up_at, down_at]
    rfl
  · rw [if_neg ht, if_neg ht]
    exact Ideal.ofBits_zero_f32

/-- What the call returns, as the layer of its arguments. -/
@[irreducible] def layerOut : Vec Ideal S22528x1024 .f32 := fun i => out m c (i 0) (i 1)

theorem layerOut_at (n : Fin 22528) (q : Fin 1024) : layerOut m c (ix2 n q) = out m c n q := by unfold layerOut; rfl

theorem flushed_at (t : Fin grid0.N) (y : S256x1024.Idx) : outBlk m h c t y = layerOut m c ((((cfgA m h).win 2).blk t).view.emb y) := by
  obtain ⟨r, q, rfl⟩ : ∃ (r : Fin 256) (q : Fin 1024), y = ix2 r q := ⟨y 0, y 1, by funext a; fin_cases a <;> rfl⟩
  exact (out_row m h c t r q).trans ((layerOut_at m c _ q).symm.trans (congrArg (layerOut m c) (emb_2 m h t r q)).symm)

theorem mem_2 (t : Fin grid0.N) (r : Fin 256) (q : Fin 1024) :
    (ix2 (⟨256 * t.val + r.val, by have := lt88 t; omega⟩ : Fin 22528) q : S22528x1024.Idx) ∈ (((cfgA m h).win 2).blk t).view.set :=
  emb_2 m h t r q ▸ View.emb_mem_set _ _

theorem split (i : S22528x1024.Idx) : ∃ (t : Fin grid0.N) (r : Fin 256) (q : Fin 1024), i = ix2 (⟨256 * t.val + r.val, by have := lt88 t; omega⟩ : Fin 22528) q := by
  have hi : (i 0).val < 22528 := (i 0).isLt
  refine ⟨⟨(i 0).val / 256, by rw [N_0]; omega⟩, ⟨(i 0).val % 256, Nat.mod_lt _ (by decide)⟩, i 1, ?_⟩
  funext a; fin_cases a
  · exact Fin.ext (by show (i 0).val = 256 * ((i 0).val / 256) + (i 0).val % 256; omega)
  · rfl

theorem cover (i : S22528x1024.Idx) : ∃ t : Fin grid0.N, ((cfgA m h).win 2).flush t = true ∧ i ∈ (((cfgA m h).win 2).blk t).view.set := by
  obtain ⟨t, r, q, rfl⟩ := split i
  exact ⟨t, flush_2 m h t, mem_2 m h t r q⟩

/-- The block that leaves, at an index of the window's block, read at any array `G`. -/
theorem cut_eq (t : Fin grid0.N) (X : Vec Ideal S256x1024 .f32) (G : Vec Ideal S22528x1024 .f32)
    (hX : ∀ y : S256x1024.Idx, X y = G ((((cfgA m h).win 2).blk t).view.emb y)) :
    ((cfgA m h).win 2).cut (grid0.coords t) X = (((cfgA m h).win 2).blk t).view.read (Elt Ideal) G :=
  funext fun y => hX y

theorem flushed_eq (t : Fin grid0.N) : (dats m h 0 c).flushed 2 t = (((cfgA m h).win 2).blk t).view.read (Elt Ideal) (layerOut m c) :=
  (congrArg (((cfgA m h).win 2).cut (grid0.coords t)) (after_2 m h c t)).trans (cut_eq m h t _ _ (flushed_at m h c t))

theorem result_eq : result m h c = layerOut m c :=
  (dats m h 0 c).arrAt_eq_of_cover 2 (layerOut m c) (fun t _ => flushed_eq m h c t) (cover m h)

end Rows

end Cert.Value

end
-- ==== Proof.Value.RefRow.lean ====
/- The reference's experts at an index: the normalised row, the projections, and every expert's output. -/
module

public import proofs.«01_k».proof.Proof.Value.Spec
public import proofs.«01_k».proof.Proof.Gen.ReferenceIdeal.Run
public import Idealize.ShloMosaic.Lib.Pointwise
public import Idealize.ShloMosaic.Lib.StableHlo.ReadAt

@[expose] public section

noncomputable section

namespace Cert.RefRow

open Idealize.ShloMosaic
open Cert.ReferenceIdeal Cert.ReferenceIdeal.Gen Cert.ReferenceIdeal.Value Cert.Value

variable (V : Valuation τ sig (Elt Ideal))

/-- The arguments of the reference: the rows, the gain and the experts' weights. -/
def rows : FVec Ideal S22528x1152 .f32 := V (Proc.devRef .tc main_arg1)
def gain : FVec Ideal S1x1024 .f32 := V (Proc.devRef .tc main_arg2)
def wGate : FVec Ideal S1x16x1024x512 .f32 := V (Proc.devRef .tc main_arg3)
def wUp : FVec Ideal S1x16x1024x512 .f32 := V (Proc.devRef .tc main_arg4)
def wDown : FVec Ideal S1x16x512x1024 .f32 := V (Proc.devRef .tc main_arg5)

/-- The normalised rows. -/
def hidden : FVec Ideal S22528x1024 .f32 := res_main_v61 V
/-- A projection of every row onto every expert's features. -/
def projOf (W : FVec Ideal S1x16x1024x512 .f32) (h : FVec Ideal S22528x1024 .f32) : FVec Ideal S16x22528x512 .f32 :=
  transpose S16x22528x512 [0, 2, 1] (Host.dotGeneral dot_S16x1024x512_S22528x1024_S16x512x22528_1_1_02_0_n_n none (shapeCast S16x1024x512 W shapeCasts_S1x16x1024x512_S16x1024x512) h) transposes_S16x512x22528_S16x22528x512_0_2_1
/-- The gated activations. -/
def actOf (a u : FVec Ideal S16x22528x512 .f32) : FVec Ideal S16x22528x512 .f32 :=
  mulf (mulf a (Host.divf (broadcastInDim S16x22528x512 ![] bcast_S_S16x22528x512 (constant S_ .f32 0x3F800000#32)) (addf (broadcastInDim S16x22528x512 ![] bcast_S_S16x22528x512 (constant S_ .f32 0x3F800000#32)) (Host.exp (Host.negf a))))) u
/-- Every expert's output for every row. -/
def downOf (D : FVec Ideal S1x16x512x1024 .f32) (a : FVec Ideal S16x22528x512 .f32) : FVec Ideal S16x22528x1024 .f32 :=
  Host.dotGeneral dot_S16x22528x512_S16x512x1024_S16x22528x1024_2_1_1_2_0_0 none a (shapeCast S16x512x1024 D shapeCasts_S1x16x512x1024_S16x512x1024)

theorem hidden_at (n : Fin 22528) (d : Fin 1024) :
    hidden V (ix2 n d) = hid (fun k => rows V (ix2 n (⟨k.val, by omega⟩ : Fin 1152))) (fun k => gain V (ix2 (0 : Fin 1) k)) d := by
  unfold hidden res_main_v61 res_main_v38
  change mulf (mulf (extractStridedSlice S22528x1024 ![0, 0] (rows V) _) _) (broadcastInDim _ _ _ (broadcastInDim _ _ _ (shapeCast S1024 (gain V) _))) (ix2 n d) = _
  clean_types
  pointwise [hid, meanSq]
  rfl

theorem proj_at (W : FVec Ideal S1x16x1024x512 .f32) (h : FVec Ideal S22528x1024 .f32) (e : Fin 16) (n : Fin 22528) (f : Fin 512) :
    projOf W h (ix3 e n f) = proj (fun d => h (ix2 n d)) (fun d f => W (ix4 (0 : Fin 1) e d f)) f := by
  unfold projOf
  pointwise [proj]
  exact Finset.sum_congr rfl fun d _ => mul_comm (_ : EReal) _

theorem exp_nonneg (x : EReal) : 0 ≤ Ideal.exp x := by
  induction x with
  | bot => exact le_refl _
  | top => exact le_top
  | coe r => exact EReal.coe_nonneg.2 (Real.exp_pos r).le

/-- A value times the reciprocal of the logistic's divisor is the value divided by it. -/
theorem mul_recip (a b : EReal) : a * Ideal.div 1 (1 + Ideal.exp b) = Ideal.div a (1 + Ideal.exp b) := by
  have h : (1 : EReal) + Ideal.exp b ≠ 0 := (lt_of_lt_of_le zero_lt_one (le_add_of_nonneg_right (exp_nonneg b))).ne'
  unfold Ideal.div
  rw [if_neg h, if_neg h, one_mul]

theorem act_at (a u : FVec Ideal S16x22528x512 .f32) (i : S16x22528x512.Idx) : actOf a u i = act (a i) (u i) := by
  unfold actOf
  pointwise [act]
  rw [mul_recip]

theorem down_at (D : FVec Ideal S1x16x512x1024 .f32) (a : FVec Ideal S16x22528x512 .f32) (e : Fin 16) (n : Fin 22528) (q : Fin 1024) :
    downOf D a (ix3 e n q) = ∑ f, a (ix3 e n f) * D (ix4 (0 : Fin 1) e f q) := by
  unfold downOf
  pointwise []

end Cert.RefRow

end
-- ==== Proof.Value.RefWords.lean ====
/- The reference's integer words at a row: its bucket, and the two experts of the bucket. -/
module

public import proofs.«01_k».proof.Proof.Gen.ReferenceIdeal.Run
public import proofs.«01_k».proof.Proof.Plan.Facts
public import Idealize.ShloMosaic.Lib.Routing.Words
public import Idealize.ShloMosaic.Lib.Routing.OpsSet
public import Idealize.ShloMosaic.Lib.Routing.OpsPair
public import Idealize.ShloMosaic.Lib.StableHlo.ReadAt

@[expose] public section

noncomputable section

namespace Cert.RefWords

open Idealize.ShloMosaic hiding ix0 ix1 ix2
open Idealize.ShloMosaic.TcCoe Idealize.ShloMosaic.ValueIdx Idealize.ShloMosaic.Routing
open Cert.ReferenceIdeal
open Cert.ReferenceIdeal.Gen Cert.ReferenceIdeal.Value Cert.Plan

variable {F : FTy → Type} [FloatOps F] (V : Valuation τ sig (Elt F)) (k : ℕ → ℕ)

/-- The bucket of a row: how many buckets end at or before it. -/
def bkr (n : ℕ) : ℕ := Nat.count (fun b => nd k b * 256 ≤ n) 24

theorem bkr_le (n : ℕ) : bkr k n ≤ 24 := Nat.count_le _

/-- The counts of the buckets, as the reference's first argument. -/
abbrev Counts : Prop := ∀ j : Fin 24, (V (Proc.devRef .tc main_arg0) : IVec S24 32) (ix1 j) = BitVec.ofNat 32 (k j)

variable {V k}

theorem v1_word (h : Counts V k) (j : Fin 24) : (res_main_v1 V : IVec S24 32) (ix1 j) = BitVec.ofNat 32 (k j + 255) := by
  unfold res_main_v1
  clean_types
  refine (congrArg (· + 255#32) (h j)).trans ?_
  rw [BitVec.ofNat_add]

theorem tiles (h : Counts V k) (hk : ∀ j : Fin 24, k j ≤ 16384) (j : Fin 24) :
    (select (andi (cmpi .ne (signi (res_main_v1 V)) (broadcastInDim S24 ![] bcast_S_S24 (signi (res_main_call0_v0 V)))) (cmpi .ne (Host.remsi (res_main_v1 V) (broadcastInDim S24 ![] bcast_S_S24 (res_main_call0_v0 V))) (broadcastInDim S24 ![] bcast_S_S24 (constantI S_ 32 0#32)))) (subi (res_main_call0_v2 V) (broadcastInDim S24 ![] bcast_S_S24 (constantI S_ 32 1#32))) (res_main_call0_v2 V) : IVec S24 32) (ix1 j)
      = BitVec.ofNat 32 (til k j) := by
  have := hk j
  exact pyDiv_ap bcast_S_S24 _ _ (ix1 j) (b := 256) (v1_word h j) rfl (by omega) (by decide) (by decide)

/-- The bucket word of a row. -/
theorem v13_word (h : Counts V k) (hk : ∀ j : Fin 24, k j ≤ 16384) (hs : ((List.range 24).map k).sum = 16384) (n : Fin 22528) :
    (res_main_v13 V : IVec S22528 32) (ix1 n) = BitVec.ofNat 32 (bkr k n) := by
  have hnd : ∀ j : Fin 24, nd k j ≤ 88 := fun j => nd_le k hs j (by omega)
  unfold res_main_v13
  clean_types
  refine reduce_count (n := 22528) (m := 24) (by decide) _ natLt_1_32 reducesTo_S22528x24_S22528_d1 h_S_ n (fun b => nd k b * 256 ≤ n) fun q => ?_
  have ec := cumsum1 (N := 24) (Nm1 := 23) rfl _ (til k) (tiles h hk) _ (bc0 bcast_S_S_ (constantI S_ 32 0#32) ix0) reduceWindows_S24_S24_w24s1p23_0 h_S_ q
  have e1 := (bcCols (n := 22528) (m := 24) bcast_S24_S1x24_1 bcast_S1x24_S22528x24_0_1 (muli _ (broadcastInDim S24 ![] bcast_S_S24 (constantI S_ 32 256#32))) n q).trans ((congrArg (· * 256#32) ec).trans (BitVec.ofNat_mul (nd k q) 256).symm)
  have e2 := (bcRows bcast_S22528_S22528x1_0 bcast_S22528x1_S22528x24_0_1 (iotaInDim S22528 32 0) n q).trans (iota1_ap n)
  refine (iff_of_eq (congrArg (· = 1#1) (congrArg₂ (IntOp.cmpi .sle) e1 e2))).trans ?_
  have := hnd q
  have hn := n.isLt
  change nd k q ≤ 88 at this
  change IntOp.cmpi .sle (BitVec.ofNat 32 (nd k q * 256)) (BitVec.ofNat 32 n.val) = 1#1 ↔ nd k q * 256 ≤ n.val
  unfold IntOp.cmpi
  rw [sle_ofNat32 (by omega) (by omega)]
  by_cases hq : nd k q * 256 ≤ n.val <;> simp [hq]

/-- The remainder words of a row's bucket. -/
theorem v17_word {n : Fin 22528} {b : ℕ} (h : (res_main_v13 V : IVec S22528 32) (ix1 n) = BitVec.ofNat 32 b) (hb : b ≤ 24) :
    (res_main_v17 V : IVec S22528 32) (ix1 n) = BitVec.ofNat 32 (b % 6) :=
  pyRem_ap bcast_S_S22528 (res_main_v13 V) (res_main_call3_v0 V) (ix1 n) (b := 6) h rfl (by omega) (by decide) (by decide)

theorem v29_word {n : Fin 22528} {b : ℕ} (h : (res_main_v13 V : IVec S22528 32) (ix1 n) = BitVec.ofNat 32 b) (hb : b ≤ 24) :
    (res_main_v29 V : IVec S22528 32) (ix1 n) = BitVec.ofNat 32 (b % 6) :=
  pyRem_ap bcast_S_S22528 (res_main_v13 V) (res_main_call5_v0 V) (ix1 n) (b := 6) h rfl (by omega) (by decide) (by decide)

/-- A word read through the host's wrap of negative indices, in a column of indices. -/
theorem wrap_col (x y z : IVec S22528 32) (hz : ∀ i, z i = 0#32) (t : Fin 22528) (n : ℕ) (hn : n < 2 ^ 31) (hx : x (ix1 t) = BitVec.ofNat 32 n) :
    (broadcastInDim S22528x1 ![0] bcast_S22528_S22528x1_0 (select (cmpi .slt x z) y x) : IVec S22528x1 32) (ix2 t (0 : Fin 1)) = BitVec.ofNat 32 n := by
  refine (bcCol bcast_S22528_S22528x1_0 _ t).trans ?_
  show Scalar.select (IntOp.cmpi .slt (x (ix1 t)) (z (ix1 t))) (y (ix1 t)) (x (ix1 t)) = _
  rw [hz, hx]
  refine wrap_of_lt _ _ ?_
  rw [BitVec.toNat_ofNat, Nat.mod_eq_of_lt (by omega)]
  exact hn

theorem lit0_word (p : Fin 6) : (fun i : S6.Idx => lit0 (S6.rowMajor i)) (ix1 p) = BitVec.ofNat 32 (pa p) := by
  have e : S6.rowMajor (ix1 p) = p := Fin.ext (Shape.rowMajor_val_one _)
  show lit0 (S6.rowMajor (ix1 p)) = _
  rw [e]
  fin_cases p <;> rfl

theorem lit1_word (p : Fin 6) : (fun i : S6.Idx => lit1 (S6.rowMajor i)) (ix1 p) = BitVec.ofNat 32 (pb p) := by
  have e : S6.rowMajor (ix1 p) = p := Fin.ext (Shape.rowMajor_val_one _)
  show lit1 (S6.rowMajor (ix1 p)) = _
  rw [e]
  fin_cases p <;> rfl

/-- The first expert's word, as the reference's operations make it. -/
def wordA (V : Valuation τ sig (Elt F)) : IVec S22528 32 := addi (muli (select (andi (cmpi .ne (signi (res_main_v13 V)) (broadcastInDim S22528 ![] bcast_S_S22528 (signi (res_main_call2_v0 V)))) (cmpi .ne (Host.remsi (res_main_v13 V) (broadcastInDim S22528 ![] bcast_S_S22528 (res_main_call2_v0 V))) (broadcastInDim S22528 ![] bcast_S_S22528 (constantI S_ 32 0#32)))) (subi (res_main_call2_v2 V) (broadcastInDim S22528 ![] bcast_S_S22528 (constantI S_ 32 1#32))) (res_main_call2_v2 V)) (broadcastInDim S22528 ![] bcast_S_S22528 (constantI S_ 32 4#32))) (Host.gather gather_S6_S22528x1_S22528_n_0_n_n_0_1_1 ((fun i => lit0 (S6.rowMajor i))) (broadcastInDim S22528x1 ![0] bcast_S22528_S22528x1_0 (select (cmpi .slt (res_main_v17 V) (broadcastInDim S22528 ![] bcast_S_S22528 (constantI S_ 32 0#32))) (addi (res_main_v17 V) (broadcastInDim S22528 ![] bcast_S_S22528 (constantI S_ 32 6#32))) (res_main_v17 V))))

/-- The second expert's word. -/
def wordB (V : Valuation τ sig (Elt F)) : IVec S22528 32 := addi (muli (select (andi (cmpi .ne (signi (res_main_v13 V)) (broadcastInDim S22528 ![] bcast_S_S22528 (signi (res_main_call4_v0 V)))) (cmpi .ne (Host.remsi (res_main_v13 V) (broadcastInDim S22528 ![] bcast_S_S22528 (res_main_call4_v0 V))) (broadcastInDim S22528 ![] bcast_S_S22528 (constantI S_ 32 0#32)))) (subi (res_main_call4_v2 V) (broadcastInDim S22528 ![] bcast_S_S22528 (constantI S_ 32 1#32))) (res_main_call4_v2 V)) (broadcastInDim S22528 ![] bcast_S_S22528 (constantI S_ 32 4#32))) (Host.gather gather_S6_S22528x1_S22528_n_0_n_n_0_1_1 ((fun i => lit1 (S6.rowMajor i))) (broadcastInDim S22528x1 ![0] bcast_S22528_S22528x1_0 (select (cmpi .slt (res_main_v29 V) (broadcastInDim S22528 ![] bcast_S_S22528 (constantI S_ 32 0#32))) (addi (res_main_v29 V) (broadcastInDim S22528 ![] bcast_S_S22528 (constantI S_ 32 6#32))) (res_main_v29 V))))

theorem wordA_at {n : Fin 22528} {b : ℕ} (h : (res_main_v13 V : IVec S22528 32) (ix1 n) = BitVec.ofNat 32 b) (hb : b ≤ 24) :
    wordA V (ix1 n) = BitVec.ofNat 32 (b / 6 * 4 + pa (b % 6)) := by
  have e := gather_take1 gather_S6_S22528x1_S22528_n_0_n_n_0_1_1 rfl rfl rfl rfl (fun i : S6.Idx => lit0 (S6.rowMajor i)) _ n
    ⟨b % 6, by omega⟩ (wrap_col (res_main_v17 V) (addi (res_main_v17 V) (broadcastInDim S22528 ![] bcast_S_S22528 (constantI S_ 32 6#32))) (broadcastInDim S22528 ![] bcast_S_S22528 (constantI S_ 32 0#32)) (fun _ => rfl) n (b % 6) (by omega) (v17_word h hb)) (by decide)
  have hd := pyDiv_ap bcast_S_S22528 (res_main_v13 V) (res_main_call2_v0 V) (ix1 n) (b := 6) h rfl (by omega) (by decide) (by decide)
  refine (congrArg₂ (· + ·) (congrArg (· * 4#32) hd) (e.trans (lit0_word _))).trans ?_
  rw [show (4#32 : BitVec 32) = BitVec.ofNat 32 4 from rfl, ← BitVec.ofNat_mul, ← BitVec.ofNat_add]

theorem wordB_at {n : Fin 22528} {b : ℕ} (h : (res_main_v13 V : IVec S22528 32) (ix1 n) = BitVec.ofNat 32 b) (hb : b ≤ 24) :
    wordB V (ix1 n) = BitVec.ofNat 32 (b / 6 * 4 + pb (b % 6)) := by
  have e := gather_take1 gather_S6_S22528x1_S22528_n_0_n_n_0_1_1 rfl rfl rfl rfl (fun i : S6.Idx => lit1 (S6.rowMajor i)) _ n
    ⟨b % 6, by omega⟩ (wrap_col (res_main_v29 V) (addi (res_main_v29 V) (broadcastInDim S22528 ![] bcast_S_S22528 (constantI S_ 32 6#32))) (broadcastInDim S22528 ![] bcast_S_S22528 (constantI S_ 32 0#32)) (fun _ => rfl) n (b % 6) (by omega) (v29_word h hb)) (by decide)
  have hd := pyDiv_ap bcast_S_S22528 (res_main_v13 V) (res_main_call4_v0 V) (ix1 n) (b := 6) h rfl (by omega) (by decide) (by decide)
  refine (congrArg₂ (· + ·) (congrArg (· * 4#32) hd) (e.trans (lit1_word _))).trans ?_
  rw [show (4#32 : BitVec 32) = BitVec.ofNat 32 4 from rfl, ← BitVec.ofNat_mul, ← BitVec.ofNat_add]

end Cert.RefWords
-- ==== Proof.Value.RefOut.lean ====
/- The reference's result at an index: where the row's tile is active, the row through its bucket's two experts. -/
module

public import proofs.«01_k».proof.Proof.Value.RefRow
public import proofs.«01_k».proof.Proof.Value.RefWords
public import proofs.«01_k».proof.Proof.Value.Layer
public import Idealize.ShloMosaic.Lib.WordCmp

@[expose] public section

noncomputable section

namespace Cert.RefRow

open Idealize.ShloMosaic
open Cert.ReferenceIdeal Cert.ReferenceIdeal.Gen Cert.ReferenceIdeal.Value Cert.Value Cert.RefWords Cert.Plan

/-- A row's gates over the experts, from the words of its two experts. -/
def gatesOf (A B : IVec S22528 32) (X : FVec Ideal S22528x1152 .f32) : FVec Ideal S22528x16 .f32 :=
  addf (mulf (uitofp .f32 (cmpi .eq (broadcastInDim S22528x16 ![0, 1] bcast_S22528x1_S22528x16_0_1 (broadcastInDim S22528x1 ![0] bcast_S22528_S22528x1_0 A)) (broadcastInDim S22528x16 ![0, 1] bcast_S1x16_S22528x16_0_1 (iotaInDim S1x16 32 1)))) (broadcastInDim S22528x16 ![0, 1] bcast_S22528x1_S22528x16_0_1 (extractStridedSlice S22528x1 ![0, 1025] X slices_S22528x1152_S22528x1_0_1025)))
    (mulf (uitofp .f32 (cmpi .eq (broadcastInDim S22528x16 ![0, 1] bcast_S22528x1_S22528x16_0_1 (broadcastInDim S22528x1 ![0] bcast_S22528_S22528x1_0 B)) (broadcastInDim S22528x16 ![0, 1] bcast_S1x16_S22528x16_0_1 (iotaInDim S1x16 32 1)))) (broadcastInDim S22528x16 ![0, 1] bcast_S22528x1_S22528x16_0_1 (extractStridedSlice S22528x1 ![0, 1026] X slices_S22528x1152_S22528x1_0_1026)))

/-- The result, from the gates and every expert's output. -/
def outOf (W : IVec S22528 32) (X : FVec Ideal S22528x1152 .f32) (G : FVec Ideal S22528x16 .f32) (D : FVec Ideal S16x22528x1024 .f32) : FVec Ideal S22528x1024 .f32 :=
  select (broadcastInDim S22528x1024 ![0, 1] bcast_S22528x1_S22528x1024_0_1 (broadcastInDim S22528x1 ![0] bcast_S22528_S22528x1_0 (cmpi .slt W (broadcastInDim S22528 ![] bcast_S_S22528 (constantI S_ 32 24#32)))))
    (addf (extractStridedSlice S22528x1024 ![0, 0] X slices_S22528x1152_S22528x1024_0_0) (Host.reduceAdd (mulf (broadcastInDim S16x22528x1024 ![0, 1, 2] bcast_S16x22528x1_S16x22528x1024_0_1_2 (broadcastInDim S16x22528x1 ![0, 1] bcast_S16x22528_S16x22528x1_0_1 (transpose S16x22528 [1, 0] G transposes_S22528x16_S16x22528_1_0))) D) (constant S_ .f32 0x00000000#32) reducesTo_S16x22528x1024_S22528x1024_d0 h_S_))
    (broadcastInDim S22528x1024 ![] bcast_S_S22528x1024 (id (constant S_ .f32 0x00000000#32)))

theorem gates_at (A B : IVec S22528 32) (X : FVec Ideal S22528x1152 .f32) (n : Fin 22528) (e : Fin 16) :
    gatesOf A B X (ix2 n e)
      = FloatOps.uitofp (F := Ideal) .f32 (IntOp.cmpi .eq (A (ix1 n)) (BitVec.ofNat 32 e.val)) * X (ix2 n (1025 : Fin 1152))
        + FloatOps.uitofp (F := Ideal) .f32 (IntOp.cmpi .eq (B (ix1 n)) (BitVec.ofNat 32 e.val)) * X (ix2 n (1026 : Fin 1152)) := by
  unfold gatesOf
  pointwise []

theorem out_at (W : IVec S22528 32) (X : FVec Ideal S22528x1152 .f32) (G : FVec Ideal S22528x16 .f32) (D : FVec Ideal S16x22528x1024 .f32) (n : Fin 22528) (q : Fin 1024) :
    outOf W X G D (ix2 n q)
      = Scalar.select (IntOp.cmpi .slt (W (ix1 n)) 24#32) (X (ix2 n (⟨q.val, by omega⟩ : Fin 1152)) + ∑ e, G (ix2 n e) * D (ix3 e n q)) 0 := by
  unfold outOf
  pointwise []
  rw [show id (constant (F := Ideal) S_ .f32 0x00000000#32) ix0 = (0 : EReal) from Ideal.ofBits_zero_f32]

/-- The gate of an expert: one at the word's expert. -/
theorem hot (a : ℕ) (ha : a < 16) (e : Fin 16) :
    FloatOps.uitofp (F := Ideal) .f32 (IntOp.cmpi .eq (BitVec.ofNat 32 a) (BitVec.ofNat 32 e.val)) = if (⟨a, ha⟩ : Fin 16) = e then (1 : EReal) else 0 := by
  rw [WordCmp.cmpi_eq_ofNat (by omega) (by omega)]
  show (((BitVec.ofBool (decide (a = e.val))).toNat : ℝ) : EReal) = _
  by_cases h : a = e.val
  · rw [if_pos (Fin.ext h), decide_eq_true h]; simp
  · rw [if_neg fun h' => h (congrArg Fin.val h'), decide_eq_false h]; simp

variable (V : Valuation τ sig (Elt Ideal)) (k : ℕ → ℕ)

/-- What the reference returns. -/
def refOut : FVec Ideal S22528x1024 .f32 :=
  outOf (res_main_v13 V) (rows V) (gatesOf (wordA V) (wordB V) (rows V)) (downOf (wDown V) (actOf (projOf (wGate V) (hidden V)) (projOf (wUp V) (hidden V))))

theorem ref_row (h : Counts V k) (hk : ∀ j : Fin 24, k j ≤ 16384) (hs : ((List.range 24).map k).sum = 16384) (n : Fin 22528) (q : Fin 1024) :
    refOut V (ix2 n q) = layer k (fun n d => rows V (ix2 n d)) (fun d => gain V (ix2 (0 : Fin 1) d)) (fun e d f => wGate V (ix4 (0 : Fin 1) e d f))
      (fun e d f => wUp V (ix4 (0 : Fin 1) e d f)) (fun e f d => wDown V (ix4 (0 : Fin 1) e f d)) n q := by
  have hw : (res_main_v13 V : IVec S22528 32) (ix1 n) = BitVec.ofNat 32 (bkr k n) := v13_word h hk hs n
  have hb := bkr_le k n
  have ec : bkr k n = Nat.count (fun b => nd k b ≤ n.val / 256) 24 := count_row k n
  unfold refOut layer
  rw [out_at, hw, show (24#32 : BitVec 32) = BitVec.ofNat 32 24 from rfl, WordCmp.cmpi_slt_ofNat (by omega) (by decide)]
  by_cases ht : n.val / 256 < na k
  · rw [if_pos ht]
    have hbk : bkr k n = bk k (n.val / 256) := ec.trans (count_active k _ ht)
    have h24 : bkr k n < 24 := by rw [hbk]; unfold bk; omega
    rw [decide_eq_true h24]
    have eA : wordA V (ix1 n) = BitVec.ofNat 32 (ea k (n.val / 256)) := (wordA_at hw hb).trans (by rw [hbk]; rfl)
    have eB : wordB V (ix1 n) = BitVec.ofNat 32 (eb k (n.val / 256)) := (wordB_at hw hb).trans (by rw [hbk]; rfl)
    have hne : (⟨ea k (n.val / 256), ea_lt k _⟩ : Fin 16) ≠ ⟨eb k (n.val / 256), eb_lt k _⟩ := fun h' => ea_ne_eb (bk k (n.val / 256)) (congrArg Fin.val h')
    show _ + _ = _
    unfold rowOut
    refine congrArg₂ (fun x y : EReal => x + y) rfl ?_
    refine (Finset.sum_congr rfl fun e _ => ?_).trans (two_hot _ _ hne _ _ fun e => mlp (hid (fun d : Fin 1024 => rows V (ix2 n ⟨d.val, by omega⟩)) fun d => gain V (ix2 (0 : Fin 1) d)) (fun d f => wGate V (ix4 (0 : Fin 1) e d f)) (fun d f => wUp V (ix4 (0 : Fin 1) e d f)) (fun f d => wDown V (ix4 (0 : Fin 1) e f d)) q)
    rw [gates_at, eA, eB, hot _ (ea_lt k _), hot _ (eb_lt k _), down_at]
    refine congrArg₂ (fun x y : EReal => x * y) rfl ?_
    unfold mlp
    refine Finset.sum_congr rfl fun f _ => ?_
    rw [act_at, proj_at, proj_at]
    simp only [hidden_at]
  · rw [if_neg ht]
    have h24 : ¬ bkr k n < 24 := by rw [ec, count_idle k _ ht]; omega
    rw [decide_eq_false h24]
    rfl

end Cert.RefRow

end
-- ==== Proof.Claims.Algebraic.lean ====
/-
  The value claim: at the extended reals the kernel and the reference, on the same arguments, both return the
  layer of those arguments.
-/
module

public import proofs.«01_k».proof.Defs
public import proofs.«01_k».proof.Proof.Claims.Frames
public import proofs.«01_k».proof.Proof.Value.Blocks
public import proofs.«01_k».proof.Proof.Value.RefOut
@[expose] public section

noncomputable section

namespace Cert.Proof

open Idealize.ShloMosaic Idealize.ShloMosaic.StableHlo Idealize.SL.Sem Cert.KernelIdeal.Moe Cert.Value

attribute [local instance] Cert.Pre_counts_of_tokens.Gen.facts Cert.Kernel.Gen.facts Cert.KernelIdeal.Gen.facts Cert.ReferenceIdeal.Gen.facts

/-- The reference's memories hold the kernel's arguments. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's counts are the kernel's. -/
theorem counts (hs : Same m m') (c : Dev Cert.KernelIdeal.nD) : Cert.RefWords.Counts (launchContents m' c) (ks m) := by
  intro j
  obtain rfl := dev_zero c
  exact (congrFun (hs 0).1 (ix1 j)).trans (Cert.HostPlan.kOf_word _ j)

theorem rows_eq (hs : Same m m') (c : Dev Cert.KernelIdeal.nD) : Cert.RefRow.rows (launchContents m' c) = aRows m c := (hs c).2.1
theorem gain_eq (hs : Same m m') (c : Dev Cert.KernelIdeal.nD) : Cert.RefRow.gain (launchContents m' c) = aGain m c := (hs c).2.2.1
theorem gate_eq (hs : Same m m') (c : Dev Cert.KernelIdeal.nD) : Cert.RefRow.wGate (launchContents m' c) = aGate m c := (hs c).2.2.2.1
theorem up_eq (hs : Same m m') (c : Dev Cert.KernelIdeal.nD) : Cert.RefRow.wUp (launchContents m' c) = aUp m c := (hs c).2.2.2.2.1
theorem down_eq (hs : Same m m') (c : Dev Cert.KernelIdeal.nD) : Cert.RefRow.wDown (launchContents m' c) = aDown m c := (hs c).2.2.2.2.2

/-- What the reference returns is the layer of the kernel's arguments. -/
theorem ref_out (h : Good m) (hs : Same m m') (c : Dev Cert.KernelIdeal.nD) : Cert.RefRow.refOut (launchContents m' c) = layerOut m c := by
  funext i
  obtain ⟨n, q, rfl⟩ : ∃ (n : Fin 22528) (q : Fin 1024), i = ix2 n q := ⟨i 0, i 1, by funext a; fin_cases a <;> rfl⟩
  rw [layerOut_at, Cert.RefRow.ref_row (launchContents m' c) (ks m) (counts m m' hs c) h.le h.sum n q, rows_eq m m' hs c, gain_eq m m' hs c, gate_eq m m' hs c, up_eq m m' hs c,
    down_eq m m' hs c]
  unfold out
  rfl

/-- The reference's run, with the term of its operations folded to `refOut`. -/
theorem ref_run (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v81) = Cert.RefRow.refOut (launchContents m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  Cert.ReferenceIdeal.Value.run m' g'

theorem algebraic : Cert.algebraic_KernelIdeal_ReferenceIdeal := by
  intro m g m' g' hm hs
  refine ⟨fun c => layerOut m c, ?_, ?_⟩
  · refine (θ_run Cert.KernelIdeal.defs _ _).mono (fun r hr c => ?_) (run m (good m hm) g)
    exact ⟨(hr.1 c).1.trans (result_eq m (good m hm) c), (hr.1 c).2⟩
  · refine (θ_run Cert.ReferenceIdeal.defs _ _).mono (fun r hr c => ?_) (ref_run m' g')
    exact ⟨(hr c).1.trans (ref_out m m' (good m hm) hs c), (hr c).2⟩

end Cert.Proof

end
-- ==== Proof.OutQ.Spec.lean ====
/-
  A row of the output projection over the extended reals, as mathematics: the residual plus the projected mixed row, its
  cross queries (the normalised row projected), and each head of 256 queries normalised and scaled.
-/
module

public import proofs.«01_k».proof.Proof.Value.Spec
@[expose] public section

noncomputable section

namespace Cert.OutQ

open Idealize.ShloMosaic Cert.Value

/-- The row plus its projected mixed row. -/
def resid (x mx : Fin 1024 → EReal) (W : Fin 1024 → Fin 1024 → EReal) (q : Fin 1024) : EReal := x q + ∑ k, mx k * W k q
/-- The row's queries before the heads' norms. -/
def query (y g : Fin 1024 → EReal) (W : Fin 1024 → Fin 1024 → EReal) (q : Fin 1024) : EReal := ∑ d, hid y g d * W d q
/-- The lane of head `h` at `j`. -/
def lane (h : Fin 4) (j : Fin 256) : Fin 1024 := ⟨256 * h.val + j.val, by omega⟩
/-- The head of a lane, and the lane within it. -/
def headOf (q : Fin 1024) : Fin 4 := ⟨q.val / 256, by omega⟩
def subOf (q : Fin 1024) : Fin 256 := ⟨q.val % 256, by omega⟩
/-- A head's sum of squares. -/
def headSq (p : Fin 1024 → EReal) (h : Fin 4) : EReal := ∑ j : Fin 256, p (lane h j) * p (lane h j)
/-- The queries, each head normalised, times the scale. -/
def headNorm (p : Fin 1024 → EReal) (g : Fin 256 → EReal) (q : Fin 1024) : EReal :=
  p q * Ideal.rsqrt (Ideal.div (headSq p (headOf q)) (Ideal.ofBits .f32 0x43800000#32) + Ideal.ofBits .f32 0x358637BD#32) * g (subOf q)
    * Ideal.ofBits .f32 0x3D800000#32

end Cert.OutQ

end
-- ==== Proof.OutQ.Payloads.lean ====
/- The block the body computes, at an index: one row of a tile. -/
module

public import proofs.«01_k».proof.Proof.OutQ.Spec
public import proofs.«01_k».proof.Proof.Gen.Kernel2Ideal.Value
public import Idealize.ShloMosaic.Lib.Pointwise
@[expose] public section

noncomputable section

namespace Cert.OutQ

open Idealize.ShloMosaic Cert.Kernel2Ideal Cert.Kernel2Ideal.Gen Cert.Value

variable (x : Vec Ideal S1024x1024 .f32) (mx : Vec Ideal S1024x1024 .bf16) (wo : Vec Ideal S1024x1024 .bf16) (g : Vec Ideal S1x1024 .f32)
  (wq : Vec Ideal S1024x1024 .bf16) (qg : Vec Ideal S1x256 .f32)

/-- The residual of a row of the block. -/
def rowRes (r : Fin 1024) : Fin 1024 → EReal := resid (fun k => x (ix2 r k)) (fun k => mx (ix2 r k)) (fun k q => wo (ix2 k q))
/-- The queries of a row of the block. -/
def rowQuery (r : Fin 1024) : Fin 1024 → EReal := query (rowRes x mx wo r) (fun k => g (ix2 (0 : Fin 1) k)) (fun d q => wq (ix2 d q))

theorem pay3_at (r q : Fin 1024) : k0_pay3 (F := Ideal) x mx wo (ix2 r q) = rowRes x mx wo r q := by
  unfold rowRes resid
  pointwise [k0_pay3]

theorem pay4_at (r q : Fin 1024) : k0_pay4 (F := Ideal) x mx wo g wq (ix2 r q) = rowQuery x mx wo g wq r q := by
  unfold rowQuery query hid meanSq
  pointwise [k0_pay4]
  simp only [pay3_at]

theorem slice_at (p : FVec Ideal S1024x1024 .f32) (r : Fin 1024) (h : Fin 4) (sl) :
    multiReduction (F := Ideal) .add [1] S1024 (mulf (extractStridedSlice S1024x256 ![0, 256 * h.val] p sl) (extractStridedSlice S1024x256 ![0, 256 * h.val] p sl)) 0x00000000#32 reduces_S1024x256_S1024 (.inl rfl) rfl (ix1 r)
      = headSq (fun q => p (ix2 r q)) h := by
  unfold headSq lane
  fin_cases h <;> pointwise []

theorem fam_at (r : Fin 1024) (h : Fin 4) :
    Cert.Kernel2Ideal.Value.Fam7_1 (F := Ideal) x mx wo g wq qg h (ix1 r) = headSq (rowQuery x mx wo g wq r) h := by
  have e : rowQuery x mx wo g wq r = fun q => k0_pay4 (F := Ideal) x mx wo g wq (ix2 r q) := funext fun q => (pay4_at x mx wo g wq r q).symm
  rw [e]
  fin_cases h
  · exact slice_at (k0_pay4 (F := Ideal) x mx wo g wq) r 0 slices_S1024x1024_o0_0_S1024x256
  · exact slice_at (k0_pay4 (F := Ideal) x mx wo g wq) r 1 slices_S1024x1024_o0_256_S1024x256
  · exact slice_at (k0_pay4 (F := Ideal) x mx wo g wq) r 2 slices_S1024x1024_o0_512_S1024x256
  · exact slice_at (k0_pay4 (F := Ideal) x mx wo g wq) r 3 slices_S1024x1024_o0_768_S1024x256

theorem e7_at (r q : Fin 1024) :
    Cert.Kernel2Ideal.Value.E7 (F := Ideal) x mx wo g wq qg (ix2 r q) = headNorm (rowQuery x mx wo g wq r) (fun j => qg (ix2 (0 : Fin 1) j)) q := by
  have e0 : Cert.Kernel2Ideal.Value.ix7_0 (ix2 r q) = ix2 r q := by funext a; fin_cases a <;> rfl
  have e1 : Cert.Kernel2Ideal.Value.ix7_1 (ix2 r q) = ix1 r := by funext a; fin_cases a; rfl
  have e2 : Cert.Kernel2Ideal.Value.ix7_2 (ix2 r q) = ix2 (0 : Fin 1) (subOf q) := by funext a; fin_cases a <;> rfl
  have e3 : Cert.Kernel2Ideal.Value.sel7 (ix2 r q) = headOf q := rfl
  unfold Cert.Kernel2Ideal.Value.E7
  rw [e0, e1, e2, e3, fam_at, pay4_at]
  rfl

theorem zero2 : (![0, 0] : Fin 2 → ℕ) = fun _ => 0 := by funext a; fin_cases a <;> rfl

/-- What the body leaves in the residual's block, and in the queries' block. -/
theorem out6_at (r q : Fin 1024) : out0_6 (F := Ideal) x mx wo g wq qg (ix2 r q) = rowRes x mx wo r q := by
  unfold out0_6
  rw [View.canon_unit_zero zero2, View.ld_unit_zero zero2, View.ld_unit_zero zero2, View.ld_unit_zero zero2]
  exact pay3_at x mx wo r q

theorem out7_at (r q : Fin 1024) : out0_7 (F := Ideal) x mx wo g wq qg (ix2 r q) = headNorm (rowQuery x mx wo g wq r) (fun j => qg (ix2 (0 : Fin 1) j)) q := by
  unfold out0_7 k0_pay11
  have h0 : View.ld x r0_0 = x := View.ld_unit_zero zero2 _ x
  have h1 : View.ld mx r0_0 = mx := View.ld_unit_zero zero2 _ mx
  have h2 : View.ld wo r0_0 = wo := View.ld_unit_zero zero2 _ wo
  have h3 : View.ld g r0_1 = g := View.ld_unit_zero zero2 _ g
  have h4 : View.ld wq r0_0 = wq := View.ld_unit_zero zero2 _ wq
  have h5 : View.ld qg r0_2 = qg := View.ld_unit_zero zero2 _ qg
  rw [h0, h1, h2, h3, h4, h5]
  exact (Cert.Kernel2Ideal.Value.canon7_eq x mx wo g wq qg (ix2 r q)).trans (e7_at x mx wo g wq qg r q)

end Cert.OutQ

end
-- ==== Proof.OutQ.Blocks.lean ====
/- The blocks the kernel reads and writes, at an index of their arrays, and the arrays it returns. -/
module

public import proofs.«01_k».proof.Proof.OutQ.Payloads
public import Idealize.ShloMosaic.Lib.StableHlo.ReadAt
@[expose] public section

noncomputable section

namespace Cert.OutQ

open Idealize.ShloMosaic Idealize.ShloMosaic.TcCoe Idealize.ShloMosaic.Tactic Cert.Kernel2Ideal Cert.Kernel2Ideal.Gen Cert.Value
open Idealize.ShloMosaic.Pipeline (Window)

section Host

variable {F : FTy → Type} [FloatOps F] (m : (ℓ : Loc nD τ sig) → Buf (Elt F) ℓ) (c : Dev nD)

/-- What the host's operations make of the weights and the gains. -/
theorem V_wo : V m c main_v1 = truncf .bf16 (shapeCast S1024x1024 (m ((c : Thread nD τ).loc main_arg2) : Vec F S1x1024x1024 .f32) shapeCasts_S1x1024x1024_S1024x1024) bitsLt_bf16_f32 := by
  unfold V hostOps0
  after_reads_simp
  rfl
theorem V_g : V m c main_v3 = shapeCast S1x1024 (shapeCast S1024 (m ((c : Thread nD τ).loc main_arg3) : Vec F S1x1024 .f32) shapeCasts_S1x1024_S1024) shapeCasts_S1024_S1x1024 := by
  unfold V hostOps0
  after_reads_simp
  rfl
theorem V_wq : V m c main_v5 = truncf .bf16 (shapeCast S1024x1024 (m ((c : Thread nD τ).loc main_arg4) : Vec F S1x1024x1024 .f32) shapeCasts_S1x1024x1024_S1024x1024) bitsLt_bf16_f32 := by
  unfold V hostOps0
  after_reads_simp
  rfl
theorem V_qg : V m c main_v7 = shapeCast S1x256 (shapeCast S256 (m ((c : Thread nD τ).loc main_arg5) : Vec F S1x256 .f32) shapeCasts_S1x256_S256) shapeCasts_S256_S1x256 := by
  unfold V hostOps0
  after_reads_simp
  rfl

end Host

theorem lt16 (t : Fin cfg0.N) : t.val < 16 := t.isLt.trans_eq N_0

theorem index_0 : ∀ t : Fin cfg0.N, (cfg0.win 0).index t = (![t.val, 0] : Fin 2 → ℕ) :=
  (by decide +kernel : ∀ t : Fin grid0.N, win0_0.index t = (![t.val, 0] : Fin 2 → ℕ))
theorem index_1 : ∀ t : Fin cfg0.N, (cfg0.win 1).index t = (![t.val, 0] : Fin 2 → ℕ) :=
  (by decide +kernel : ∀ t : Fin grid0.N, win0_1.index t = (![t.val, 0] : Fin 2 → ℕ))
theorem index_6 : ∀ t : Fin cfg0.N, (cfg0.win 6).index t = (![t.val, 0] : Fin 2 → ℕ) :=
  (by decide +kernel : ∀ t : Fin grid0.N, win0_6.index t = (![t.val, 0] : Fin 2 → ℕ))
theorem index_7 : ∀ t : Fin cfg0.N, (cfg0.win 7).index t = (![t.val, 0] : Fin 2 → ℕ) :=
  (by decide +kernel : ∀ t : Fin grid0.N, win0_7.index t = (![t.val, 0] : Fin 2 → ℕ))

/-- The row of the arrays that a row of a grid point's block is. -/
def rowAt (t : Fin cfg0.N) (r : Fin 1024) : Fin 16384 := ⟨1024 * t.val + r.val, by have := lt16 t; omega⟩

variable (m : (ℓ : Loc nD τ sig) → Buf (Elt Ideal) ℓ) (c : Dev nD)

/-- The arguments of the call: the rows, the mixed rows, the weights and the gains. -/
def aX : Vec Ideal S16384x1024 .f32 := m ((c.tc : Thread nD τ).loc main_arg0)
def aMx : Vec Ideal S16384x1024 .bf16 := m ((c.tc : Thread nD τ).loc main_arg1)
def aWo : Vec Ideal S1x1024x1024 .f32 := m ((c.tc : Thread nD τ).loc main_arg2)
def aG : Vec Ideal S1x1024 .f32 := m ((c.tc : Thread nD τ).loc main_arg3)
def aWq : Vec Ideal S1x1024x1024 .f32 := m ((c.tc : Thread nD τ).loc main_arg4)
def aQg : Vec Ideal S1x256 .f32 := m ((c.tc : Thread nD τ).loc main_arg5)

/-- The blocks of a grid point, by their shapes. -/
def bX (t : Fin cfg0.N) : Vec Ideal S1024x1024 .f32 := iblk m c 0 t
def bMx (t : Fin cfg0.N) : Vec Ideal S1024x1024 .bf16 := iblk m c 1 t
def bWo (t : Fin cfg0.N) : Vec Ideal S1024x1024 .bf16 := iblk m c 2 t
def bG (t : Fin cfg0.N) : Vec Ideal S1x1024 .f32 := iblk m c 3 t
def bWq (t : Fin cfg0.N) : Vec Ideal S1024x1024 .bf16 := iblk m c 4 t
def bQg (t : Fin cfg0.N) : Vec Ideal S1x256 .f32 := iblk m c 5 t

theorem bX_at (t : Fin cfg0.N) (r j : Fin 1024) : bX m c t (ix2 r j) = aX m c (ix2 (rowAt t r) j) := by
  refine Eq.trans ?_ (congrFun (V_main_arg0 m c) (ix2 (rowAt t r) j))
  refine congrArg (V m c main_arg0 : Vec Ideal S16384x1024 .f32) (funext fun a => Fin.ext ?_)
  refine (Window.rect_emb_val (cfg0.win 0) t (ix2 r j) a).trans ?_
  rw [index_0]
  fin_cases a
  · show t.val * 1024 + r.val = 1024 * t.val + r.val; omega
  · show 0 * 1024 + j.val = j.val; omega

theorem bMx_at (t : Fin cfg0.N) (r j : Fin 1024) : bMx m c t (ix2 r j) = aMx m c (ix2 (rowAt t r) j) := by
  refine Eq.trans ?_ (congrFun (V_main_arg1 m c) (ix2 (rowAt t r) j))
  refine congrArg (V m c main_arg1 : Vec Ideal S16384x1024 .bf16) (funext fun a => Fin.ext ?_)
  refine (Window.rect_emb_val (cfg0.win 1) t (ix2 r j) a).trans ?_
  rw [index_1]
  fin_cases a
  · show t.val * 1024 + r.val = 1024 * t.val + r.val; omega
  · show 0 * 1024 + j.val = j.val; omega

theorem bWo_at (t : Fin cfg0.N) (k q : Fin 1024) : bWo m c t (ix2 k q) = aWo m c (ix3 (0 : Fin 1) k q) := by
  have e : bWo m c t (ix2 k q) = (V m c main_v1 : Vec Ideal S1024x1024 .bf16) (ix2 k q) := by
    refine congrArg (V m c main_v1 : Vec Ideal S1024x1024 .bf16) (funext fun a => Fin.ext ?_)
    refine (Window.rect_emb_val (cfg0.win 2) t (ix2 k q) a).trans ?_
    fin_cases a
    · show 0 * 1024 + k.val = k.val; omega
    · show 0 * 1024 + q.val = q.val; omega
  rw [e, V_wo]
  change truncf (F := Ideal) .bf16 (shapeCast S1024x1024 (aWo m c) shapeCasts_S1x1024x1024_S1024x1024) bitsLt_bf16_f32 (ix2 k q) = _
  pointwise []

theorem bWq_at (t : Fin cfg0.N) (k q : Fin 1024) : bWq m c t (ix2 k q) = aWq m c (ix3 (0 : Fin 1) k q) := by
  have e : bWq m c t (ix2 k q) = (V m c main_v5 : Vec Ideal S1024x1024 .bf16) (ix2 k q) := by
    refine congrArg (V m c main_v5 : Vec Ideal S1024x1024 .bf16) (funext fun a => Fin.ext ?_)
    refine (Window.rect_emb_val (cfg0.win 4) t (ix2 k q) a).trans ?_
    fin_cases a
    · show 0 * 1024 + k.val = k.val; omega
    · show 0 * 1024 + q.val = q.val; omega
  rw [e, V_wq]
  change truncf (F := Ideal) .bf16 (shapeCast S1024x1024 (aWq m c) shapeCasts_S1x1024x1024_S1024x1024) bitsLt_bf16_f32 (ix2 k q) = _
  pointwise []

theorem bG_at (t : Fin cfg0.N) (k : Fin 1024) : bG m c t (ix2 (0 : Fin 1) k) = aG m c (ix2 (0 : Fin 1) k) := by
  have e : bG m c t (ix2 (0 : Fin 1) k) = (V m c main_v3 : Vec Ideal S1x1024 .f32) (ix2 (0 : Fin 1) k) := by
    refine congrArg (V m c main_v3 : Vec Ideal S1x1024 .f32) (funext fun a => Fin.ext ?_)
    refine (Window.rect_emb_val (cfg0.win 3) t (ix2 (0 : Fin 1) k) a).trans ?_
    fin_cases a
    · rfl
    · show 0 * 1024 + k.val = k.val; omega
  rw [e, V_g]
  change shapeCast S1x1024 (shapeCast S1024 (aG m c) shapeCasts_S1x1024_S1024) shapeCasts_S1024_S1x1024 (ix2 (0 : Fin 1) k) = _
  pointwise []

theorem bQg_at (t : Fin cfg0.N) (k : Fin 256) : bQg m c t (ix2 (0 : Fin 1) k) = aQg m c (ix2 (0 : Fin 1) k) := by
  have e : bQg m c t (ix2 (0 : Fin 1) k) = (V m c main_v7 : Vec Ideal S1x256 .f32) (ix2 (0 : Fin 1) k) := by
    refine congrArg (V m c main_v7 : Vec Ideal S1x256 .f32) (funext fun a => Fin.ext ?_)
    refine (Window.rect_emb_val (cfg0.win 5) t (ix2 (0 : Fin 1) k) a).trans ?_
    fin_cases a
    · rfl
    · show 0 * 256 + k.val = k.val; omega
  rw [e, V_qg]
  change shapeCast S1x256 (shapeCast S256 (aQg m c) shapeCasts_S1x256_S256) shapeCasts_S256_S1x256 (ix2 (0 : Fin 1) k) = _
  pointwise []

/-- The residual and the queries of the call's arguments, by row. -/
def resRow (n : Fin 16384) : Fin 1024 → EReal :=
  resid (fun k => aX m c (ix2 n k)) (fun k => aMx m c (ix2 n k)) (fun k q => aWo m c (ix3 (0 : Fin 1) k q))
def queryRow (n : Fin 16384) : Fin 1024 → EReal :=
  headNorm (query (resRow m c n) (fun k => aG m c (ix2 (0 : Fin 1) k)) (fun d q => aWq m c (ix3 (0 : Fin 1) d q))) (fun j => aQg m c (ix2 (0 : Fin 1) j))
@[irreducible] def resOut : Vec Ideal S16384x1024 .f32 := fun i => resRow m c (i 0) (i 1)
@[irreducible] def queryOut : Vec Ideal S16384x1024 .bf16 := fun i => queryRow m c (i 0) (i 1)
theorem resOut_at (n : Fin 16384) (q : Fin 1024) : resOut m c (ix2 n q) = resRow m c n q := by unfold resOut; rfl
theorem queryOut_at (n : Fin 16384) (q : Fin 1024) : queryOut m c (ix2 n q) = queryRow m c n q := by unfold queryOut; rfl

theorem blk6_at (t : Fin cfg0.N) (r q : Fin 1024) :
    out0_6 (F := Ideal) (bX m c t) (bMx m c t) (bWo m c t) (bG m c t) (bWq m c t) (bQg m c t) (ix2 r q) = resOut m c (ix2 (rowAt t r) q) := by
  rw [out6_at, resOut_at]
  unfold rowRes resRow
  simp only [bX_at, bMx_at, bWo_at]

theorem blk7_at (t : Fin cfg0.N) (r q : Fin 1024) :
    out0_7 (F := Ideal) (bX m c t) (bMx m c t) (bWo m c t) (bG m c t) (bWq m c t) (bQg m c t) (ix2 r q) = queryOut m c (ix2 (rowAt t r) q) := by
  rw [out7_at, queryOut_at]
  unfold queryRow rowQuery rowRes resRow
  simp only [bX_at, bMx_at, bWo_at, bG_at, bWq_at, bQg_at]

theorem emb_6 (t : Fin cfg0.N) (r q : Fin 1024) : ((cfg0.win 6).blk t).view.emb (ix2 r q) = ix2 (rowAt t r) q := by
  refine funext fun a => Fin.ext ?_
  refine (Window.rect_emb_val (cfg0.win 6) t (ix2 r q) a).trans ?_
  rw [index_6]
  fin_cases a
  · show t.val * 1024 + r.val = 1024 * t.val + r.val; omega
  · show 0 * 1024 + q.val = q.val; omega
theorem emb_7 (t : Fin cfg0.N) (r q : Fin 1024) : ((cfg0.win 7).blk t).view.emb (ix2 r q) = ix2 (rowAt t r) q := by
  refine funext fun a => Fin.ext ?_
  refine (Window.rect_emb_val (cfg0.win 7) t (ix2 r q) a).trans ?_
  rw [index_7]
  fin_cases a
  · show t.val * 1024 + r.val = 1024 * t.val + r.val; omega
  · show 0 * 1024 + q.val = q.val; omega

theorem two (y : S1024x1024.Idx) : ∃ r q : Fin 1024, y = ix2 r q := ⟨y 0, y 1, by funext a; fin_cases a <;> rfl⟩

theorem split (i : S16384x1024.Idx) : ∃ (t : Fin cfg0.N) (r q : Fin 1024), i = ix2 (rowAt t r) q := by
  have hi : (i 0).val < 16384 := (i 0).isLt
  refine ⟨⟨(i 0).val / 1024, by show _ < grid0.N; rw [N_0]; omega⟩, ⟨(i 0).val % 1024, Nat.mod_lt _ (by decide)⟩, i 1, ?_⟩
  funext a; fin_cases a
  · exact Fin.ext (by show (i 0).val = 1024 * ((i 0).val / 1024) + (i 0).val % 1024; omega)
  · rfl

theorem mem_6 (t : Fin cfg0.N) (r q : Fin 1024) : (ix2 (rowAt t r) q : S16384x1024.Idx) ∈ ((cfg0.win 6).blk t).view.set := emb_6 t r q ▸ View.emb_mem_set _ _
theorem mem_7 (t : Fin cfg0.N) (r q : Fin 1024) : (ix2 (rowAt t r) q : S16384x1024.Idx) ∈ ((cfg0.win 7).blk t).view.set := emb_7 t r q ▸ View.emb_mem_set _ _

theorem cover_6 (i : S16384x1024.Idx) : ∃ t : Fin cfg0.N, (cfg0.win 6).flush t = true ∧ i ∈ ((cfg0.win 6).blk t).view.set := by
  obtain ⟨t, r, q, rfl⟩ := split i
  exact ⟨t, flush0_6 t, mem_6 t r q⟩
theorem cover_7 (i : S16384x1024.Idx) : ∃ t : Fin cfg0.N, (cfg0.win 7).flush t = true ∧ i ∈ ((cfg0.win 7).blk t).view.set := by
  obtain ⟨t, r, q, rfl⟩ := split i
  exact ⟨t, flush0_7 t, mem_7 t r q⟩

theorem cut_6 (t : Fin cfg0.N) (X : Vec Ideal S1024x1024 .f32) (G : Vec Ideal S16384x1024 .f32) (hX : ∀ y : S1024x1024.Idx, X y = G (((cfg0.win 6).blk t).view.emb y)) :
    (cfg0.win 6).cut (grid0.coords t) X = ((cfg0.win 6).blk t).view.read (Elt Ideal) G := funext fun y => hX y
theorem cut_7 (t : Fin cfg0.N) (X : Vec Ideal S1024x1024 .bf16) (G : Vec Ideal S16384x1024 .bf16) (hX : ∀ y : S1024x1024.Idx, X y = G (((cfg0.win 7).blk t).view.emb y)) :
    (cfg0.win 7).cut (grid0.coords t) X = ((cfg0.win 7).blk t).view.read (Elt Ideal) G := funext fun y => hX y

theorem flushed_6 (t : Fin cfg0.N) : (dats m 0 c).flushed 6 t = ((cfg0.win 6).blk t).view.read (Elt Ideal) (resOut m c) :=
  (Cert.Kernel2Ideal.Value.flushed6 m c t).trans (cut_6 t _ _ fun y => by
    obtain ⟨r, q, rfl⟩ := two y
    exact (blk6_at m c t r q).trans (congrArg (resOut m c) (emb_6 t r q)).symm)
theorem flushed_7 (t : Fin cfg0.N) : (dats m 0 c).flushed 7 t = ((cfg0.win 7).blk t).view.read (Elt Ideal) (queryOut m c) :=
  (Cert.Kernel2Ideal.Value.flushed7 m c t).trans (cut_7 t _ _ fun y => by
    obtain ⟨r, q, rfl⟩ := two y
    exact (blk7_at m c t r q).trans (congrArg (queryOut m c) (emb_7 t r q)).symm)

theorem result_6 : (dats m 0 c).arrAt 6 cfg0.N = resOut m c := (dats m 0 c).arrAt_eq_of_cover 6 (resOut m c) (fun t _ => flushed_6 m c t) cover_6
theorem result_7 : (dats m 0 c).arrAt 7 cfg0.N = queryOut m c := (dats m 0 c).arrAt_eq_of_cover 7 (queryOut m c) (fun t _ => flushed_7 m c t) cover_7

end Cert.OutQ

end
-- ==== Proof.OutQ.Ref.lean ====
/- The reference's output projection at an index. -/
module

public import proofs.«01_k».proof.Proof.OutQ.Spec
public import proofs.«01_k».proof.Proof.Gen.Reference2Ideal.Run
public import Idealize.ShloMosaic.Lib.Pointwise
public import Idealize.ShloMosaic.Lib.StableHlo.ReadAt
@[expose] public section

noncomputable section

namespace Cert.OutQ.Ref

open Idealize.ShloMosaic
open Cert.Reference2Ideal Cert.Reference2Ideal.Gen Cert.Reference2Ideal.Value Cert.Value

/-- The residual. -/
def resOf (x : FVec Ideal S16384x1024 .f32) (mx : FVec Ideal S16384x1024 .bf16) (w : FVec Ideal S1x1024x1024 .f32) : FVec Ideal S16384x1024 .f32 :=
  addf x (Host.dotGeneral dot_S16384x1024_S1024x1024_S16384x1024_1_0_0_1_n_n none (extf .f32 mx bitsLt_bf16_f32) (shapeCast S1024x1024 w shapeCasts_S1x1024x1024_S1024x1024))
/-- The normalised rows. -/
def normOf (y : FVec Ideal S16384x1024 .f32) (g : FVec Ideal S1x1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast S1024 g shapeCasts_S1x1024_S1024)))
/-- The queries. -/
def queryOf (h : FVec Ideal S16384x1024 .f32) (w : FVec Ideal S1x1024x1024 .f32) : FVec Ideal S16384x1024 .f32 :=
  Host.dotGeneral dot_S16384x1024_S1024x1024_S16384x1024_1_0_0_1_n_n none h (shapeCast S1024x1024 w shapeCasts_S1x1024x1024_S1024x1024)
/-- The queries by head. -/
def splitOf (p : FVec Ideal S16384x1024 .f32) : FVec Ideal S16384x4x256 .f32 := shapeCast S16384x4x256 p shapeCasts_S16384x1024_S16384x4x256
/-- Each head normalised and scaled. -/
def scaledOf (p : FVec Ideal S16384x4x256 .f32) (g : FVec Ideal S1x256 .f32) : FVec Ideal S16384x4x256 .f32 :=
  mulf (mulf (mulf p (broadcastInDim S16384x4x256 ![0, 1, 2] bcast_S16384x4x1_S16384x4x256_0_1_2 (Host.rsqrt (addf (Host.divf (broadcastInDim S16384x4x1 ![0, 1] bcast_S16384x4_S16384x4x1_0_1 (Host.reduceAdd (mulf p p) (constant S_ .f32 0x00000000#32) reducesTo_S16384x4x256_S16384x4_d2 h_S_)) (broadcastInDim S16384x4x1 ![] bcast_S_S16384x4x1 (constant S_ .f32 0x43800000#32))) (broadcastInDim S16384x4x1 ![] bcast_S_S16384x4x1 (constant S_ .f32 0x358637BD#32))))))
    (broadcastInDim S16384x4x256 ![0, 1, 2] bcast_S1x1x256_S16384x4x256_0_1_2 (broadcastInDim S1x1x256 ![2] bcast_S256_S1x1x256_2 (shapeCast S256 g shapeCasts_S1x256_S256))))
    (broadcastInDim S16384x4x256 ![] bcast_S_S16384x4x256 (constant S_ .f32 0x3D800000#32))
/-- The heads side by side again. -/
def joinOf (s : FVec Ideal S16384x4x256 .f32) : FVec Ideal S16384x1024 .bf16 := truncf .bf16 (shapeCast S16384x1024 s shapeCasts_S16384x4x256_S16384x1024) bitsLt_bf16_f32

theorem res_at (x : FVec Ideal S16384x1024 .f32) (mx : FVec Ideal S16384x1024 .bf16) (w : FVec Ideal S1x1024x1024 .f32) (n : Fin 16384) (q : Fin 1024) :
    resOf x mx w (ix2 n q) = resid (fun k => x (ix2 n k)) (fun k => mx (ix2 n k)) (fun k q => w (ix3 (0 : Fin 1) k q)) q := by
  unfold resid
  pointwise [resOf]

theorem norm_at (y : FVec Ideal S16384x1024 .f32) (g : FVec Ideal S1x1024 .f32) (n : Fin 16384) (d : Fin 1024) :
    normOf y g (ix2 n d) = hid (fun k => y (ix2 n k)) (fun k => g (ix2 (0 : Fin 1) k)) d := by
  unfold hid meanSq
  pointwise [normOf]

theorem query_at (h : FVec Ideal S16384x1024 .f32) (w : FVec Ideal S1x1024x1024 .f32) (n : Fin 16384) (q : Fin 1024) :
    queryOf h w (ix2 n q) = ∑ d : Fin 1024, h (ix2 n d) * w (ix3 (0 : Fin 1) d q) := by
  pointwise [queryOf]

theorem split_at (p : FVec Ideal S16384x1024 .f32) (n : Fin 16384) (h : Fin 4) (j : Fin 256) : splitOf p (ix3 n h j) = p (ix2 n (lane h j)) := by
  unfold splitOf
  refine shapeCast_apply _ _ (ix3 n h j) (ix2 n (lane h j)) ?_
  rw [Shape.rowMajor_val_two, Shape.rowMajor_val_three]
  show n.val * 1024 + (256 * h.val + j.val) = (n.val * 4 + h.val) * 256 + j.val
  omega

theorem scaled_at (p : FVec Ideal S16384x4x256 .f32) (g : FVec Ideal S1x256 .f32) (n : Fin 16384) (h : Fin 4) (j : Fin 256) :
    scaledOf p g (ix3 n h j) = p (ix3 n h j) * Ideal.rsqrt (Ideal.div (∑ j : Fin 256, p (ix3 n h j) * p (ix3 n h j)) (Ideal.ofBits .f32 0x43800000#32) + Ideal.ofBits .f32 0x358637BD#32)
      * g (ix2 (0 : Fin 1) j) * Ideal.ofBits .f32 0x3D800000#32 := by
  pointwise [scaledOf]

theorem join_at (s : FVec Ideal S16384x4x256 .f32) (n : Fin 16384) (q : Fin 1024) : joinOf s (ix2 n q) = s (ix3 n (headOf q) (subOf q)) := by
  show shapeCast S16384x1024 s shapeCasts_S16384x4x256_S16384x1024 (ix2 n q) = _
  refine shapeCast_apply _ _ (ix2 n q) (ix3 n (headOf q) (subOf q)) ?_
  rw [Shape.rowMajor_val_two, Shape.rowMajor_val_three]
  show (n.val * 4 + q.val / 256) * 256 + q.val % 256 = n.val * 1024 + q.val
  omega

theorem lane_head (q : Fin 1024) : lane (headOf q) (subOf q) = q := Fin.ext (by show 256 * (q.val / 256) + q.val % 256 = q.val; omega)

/-- The second result at an index. -/
theorem out_at (x : FVec Ideal S16384x1024 .f32) (mx : FVec Ideal S16384x1024 .bf16) (w : FVec Ideal S1x1024x1024 .f32) (g : FVec Ideal S1x1024 .f32)
    (wq : FVec Ideal S1x1024x1024 .f32) (qg : FVec Ideal S1x256 .f32) (n : Fin 16384) (q : Fin 1024) :
    joinOf (scaledOf (splitOf (queryOf (normOf (resOf x mx w) g) wq)) qg) (ix2 n q)
      = headNorm (query (resid (fun k => x (ix2 n k)) (fun k => mx (ix2 n k)) (fun k q => w (ix3 (0 : Fin 1) k q))) (fun k => g (ix2 (0 : Fin 1) k)) (fun d q => wq (ix3 (0 : Fin 1) d q)))
          (fun j => qg (ix2 (0 : Fin 1) j)) q := by
  unfold headNorm headSq query
  rw [join_at, scaled_at]
  simp only [split_at, query_at, norm_at, res_at, lane_head]

variable (m : (ℓ : Loc nD τ sig) → Buf (Elt Ideal) ℓ) (c : Dev nD)

theorem res_eq : res_main_v38 m c = joinOf (scaledOf (splitOf (queryOf (normOf (resOf (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)))) (m ((c.tc : Thread nD τ).loc main_arg5))) := by
  unfold res_main_v38 joinOf scaledOf splitOf queryOf normOf resOf
  rfl

end Cert.OutQ.Ref

end
-- ==== Proof.OutQ.Claims.lean ====
/-
  The claims of the output projection: the frames, and that at the extended reals the kernel and the reference both
  return the residual and the cross queries of the arguments.
-/
module

public import proofs.«01_k».proof.Defs
public import proofs.«01_k».proof.Proof.Gen.Kernel2.Frame
public import proofs.«01_k».proof.Proof.OutQ.Blocks
public import proofs.«01_k».proof.Proof.OutQ.Ref
@[expose] public section

noncomputable section

namespace Cert.OutQ

open Idealize.ShloMosaic Idealize.ShloMosaic.StableHlo Idealize.SL.Sem

attribute [local instance] Cert.Kernel2.Gen.facts Cert.Kernel2Ideal.Gen.facts Cert.Reference2Ideal.Gen.facts

theorem kernel : Cert.quiescent_Kernel2 := fun m g _ => Cert.Kernel2.Gen.frame m g
theorem kernel_ideal : Cert.quiescent_Kernel2Ideal := fun m g _ => Cert.Kernel2Ideal.Gen.frame m g

theorem reference : Cert.quiescent_Reference2Ideal := by
  intro m g _
  exact (θ_run Cert.Reference2Ideal.defs _ _).mono (fun r hr => ⟨fun c => (hr c).2.2, sem_eq_zero_of_no_sems (by decide) _⟩) (Cert.Reference2Ideal.Value.run m g)

/-- The reference's memories hold the kernel's arguments. -/
def Same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) : Prop :=
  ∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- The reference's arguments, by their shapes. -/
def rX (c : Dev Cert.Reference2Ideal.nD) : Vec Ideal Cert.Reference2Ideal.S16384x1024 .f32 := m' ((c.tc : Thread Cert.Reference2Ideal.nD Cert.Reference2Ideal.τ).loc Cert.Reference2Ideal.main_arg0)
def rMx (c : Dev Cert.Reference2Ideal.nD) : Vec Ideal Cert.Reference2Ideal.S16384x1024 .bf16 := m' ((c.tc : Thread Cert.Reference2Ideal.nD Cert.Reference2Ideal.τ).loc Cert.Reference2Ideal.main_arg1)
def rWo (c : Dev Cert.Reference2Ideal.nD) : Vec Ideal Cert.Reference2Ideal.S1x1024x1024 .f32 := m' ((c.tc : Thread Cert.Reference2Ideal.nD Cert.Reference2Ideal.τ).loc Cert.Reference2Ideal.main_arg2)
def rG (c : Dev Cert.Reference2Ideal.nD) : Vec Ideal Cert.Reference2Ideal.S1x1024 .f32 := m' ((c.tc : Thread Cert.Reference2Ideal.nD Cert.Reference2Ideal.τ).loc Cert.Reference2Ideal.main_arg3)
def rWq (c : Dev Cert.Reference2Ideal.nD) : Vec Ideal Cert.Reference2Ideal.S1x1024x1024 .f32 := m' ((c.tc : Thread Cert.Reference2Ideal.nD Cert.Reference2Ideal.τ).loc Cert.Reference2Ideal.main_arg4)
def rQg (c : Dev Cert.Reference2Ideal.nD) : Vec Ideal Cert.Reference2Ideal.S1x256 .f32 := m' ((c.tc : Thread Cert.Reference2Ideal.nD Cert.Reference2Ideal.τ).loc Cert.Reference2Ideal.main_arg5)

theorem ref_res (hs : Same m m') (c : Dev Cert.Kernel2Ideal.nD) : Ref.resOf (rX m' c) (rMx m' c) (rWo m' c) = resOut m c := by
  have e0 : rX m' c = aX m c := (hs c).1
  have e1 : rMx m' c = aMx m c := (hs c).2.1
  have e2 : rWo m' c = aWo m c := (hs c).2.2.1
  rw [e0, e1, e2]
  funext i
  obtain ⟨n, q, rfl⟩ : ∃ (n : Fin 16384) (q : Fin 1024), i = ix2 n q := ⟨i 0, i 1, by funext a; fin_cases a <;> rfl⟩
  rw [resOut_at]
  exact Ref.res_at (aX m c) (aMx m c) (aWo m c) n q

theorem ref_query (hs : Same m m') (c : Dev Cert.Kernel2Ideal.nD) :
    Ref.joinOf (Ref.scaledOf (Ref.splitOf (Ref.queryOf (Ref.normOf (Ref.resOf (rX m' c) (rMx m' c) (rWo m' c)) (rG m' c)) (rWq m' c))) (rQg m' c)) = queryOut m c := by
  have e0 : rX m' c = aX m c := (hs c).1
  have e1 : rMx m' c = aMx m c := (hs c).2.1
  have e2 : rWo m' c = aWo m c := (hs c).2.2.1
  have e3 : rG m' c = aG m c := (hs c).2.2.2.1
  have e4 : rWq m' c = aWq m c := (hs c).2.2.2.2.1
  have e5 : rQg m' c = aQg m c := (hs c).2.2.2.2.2
  rw [e0, e1, e2, e3, e4, e5]
  funext i
  obtain ⟨n, q, rfl⟩ : ∃ (n : Fin 16384) (q : Fin 1024), i = ix2 n q := ⟨i 0, i 1, by funext a; fin_cases a <;> rfl⟩
  rw [queryOut_at]
  exact Ref.out_at (aX m c) (aMx m c) (aWo m c) (aG m c) (aWq m c) (aQg m c) n q

theorem algebraic : Cert.algebraic_Kernel2Ideal_Reference2Ideal := by
  intro m g m' g' _ hs
  refine ⟨fun c => resOut m c, fun c => queryOut m c, ?_, ?_⟩
  · refine (θ_run Cert.Kernel2Ideal.defs _ _).mono (fun r hr c => ?_) (Cert.Kernel2Ideal.Value.run_blocks m g)
    exact ⟨(hr c).1.trans (result_6 m c), (hr c).2.1.trans (result_7 m c), (hr c).2.2⟩
  · refine (θ_run Cert.Reference2Ideal.defs _ _).mono (fun r hr c => ?_) (Cert.Reference2Ideal.Value.run m' g')
    exact ⟨(hr c).1.trans (ref_res m m' hs c), (hr c).2.1.trans ((Ref.res_eq m' c).trans (ref_query m m' hs c)), (hr c).2.2⟩

end Cert.OutQ

end
-- ==== Proof.MixProj.Spec.lean ====
/-
  A row of the mixing projection over the extended reals, as mathematics: the normalised row times the weight, the heads of
  128 lanes each normalised (the differential ones by halves of 64 lanes) and scaled by their gains.
-/
module

public import proofs.«01_k».proof.Proof.Value.Spec
@[expose] public section

noncomputable section

namespace Cert.MixProj

open Idealize.ShloMosaic Cert.Value

/-- The normalised row times the weight, at a column. -/
def proj (x g : Fin 1024 → EReal) (W : Fin 1024 → Fin 3076 → EReal) (o : Fin 3076) : EReal := ∑ d, hid x g d * W d o
/-- The column of lane `q` of head `h` of kind `k` (differential and forgetting queries and keys, in the order of the result). -/
def col (k h : Fin 4) (q : Fin 128) : Fin 3076 := ⟨(if k.val < 2 then 0 else 512) + 512 * k.val + 128 * h.val + q.val, by split <;> omega⟩
/-- The column of lane `q` of value head `h` of kind `k`. -/
def vcol (k : Fin 2) (h : Fin 4) (q : Fin 128) : Fin 3076 := ⟨1024 + 1536 * k.val + 128 * h.val + q.val, by omega⟩
/-- The half of a head a lane is in, the lane within the half, and back. -/
def half (q : Fin 128) : Fin 2 := ⟨q.val / 64, by omega⟩
def sub (q : Fin 128) : Fin 64 := ⟨q.val % 64, by omega⟩
def lane (e : Fin 2) (j : Fin 64) : Fin 128 := ⟨64 * e.val + j.val, by omega⟩
theorem lane_half (q : Fin 128) : lane (half q) (sub q) = q := Fin.ext (by show 64 * (q.val / 64) + q.val % 64 = q.val; omega)

/-- A head normalised by halves, and a head normalised whole. -/
def diffNorm (p : Fin 128 → EReal) (q : Fin 128) : EReal :=
  p q * Ideal.rsqrt (Ideal.div (∑ j : Fin 64, p (lane (half q) j) * p (lane (half q) j)) (Ideal.ofBits .f32 0x42800000#32) + Ideal.ofBits .f32 0x358637BD#32)
def foxNorm (p : Fin 128 → EReal) (q : Fin 128) : EReal :=
  p q * Ideal.rsqrt (Ideal.div (∑ j : Fin 128, p j * p j) (Ideal.ofBits .f32 0x43000000#32) + Ideal.ofBits .f32 0x358637BD#32)
/-- The norm of a kind. -/
def kindNorm (k : Fin 4) (p : Fin 128 → EReal) (q : Fin 128) : EReal := if k.val < 2 then diffNorm p q else foxNorm p q

/-- The gain of a kind at a lane, the queries' with their scales. -/
def gain (dq dk : Fin 64 → EReal) (fq fk : Fin 128 → EReal) (k : Fin 4) (q : Fin 128) : EReal :=
  match k with
  | 0 => dq (sub q) * Ideal.ofBits .f32 0x3E38AA3B#32
  | 1 => dk (sub q)
  | 2 => fq q * Ideal.ofBits .f32 0x3E0293EE#32
  | 3 => fk q

/-- The head and the kind of a head of the first result. -/
def kindOf (h : Fin 16) : Fin 4 := ⟨h.val / 4, by omega⟩
def headOf (h : Fin 16) : Fin 4 := ⟨h.val % 4, by omega⟩
/-- The kind and the head of a head of the second result. -/
def vkindOf (h : Fin 8) : Fin 2 := ⟨h.val / 4, by omega⟩
def vheadOf (h : Fin 8) : Fin 4 := ⟨h.val % 4, by omega⟩

/-- The masked sums over a head's lanes are the sums over its halves. -/
theorem sum_lo (f : Fin 128 → EReal) : (∑ j : Fin 128, if j.val < 64 then f j else 0) = ∑ j : Fin 64, f (lane 0 j) := by
  refine (Fin.sum_univ_add (a := 64) (b := 64) (f := fun j : Fin (64 + 64) => if j.val < 64 then f j else 0)).trans ((congrArg₂ (· + ·) (Finset.sum_congr rfl fun j _ => ?_) (Finset.sum_eq_zero fun j _ => ?_)).trans (add_zero _))
  · refine (if_pos (by show j.val < 64; omega)).trans (congrArg f (Fin.ext (by show j.val = 64 * 0 + j.val; omega)))
  · exact if_neg (by show ¬ 64 + j.val < 64; omega)
theorem sum_hi (f : Fin 128 → EReal) : (∑ j : Fin 128, if j.val < 64 then 0 else f j) = ∑ j : Fin 64, f (lane 1 j) := by
  refine (Fin.sum_univ_add (a := 64) (b := 64) (f := fun j : Fin (64 + 64) => if j.val < 64 then 0 else f j)).trans ((congrArg₂ (· + ·) (Finset.sum_eq_zero fun j _ => ?_) (Finset.sum_congr rfl fun j _ => ?_)).trans (zero_add _))
  · exact if_pos (by show j.val < 64; omega)
  · refine (if_neg (by show ¬ 64 + j.val < 64; omega)).trans (congrArg f (Fin.ext (by show 64 + j.val = 64 * 1 + j.val; omega)))

end Cert.MixProj

end
-- ==== Proof.MixProj.Payloads.lean ====
/- The blocks the body computes, at an index: one head of a tile of rows. -/
module

public import proofs.«01_k».proof.Proof.MixProj.Spec
public import proofs.«01_k».proof.Proof.Gen.Kernel3Ideal.Skeleton
public import Idealize.ShloMosaic.Lib.Pointwise
public import Idealize.ShloMosaic.Lib.WordCmp
@[expose] public section

noncomputable section

namespace Cert.MixProj

open Idealize.ShloMosaic Cert.Kernel3Ideal Cert.Kernel3Ideal.Gen Cert.Value

/-- One head's lanes of a projected tile. -/
theorem slices_head (h : Fin 4) : S1024x512.Slices ![0, 128 * h.val] S1024x128 := by
  fin_cases h
  · exact slices_S1024x512_o0_0_S1024x128
  · exact slices_S1024x512_o0_128_S1024x128
  · exact slices_S1024x512_o0_256_S1024x128
  · exact slices_S1024x512_o0_384_S1024x128
def sliceOf (p : FVec Ideal S1024x512 .f32) (h : Fin 4) : FVec Ideal S1024x128 .f32 := extractStridedSlice S1024x128 ![0, 128 * h.val] p (slices_head h)

/-- The sum over a tile's rows of 128 lanes, as a column spread over the lanes. -/
def spread (v : FVec Ideal S1024x128 .f32) : FVec Ideal S1024x128 .f32 :=
  broadcastTo S1024x128 (shapeCast S1024x1 (shapeCast S1024x1 (multiReduction .add [1] S1024 v 0x00000000#32 reduces_S1024x128_S1024 (.inl rfl) rfl) shapeCasts_S1024_S1024x1) shapeCasts_S1024x1_S1024x1) broadcasts_S1024x1_S1024x128
/-- A differential head: normalised by halves, times its gain. -/
def diffOf (p : FVec Ideal S1024x128 .f32) (g : Vec Ideal S1x128 .f32) : FVec Ideal S1024x128 .bf16 :=
  truncf .bf16 (mulf (mulf p (rsqrt (addf (mulf (select (k0_pay6)
      (spread (select (k0_pay6) (mulf p p) (broadcast S1024x128 (Scalar.ofBits .f32 0x00000000#32))))
      (spread (select (k0_pay6) (broadcast S1024x128 (Scalar.ofBits .f32 0x00000000#32)) (mulf p p))))
    (broadcast S1024x128 (Scalar.ofBits .f32 0x3C800000#32))) (broadcast S1024x128 (Scalar.ofBits .f32 0x358637BD#32)))))
    (broadcastTo S1024x128 (shapeCast S1x128 g shapeCasts_S1x128_S1x128) broadcasts_S1x128_S1024x128)) bitsLt_bf16_f32
/-- A forgetting head: normalised, times its gain. -/
def foxOf (p : FVec Ideal S1024x128 .f32) (g : Vec Ideal S1x128 .f32) : FVec Ideal S1024x128 .bf16 :=
  truncf .bf16 (mulf (mulf p (broadcastTo S1024x128 (rsqrt (addf (divf (shapeCast S1024x1 (multiReduction .add [1] S1024 (mulf p p) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128))
    (broadcastTo S1024x128 (shapeCast S1x128 g shapeCasts_S1x128_S1x128) broadcasts_S1x128_S1024x128)) bitsLt_bf16_f32
/-- As a block of the result. -/
def blockOf (b : FVec Ideal S1024x128 .bf16) : FVec Ideal S1x1x1024x128 .bf16 := shapeCast S1x1x1024x128 b shapeCasts_S1024x128_S1x1x1024x128

variable (x : Vec Ideal S1024x1024 .f32) (g : Vec Ideal S1x1024 .f32)

theorem pay5_at (r d : Fin 1024) : k0_pay5 (F := Ideal) x g (ix2 r d) = hid (fun k => x (ix2 r k)) (fun k => g (ix2 (0 : Fin 1) k)) d := by
  unfold hid meanSq
  pointwise [k0_pay5]

theorem pay19_at (h : FVec Ideal S1024x1024 .bf16) (w : Vec Ideal S1024x512 .bf16) (r : Fin 1024) (o : Fin 512) :
    k0_pay19 (F := Ideal) h w (ix2 r o) = ∑ d : Fin 1024, h (ix2 r d) * w (ix2 d o) := by
  pointwise [k0_pay19]

theorem pay52_at (h : FVec Ideal S1024x1024 .bf16) (w : Vec Ideal S512x1024 .bf16) (o : Fin 512) (r : Fin 1024) :
    k0_pay52 (F := Ideal) h w (ix2 o r) = ∑ d : Fin 1024, w (ix2 o d) * h (ix2 r d) := by
  pointwise [k0_pay52]

theorem slice_at (p : FVec Ideal S1024x512 .f32) (h : Fin 4) (r : Fin 1024) (q : Fin 128) : sliceOf p h (ix2 r q) = p (ix2 r (⟨128 * h.val + q.val, by omega⟩ : Fin 512)) := by
  unfold sliceOf
  fin_cases h <;> pointwise []

theorem spread_at (v : FVec Ideal S1024x128 .f32) (r : Fin 1024) (q : Fin 128) : spread v (ix2 r q) = ∑ j : Fin 128, v (ix2 r j) := by
  pointwise [spread]

/-- A lane's side of a head, as the body's comparison decides it. -/
theorem pick (q : Fin 128) (a b : EReal) : Scalar.select (IntOp.cmpi .slt (BitVec.ofNat 32 q.val) 64#32) a b = if q.val < 64 then a else b := by
  by_cases h : q.val < 64
  · rw [if_pos h, (Idealize.ShloMosaic.WordCmp.cmpi_slt_ofNat_eq_one_iff (by omega) (by decide)).2 h]; rfl
  · rw [if_neg h, (Idealize.ShloMosaic.WordCmp.cmpi_slt_ofNat_eq_zero_iff (by omega) (by decide)).2 h]; rfl

theorem ofBits_64 : Ideal.ofBits .f32 0x42800000#32 = ((64 : ℝ) : EReal) := by
  simp [Ideal.ofBits, Ideal.ieee, -EReal.coe_mul]; norm_num
theorem ofBits_inv64 : Ideal.ofBits .f32 0x3C800000#32 = ((1 / 64 : ℝ) : EReal) := by
  simp [Ideal.ofBits, Ideal.ieee, -EReal.coe_mul]; norm_num
/-- The product with a sixty-fourth is the quotient by sixty-four. -/
theorem scale_eq (s : EReal) : s * Ideal.ofBits .f32 0x3C800000#32 = Ideal.div s (Ideal.ofBits .f32 0x42800000#32) := by
  rw [ofBits_64, ofBits_inv64, Ideal.div_coe (by norm_num)]

theorem half_sum (f : Fin 128 → EReal) (q : Fin 128) :
    (if q.val < 64 then ∑ j : Fin 64, f (lane 0 j) else ∑ j : Fin 64, f (lane 1 j)) = ∑ j : Fin 64, f (lane (half q) j) := by
  by_cases h : q.val < 64
  · rw [if_pos h, show half q = 0 from Fin.ext (by show q.val / 64 = 0; omega)]
  · rw [if_neg h, show half q = 1 from Fin.ext (by show q.val / 64 = 1; omega)]

theorem fox_at (p : FVec Ideal S1024x128 .f32) (g : Vec Ideal S1x128 .f32) (r : Fin 1024) (q : Fin 128) :
    foxOf p g (ix2 r q) = foxNorm (fun j => p (ix2 r j)) q * g (ix2 (0 : Fin 1) q) := by
  unfold foxNorm
  pointwise [foxOf]

theorem diff_at (p : FVec Ideal S1024x128 .f32) (g : Vec Ideal S1x128 .f32) (r : Fin 1024) (q : Fin 128) :
    diffOf p g (ix2 r q) = diffNorm (fun j => p (ix2 r j)) q * g (ix2 (0 : Fin 1) q) := by
  unfold diffNorm
  pointwise [diffOf, spread, k0_pay6]
  simp only [pick]
  rw [sum_lo (fun j => p (ix2 r j) * p (ix2 r j)), sum_hi (fun j => p (ix2 r j) * p (ix2 r j)), half_sum (fun j => p (ix2 r j) * p (ix2 r j)), scale_eq]

theorem block_at (b : FVec Ideal S1024x128 .bf16) (r : Fin 1024) (q : Fin 128) : blockOf b (ix4 (0 : Fin 1) (0 : Fin 1) r q) = b (ix2 r q) := by
  unfold blockOf
  refine shapeCast_apply _ _ _ (ix2 r q) ?_
  rw [Shape.rowMajor_val_two, Shape.rowMajor_val_four]
  show r.val * 128 + q.val = ((0 * 1 + 0) * 1024 + r.val) * 128 + q.val
  omega

/-- A value head's rows of a projected tile, as a block of the result, and the block of ones under it. -/
theorem slices_vhead (h : Fin 4) : S512x1024.Slices ![128 * h.val, 0] S128x1024 := by
  fin_cases h
  · exact slices_S512x1024_o0_0_S128x1024
  · exact slices_S512x1024_o128_0_S128x1024
  · exact slices_S512x1024_o256_0_S128x1024
  · exact slices_S512x1024_o384_0_S128x1024
def valueOf (p : FVec Ideal S512x1024 .f32) (h : Fin 4) : FVec Ideal S1x1x128x1024 .bf16 :=
  shapeCast S1x1x128x1024 (truncf .bf16 (extractStridedSlice S128x1024 ![128 * h.val, 0] p (slices_vhead h)) bitsLt_bf16_f32) shapeCasts_S128x1024_S1x1x128x1024
def onesOf : FVec Ideal S1x1x16x1024 .bf16 := shapeCast S1x1x16x1024 (broadcast S16x1024 (Scalar.ofBits (F := Ideal) .bf16 0x3F80#16)) shapeCasts_S16x1024_S1x1x16x1024

theorem value_at (p : FVec Ideal S512x1024 .f32) (h : Fin 4) (q : Fin 128) (r : Fin 1024) :
    valueOf p h (ix4 (0 : Fin 1) (0 : Fin 1) q r) = p (ix2 (⟨128 * h.val + q.val, by omega⟩ : Fin 512) r) := by
  unfold valueOf
  refine (shapeCast_apply _ _ _ (ix2 q r) ?_).trans ?_
  · rw [Shape.rowMajor_val_two, Shape.rowMajor_val_four]
    show q.val * 1024 + r.val = ((0 * 1 + 0) * 128 + q.val) * 1024 + r.val
    omega
  · fin_cases h <;> pointwise []
theorem ones_at (y : S1x1x16x1024.Idx) : onesOf y = 1 := Ideal.ofBits_one_bf16

/-! The heads the body computes, by its values' names. -/
section Names

variable (w : Vec Ideal S1024x512 .bf16) (gg : Vec Ideal S1x128 .f32) (h : FVec Ideal S1024x1024 .bf16)

theorem head0 : k0_pay11 (k0_pay8 x g w) (k0_pay9 x g w) k0_pay10 gg = blockOf (diffOf (sliceOf (k0_pay19 (k0_pay5 x g) w) 0) gg) := rfl
theorem head1 (p : FVec Ideal S1024x512 .f32) : k0_pay12 k0_pay6 p gg = blockOf (diffOf (sliceOf p 1) gg) := rfl
theorem head2 (p : FVec Ideal S1024x512 .f32) : k0_pay13 k0_pay6 p gg = blockOf (diffOf (sliceOf p 2) gg) := rfl
theorem head3 (p : FVec Ideal S1024x512 .f32) : k0_pay18 k0_pay6 (k0_pay14 p) (k0_pay16 k0_pay6 p) (k0_pay17 k0_pay6 p) gg = blockOf (diffOf (sliceOf p 3) gg) := rfl
theorem head4 : k0_pay21 (k0_pay20 h k0_pay6 w) gg = blockOf (diffOf (sliceOf (k0_pay19 h w) 0) gg) := rfl
theorem head5 (p : FVec Ideal S1024x512 .f32) : k0_pay22 k0_pay6 p gg = blockOf (diffOf (sliceOf p 1) gg) := rfl
theorem head6 (p : FVec Ideal S1024x512 .f32) : k0_pay26 k0_pay6 (k0_pay23 p) (k0_pay24 p) (k0_pay25 k0_pay6 p) gg = blockOf (diffOf (sliceOf p 2) gg) := rfl
theorem head7 (p : FVec Ideal S1024x512 .f32) : k0_pay30 (k0_pay27 p) (k0_pay28 k0_pay6 p) k0_pay29 gg = blockOf (diffOf (sliceOf p 3) gg) := rfl
theorem head8 : k0_pay32 h w gg = blockOf (foxOf (sliceOf (k0_pay19 h w) 0) gg) := rfl
theorem head9 : k0_pay36 (k0_pay33 h w) (k0_pay34 gg) (k0_pay35 h w) = blockOf (foxOf (sliceOf (k0_pay19 h w) 1) gg) := rfl
theorem head10 (p : FVec Ideal S1024x512 .f32) : k0_pay37 p gg = blockOf (foxOf (sliceOf p 2) gg) := rfl
theorem head11 (p : FVec Ideal S1024x512 .f32) : k0_pay41 (k0_pay38 p) (k0_pay39 gg) (k0_pay40 p) = blockOf (foxOf (sliceOf p 3) gg) := rfl
theorem head12 : k0_pay43 h w gg = blockOf (foxOf (sliceOf (k0_pay19 h w) 0) gg) := rfl
theorem head13 : k0_pay46 (k0_pay44 h w) (k0_pay45 gg) = blockOf (foxOf (sliceOf (k0_pay19 h w) 1) gg) := rfl
theorem head14 (p : FVec Ideal S1024x512 .f32) : k0_pay47 p gg = blockOf (foxOf (sliceOf p 2) gg) := rfl
theorem head15 (p : FVec Ideal S1024x512 .f32) : k0_pay51 (k0_pay48 p) (k0_pay49 gg) (k0_pay50 p) = blockOf (foxOf (sliceOf p 3) gg) := rfl

end Names

end Cert.MixProj

end
-- ==== Proof.MixProj.Pieces.lean ====
/- The blocks of the mixing projection's two results, as the body leaves them, at an index. -/
module

public import proofs.«01_k».proof.Proof.MixProj.Payloads
public import proofs.«01_k».proof.Proof.Gen.Kernel3Ideal.Frame
public import Idealize.ShloMosaic.Lib.Pipeline.ReadBack
public import Idealize.ShloMosaic.Lib.WholeRead
@[expose] public section

noncomputable section

namespace Cert.MixProj

open Idealize.ShloMosaic Idealize.ShloMosaic.TcCoe Idealize.ShloMosaic.Tactic Cert.Kernel3Ideal Cert.Kernel3Ideal.Gen Cert.Value

/-- The place of lane `o` of kind `k` among the columns of the joined weights. -/
def mid (k : Fin 4) (o : Fin 512) : Fin 2048 := ⟨512 * k.val + o.val, by omega⟩
def vmid (k : Fin 2) (o : Fin 512) : Fin 1024 := ⟨512 * k.val + o.val, by omega⟩
def inHead (h : Fin 4) (q : Fin 128) : Fin 512 := ⟨128 * h.val + q.val, by omega⟩
def gainRow (k : Fin 4) : Fin 8 := ⟨k.val, by omega⟩

section Blocks

variable (x0 : Vec Ideal S1024x1024 .f32) (x1 : Vec Ideal S1x1024 .f32) (x2 : Vec Ideal S1024x2048 .bf16) (x3 : Vec Ideal S1024x1024 .bf16) (x6 : Vec Ideal S8x128 .f32)

/-- The blocks at a head, a row and a lane. -/
def qkAt (hd : Fin 16) (r : Fin 1024) (q : Fin 128) : EReal :=
  kindNorm (kindOf hd) (fun q => ∑ d : Fin 1024, hid (fun k => x0 (ix2 r k)) (fun k => x1 (ix2 (0 : Fin 1) k)) d * x2 (ix2 d (mid (kindOf hd) (inHead (headOf hd) q)))) q
    * x6 (ix2 (gainRow (kindOf hd)) q)
def vtAt (hd : Fin 8) (q : Fin 144) (r : Fin 1024) : EReal :=
  if h : q.val < 128 then ∑ d : Fin 1024, x3 (ix2 (vmid (vkindOf hd) (inHead (vheadOf hd) ⟨q.val, h⟩)) d) * hid (fun k => x0 (ix2 r k)) (fun k => x1 (ix2 (0 : Fin 1) k)) d
  else 1
def qkBlk : Vec Ideal S1x16x1024x128 .bf16 := fun y => qkAt x0 x1 x2 x6 (y 1) (y 2) (y 3)
def vtBlk : Vec Ideal S1x8x144x1024 .bf16 := fun y => vtAt x0 x1 x3 (y 1) (y 2) (y 3)

end Blocks

theorem inb_head (hd : Fin 16) : ∀ a, (![0, hd.val, 0, 0] : Fin 4 → ℕ) a + S1x1x1024x128.size a ≤ S1x16x1024x128.size a := by fin_cases hd <;> decide
theorem inb_value (hd : Fin 8) : ∀ a, (![0, hd.val, 0, 0] : Fin 4 → ℕ) a + S1x1x128x1024.size a ≤ S1x8x144x1024.size a := by fin_cases hd <;> decide
theorem inb_ones (hd : Fin 8) : ∀ a, (![0, hd.val, 128, 0] : Fin 4 → ℕ) a + S1x1x16x1024.size a ≤ S1x8x144x1024.size a := by fin_cases hd <;> decide
theorem inb_x : ∀ a, (![0, 0] : Fin 2 → ℕ) a + S1024x1024.size a ≤ S1024x1024.size a := by decide
theorem inb_g : ∀ a, (![0, 0] : Fin 2 → ℕ) a + S1x1024.size a ≤ S1x1024.size a := by decide
theorem inb_w (k : Fin 4) : ∀ a, (![0, 512 * k.val] : Fin 2 → ℕ) a + S1024x512.size a ≤ S1024x2048.size a := by fin_cases k <;> decide
theorem inb_v (k : Fin 2) : ∀ a, (![512 * k.val, 0] : Fin 2 → ℕ) a + S512x1024.size a ≤ S1024x1024.size a := by fin_cases k <;> decide
theorem inb_gain (k : Fin 4) : ∀ a, (![k.val, 0] : Fin 2 → ℕ) a + S1x128.size a ≤ S8x128.size a := by fin_cases k <;> decide

/-- A stored head, value and ones is the block's part where it is stored. -/
theorem head_item (G : Vec Ideal S1x16x1024x128 .bf16) (hd : Fin 16)
    {P : Vec Ideal S1x1x1024x128 .bf16} (h : ∀ (r : Fin 1024) (q : Fin 128), P (ix4 (0 : Fin 1) (0 : Fin 1) r q) = G (ix4 (0 : Fin 1) hd r q)) (x : S1x1x1024x128.Idx) :
    P x = G ((Rect.unit (s := S1x16x1024x128) ![0, hd.val, 0, 0] S1x1x1024x128.size (inb_head hd)).emb x) := by
  obtain ⟨a, b, r, q, rfl⟩ : ∃ (a b : Fin 1) (r : Fin 1024) (q : Fin 128), x = ix4 a b r q := ⟨x 0, x 1, x 2, x 3, by funext a; fin_cases a <;> rfl⟩
  obtain rfl := Subsingleton.elim a 0
  obtain rfl := Subsingleton.elim b 0
  refine (h r q).trans (congrArg G (funext fun a => Fin.ext ?_))
  fin_cases a
  · rfl
  · rfl
  · show r.val = 0 + 1 * r.val; omega
  · show q.val = 0 + 1 * q.val; omega
theorem value_item (G : Vec Ideal S1x8x144x1024 .bf16) (hd : Fin 8)
    {P : Vec Ideal S1x1x128x1024 .bf16} (h : ∀ (q : Fin 128) (r : Fin 1024), P (ix4 (0 : Fin 1) (0 : Fin 1) q r) = G (ix4 (0 : Fin 1) hd (⟨q.val, by omega⟩ : Fin 144) r)) (x : S1x1x128x1024.Idx) :
    P x = G ((Rect.unit (s := S1x8x144x1024) ![0, hd.val, 0, 0] S1x1x128x1024.size (inb_value hd)).emb x) := by
  obtain ⟨a, b, q, r, rfl⟩ : ∃ (a b : Fin 1) (q : Fin 128) (r : Fin 1024), x = ix4 a b q r := ⟨x 0, x 1, x 2, x 3, by funext a; fin_cases a <;> rfl⟩
  obtain rfl := Subsingleton.elim a 0
  obtain rfl := Subsingleton.elim b 0
  refine (h q r).trans (congrArg G (funext fun a => Fin.ext ?_))
  fin_cases a
  · rfl
  · rfl
  · show q.val = 0 + 1 * q.val; omega
  · show r.val = 0 + 1 * r.val; omega
theorem ones_item (G : Vec Ideal S1x8x144x1024 .bf16) (hd : Fin 8)
    {P : Vec Ideal S1x1x16x1024 .bf16} (hP : P = onesOf) (h : ∀ (q : Fin 16) (r : Fin 1024), G (ix4 (0 : Fin 1) hd (⟨128 + q.val, by omega⟩ : Fin 144) r) = (1 : EReal)) (x : S1x1x16x1024.Idx) :
    P x = G ((Rect.unit (s := S1x8x144x1024) ![0, hd.val, 128, 0] S1x1x16x1024.size (inb_ones hd)).emb x) := by
  obtain ⟨a, b, q, r, rfl⟩ : ∃ (a b : Fin 1) (q : Fin 16) (r : Fin 1024), x = ix4 a b q r := ⟨x 0, x 1, x 2, x 3, by funext a; fin_cases a <;> rfl⟩
  obtain rfl := Subsingleton.elim a 0
  obtain rfl := Subsingleton.elim b 0
  rw [hP]
  refine (ones_at _).trans ((h q r).symm.trans (congrArg G (funext fun a => Fin.ext ?_)))
  fin_cases a
  · rfl
  · rfl
  · show 128 + q.val = 128 + 1 * q.val; omega
  · show r.val = 0 + 1 * r.val; omega

section Parts

variable (x0 : Vec Ideal S1024x1024 .f32) (x1 : Vec Ideal S1x1024 .f32) (x2 : Vec Ideal S1024x2048 .bf16) (x3 : Vec Ideal S1024x1024 .bf16) (x6 : Vec Ideal S8x128 .f32)
variable {X : Vec Ideal S1024x1024 .f32} {G : Vec Ideal S1x1024 .f32} {W : Vec Ideal S1024x512 .bf16} {V : Vec Ideal S512x1024 .bf16} {gg : Vec Ideal S1x128 .f32}

theorem diff_part (hd : Fin 16) (hk : (kindOf hd).val < 2) {P : Vec Ideal S1x1x1024x128 .bf16}
    (hP : P = blockOf (diffOf (sliceOf (k0_pay19 (k0_pay5 X G) W) (headOf hd)) gg))
    (hX : ∀ r d, X (ix2 r d) = x0 (ix2 r d)) (hG : ∀ d, G (ix2 (0 : Fin 1) d) = x1 (ix2 (0 : Fin 1) d))
    (hW : ∀ d o, W (ix2 d o) = x2 (ix2 d (mid (kindOf hd) o))) (hgg : ∀ q, gg (ix2 (0 : Fin 1) q) = x6 (ix2 (gainRow (kindOf hd)) q))
    (r : Fin 1024) (q : Fin 128) : P (ix4 (0 : Fin 1) (0 : Fin 1) r q) = qkBlk x0 x1 x2 x6 (ix4 (0 : Fin 1) hd r q) := by
  rw [hP, block_at, diff_at, hgg]
  show _ = qkAt x0 x1 x2 x6 hd r q
  unfold qkAt kindNorm
  rw [if_pos hk]
  simp only [slice_at, pay19_at, pay5_at, hX, hG, hW, inHead]
theorem fox_part (hd : Fin 16) (hk : ¬ (kindOf hd).val < 2) {P : Vec Ideal S1x1x1024x128 .bf16}
    (hP : P = blockOf (foxOf (sliceOf (k0_pay19 (k0_pay5 X G) W) (headOf hd)) gg))
    (hX : ∀ r d, X (ix2 r d) = x0 (ix2 r d)) (hG : ∀ d, G (ix2 (0 : Fin 1) d) = x1 (ix2 (0 : Fin 1) d))
    (hW : ∀ d o, W (ix2 d o) = x2 (ix2 d (mid (kindOf hd) o))) (hgg : ∀ q, gg (ix2 (0 : Fin 1) q) = x6 (ix2 (gainRow (kindOf hd)) q))
    (r : Fin 1024) (q : Fin 128) : P (ix4 (0 : Fin 1) (0 : Fin 1) r q) = qkBlk x0 x1 x2 x6 (ix4 (0 : Fin 1) hd r q) := by
  rw [hP, block_at, fox_at, hgg]
  show _ = qkAt x0 x1 x2 x6 hd r q
  unfold qkAt kindNorm
  rw [if_neg hk]
  simp only [slice_at, pay19_at, pay5_at, hX, hG, hW, inHead]
theorem value_part (hd : Fin 8) {P : Vec Ideal S1x1x128x1024 .bf16}
    (hP : P = valueOf (k0_pay52 (k0_pay5 X G) V) (vheadOf hd))
    (hX : ∀ r d, X (ix2 r d) = x0 (ix2 r d)) (hG : ∀ d, G (ix2 (0 : Fin 1) d) = x1 (ix2 (0 : Fin 1) d))
    (hV : ∀ o d, V (ix2 o d) = x3 (ix2 (vmid (vkindOf hd) o) d))
    (q : Fin 128) (r : Fin 1024) : P (ix4 (0 : Fin 1) (0 : Fin 1) q r) = vtBlk x0 x1 x3 (ix4 (0 : Fin 1) hd (⟨q.val, by omega⟩ : Fin 144) r) := by
  rw [hP, value_at]
  show _ = vtAt x0 x1 x3 hd (⟨q.val, by omega⟩ : Fin 144) r
  unfold vtAt
  rw [dif_pos q.isLt]
  simp only [pay52_at, pay5_at, hX, hG, hV, inHead]
theorem ones_part (hd : Fin 8) (q : Fin 16) (r : Fin 1024) : vtBlk x0 x1 x3 (ix4 (0 : Fin 1) hd (⟨128 + q.val, by omega⟩ : Fin 144) r) = (1 : EReal) :=
  dif_neg (by show ¬ 128 + q.val < 128; omega)

end Parts

section Values

variable (h : FVec Ideal S1024x1024 .bf16) (w : Vec Ideal S512x1024 .bf16) (p : FVec Ideal S512x1024 .f32)

theorem vhead0 : k0_pay53 h w = valueOf (k0_pay52 h w) 0 := rfl
theorem vhead1 : k0_pay55 h w = valueOf (k0_pay52 h w) 1 := rfl
theorem vhead2 : k0_pay58 p = valueOf p 2 := rfl
theorem vhead3 : k0_pay60 p = valueOf p 3 := rfl
theorem vhead4 : k0_pay64 (k0_pay63 h w) = valueOf (k0_pay52 h w) 0 := rfl
theorem vhead5 : k0_pay66 p = valueOf p 1 := rfl
theorem vhead6 : k0_pay68 p = valueOf p 2 := rfl
theorem vhead7 : k0_pay71 (k0_pay70 p) = valueOf p 3 := rfl

end Values

section Reads

variable {x0 : Vec Ideal S1024x1024 .f32} {x1 : Vec Ideal S1x1024 .f32} {x2 : Vec Ideal S1024x2048 .bf16} {x3 : Vec Ideal S1024x1024 .bf16} {x6 : Vec Ideal S8x128 .f32}

/-- What the body's loads read. -/
theorem read_x {M : Memref sig .tc .vmem S1024x1024 .f32} (hM : M.IsWhole) (r d : Fin 1024) :
    View.readAt (Elt Ideal) M.view (Rect.unit (s := S1024x1024) ![0, 0] S1024x1024.size (inb_x)).toLoadRect (hM.unread x0) (ix2 r d) = x0 (ix2 r d) := by
  refine (hM.readAt_unread x0 _ _).trans (congrArg x0 (funext fun a => Fin.ext ?_))
  fin_cases a
  · show 0 + 1 * r.val = r.val; omega
  · show 0 + 1 * d.val = d.val; omega
theorem read_g {M : Memref sig .tc .vmem S1x1024 .f32} (hM : M.IsWhole) (d : Fin 1024) :
    View.readAt (Elt Ideal) M.view (Rect.unit (s := S1x1024) ![0, 0] S1x1024.size (inb_g)).toLoadRect (hM.unread x1) (ix2 (0 : Fin 1) d) = x1 (ix2 (0 : Fin 1) d) := by
  refine (hM.readAt_unread x1 _ _).trans (congrArg x1 (funext fun a => Fin.ext ?_))
  fin_cases a
  · rfl
  · show 0 + 1 * d.val = d.val; omega
theorem read_w {M : Memref sig .tc .vmem S1024x2048 .bf16} (hM : M.IsWhole) (k : Fin 4) (d : Fin 1024) (o : Fin 512) :
    View.readAt (Elt Ideal) M.view (Rect.unit (s := S1024x2048) ![0, 512 * k.val] S1024x512.size (inb_w k)).toLoadRect (hM.unread x2) (ix2 d o) = x2 (ix2 d (mid k o)) := by
  refine (hM.readAt_unread x2 _ _).trans (congrArg x2 (funext fun a => Fin.ext ?_))
  fin_cases a
  · show 0 + 1 * d.val = d.val; omega
  · show 512 * k.val + 1 * o.val = 512 * k.val + o.val; omega
theorem read_v {M : Memref sig .tc .vmem S1024x1024 .bf16} (hM : M.IsWhole) (k : Fin 2) (o : Fin 512) (d : Fin 1024) :
    View.readAt (Elt Ideal) M.view (Rect.unit (s := S1024x1024) ![512 * k.val, 0] S512x1024.size (inb_v k)).toLoadRect (hM.unread x3) (ix2 o d) = x3 (ix2 (vmid k o) d) := by
  refine (hM.readAt_unread x3 _ _).trans (congrArg x3 (funext fun a => Fin.ext ?_))
  fin_cases a
  · show 512 * k.val + 1 * o.val = 512 * k.val + o.val; omega
  · show 0 + 1 * d.val = d.val; omega
theorem read_gain {M : Memref sig .tc .vmem S8x128 .f32} (hM : M.IsWhole) (k : Fin 4) (q : Fin 128) :
    View.readAt (Elt Ideal) M.view (Rect.unit (s := S8x128) ![k.val, 0] S1x128.size (inb_gain k)).toLoadRect (hM.unread x6) (ix2 (0 : Fin 1) q) = x6 (ix2 (gainRow k) q) := by
  refine (hM.readAt_unread x6 _ _).trans (congrArg x6 (funext fun a => Fin.ext ?_))
  fin_cases a
  · rfl
  · show 0 + 1 * q.val = q.val; omega

end Reads

section Body

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S8x1024 .bf16) (harg6 : arg6.IsWhole) (arg7 : Memref sig .tc .vmem S8x1 .f32) (harg7 : arg7.IsWhole) (arg8 : Memref sig .tc .vmem S8x128 .f32) (harg8 : arg8.IsWhole) (arg9 : Memref sig .tc .vmem S1x16x1024x128 .bf16) (harg9 : arg9.IsWhole) (arg10 : Memref sig .tc .vmem S1x8x144x1024 .bf16) (harg10 : arg10.IsWhole) (arg11 : Memref sig .tc .vmem S1x8x1024 .f32) (harg11 : arg11.IsWhole) (arg12 : Memref sig .tc .vmem S8x128 .f32) (harg12 : arg12.IsWhole)
  (x0 : Vec Ideal S1024x1024 .f32) (x1 : Vec Ideal S1x1024 .f32) (x2 : Vec Ideal S1024x2048 .bf16) (x3 : Vec Ideal S1024x1024 .bf16) (x4 : Vec Ideal S8x1024 .bf16) (x5 : Vec Ideal S8x1 .f32) (x6 : Vec Ideal S8x128 .f32) (xs0 : Vec Ideal S8x128 .f32)

theorem pieces_A_7 (hc0 : cond0_0 i) : View.PiecesOf (qkBlk x0 x1 x2 x6) (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1 := by
  unfold kernelRun0_A
  dsimp only
  exact ⟨head_item _ 15 (fox_part x0 x1 x2 x6 15 (by decide) (head15 _ _) (read_x harg2) (read_g harg3) (read_w harg4 (kindOf 15)) (read_gain harg8 (kindOf 15))),
    head_item _ 14 (fox_part x0 x1 x2 x6 14 (by decide) (head14 _ _) (read_x harg2) (read_g harg3) (read_w harg4 (kindOf 14)) (read_gain harg8 (kindOf 14))),
    head_item _ 13 (fox_part x0 x1 x2 x6 13 (by decide) (head13 _ _ _) (read_x harg2) (read_g harg3) (read_w harg4 (kindOf 13)) (read_gain harg8 (kindOf 13))),
    head_item _ 12 (fox_part x0 x1 x2 x6 12 (by decide) (head12 _ _ _) (read_x harg2) (read_g harg3) (read_w harg4 (kindOf 12)) (read_gain harg8 (kindOf 12))),
    head_item _ 11 (fox_part x0 x1 x2 x6 11 (by decide) (head11 _ _) (read_x harg2) (read_g harg3) (read_w harg4 (kindOf 11)) (read_gain harg8 (kindOf 11))),
    head_item _ 10 (fox_part x0 x1 x2 x6 10 (by decide) (head10 _ _) (read_x harg2) (read_g harg3) (read_w harg4 (kindOf 10)) (read_gain harg8 (kindOf 10))),
    head_item _ 9 (fox_part x0 x1 x2 x6 9 (by decide) (head9 _ _ _) (read_x harg2) (read_g harg3) (read_w harg4 (kindOf 9)) (read_gain harg8 (kindOf 9))),
    head_item _ 8 (fox_part x0 x1 x2 x6 8 (by decide) (head8 _ _ _) (read_x harg2) (read_g harg3) (read_w harg4 (kindOf 8)) (read_gain harg8 (kindOf 8))),
    head_item _ 7 (diff_part x0 x1 x2 x6 7 (by decide) (head7 _ _) (read_x harg2) (read_g harg3) (read_w harg4 (kindOf 7)) (read_gain harg8 (kindOf 7))),
    head_item _ 6 (diff_part x0 x1 x2 x6 6 (by decide) (head6 _ _) (read_x harg2) (read_g harg3) (read_w harg4 (kindOf 6)) (read_gain harg8 (kindOf 6))),
    head_item _ 5 (diff_part x0 x1 x2 x6 5 (by decide) (head5 _ _) (read_x harg2) (read_g harg3) (read_w harg4 (kindOf 5)) (read_gain harg8 (kindOf 5))),
    head_item _ 4 (diff_part x0 x1 x2 x6 4 (by decide) (head4 _ _ _) (read_x harg2) (read_g harg3) (read_w harg4 (kindOf 4)) (read_gain harg8 (kindOf 4))),
    head_item _ 3 (diff_part x0 x1 x2 x6 3 (by decide) (head3 _ _) (read_x harg2) (read_g harg3) (read_w harg4 (kindOf 3)) (read_gain harg8 (kindOf 3))),
    head_item _ 2 (diff_part x0 x1 x2 x6 2 (by decide) (head2 _ _) (read_x harg2) (read_g harg3) (read_w harg4 (kindOf 2)) (read_gain harg8 (kindOf 2))),
    head_item _ 1 (diff_part x0 x1 x2 x6 1 (by decide) (head1 _ _) (read_x harg2) (read_g harg3) (read_w harg4 (kindOf 1)) (read_gain harg8 (kindOf 1))),
    head_item _ 0 (diff_part x0 x1 x2 x6 0 (by decide) (head0 _ _ _ _) (read_x harg2) (read_g harg3) (read_w harg4 (kindOf 0)) (read_gain harg8 (kindOf 0))), trivial⟩

theorem pieces_A_8 (hc0 : cond0_0 i) : View.PiecesOf (vtBlk x0 x1 x3) (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.1 := by
  unfold kernelRun0_A
  dsimp only
  exact ⟨ones_item _ 7 rfl (ones_part x0 x1 x3 7),
    value_item _ 7 (value_part x0 x1 x3 7 (vhead7 _) (read_x harg2) (read_g harg3) (read_v harg5 (vkindOf 7))),
    ones_item _ 6 rfl (ones_part x0 x1 x3 6),
    value_item _ 6 (value_part x0 x1 x3 6 (vhead6 _) (read_x harg2) (read_g harg3) (read_v harg5 (vkindOf 6))),
    ones_item _ 5 rfl (ones_part x0 x1 x3 5),
    value_item _ 5 (value_part x0 x1 x3 5 (vhead5 _) (read_x harg2) (read_g harg3) (read_v harg5 (vkindOf 5))),
    ones_item _ 4 rfl (ones_part x0 x1 x3 4),
    value_item _ 4 (value_part x0 x1 x3 4 (vhead4 _ _) (read_x harg2) (read_g harg3) (read_v harg5 (vkindOf 4))),
    ones_item _ 3 rfl (ones_part x0 x1 x3 3),
    value_item _ 3 (value_part x0 x1 x3 3 (vhead3 _) (read_x harg2) (read_g harg3) (read_v harg5 (vkindOf 3))),
    ones_item _ 2 rfl (ones_part x0 x1 x3 2),
    value_item _ 2 (value_part x0 x1 x3 2 (vhead2 _) (read_x harg2) (read_g harg3) (read_v harg5 (vkindOf 2))),
    ones_item _ 1 rfl (ones_part x0 x1 x3 1),
    value_item _ 1 (value_part x0 x1 x3 1 (vhead1 _ _) (read_x harg2) (read_g harg3) (read_v harg5 (vkindOf 1))),
    ones_item _ 0 rfl (ones_part x0 x1 x3 0),
    value_item _ 0 (value_part x0 x1 x3 0 (vhead0 _ _) (read_x harg2) (read_g harg3) (read_v harg5 (vkindOf 0))), trivial⟩

theorem pieces_B_7 (hc0 : ¬ cond0_0 i) : View.PiecesOf (qkBlk x0 x1 x2 x6) (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).1 := by
  unfold kernelRun0_B
  dsimp only
  exact ⟨head_item _ 15 (fox_part x0 x1 x2 x6 15 (by decide) (head15 _ _) (read_x harg2) (read_g harg3) (read_w harg4 (kindOf 15)) (read_gain harg8 (kindOf 15))),
    head_item _ 14 (fox_part x0 x1 x2 x6 14 (by decide) (head14 _ _) (read_x harg2) (read_g harg3) (read_w harg4 (kindOf 14)) (read_gain harg8 (kindOf 14))),
    head_item _ 13 (fox_part x0 x1 x2 x6 13 (by decide) (head13 _ _ _) (read_x harg2) (read_g harg3) (read_w harg4 (kindOf 13)) (read_gain harg8 (kindOf 13))),
    head_item _ 12 (fox_part x0 x1 x2 x6 12 (by decide) (head12 _ _ _) (read_x harg2) (read_g harg3) (read_w harg4 (kindOf 12)) (read_gain harg8 (kindOf 12))),
    head_item _ 11 (fox_part x0 x1 x2 x6 11 (by decide) (head11 _ _) (read_x harg2) (read_g harg3) (read_w harg4 (kindOf 11)) (read_gain harg8 (kindOf 11))),
    head_item _ 10 (fox_part x0 x1 x2 x6 10 (by decide) (head10 _ _) (read_x harg2) (read_g harg3) (read_w harg4 (kindOf 10)) (read_gain harg8 (kindOf 10))),
    head_item _ 9 (fox_part x0 x1 x2 x6 9 (by decide) (head9 _ _ _) (read_x harg2) (read_g harg3) (read_w harg4 (kindOf 9)) (read_gain harg8 (kindOf 9))),
    head_item _ 8 (fox_part x0 x1 x2 x6 8 (by decide) (head8 _ _ _) (read_x harg2) (read_g harg3) (read_w harg4 (kindOf 8)) (read_gain harg8 (kindOf 8))),
    head_item _ 7 (diff_part x0 x1 x2 x6 7 (by decide) (head7 _ _) (read_x harg2) (read_g harg3) (read_w harg4 (kindOf 7)) (read_gain harg8 (kindOf 7))),
    head_item _ 6 (diff_part x0 x1 x2 x6 6 (by decide) (head6 _ _) (read_x harg2) (read_g harg3) (read_w harg4 (kindOf 6)) (read_gain harg8 (kindOf 6))),
    head_item _ 5 (diff_part x0 x1 x2 x6 5 (by decide) (head5 _ _) (read_x harg2) (read_g harg3) (read_w harg4 (kindOf 5)) (read_gain harg8 (kindOf 5))),
    head_item _ 4 (diff_part x0 x1 x2 x6 4 (by decide) (head4 _ _ _) (read_x harg2) (read_g harg3) (read_w harg4 (kindOf 4)) (read_gain harg8 (kindOf 4))),
    head_item _ 3 (diff_part x0 x1 x2 x6 3 (by decide) (head3 _ _) (read_x harg2) (read_g harg3) (read_w harg4 (kindOf 3)) (read_gain harg8 (kindOf 3))),
    head_item _ 2 (diff_part x0 x1 x2 x6 2 (by decide) (head2 _ _) (read_x harg2) (read_g harg3) (read_w harg4 (kindOf 2)) (read_gain harg8 (kindOf 2))),
    head_item _ 1 (diff_part x0 x1 x2 x6 1 (by decide) (head1 _ _) (read_x harg2) (read_g harg3) (read_w harg4 (kindOf 1)) (read_gain harg8 (kindOf 1))),
    head_item _ 0 (diff_part x0 x1 x2 x6 0 (by decide) (head0 _ _ _ _) (read_x harg2) (read_g harg3) (read_w harg4 (kindOf 0)) (read_gain harg8 (kindOf 0))), trivial⟩

theorem pieces_B_8 (hc0 : ¬ cond0_0 i) : View.PiecesOf (vtBlk x0 x1 x3) (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.1 := by
  unfold kernelRun0_B
  dsimp only
  exact ⟨ones_item _ 7 rfl (ones_part x0 x1 x3 7),
    value_item _ 7 (value_part x0 x1 x3 7 (vhead7 _) (read_x harg2) (read_g harg3) (read_v harg5 (vkindOf 7))),
    ones_item _ 6 rfl (ones_part x0 x1 x3 6),
    value_item _ 6 (value_part x0 x1 x3 6 (vhead6 _) (read_x harg2) (read_g harg3) (read_v harg5 (vkindOf 6))),
    ones_item _ 5 rfl (ones_part x0 x1 x3 5),
    value_item _ 5 (value_part x0 x1 x3 5 (vhead5 _) (read_x harg2) (read_g harg3) (read_v harg5 (vkindOf 5))),
    ones_item _ 4 rfl (ones_part x0 x1 x3 4),
    value_item _ 4 (value_part x0 x1 x3 4 (vhead4 _ _) (read_x harg2) (read_g harg3) (read_v harg5 (vkindOf 4))),
    ones_item _ 3 rfl (ones_part x0 x1 x3 3),
    value_item _ 3 (value_part x0 x1 x3 3 (vhead3 _) (read_x harg2) (read_g harg3) (read_v harg5 (vkindOf 3))),
    ones_item _ 2 rfl (ones_part x0 x1 x3 2),
    value_item _ 2 (value_part x0 x1 x3 2 (vhead2 _) (read_x harg2) (read_g harg3) (read_v harg5 (vkindOf 2))),
    ones_item _ 1 rfl (ones_part x0 x1 x3 1),
    value_item _ 1 (value_part x0 x1 x3 1 (vhead1 _ _) (read_x harg2) (read_g harg3) (read_v harg5 (vkindOf 1))),
    ones_item _ 0 rfl (ones_part x0 x1 x3 0),
    value_item _ 0 (value_part x0 x1 x3 0 (vhead0 _ _) (read_x harg2) (read_g harg3) (read_v harg5 (vkindOf 0))), trivial⟩

theorem out_A_7 (hc0 : cond0_0 i) : out0_A_7 c i arg2 harg2 arg3 harg3 arg4 harg4 arg5 harg5 arg6 harg6 arg7 harg7 arg8 harg8 arg9 harg9 arg10 harg10 arg11 harg11 arg12 harg12 hc0 x0 x1 x2 x3 x4 x5 x6 = qkBlk x0 x1 x2 x6 := by
  unfold out0_A_7
  refine (View.read_writes_junk_eq_canon VO0_7 (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1).trans (funext fun y => ?_)
  exact View.canon_apply_of_pieces (qkBlk x0 x1 x2 x6) _ (View.PiecesOf.mem (pieces_A_7 c i arg2 harg2 arg3 harg3 arg4 harg4 arg5 harg5 arg6 harg6 arg7 harg7 arg8 harg8 arg9 harg9 arg10 harg10 arg11 harg11 arg12 harg12 x0 x1 x2 x3 x4 x5 x6 hc0)) y (cover0_A_7 c i arg2 harg2 arg3 harg3 arg4 harg4 arg5 harg5 arg6 harg6 arg7 harg7 arg8 harg8 arg9 harg9 arg10 harg10 arg11 harg11 arg12 harg12 hc0 x0 x1 x2 x3 x4 x5 x6 y)

theorem out_A_8 (hc0 : cond0_0 i) : out0_A_8 c i arg2 harg2 arg3 harg3 arg4 harg4 arg5 harg5 arg6 harg6 arg7 harg7 arg8 harg8 arg9 harg9 arg10 harg10 arg11 harg11 arg12 harg12 hc0 x0 x1 x2 x3 x4 x5 x6 = vtBlk x0 x1 x3 := by
  unfold out0_A_8
  refine (View.read_writes_junk_eq_canon VO0_8 (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.1).trans (funext fun y => ?_)
  exact View.canon_apply_of_pieces (vtBlk x0 x1 x3) _ (View.PiecesOf.mem (pieces_A_8 c i arg2 harg2 arg3 harg3 arg4 harg4 arg5 harg5 arg6 harg6 arg7 harg7 arg8 harg8 arg9 harg9 arg10 harg10 arg11 harg11 arg12 harg12 x0 x1 x2 x3 x4 x5 x6 hc0)) y (cover0_A_8 c i arg2 harg2 arg3 harg3 arg4 harg4 arg5 harg5 arg6 harg6 arg7 harg7 arg8 harg8 arg9 harg9 arg10 harg10 arg11 harg11 arg12 harg12 hc0 x0 x1 x2 x3 x4 x5 x6 y)

theorem out_B_7 (hc0 : ¬ cond0_0 i) : out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 = qkBlk x0 x1 x2 x6 := by
  unfold out0_B_7
  refine (View.read_writes_junk_eq_canon VO0_7 (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).1).trans (funext fun y => ?_)
  exact View.canon_apply_of_pieces (qkBlk x0 x1 x2 x6) _ (View.PiecesOf.mem (pieces_B_7 c i arg2 harg2 arg3 harg3 arg4 harg4 arg5 harg5 arg6 harg6 arg7 harg7 arg8 harg8 arg9 harg9 arg10 harg10 arg11 harg11 arg12 harg12 x0 x1 x2 x3 x4 x5 x6 xs0 hc0)) y (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 y)

theorem out_B_8 (hc0 : ¬ cond0_0 i) : out0_B_8 c i arg2 harg2 arg3 harg3 arg4 harg4 arg5 harg5 arg6 harg6 arg7 harg7 arg8 harg8 arg9 harg9 arg10 harg10 arg11 harg11 arg12 harg12 hc0 x0 x1 x2 x3 x4 x5 x6 xs0 = vtBlk x0 x1 x3 := by
  unfold out0_B_8
  refine (View.read_writes_junk_eq_canon VO0_8 (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.1).trans (funext fun y => ?_)
  exact View.canon_apply_of_pieces (vtBlk x0 x1 x3) _ (View.PiecesOf.mem (pieces_B_8 c i arg2 harg2 arg3 harg3 arg4 harg4 arg5 harg5 arg6 harg6 arg7 harg7 arg8 harg8 arg9 harg9 arg10 harg10 arg11 harg11 arg12 harg12 x0 x1 x2 x3 x4 x5 x6 xs0 hc0)) y (cover0_B_8 c i arg2 harg2 arg3 harg3 arg4 harg4 arg5 harg5 arg6 harg6 arg7 harg7 arg8 harg8 arg9 harg9 arg10 harg10 arg11 harg11 arg12 harg12 hc0 x0 x1 x2 x3 x4 x5 x6 xs0 y)

end Body

end Cert.MixProj

end
-- ==== Proof.MixProj.Host.lean ====
/- The arrays the host prepares for the mixing projection, at an index. -/
module

public import proofs.«01_k».proof.Proof.MixProj.Pieces
public import proofs.«01_k».proof.Proof.Gen.Kernel3Ideal.Value
public import Idealize.ShloMosaic.Lib.StableHlo.ReadAt
@[expose] public section

noncomputable section

namespace Cert.MixProj

open Idealize.ShloMosaic Idealize.ShloMosaic.TcCoe Idealize.ShloMosaic.Tactic Cert.Kernel3Ideal Cert.Kernel3Ideal.Gen Cert.Value

section Host

variable {F : FTy → Type} [FloatOps F]

/-- The columns of the queries and keys side by side; the values' columns side by side, as rows. -/
def midOf (w : FVec F S1x1024x3076 .f32) : FVec F S1024x2048 .bf16 :=
  truncf .bf16 (concatenate S1024x2048 1 [⟨S1024x1024, shapeCast S1024x1024 (extractStridedSlice S1x1024x1024 ![0, 0, 0] w slices_S1x1024x3076_S1x1024x1024_0_0_0) shapeCasts_S1x1024x1024_S1024x1024⟩,
    ⟨S1024x1024, shapeCast S1024x1024 (extractStridedSlice S1x1024x1024 ![0, 0, 1536] w slices_S1x1024x3076_S1x1024x1024_0_0_1536) shapeCasts_S1x1024x1024_S1024x1024⟩] concatenates_S1024x1024_S1024x1024_S1024x2048_d1) bitsLt_bf16_f32
def valOf (w : FVec F S1x1024x3076 .f32) : FVec F S1024x1024 .bf16 :=
  truncf .bf16 (transpose S1024x1024 [1, 0] (concatenate S1024x1024 1 [⟨S1024x512, shapeCast S1024x512 (extractStridedSlice S1x1024x512 ![0, 0, 1024] w slices_S1x1024x3076_S1x1024x512_0_0_1024) shapeCasts_S1x1024x512_S1024x512⟩,
    ⟨S1024x512, shapeCast S1024x512 (extractStridedSlice S1x1024x512 ![0, 0, 2560] w slices_S1x1024x3076_S1x1024x512_0_0_2560) shapeCasts_S1x1024x512_S1024x512⟩] concatenates_S1024x512_S1024x512_S1024x1024_d1) transposes_S1024x1024_S1024x1024_1_0) bitsLt_bf16_f32
/-- A half's gain for both halves; the rows of gains. -/
def twiceOf (g : FVec F S1x64 .f32) : FVec F S128 .f32 :=
  shapeCast S128 (broadcastInDim S2x64 ![0, 1] bcast_S1x64_S2x64_0_1 (shapeCast S1x64 (shapeCast S64 g shapeCasts_S1x64_S64) shapeCasts_S64_S1x64)) shapeCasts_S2x64_S128
def rowOf (v : FVec F S128 .f32) : FVec F S1x128 .f32 := broadcastInDim S1x128 ![1] bcast_S128_S1x128_1 v
def timesOf (v : FVec F S128 .f32) (b : BitVec 32) : FVec F S128 .f32 := mulf v (broadcastInDim S128 ![] bcast_S_S128 (constant S_ .f32 b))
def onesRow : FVec F S1x128 .f32 := rowOf (broadcastInDim S128 ![] bcast_S_S128 (constant S_ .f32 0x3F800000#32))
def stackOf (a b c d e : FVec F S1x128 .f32) : FVec F S8x128 .f32 :=
  concatenate S8x128 0 [⟨S1x128, a⟩, ⟨S1x128, b⟩, ⟨S1x128, c⟩, ⟨S1x128, d⟩, ⟨S1x128, e⟩, ⟨S1x128, e⟩, ⟨S1x128, e⟩, ⟨S1x128, e⟩] concatenates_S1x128_S1x128_S1x128_S1x128_S1x128_S1x128_S1x128_S1x128_S8x128_d0

variable (m : (ℓ : Loc nD τ sig) → Buf (Elt F) ℓ) (c : Dev nD)

theorem V_mid : V m c main_v5 = midOf (m ((c : Thread nD τ).loc main_arg2)) := by
  unfold V hostOps0
  after_reads_simp
  rfl
theorem V_val : V m c main_v12 = valOf (m ((c : Thread nD τ).loc main_arg2)) := by
  unfold V hostOps0
  after_reads_simp
  rfl
theorem V_x : V m c main_v50 = shapeCast S16384x1024 (m ((c : Thread nD τ).loc main_arg0) : Vec F S8x2048x1024 .f32) shapeCasts_S8x2048x1024_S16384x1024 := by
  unfold V hostOps0
  after_reads_simp
  rfl
theorem V_g : V m c main_v52 = shapeCast S1x1024 (shapeCast S1024 (m ((c : Thread nD τ).loc main_arg1) : Vec F S1x1024 .f32) shapeCasts_S1x1024_S1024) shapeCasts_S1024_S1x1024 := by
  unfold V hostOps0
  after_reads_simp
  rfl
theorem V_gains : V m c main_v49 = stackOf (rowOf (timesOf (twiceOf (m ((c : Thread nD τ).loc main_arg4))) 0x3E38AA3B#32)) (rowOf (twiceOf (m ((c : Thread nD τ).loc main_arg5))))
      (rowOf (timesOf (shapeCast S128 (m ((c : Thread nD τ).loc main_arg6) : Vec F S1x128 .f32) shapeCasts_S1x128_S128) 0x3E0293EE#32))
      (rowOf (shapeCast S128 (m ((c : Thread nD τ).loc main_arg7) : Vec F S1x128 .f32) shapeCasts_S1x128_S128)) onesRow := by
  unfold V hostOps0
  after_reads_simp
  rfl

end Host

theorem at_col (w : FVec Ideal S1x1024x3076 .f32) (d : Fin 1024) {a b : ℕ} {ha : a < 3076} {hb : b < 3076} (e : a = b) :
    w (ix3 (0 : Fin 1) d (⟨a, ha⟩ : Fin 3076)) = w (ix3 (0 : Fin 1) d (⟨b, hb⟩ : Fin 3076)) := by subst e; rfl

theorem mid_at (w : FVec Ideal S1x1024x3076 .f32) (d : Fin 1024) (k h : Fin 4) (q : Fin 128) :
    midOf w (ix2 d (mid k (inHead h q))) = w (ix3 (0 : Fin 1) d (col k h q)) := by
  unfold mid inHead col
  fin_cases k
  · pointwise [midOf]
    rw [dif_pos (by omega)]
  · pointwise [midOf]
    rw [dif_pos (by omega)]
    exact at_col w d (by omega)
  · pointwise [midOf]
    exact at_col w d (by omega)
  · pointwise [midOf]
    rw [dif_neg (by omega)]
    exact at_col w d (by omega)

theorem val_at (w : FVec Ideal S1x1024x3076 .f32) (d : Fin 1024) (k : Fin 2) (h : Fin 4) (q : Fin 128) :
    valOf w (ix2 (vmid k (inHead h q)) d) = w (ix3 (0 : Fin 1) d (vcol k h q)) := by
  unfold vmid inHead vcol
  fin_cases k
  · pointwise [valOf]
    rw [dif_pos (by omega)]
    exact at_col w d (by omega)
  · pointwise [valOf]
    exact at_col w d (by omega)

theorem twice_at (g : FVec Ideal S1x64 .f32) (q : Fin 128) : twiceOf g (ix1 q) = g (ix2 (0 : Fin 1) (sub q)) := by
  unfold twiceOf
  refine (shapeCast_apply _ _ _ (ix2 (half q) (sub q)) ?_).trans ?_
  · rw [Shape.rowMajor_val_one, Shape.rowMajor_val_two]
    show q.val / 64 * 64 + q.val % 64 = q.val
    omega
  · pointwise []
theorem row_at (v : FVec Ideal S128 .f32) (q : Fin 128) : rowOf v (ix2 (0 : Fin 1) q) = v (ix1 q) := by
  pointwise [rowOf]
theorem times_at (v : FVec Ideal S128 .f32) (b : BitVec 32) (q : Fin 128) : timesOf v b (ix1 q) = v (ix1 q) * Ideal.ofBits .f32 b := by
  pointwise [timesOf]

theorem stack_at0 (a b c d e : FVec Ideal S1x128 .f32) (q : Fin 128) : stackOf a b c d e (ix2 (gainRow 0) q) = a (ix2 (0 : Fin 1) q) := by
  unfold gainRow
  pointwise [stackOf]
theorem stack_at1 (a b c d e : FVec Ideal S1x128 .f32) (q : Fin 128) : stackOf a b c d e (ix2 (gainRow 1) q) = b (ix2 (0 : Fin 1) q) := by
  unfold gainRow
  pointwise [stackOf]
theorem stack_at2 (a b c d e : FVec Ideal S1x128 .f32) (q : Fin 128) : stackOf a b c d e (ix2 (gainRow 2) q) = c (ix2 (0 : Fin 1) q) := by
  unfold gainRow
  pointwise [stackOf]
theorem stack_at3 (a b c d e : FVec Ideal S1x128 .f32) (q : Fin 128) : stackOf a b c d e (ix2 (gainRow 3) q) = d (ix2 (0 : Fin 1) q) := by
  unfold gainRow
  pointwise [stackOf]

theorem gains_at (a4 a5 : FVec Ideal S1x64 .f32) (a6 a7 : FVec Ideal S1x128 .f32) (e : FVec Ideal S1x128 .f32) (k : Fin 4) (q : Fin 128) :
    stackOf (rowOf (timesOf (twiceOf a4) 0x3E38AA3B#32)) (rowOf (twiceOf a5)) (rowOf (timesOf (shapeCast S128 a6 shapeCasts_S1x128_S128) 0x3E0293EE#32))
        (rowOf (shapeCast S128 a7 shapeCasts_S1x128_S128)) e (ix2 (gainRow k) q)
      = gain (fun j => a4 (ix2 (0 : Fin 1) j)) (fun j => a5 (ix2 (0 : Fin 1) j)) (fun j => a6 (ix2 (0 : Fin 1) j)) (fun j => a7 (ix2 (0 : Fin 1) j)) k q := by
  fin_cases k
  · refine (stack_at0 _ _ _ _ _ q).trans ?_
    rw [row_at, times_at, twice_at]; rfl
  · refine (stack_at1 _ _ _ _ _ q).trans ?_
    rw [row_at, twice_at]; rfl
  · refine (stack_at2 _ _ _ _ _ q).trans ?_
    rw [row_at, times_at]
    unfold gain
    pointwise []
  · refine (stack_at3 _ _ _ _ _ q).trans ?_
    rw [row_at]
    unfold gain
    pointwise []

theorem flat_at (x : FVec Ideal S8x2048x1024 .f32) (b : Fin 8) (s : Fin 2048) (d : Fin 1024) (n : Fin 16384) (hn : n.val = 2048 * b.val + s.val) :
    shapeCast S16384x1024 x shapeCasts_S8x2048x1024_S16384x1024 (ix2 n d) = x (ix3 b s d) := by
  refine shapeCast_apply _ _ _ _ ?_
  rw [Shape.rowMajor_val_two, Shape.rowMajor_val_three]
  show (b.val * 2048 + s.val) * 1024 + d.val = n.val * 1024 + d.val
  omega

end Cert.MixProj

end
-- ==== Proof.MixProj.Blocks.lean ====
/- The blocks of the mixing projection at an index of their arrays, and the arrays it returns. -/
module

public import proofs.«01_k».proof.Proof.MixProj.Host
@[expose] public section

noncomputable section

namespace Cert.MixProj

open Idealize.ShloMosaic Idealize.ShloMosaic.TcCoe Idealize.ShloMosaic.Tactic Cert.Kernel3Ideal Cert.Kernel3Ideal.Gen Cert.Value
open Idealize.ShloMosaic.Pipeline (Window)

theorem lt16 (t : Fin cfg0.N) : t.val < 16 := t.isLt.trans_eq N_0

theorem index_0 : ∀ t : Fin cfg0.N, (cfg0.win 0).index t = (![t.val, 0] : Fin 2 → ℕ) :=
  (by decide +kernel : ∀ t : Fin grid0.N, win0_0.index t = (![t.val, 0] : Fin 2 → ℕ))
theorem index_7 : ∀ t : Fin cfg0.N, (cfg0.win 7).index t = (![t.val / 2, 0, t.val % 2, 0] : Fin 4 → ℕ) :=
  (by decide +kernel : ∀ t : Fin grid0.N, win0_7.index t = (![t.val / 2, 0, t.val % 2, 0] : Fin 4 → ℕ))
theorem index_8 : ∀ t : Fin cfg0.N, (cfg0.win 8).index t = (![t.val / 2, 0, 0, t.val % 2] : Fin 4 → ℕ) :=
  (by decide +kernel : ∀ t : Fin grid0.N, win0_8.index t = (![t.val / 2, 0, 0, t.val % 2] : Fin 4 → ℕ))

/-- The batch of a grid point, and the place in the sequence of a row of its block. -/
def bat (t : Fin cfg0.N) : Fin 8 := ⟨t.val / 2, by have := lt16 t; omega⟩
def seqAt (t : Fin cfg0.N) (r : Fin 1024) : Fin 2048 := ⟨1024 * (t.val % 2) + r.val, by omega⟩
def rowAt (t : Fin cfg0.N) (r : Fin 1024) : Fin 16384 := ⟨1024 * t.val + r.val, by have := lt16 t; omega⟩

variable (m : (ℓ : Loc nD τ sig) → Buf (Elt Ideal) ℓ) (c : Dev nD)

/-- The arguments of the call: the rows, the gain, the weight, the heads' gains. -/
def aX : Vec Ideal S8x2048x1024 .f32 := m ((c.tc : Thread nD τ).loc main_arg0)
def aG : Vec Ideal S1x1024 .f32 := m ((c.tc : Thread nD τ).loc main_arg1)
def aW : Vec Ideal S1x1024x3076 .f32 := m ((c.tc : Thread nD τ).loc main_arg2)
def aDq : Vec Ideal S1x64 .f32 := m ((c.tc : Thread nD τ).loc main_arg4)
def aDk : Vec Ideal S1x64 .f32 := m ((c.tc : Thread nD τ).loc main_arg5)
def aFq : Vec Ideal S1x128 .f32 := m ((c.tc : Thread nD τ).loc main_arg6)
def aFk : Vec Ideal S1x128 .f32 := m ((c.tc : Thread nD τ).loc main_arg7)

/-- The blocks of a grid point, by their shapes. -/
def bX (t : Fin cfg0.N) : Vec Ideal S1024x1024 .f32 := iblk m c 0 t
def bG (t : Fin cfg0.N) : Vec Ideal S1x1024 .f32 := iblk m c 1 t
def bMid (t : Fin cfg0.N) : Vec Ideal S1024x2048 .bf16 := iblk m c 2 t
def bVal (t : Fin cfg0.N) : Vec Ideal S1024x1024 .bf16 := iblk m c 3 t
def bGains (t : Fin cfg0.N) : Vec Ideal S8x128 .f32 := iblk m c 6 t

theorem bX_at (t : Fin cfg0.N) (r j : Fin 1024) : bX m c t (ix2 r j) = aX m c (ix3 (bat t) (seqAt t r) j) := by
  have e : bX m c t (ix2 r j) = (V m c main_v50 : Vec Ideal S16384x1024 .f32) (ix2 (rowAt t r) j) := by
    refine congrArg (V m c main_v50 : Vec Ideal S16384x1024 .f32) (funext fun a => Fin.ext ?_)
    refine (Window.rect_emb_val (cfg0.win 0) t (ix2 r j) a).trans ?_
    rw [index_0]
    fin_cases a
    · show t.val * 1024 + r.val = 1024 * t.val + r.val; omega
    · show 0 * 1024 + j.val = j.val; omega
  rw [e, V_x]
  exact flat_at (aX m c) (bat t) (seqAt t r) j (rowAt t r) (by show 1024 * t.val + r.val = 2048 * (t.val / 2) + (1024 * (t.val % 2) + r.val); omega)

theorem bG_at (t : Fin cfg0.N) (k : Fin 1024) : bG m c t (ix2 (0 : Fin 1) k) = aG m c (ix2 (0 : Fin 1) k) := by
  have e : bG m c t (ix2 (0 : Fin 1) k) = (V m c main_v52 : Vec Ideal S1x1024 .f32) (ix2 (0 : Fin 1) k) := by
    refine congrArg (V m c main_v52 : Vec Ideal S1x1024 .f32) (funext fun a => Fin.ext ?_)
    refine (Window.rect_emb_val (cfg0.win 1) t (ix2 (0 : Fin 1) k) a).trans ?_
    fin_cases a
    · rfl
    · show 0 * 1024 + k.val = k.val; omega
  rw [e, V_g]
  change shapeCast S1x1024 (shapeCast S1024 (aG m c) shapeCasts_S1x1024_S1024) shapeCasts_S1024_S1x1024 (ix2 (0 : Fin 1) k) = _
  pointwise []

theorem bMid_at (t : Fin cfg0.N) (d : Fin 1024) (k h : Fin 4) (q : Fin 128) : bMid m c t (ix2 d (mid k (inHead h q))) = aW m c (ix3 (0 : Fin 1) d (col k h q)) := by
  refine Eq.trans ?_ (mid_at (aW m c) d k h q)
  refine Eq.trans ?_ (congrFun (V_mid m c) (ix2 d (mid k (inHead h q))))
  refine congrArg (V m c main_v5 : Vec Ideal S1024x2048 .bf16) (funext fun a => Fin.ext ?_)
  refine (Window.rect_emb_val (cfg0.win 2) t (ix2 d (mid k (inHead h q))) a).trans ?_
  fin_cases a
  · show 0 * 1024 + d.val = d.val; omega
  · show 0 * 2048 + (mid k (inHead h q)).val = (mid k (inHead h q)).val; omega

theorem bVal_at (t : Fin cfg0.N) (d : Fin 1024) (k : Fin 2) (h : Fin 4) (q : Fin 128) : bVal m c t (ix2 (vmid k (inHead h q)) d) = aW m c (ix3 (0 : Fin 1) d (vcol k h q)) := by
  refine Eq.trans ?_ (val_at (aW m c) d k h q)
  refine Eq.trans ?_ (congrFun (V_val m c) (ix2 (vmid k (inHead h q)) d))
  refine congrArg (V m c main_v12 : Vec Ideal S1024x1024 .bf16) (funext fun a => Fin.ext ?_)
  refine (Window.rect_emb_val (cfg0.win 3) t (ix2 (vmid k (inHead h q)) d) a).trans ?_
  fin_cases a
  · show 0 * 1024 + (vmid k (inHead h q)).val = (vmid k (inHead h q)).val; omega
  · show 0 * 1024 + d.val = d.val; omega

/-- The gain of a kind at a lane, of the call's arguments. -/
def gainAt (k : Fin 4) (q : Fin 128) : EReal :=
  gain (fun j => aDq m c (ix2 (0 : Fin 1) j)) (fun j => aDk m c (ix2 (0 : Fin 1) j)) (fun j => aFq m c (ix2 (0 : Fin 1) j)) (fun j => aFk m c (ix2 (0 : Fin 1) j)) k q

theorem bGains_at (t : Fin cfg0.N) (k : Fin 4) (q : Fin 128) : bGains m c t (ix2 (gainRow k) q) = gainAt m c k q := by
  refine Eq.trans ?_ (gains_at (aDq m c) (aDk m c) (aFq m c) (aFk m c) onesRow k q)
  refine Eq.trans ?_ (congrFun (V_gains m c) (ix2 (gainRow k) q))
  refine congrArg (V m c main_v49 : Vec Ideal S8x128 .f32) (funext fun a => Fin.ext ?_)
  refine (Window.rect_emb_val (cfg0.win 6) t (ix2 (gainRow k) q) a).trans ?_
  fin_cases a
  · show 0 * 8 + (gainRow k).val = (gainRow k).val; omega
  · show 0 * 128 + q.val = q.val; omega

/-- The projected row of the call's arguments, and the two results at an index. -/
def projRow (b : Fin 8) (s : Fin 2048) : Fin 3076 → EReal :=
  proj (fun k => aX m c (ix3 b s k)) (fun k => aG m c (ix2 (0 : Fin 1) k)) (fun d o => aW m c (ix3 (0 : Fin 1) d o))
def qkElt (b : Fin 8) (hd : Fin 16) (s : Fin 2048) (q : Fin 128) : EReal :=
  kindNorm (kindOf hd) (fun q => projRow m c b s (col (kindOf hd) (headOf hd) q)) q * gainAt m c (kindOf hd) q
def vtElt (b : Fin 8) (hd : Fin 8) (q : Fin 144) (s : Fin 2048) : EReal :=
  if h : q.val < 128 then projRow m c b s (vcol (vkindOf hd) (vheadOf hd) ⟨q.val, h⟩) else 1
@[irreducible] def qkOut : Vec Ideal S8x16x2048x128 .bf16 := fun i => qkElt m c (i 0) (i 1) (i 2) (i 3)
@[irreducible] def vtOut : Vec Ideal S8x8x144x2048 .bf16 := fun i => vtElt m c (i 0) (i 1) (i 2) (i 3)
theorem qkOut_at (b : Fin 8) (hd : Fin 16) (s : Fin 2048) (q : Fin 128) : qkOut m c (ix4 b hd s q) = qkElt m c b hd s q := by unfold qkOut; rfl
theorem vtOut_at (b : Fin 8) (hd : Fin 8) (q : Fin 144) (s : Fin 2048) : vtOut m c (ix4 b hd q s) = vtElt m c b hd q s := by unfold vtOut; rfl

theorem blk7_at (t : Fin cfg0.N) (a : Fin 1) (hd : Fin 16) (r : Fin 1024) (q : Fin 128) :
    qkBlk (bX m c t) (bG m c t) (bMid m c t) (bGains m c t) (ix4 a hd r q) = qkOut m c (ix4 (bat t) hd (seqAt t r) q) := by
  rw [qkOut_at]
  show qkAt (bX m c t) (bG m c t) (bMid m c t) (bGains m c t) hd r q = _
  unfold qkAt qkElt projRow proj
  simp only [bX_at, bG_at, bMid_at, bGains_at]

theorem blk8_at (t : Fin cfg0.N) (a : Fin 1) (hd : Fin 8) (q : Fin 144) (r : Fin 1024) :
    vtBlk (bX m c t) (bG m c t) (bVal m c t) (ix4 a hd q r) = vtOut m c (ix4 (bat t) hd q (seqAt t r)) := by
  rw [vtOut_at]
  show vtAt (bX m c t) (bG m c t) (bVal m c t) hd q r = _
  unfold vtAt vtElt projRow proj
  simp only [bX_at, bG_at, bVal_at]
  split
  · exact Finset.sum_congr rfl fun d _ => mul_comm _ _
  · rfl

theorem emb_7 (t : Fin cfg0.N) (a : Fin 1) (hd : Fin 16) (r : Fin 1024) (q : Fin 128) : ((cfg0.win 7).blk t).view.emb (ix4 a hd r q) = ix4 (bat t) hd (seqAt t r) q := by
  refine funext fun x => Fin.ext ?_
  refine (Window.rect_emb_val (cfg0.win 7) t (ix4 a hd r q) x).trans ?_
  rw [index_7]
  fin_cases x
  · show t.val / 2 * 1 + a.val = t.val / 2; omega
  · show 0 * 16 + hd.val = hd.val; omega
  · show t.val % 2 * 1024 + r.val = 1024 * (t.val % 2) + r.val; omega
  · show 0 * 128 + q.val = q.val; omega
theorem emb_8 (t : Fin cfg0.N) (a : Fin 1) (hd : Fin 8) (q : Fin 144) (r : Fin 1024) : ((cfg0.win 8).blk t).view.emb (ix4 a hd q r) = ix4 (bat t) hd q (seqAt t r) := by
  refine funext fun x => Fin.ext ?_
  refine (Window.rect_emb_val (cfg0.win 8) t (ix4 a hd q r) x).trans ?_
  rw [index_8]
  fin_cases x
  · show t.val / 2 * 1 + a.val = t.val / 2; omega
  · show 0 * 8 + hd.val = hd.val; omega
  · show 0 * 144 + q.val = q.val; omega
  · show t.val % 2 * 1024 + r.val = 1024 * (t.val % 2) + r.val; omega

theorem four_7 (y : S1x16x1024x128.Idx) : ∃ (a : Fin 1) (hd : Fin 16) (r : Fin 1024) (q : Fin 128), y = ix4 a hd r q := ⟨y 0, y 1, y 2, y 3, by funext a; fin_cases a <;> rfl⟩
theorem four_8 (y : S1x8x144x1024.Idx) : ∃ (a : Fin 1) (hd : Fin 8) (q : Fin 144) (r : Fin 1024), y = ix4 a hd q r := ⟨y 0, y 1, y 2, y 3, by funext a; fin_cases a <;> rfl⟩

/-- The grid point and the row of its block that a batch and a place in the sequence are. -/
theorem place (b : Fin 8) (s : Fin 2048) : ∃ (t : Fin cfg0.N) (r : Fin 1024), bat t = b ∧ seqAt t r = s :=
  ⟨⟨2 * b.val + s.val / 1024, by show _ < grid0.N; rw [N_0]; omega⟩, ⟨s.val % 1024, Nat.mod_lt _ (by decide)⟩,
    Fin.ext (by show (2 * b.val + s.val / 1024) / 2 = b.val; omega),
    Fin.ext (by show 1024 * ((2 * b.val + s.val / 1024) % 2) + s.val % 1024 = s.val; omega)⟩
theorem split_7 (i : S8x16x2048x128.Idx) : ∃ (t : Fin cfg0.N) (hd : Fin 16) (r : Fin 1024) (q : Fin 128), i = ix4 (bat t) hd (seqAt t r) q := by
  obtain ⟨t, r, hb, hs⟩ := place (i 0) (i 2)
  refine ⟨t, i 1, r, i 3, ?_⟩
  rw [hb, hs]
  funext a; fin_cases a <;> rfl
theorem split_8 (i : S8x8x144x2048.Idx) : ∃ (t : Fin cfg0.N) (hd : Fin 8) (q : Fin 144) (r : Fin 1024), i = ix4 (bat t) hd q (seqAt t r) := by
  obtain ⟨t, r, hb, hs⟩ := place (i 0) (i 3)
  refine ⟨t, i 1, i 2, r, ?_⟩
  rw [hb, hs]
  funext a; fin_cases a <;> rfl

theorem mem_7 (t : Fin cfg0.N) (hd : Fin 16) (r : Fin 1024) (q : Fin 128) : (ix4 (bat t) hd (seqAt t r) q : S8x16x2048x128.Idx) ∈ ((cfg0.win 7).blk t).view.set :=
  emb_7 t 0 hd r q ▸ View.emb_mem_set _ _
theorem mem_8 (t : Fin cfg0.N) (hd : Fin 8) (q : Fin 144) (r : Fin 1024) : (ix4 (bat t) hd q (seqAt t r) : S8x8x144x2048.Idx) ∈ ((cfg0.win 8).blk t).view.set :=
  emb_8 t 0 hd q r ▸ View.emb_mem_set _ _

theorem cover_7 (i : S8x16x2048x128.Idx) : ∃ t : Fin cfg0.N, (cfg0.win 7).flush t = true ∧ i ∈ ((cfg0.win 7).blk t).view.set := by
  obtain ⟨t, hd, r, q, rfl⟩ := split_7 i
  exact ⟨t, flush0_7 t, mem_7 t hd r q⟩
theorem cover_8 (i : S8x8x144x2048.Idx) : ∃ t : Fin cfg0.N, (cfg0.win 8).flush t = true ∧ i ∈ ((cfg0.win 8).blk t).view.set := by
  obtain ⟨t, hd, q, r, rfl⟩ := split_8 i
  exact ⟨t, flush0_8 t, mem_8 t hd q r⟩

theorem cut_7 (t : Fin cfg0.N) (X : Vec Ideal S1x16x1024x128 .bf16) (G : Vec Ideal S8x16x2048x128 .bf16) (hX : ∀ y : S1x16x1024x128.Idx, X y = G (((cfg0.win 7).blk t).view.emb y)) :
    (cfg0.win 7).cut (grid0.coords t) X = ((cfg0.win 7).blk t).view.read (Elt Ideal) G := funext fun y => hX y
theorem cut_8 (t : Fin cfg0.N) (X : Vec Ideal S1x8x144x1024 .bf16) (G : Vec Ideal S8x8x144x2048 .bf16) (hX : ∀ y : S1x8x144x1024.Idx, X y = G (((cfg0.win 8).blk t).view.emb y)) :
    (cfg0.win 8).cut (grid0.coords t) X = ((cfg0.win 8).blk t).view.read (Elt Ideal) G := funext fun y => hX y

theorem read_7 (t : Fin cfg0.N) : (cfg0.win 7).cut (grid0.coords t) (qkBlk (bX m c t) (bG m c t) (bMid m c t) (bGains m c t)) = ((cfg0.win 7).blk t).view.read (Elt Ideal) (qkOut m c) :=
  cut_7 t _ _ fun y => by
    obtain ⟨a, hd, r, q, rfl⟩ := four_7 y
    exact (blk7_at m c t a hd r q).trans (congrArg (qkOut m c) (emb_7 t a hd r q)).symm
theorem read_8 (t : Fin cfg0.N) : (cfg0.win 8).cut (grid0.coords t) (vtBlk (bX m c t) (bG m c t) (bVal m c t)) = ((cfg0.win 8).blk t).view.read (Elt Ideal) (vtOut m c) :=
  cut_8 t _ _ fun y => by
    obtain ⟨a, hd, q, r, rfl⟩ := four_8 y
    exact (blk8_at m c t a hd q r).trans (congrArg (vtOut m c) (emb_8 t a hd q r)).symm

theorem flushed_7 (t : Fin cfg0.N) : (dats m 0 c).flushed 7 t = ((cfg0.win 7).blk t).view.read (Elt Ideal) (qkOut m c) := by
  by_cases h0 : t.val % 2 = 0
  · rw [Cert.Kernel3Ideal.Value.flushed7_A m c t h0, out_A_7]
    exact read_7 m c t
  · rw [Cert.Kernel3Ideal.Value.flushed7_B m c t h0, out_B_7]
    exact read_7 m c t
theorem flushed_8 (t : Fin cfg0.N) : (dats m 0 c).flushed 8 t = ((cfg0.win 8).blk t).view.read (Elt Ideal) (vtOut m c) := by
  by_cases h0 : t.val % 2 = 0
  · rw [Cert.Kernel3Ideal.Value.flushed8_A m c t h0, out_A_8]
    exact read_8 m c t
  · rw [Cert.Kernel3Ideal.Value.flushed8_B m c t h0, out_B_8]
    exact read_8 m c t

theorem result_7 : (dats m 0 c).arrAt 7 cfg0.N = qkOut m c := (dats m 0 c).arrAt_eq_of_cover 7 (qkOut m c) (fun t _ => flushed_7 m c t) cover_7
theorem result_8 : (dats m 0 c).arrAt 8 cfg0.N = vtOut m c := (dats m 0 c).arrAt_eq_of_cover 8 (vtOut m c) (fun t _ => flushed_8 m c t) cover_8

end Cert.MixProj

end
-- ==== Proof.MixProj.Ref.lean ====
/- The reference's mixing projection at an index. -/
module

public import proofs.«01_k».proof.Proof.MixProj.Spec
public import proofs.«01_k».proof.Proof.Gen.Reference3Ideal.Run
public import Idealize.ShloMosaic.Lib.Pointwise
public import Idealize.ShloMosaic.Lib.StableHlo.ReadAt
@[expose] public section

noncomputable section

namespace Cert.MixProj.Ref

open Idealize.ShloMosaic
open Cert.Reference3Ideal Cert.Reference3Ideal.Gen Cert.Reference3Ideal.Value Cert.Value

/-- The normalised rows. -/
def normOf (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 (shapeCast S1024 g shapeCasts_S1x1024_S1024)))
/-- The projected rows. -/
def projOf (h : FVec Ideal S8x2048x1024 .f32) (w : FVec Ideal S1x1024x3076 .f32) : FVec Ideal S8x2048x3076 .f32 :=
  Host.dotGeneral dot_S8x2048x1024_S1024x3076_S8x2048x3076_2_0_01_1_n_n none h (shapeCast S1024x3076 w shapeCasts_S1x1024x3076_S1024x3076)
/-- A differential group by heads and halves, each half normalised and scaled by its gain, and joined by heads. -/
def halvesOf (p : FVec Ideal S8x2048x512 .f32) : FVec Ideal S8x2048x4x2x64 .f32 := shapeCast S8x2048x4x2x64 p shapeCasts_S8x2048x512_S8x2048x4x2x64
def halfNormOf (p : FVec Ideal S8x2048x4x2x64 .f32) (g : FVec Ideal S1x64 .f32) : FVec Ideal S8x2048x4x2x64 .f32 :=
  mulf (mulf p (broadcastInDim S8x2048x4x2x64 ![0, 1, 2, 3, 4] bcast_S8x2048x4x2x1_S8x2048x4x2x64_0_1_2_3_4 (Host.rsqrt (addf (Host.divf (broadcastInDim S8x2048x4x2x1 ![0, 1, 2, 3] bcast_S8x2048x4x2_S8x2048x4x2x1_0_1_2_3 (Host.reduceAdd (mulf p p) (constant S_ .f32 0x00000000#32) reducesTo_S8x2048x4x2x64_S8x2048x4x2_d4 h_S_)) (broadcastInDim S8x2048x4x2x1 ![] bcast_S_S8x2048x4x2x1 (constant S_ .f32 0x42800000#32))) (broadcastInDim S8x2048x4x2x1 ![] bcast_S_S8x2048x4x2x1 (constant S_ .f32 0x358637BD#32))))))
    (broadcastInDim S8x2048x4x2x64 ![0, 1, 2, 3, 4] bcast_S1x1x1x1x64_S8x2048x4x2x64_0_1_2_3_4 (broadcastInDim S1x1x1x1x64 ![4] bcast_S64_S1x1x1x1x64_4 (shapeCast S64 g shapeCasts_S1x64_S64)))
def joinOf (p : FVec Ideal S8x2048x4x2x64 .f32) : FVec Ideal S8x2048x4x128 .f32 := shapeCast S8x2048x4x128 p shapeCasts_S8x2048x4x2x64_S8x2048x4x128
/-- A group by heads, each head normalised and scaled by its gain. -/
def headsOf (p : FVec Ideal S8x2048x512 .f32) : FVec Ideal S8x2048x4x128 .f32 := shapeCast S8x2048x4x128 p shapeCasts_S8x2048x512_S8x2048x4x128
def headNormOf (p : FVec Ideal S8x2048x4x128 .f32) (g : FVec Ideal S1x128 .f32) : FVec Ideal S8x2048x4x128 .f32 :=
  mulf (mulf p (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf p p) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32))))))
    (broadcastInDim S8x2048x4x128 ![0, 1, 2, 3] bcast_S1x1x1x128_S8x2048x4x128_0_1_2_3 (broadcastInDim S1x1x1x128 ![3] bcast_S128_S1x1x1x128_3 (shapeCast S128 g shapeCasts_S1x128_S128)))
/-- A group times a scale. -/
def scaleOf (p : FVec Ideal S8x2048x4x128 .f32) (b : BitVec 32) : FVec Ideal S8x2048x4x128 .f32 := mulf p (broadcastInDim S8x2048x4x128 ![] bcast_S_S8x2048x4x128 (constant S_ .f32 b))
/-- The groups side by side, heads first. -/
def qkOf (a b c d : FVec Ideal S8x2048x4x128 .f32) : FVec Ideal S8x16x2048x128 .bf16 :=
  truncf .bf16 (transpose S8x16x2048x128 [0, 2, 1, 3] (concatenate S8x2048x16x128 2 [⟨S8x2048x4x128, a⟩, ⟨S8x2048x4x128, b⟩, ⟨S8x2048x4x128, c⟩, ⟨S8x2048x4x128, d⟩] concatenates_S8x2048x4x128_S8x2048x4x128_S8x2048x4x128_S8x2048x4x128_S8x2048x16x128_d2) transposes_S8x2048x16x128_S8x16x2048x128_0_2_1_3) bitsLt_bf16_f32
/-- The value groups side by side with their ones, heads first and rows last. -/
def vtOf (a b : FVec Ideal S8x2048x4x128 .f32) : FVec Ideal S8x8x144x2048 .bf16 :=
  truncf .bf16 (transpose S8x8x144x2048 [0, 2, 3, 1] (concatenate S8x2048x8x144 3 [⟨S8x2048x8x128, concatenate S8x2048x8x128 2 [⟨S8x2048x4x128, a⟩, ⟨S8x2048x4x128, b⟩] concatenates_S8x2048x4x128_S8x2048x4x128_S8x2048x8x128_d2⟩, ⟨S8x2048x8x16, broadcastInDim S8x2048x8x16 ![] bcast_S_S8x2048x8x16 (constant S_ .f32 0x3F800000#32)⟩] concatenates_S8x2048x8x128_S8x2048x8x16_S8x2048x8x144_d3) transposes_S8x2048x8x144_S8x8x144x2048_0_2_3_1) bitsLt_bf16_f32

theorem norm_at (x : FVec Ideal S8x2048x1024 .f32) (g : FVec Ideal S1x1024 .f32) (b : Fin 8) (s : Fin 2048) (d : Fin 1024) :
    normOf x g (ix3 b s d) = hid (fun k => x (ix3 b s k)) (fun k => g (ix2 (0 : Fin 1) k)) d := by
  unfold hid meanSq
  pointwise [normOf]

theorem proj_at (x : FVec Ideal S8x2048x1024 .f32) (g : FVec Ideal S1x1024 .f32) (w : FVec Ideal S1x1024x3076 .f32) (b : Fin 8) (s : Fin 2048) (o : Fin 3076) :
    projOf (normOf x g) w (ix3 b s o) = proj (fun k => x (ix3 b s k)) (fun k => g (ix2 (0 : Fin 1) k)) (fun d o => w (ix3 (0 : Fin 1) d o)) o := by
  unfold proj
  pointwise [projOf]
  simp only [norm_at]

theorem halves_at (p : FVec Ideal S8x2048x512 .f32) (b : Fin 8) (s : Fin 2048) (h : Fin 4) (e : Fin 2) (j : Fin 64) :
    halvesOf p (ix5 b s h e j) = p (ix3 b s (⟨128 * h.val + 64 * e.val + j.val, by omega⟩ : Fin 512)) := by
  unfold halvesOf
  refine shapeCast_apply _ _ _ _ ?_
  rw [Shape.rowMajor_val_three, Shape.rowMajor_val_five]
  show (b.val * 2048 + s.val) * 512 + (128 * h.val + 64 * e.val + j.val) = (((b.val * 2048 + s.val) * 4 + h.val) * 2 + e.val) * 64 + j.val
  omega

theorem heads_at (p : FVec Ideal S8x2048x512 .f32) (b : Fin 8) (s : Fin 2048) (h : Fin 4) (q : Fin 128) :
    headsOf p (ix4 b s h q) = p (ix3 b s (⟨128 * h.val + q.val, by omega⟩ : Fin 512)) := by
  unfold headsOf
  refine shapeCast_apply _ _ _ _ ?_
  rw [Shape.rowMajor_val_three, Shape.rowMajor_val_four]
  show (b.val * 2048 + s.val) * 512 + (128 * h.val + q.val) = ((b.val * 2048 + s.val) * 4 + h.val) * 128 + q.val
  omega

theorem join_at (p : FVec Ideal S8x2048x4x2x64 .f32) (b : Fin 8) (s : Fin 2048) (h : Fin 4) (q : Fin 128) :
    joinOf p (ix4 b s h q) = p (ix5 b s h (half q) (sub q)) := by
  unfold joinOf
  refine shapeCast_apply _ _ _ _ ?_
  rw [Shape.rowMajor_val_four, Shape.rowMajor_val_five]
  show (((b.val * 2048 + s.val) * 4 + h.val) * 2 + q.val / 64) * 64 + q.val % 64 = ((b.val * 2048 + s.val) * 4 + h.val) * 128 + q.val
  omega

theorem half_norm_at (p : FVec Ideal S8x2048x4x2x64 .f32) (g : FVec Ideal S1x64 .f32) (b : Fin 8) (s : Fin 2048) (h : Fin 4) (e : Fin 2) (j : Fin 64) :
    halfNormOf p g (ix5 b s h e j) = p (ix5 b s h e j) * Ideal.rsqrt (Ideal.div (∑ j : Fin 64, p (ix5 b s h e j) * p (ix5 b s h e j)) (Ideal.ofBits .f32 0x42800000#32) + Ideal.ofBits .f32 0x358637BD#32)
      * g (ix2 (0 : Fin 1) j) := by
  pointwise [halfNormOf]

theorem head_norm_at (p : FVec Ideal S8x2048x4x128 .f32) (g : FVec Ideal S1x128 .f32) (b : Fin 8) (s : Fin 2048) (h : Fin 4) (q : Fin 128) :
    headNormOf p g (ix4 b s h q) = foxNorm (fun q => p (ix4 b s h q)) q * g (ix2 (0 : Fin 1) q) := by
  unfold foxNorm
  pointwise [headNormOf]

theorem qk_at (a b c d : FVec Ideal S8x2048x4x128 .f32) (n : Fin 8) (s : Fin 2048) (h : Fin 4) (q : Fin 128) :
    qkOf a b c d (ix4 n (⟨h.val, by omega⟩ : Fin 16) s q) = a (ix4 n s h q) := by
  pointwise [qkOf]

theorem qk_at1 (a b c d : FVec Ideal S8x2048x4x128 .f32) (n : Fin 8) (s : Fin 2048) (h : Fin 4) (q : Fin 128) :
    qkOf a b c d (ix4 n (⟨4 + h.val, by omega⟩ : Fin 16) s q) = b (ix4 n s h q) := by
  pointwise [qkOf]
theorem qk_at2 (a b c d : FVec Ideal S8x2048x4x128 .f32) (n : Fin 8) (s : Fin 2048) (h : Fin 4) (q : Fin 128) :
    qkOf a b c d (ix4 n (⟨8 + h.val, by omega⟩ : Fin 16) s q) = c (ix4 n s h q) := by
  pointwise [qkOf]
  rw [dif_neg (by omega), dif_neg (by omega), dif_pos (by omega)]
  exact congrArg (fun h => c (ix4 n s h q)) (Fin.ext (by show 8 + h.val - 4 - 4 = h.val; omega))
theorem qk_at3 (a b c d : FVec Ideal S8x2048x4x128 .f32) (n : Fin 8) (s : Fin 2048) (h : Fin 4) (q : Fin 128) :
    qkOf a b c d (ix4 n (⟨12 + h.val, by omega⟩ : Fin 16) s q) = d (ix4 n s h q) := by
  pointwise [qkOf]
  rw [dif_neg (by omega), dif_neg (by omega), dif_neg (by omega)]
  exact congrArg (fun h => d (ix4 n s h q)) (Fin.ext (by show 12 + h.val - 4 - 4 - 4 = h.val; omega))
theorem vt_at (a b : FVec Ideal S8x2048x4x128 .f32) (n : Fin 8) (s : Fin 2048) (h : Fin 4) (q : Fin 128) :
    vtOf a b (ix4 n (⟨h.val, by omega⟩ : Fin 8) (⟨q.val, by omega⟩ : Fin 144) s) = a (ix4 n s h q) := by
  pointwise [vtOf]
theorem vt_at1 (a b : FVec Ideal S8x2048x4x128 .f32) (n : Fin 8) (s : Fin 2048) (h : Fin 4) (q : Fin 128) :
    vtOf a b (ix4 n (⟨4 + h.val, by omega⟩ : Fin 8) (⟨q.val, by omega⟩ : Fin 144) s) = b (ix4 n s h q) := by
  pointwise [vtOf]
theorem vt_ones (a b : FVec Ideal S8x2048x4x128 .f32) (n : Fin 8) (s : Fin 2048) (h : Fin 8) (q : Fin 16) :
    vtOf a b (ix4 n h (⟨128 + q.val, by omega⟩ : Fin 144) s) = (1 : EReal) := by
  pointwise [vtOf]
theorem scale_at (p : FVec Ideal S8x2048x4x128 .f32) (b : BitVec 32) (i : S8x2048x4x128.Idx) : scaleOf p b i = p i * Ideal.ofBits .f32 b := by
  pointwise [scaleOf]

/-- The groups of 512 columns. -/
def group0 (p : FVec Ideal S8x2048x3076 .f32) : FVec Ideal S8x2048x512 .f32 := extractStridedSlice S8x2048x512 ![0, 0, 0] p slices_S8x2048x3076_S8x2048x512_0_0_0
def group1 (p : FVec Ideal S8x2048x3076 .f32) : FVec Ideal S8x2048x512 .f32 := extractStridedSlice S8x2048x512 ![0, 0, 512] p slices_S8x2048x3076_S8x2048x512_0_0_512
def group2 (p : FVec Ideal S8x2048x3076 .f32) : FVec Ideal S8x2048x512 .f32 := extractStridedSlice S8x2048x512 ![0, 0, 1024] p slices_S8x2048x3076_S8x2048x512_0_0_1024
def group3 (p : FVec Ideal S8x2048x3076 .f32) : FVec Ideal S8x2048x512 .f32 := extractStridedSlice S8x2048x512 ![0, 0, 1536] p slices_S8x2048x3076_S8x2048x512_0_0_1536
def group4 (p : FVec Ideal S8x2048x3076 .f32) : FVec Ideal S8x2048x512 .f32 := extractStridedSlice S8x2048x512 ![0, 0, 2048] p slices_S8x2048x3076_S8x2048x512_0_0_2048
def group5 (p : FVec Ideal S8x2048x3076 .f32) : FVec Ideal S8x2048x512 .f32 := extractStridedSlice S8x2048x512 ![0, 0, 2560] p slices_S8x2048x3076_S8x2048x512_0_0_2560
section Groups

variable (p : FVec Ideal S8x2048x3076 .f32) (b : Fin 8) (s : Fin 2048) (o : Fin 512)

theorem group0_at : group0 p (ix3 b s o) = p (ix3 b s (⟨o.val, by omega⟩ : Fin 3076)) := by pointwise [group0]
theorem group1_at : group1 p (ix3 b s o) = p (ix3 b s (⟨512 + o.val, by omega⟩ : Fin 3076)) := by pointwise [group1]
theorem group2_at : group2 p (ix3 b s o) = p (ix3 b s (⟨1024 + o.val, by omega⟩ : Fin 3076)) := by pointwise [group2]
theorem group3_at : group3 p (ix3 b s o) = p (ix3 b s (⟨1536 + o.val, by omega⟩ : Fin 3076)) := by pointwise [group3]
theorem group4_at : group4 p (ix3 b s o) = p (ix3 b s (⟨2048 + o.val, by omega⟩ : Fin 3076)) := by pointwise [group4]
theorem group5_at : group5 p (ix3 b s o) = p (ix3 b s (⟨2560 + o.val, by omega⟩ : Fin 3076)) := by pointwise [group5]

end Groups

/-- A differential group normalised, at an index. -/
theorem diff_at (p : FVec Ideal S8x2048x512 .f32) (g : FVec Ideal S1x64 .f32) (b : Fin 8) (s : Fin 2048) (h : Fin 4) (q : Fin 128) :
    joinOf (halfNormOf (halvesOf p) g) (ix4 b s h q) = diffNorm (fun q => p (ix3 b s (⟨128 * h.val + q.val, by omega⟩ : Fin 512))) q * g (ix2 (0 : Fin 1) (sub q)) := by
  have e : ∀ (e : Fin 2) (j : Fin 64), halvesOf p (ix5 b s h e j) = p (ix3 b s (⟨128 * h.val + (lane e j).val, by omega⟩ : Fin 512)) := fun e j =>
    (halves_at p b s h e j).trans (congrArg (fun o => p (ix3 b s o)) (Fin.ext (by show 128 * h.val + 64 * e.val + j.val = 128 * h.val + (64 * e.val + j.val); omega)))
  unfold diffNorm
  rw [join_at, half_norm_at]
  simp only [e, lane_half]
/-- A forgetting group normalised, at an index. -/
theorem fox_at (p : FVec Ideal S8x2048x512 .f32) (g : FVec Ideal S1x128 .f32) (b : Fin 8) (s : Fin 2048) (h : Fin 4) (q : Fin 128) :
    headNormOf (headsOf p) g (ix4 b s h q) = foxNorm (fun q => p (ix3 b s (⟨128 * h.val + q.val, by omega⟩ : Fin 512))) q * g (ix2 (0 : Fin 1) q) := by
  rw [head_norm_at]
  simp only [heads_at]

/-- The two results from the projected rows. -/
def firstOf (p : FVec Ideal S8x2048x3076 .f32) (dq dk : FVec Ideal S1x64 .f32) (fq fk : FVec Ideal S1x128 .f32) : FVec Ideal S8x16x2048x128 .bf16 :=
  qkOf (scaleOf (joinOf (halfNormOf (halvesOf (group0 p)) dq)) 0x3E38AA3B#32) (joinOf (halfNormOf (halvesOf (group1 p)) dk))
    (scaleOf (headNormOf (headsOf (group3 p)) fq) 0x3E0293EE#32) (headNormOf (headsOf (group4 p)) fk)
def secondOf (p : FVec Ideal S8x2048x3076 .f32) : FVec Ideal S8x8x144x2048 .bf16 := vtOf (headsOf (group2 p)) (headsOf (group5 p))

theorem at_o (p : FVec Ideal S8x2048x3076 .f32) (b : Fin 8) (s : Fin 2048) {x y : ℕ} {hx : x < 3076} {hy : y < 3076} (e : x = y) :
    p (ix3 b s (⟨x, hx⟩ : Fin 3076)) = p (ix3 b s (⟨y, hy⟩ : Fin 3076)) := by subst e; rfl

section Parts

variable (p : FVec Ideal S8x2048x3076 .f32) (dq dk : FVec Ideal S1x64 .f32) (fq fk : FVec Ideal S1x128 .f32) (n : Fin 8) (s : Fin 2048) (h : Fin 4) (q : Fin 128)

/-- The first result's heads of each kind. -/
theorem first_at0 : firstOf p dq dk fq fk (ix4 n (⟨h.val, by omega⟩ : Fin 16) s q)
    = kindNorm 0 (fun q => p (ix3 n s (col 0 h q))) q * gain (fun j => dq (ix2 (0 : Fin 1) j)) (fun j => dk (ix2 (0 : Fin 1) j)) (fun j => fq (ix2 (0 : Fin 1) j)) (fun j => fk (ix2 (0 : Fin 1) j)) 0 q := by
  refine (qk_at _ _ _ _ n s h q).trans ?_
  rw [scale_at, diff_at, mul_assoc]
  simp only [group0_at]
  refine congrArg₂ (· * ·) (Eq.trans (congrArg (fun f => diffNorm f q) (funext fun q => at_o p n s ?_)) (if_pos (by decide)).symm) rfl
  show 128 * h.val + q.val = 0 + 512 * 0 + 128 * h.val + q.val
  omega
theorem first_at1 : firstOf p dq dk fq fk (ix4 n (⟨4 + h.val, by omega⟩ : Fin 16) s q)
    = kindNorm 1 (fun q => p (ix3 n s (col 1 h q))) q * gain (fun j => dq (ix2 (0 : Fin 1) j)) (fun j => dk (ix2 (0 : Fin 1) j)) (fun j => fq (ix2 (0 : Fin 1) j)) (fun j => fk (ix2 (0 : Fin 1) j)) 1 q := by
  refine (qk_at1 _ _ _ _ n s h q).trans ?_
  rw [diff_at]
  simp only [group1_at]
  refine congrArg₂ (· * ·) (Eq.trans (congrArg (fun f => diffNorm f q) (funext fun q => at_o p n s ?_)) (if_pos (by decide)).symm) rfl
  show 512 + (128 * h.val + q.val) = 0 + 512 * 1 + 128 * h.val + q.val
  omega
theorem first_at2 : firstOf p dq dk fq fk (ix4 n (⟨8 + h.val, by omega⟩ : Fin 16) s q)
    = kindNorm 2 (fun q => p (ix3 n s (col 2 h q))) q * gain (fun j => dq (ix2 (0 : Fin 1) j)) (fun j => dk (ix2 (0 : Fin 1) j)) (fun j => fq (ix2 (0 : Fin 1) j)) (fun j => fk (ix2 (0 : Fin 1) j)) 2 q := by
  refine (qk_at2 _ _ _ _ n s h q).trans ?_
  rw [scale_at, fox_at, mul_assoc]
  simp only [group3_at]
  refine congrArg₂ (· * ·) (Eq.trans (congrArg (fun f => foxNorm f q) (funext fun q => at_o p n s ?_)) (if_neg (by decide)).symm) rfl
  show 1536 + (128 * h.val + q.val) = 512 + 512 * 2 + 128 * h.val + q.val
  omega
theorem first_at3 : firstOf p dq dk fq fk (ix4 n (⟨12 + h.val, by omega⟩ : Fin 16) s q)
    = kindNorm 3 (fun q => p (ix3 n s (col 3 h q))) q * gain (fun j => dq (ix2 (0 : Fin 1) j)) (fun j => dk (ix2 (0 : Fin 1) j)) (fun j => fq (ix2 (0 : Fin 1) j)) (fun j => fk (ix2 (0 : Fin 1) j)) 3 q := by
  refine (qk_at3 _ _ _ _ n s h q).trans ?_
  rw [fox_at]
  simp only [group4_at]
  refine congrArg₂ (· * ·) (Eq.trans (congrArg (fun f => foxNorm f q) (funext fun q => at_o p n s ?_)) (if_neg (by decide)).symm) rfl
  show 2048 + (128 * h.val + q.val) = 512 + 512 * 3 + 128 * h.val + q.val
  omega

/-- The first result at an index. -/
theorem first_at (hd : Fin 16) : firstOf p dq dk fq fk (ix4 n hd s q)
    = kindNorm (kindOf hd) (fun q => p (ix3 n s (col (kindOf hd) (headOf hd) q))) q
      * gain (fun j => dq (ix2 (0 : Fin 1) j)) (fun j => dk (ix2 (0 : Fin 1) j)) (fun j => fq (ix2 (0 : Fin 1) j)) (fun j => fk (ix2 (0 : Fin 1) j)) (kindOf hd) q := by
  obtain ⟨k, h, rfl⟩ : ∃ k h : Fin 4, hd = (⟨4 * k.val + h.val, by omega⟩ : Fin 16) := ⟨kindOf hd, headOf hd, Fin.ext (by show hd.val = 4 * (hd.val / 4) + hd.val % 4; omega)⟩
  have ek : kindOf (⟨4 * k.val + h.val, by omega⟩ : Fin 16) = k := Fin.ext (by show (4 * k.val + h.val) / 4 = k.val; omega)
  have eh : headOf (⟨4 * k.val + h.val, by omega⟩ : Fin 16) = h := Fin.ext (by show (4 * k.val + h.val) % 4 = h.val; omega)
  rw [ek, eh]
  have at_hd : ∀ {a b : ℕ} {ha : a < 16} {hb : b < 16}, a = b → firstOf p dq dk fq fk (ix4 n (⟨a, ha⟩ : Fin 16) s q) = firstOf p dq dk fq fk (ix4 n (⟨b, hb⟩ : Fin 16) s q) := by
    intro a b ha hb e; subst e; rfl
  fin_cases k
  · exact (at_hd (by show 4 * 0 + h.val = h.val; omega)).trans (first_at0 p dq dk fq fk n s h q)
  · exact (at_hd (by show 4 * 1 + h.val = 4 + h.val; omega)).trans (first_at1 p dq dk fq fk n s h q)
  · exact (at_hd (by show 4 * 2 + h.val = 8 + h.val; omega)).trans (first_at2 p dq dk fq fk n s h q)
  · exact (at_hd (by show 4 * 3 + h.val = 12 + h.val; omega)).trans (first_at3 p dq dk fq fk n s h q)

/-- The second result at an index: the values' lanes, and the ones. -/
theorem second_at (hd : Fin 8) : secondOf p (ix4 n hd (⟨q.val, by omega⟩ : Fin 144) s) = p (ix3 n s (vcol (vkindOf hd) (vheadOf hd) q)) := by
  obtain ⟨k, h, rfl⟩ : ∃ (k : Fin 2) (h : Fin 4), hd = (⟨4 * k.val + h.val, by omega⟩ : Fin 8) := ⟨vkindOf hd, vheadOf hd, Fin.ext (by show hd.val = 4 * (hd.val / 4) + hd.val % 4; omega)⟩
  have ek : vkindOf (⟨4 * k.val + h.val, by omega⟩ : Fin 8) = k := Fin.ext (by show (4 * k.val + h.val) / 4 = k.val; omega)
  have eh : vheadOf (⟨4 * k.val + h.val, by omega⟩ : Fin 8) = h := Fin.ext (by show (4 * k.val + h.val) % 4 = h.val; omega)
  rw [ek, eh]
  have at_hd : ∀ {a b : ℕ} {ha : a < 8} {hb : b < 8}, a = b → secondOf p (ix4 n (⟨a, ha⟩ : Fin 8) (⟨q.val, by omega⟩ : Fin 144) s) = secondOf p (ix4 n (⟨b, hb⟩ : Fin 8) (⟨q.val, by omega⟩ : Fin 144) s) := by
    intro a b ha hb e; subst e; rfl
  fin_cases k
  · refine (at_hd (by show 4 * 0 + h.val = h.val; omega)).trans ((vt_at _ _ n s h q).trans ?_)
    rw [heads_at, group2_at]
    refine at_o p n s ?_
    show 1024 + (128 * h.val + q.val) = 1024 + 1536 * 0 + 128 * h.val + q.val
    omega
  · refine (at_hd (by show 4 * 1 + h.val = 4 + h.val; omega)).trans ((vt_at1 _ _ n s h q).trans ?_)
    rw [heads_at, group5_at]
    refine at_o p n s ?_
    show 2560 + (128 * h.val + q.val) = 1024 + 1536 * 1 + 128 * h.val + q.val
    omega
theorem second_ones (hd : Fin 8) (o : Fin 16) : secondOf p (ix4 n hd (⟨128 + o.val, by omega⟩ : Fin 144) s) = (1 : EReal) := vt_ones _ _ n s hd o

end Parts

section Results

variable (m : (ℓ : Loc nD τ sig) → Buf (Elt Ideal) ℓ) (c : Dev nD)

theorem first_eq : res_main_v96 m c = firstOf (projOf (normOf (m ((c.tc : Thread nD τ).loc main_arg0)) (m ((c.tc : Thread nD τ).loc main_arg1))) (m ((c.tc : Thread nD τ).loc main_arg2)))
    (m ((c.tc : Thread nD τ).loc main_arg4)) (m ((c.tc : Thread nD τ).loc main_arg5)) (m ((c.tc : Thread nD τ).loc main_arg6)) (m ((c.tc : Thread nD τ).loc main_arg7)) := by
  unfold res_main_v96 firstOf qkOf scaleOf joinOf halfNormOf halvesOf headNormOf headsOf group0 group1 group3 group4 projOf normOf
  rfl

end Results

end Cert.MixProj.Ref

end
-- ==== Proof.MixProj.Claims.lean ====
/-
  The claims of the mixing projection: the frames, and that at the extended reals the kernel and the reference both
  return the queries and keys, and the values with their ones, of the arguments.
-/
module

public import proofs.«01_k».proof.Defs
public import proofs.«01_k».proof.Proof.Gen.Kernel3.Frame
public import proofs.«01_k».proof.Proof.MixProj.Blocks
public import proofs.«01_k».proof.Proof.MixProj.Ref
@[expose] public section

noncomputable section

namespace Cert.MixProj

open Idealize.ShloMosaic Idealize.ShloMosaic.StableHlo Idealize.SL.Sem

attribute [local instance] Cert.Kernel3.Gen.facts Cert.Kernel3Ideal.Gen.facts Cert.Reference3Ideal.Gen.facts

theorem kernel : Cert.quiescent_Kernel3 := fun m g _ => Cert.Kernel3.Gen.frame m g
theorem kernel_ideal : Cert.quiescent_Kernel3Ideal := fun m g _ => Cert.Kernel3Ideal.Gen.frame m g

theorem reference : Cert.quiescent_Reference3Ideal := by
  intro m g _
  exact (θ_run Cert.Reference3Ideal.defs _ _).mono (fun r hr => ⟨fun c => (hr c).2.2, sem_eq_zero_of_no_sems (by decide) _⟩) (Cert.Reference3Ideal.Value.run m g)

/-- The reference's memories hold the kernel's arguments. -/
def Same (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) : Prop :=
  ∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)

/-- The reference's arguments, by their shapes. -/
def rX (c : Dev Cert.Reference3Ideal.nD) : Vec Ideal Cert.Reference3Ideal.S8x2048x1024 .f32 := m' ((c.tc : Thread Cert.Reference3Ideal.nD Cert.Reference3Ideal.τ).loc Cert.Reference3Ideal.main_arg0)
def rG (c : Dev Cert.Reference3Ideal.nD) : Vec Ideal Cert.Reference3Ideal.S1x1024 .f32 := m' ((c.tc : Thread Cert.Reference3Ideal.nD Cert.Reference3Ideal.τ).loc Cert.Reference3Ideal.main_arg1)
def rW (c : Dev Cert.Reference3Ideal.nD) : Vec Ideal Cert.Reference3Ideal.S1x1024x3076 .f32 := m' ((c.tc : Thread Cert.Reference3Ideal.nD Cert.Reference3Ideal.τ).loc Cert.Reference3Ideal.main_arg2)
def rDq (c : Dev Cert.Reference3Ideal.nD) : Vec Ideal Cert.Reference3Ideal.S1x64 .f32 := m' ((c.tc : Thread Cert.Reference3Ideal.nD Cert.Reference3Ideal.τ).loc Cert.Reference3Ideal.main_arg4)
def rDk (c : Dev Cert.Reference3Ideal.nD) : Vec Ideal Cert.Reference3Ideal.S1x64 .f32 := m' ((c.tc : Thread Cert.Reference3Ideal.nD Cert.Reference3Ideal.τ).loc Cert.Reference3Ideal.main_arg5)
def rFq (c : Dev Cert.Reference3Ideal.nD) : Vec Ideal Cert.Reference3Ideal.S1x128 .f32 := m' ((c.tc : Thread Cert.Reference3Ideal.nD Cert.Reference3Ideal.τ).loc Cert.Reference3Ideal.main_arg6)
def rFk (c : Dev Cert.Reference3Ideal.nD) : Vec Ideal Cert.Reference3Ideal.S1x128 .f32 := m' ((c.tc : Thread Cert.Reference3Ideal.nD Cert.Reference3Ideal.τ).loc Cert.Reference3Ideal.main_arg7)

theorem ref_first (hs : Same m m') (c : Dev Cert.Kernel3Ideal.nD) :
    Ref.firstOf (Ref.projOf (Ref.normOf (rX m' c) (rG m' c)) (rW m' c)) (rDq m' c) (rDk m' c) (rFq m' c) (rFk m' c) = qkOut m c := by
  have e0 : rX m' c = aX m c := (hs c).1
  have e1 : rG m' c = aG m c := (hs c).2.1
  have e2 : rW m' c = aW m c := (hs c).2.2.1
  have e4 : rDq m' c = aDq m c := (hs c).2.2.2.2.1
  have e5 : rDk m' c = aDk m c := (hs c).2.2.2.2.2.1
  have e6 : rFq m' c = aFq m c := (hs c).2.2.2.2.2.2.1
  have e7 : rFk m' c = aFk m c := (hs c).2.2.2.2.2.2.2
  rw [e0, e1, e2, e4, e5, e6, e7]
  funext i
  obtain ⟨b, hd, s, q, rfl⟩ : ∃ (b : Fin 8) (hd : Fin 16) (s : Fin 2048) (q : Fin 128), i = ix4 b hd s q := ⟨i 0, i 1, i 2, i 3, by funext a; fin_cases a <;> rfl⟩
  rw [qkOut_at]
  refine (Ref.first_at _ (aDq m c) (aDk m c) (aFq m c) (aFk m c) b s q hd).trans ?_
  unfold qkElt projRow
  simp only [Ref.proj_at]
  rfl

theorem ref_second (hs : Same m m') (c : Dev Cert.Kernel3Ideal.nD) :
    Ref.secondOf (Ref.projOf (Ref.normOf (rX m' c) (rG m' c)) (rW m' c)) = vtOut m c := by
  have e0 : rX m' c = aX m c := (hs c).1
  have e1 : rG m' c = aG m c := (hs c).2.1
  have e2 : rW m' c = aW m c := (hs c).2.2.1
  rw [e0, e1, e2]
  funext i
  obtain ⟨b, hd, q, s, rfl⟩ : ∃ (b : Fin 8) (hd : Fin 8) (q : Fin 144) (s : Fin 2048), i = ix4 b hd q s := ⟨i 0, i 1, i 2, i 3, by funext a; fin_cases a <;> rfl⟩
  rw [vtOut_at]
  unfold vtElt
  by_cases h : q.val < 128
  · rw [dif_pos h]
    refine (Ref.second_at _ b s ⟨q.val, h⟩ hd).trans ?_
    rw [Ref.proj_at]
    rfl
  · rw [dif_neg h]
    have e : q = (⟨128 + (⟨q.val - 128, by omega⟩ : Fin 16).val, by show 128 + (q.val - 128) < 144; omega⟩ : Fin 144) := Fin.ext (by show q.val = 128 + (q.val - 128); omega)
    rw [e]
    exact Ref.second_ones _ b s hd ⟨q.val - 128, by omega⟩

theorem algebraic : Cert.algebraic_Kernel3Ideal_Reference3Ideal := by
  intro m g m' g' _ hs
  refine ⟨fun c => qkOut m c, fun c => vtOut m c, ?_, ?_⟩
  · refine (θ_run Cert.Kernel3Ideal.defs _ _).mono (fun r hr c => ?_) (Cert.Kernel3Ideal.Value.run_blocks m g)
    exact ⟨(hr c).1.trans (result_7 m c), (hr c).2.1.trans (result_8 m c), (hr c).2.2.2⟩
  · refine (θ_run Cert.Reference3Ideal.defs _ _).mono (fun r hr c => ?_) (Cert.Reference3Ideal.Value.run m' g')
    exact ⟨(hr c).1.trans ((Ref.first_eq m' c).trans (ref_first m m' hs c)), (hr c).2.1.trans (ref_second m m' hs c), (hr c).2.2⟩

end Cert.MixProj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Pre_counts_of_tokens
public import proofs.«01_k».proof.Proof.Claims.Frames
public import proofs.«01_k».proof.Proof.Claims.Algebraic
public import proofs.«01_k».proof.Proof.OutQ.Claims
public import proofs.«01_k».proof.Proof.MixProj.Claims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_counts_of_tokens.Gen.facts, kernel, kernel_ideal, reference, fun m g _ => reference m g trivial,
  Cert.OutQ.kernel, Cert.OutQ.kernel_ideal, Cert.OutQ.reference,
  Cert.MixProj.kernel, Cert.MixProj.kernel_ideal, Cert.MixProj.reference, trivial, algebraic, trivial, Cert.OutQ.algebraic, trivial, Cert.MixProj.algebraic⟩

end Cert.Proof

end
